-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24)
      ∧ r.2.mem ((c.tc : Thread Cert.Kernel4.nD Cert.Kernel4.τ).loc Cert.Kernel4.main_arg25) = m ((c.tc : Thread Cert.Kernel4.nD Cert.Kernel4.τ).loc Cert.Kernel4.main_arg25)
      ∧ r.2.mem ((c.tc : Thread Cert.Kernel4.nD Cert.Kernel4.τ).loc Cert.Kernel4.main_arg26) = m ((c.tc : Thread Cert.Kernel4.nD Cert.Kernel4.τ).loc Cert.Kernel4.main_arg26)
      ∧ r.2.mem ((c.tc : Thread Cert.Kernel4.nD Cert.Kernel4.τ).loc Cert.Kernel4.main_arg27) = m ((c.tc : Thread Cert.Kernel4.nD Cert.Kernel4.τ).loc Cert.Kernel4.main_arg27)
      ∧ r.2.mem ((c.tc : Thread Cert.Kernel4.nD Cert.Kernel4.τ).loc Cert.Kernel4.main_arg28) = m ((c.tc : Thread Cert.Kernel4.nD Cert.Kernel4.τ).loc Cert.Kernel4.main_arg28)
      ∧ r.2.mem ((c.tc : Thread Cert.Kernel4.nD Cert.Kernel4.τ).loc Cert.Kernel4.main_arg29) = m ((c.tc : Thread Cert.Kernel4.nD Cert.Kernel4.τ).loc Cert.Kernel4.main_arg29)
      ∧ r.2.mem ((c.tc : Thread Cert.Kernel4.nD Cert.Kernel4.τ).loc Cert.Kernel4.main_arg30) = m ((c.tc : Thread Cert.Kernel4.nD Cert.Kernel4.τ).loc Cert.Kernel4.main_arg30)
      ∧ r.2.mem ((c.tc : Thread Cert.Kernel4.nD Cert.Kernel4.τ).loc Cert.Kernel4.main_arg31) = m ((c.tc : Thread Cert.Kernel4.nD Cert.Kernel4.τ).loc Cert.Kernel4.main_arg31)
      ∧ r.2.mem ((c.tc : Thread Cert.Kernel4.nD Cert.Kernel4.τ).loc Cert.Kernel4.main_arg32) = m ((c.tc : Thread Cert.Kernel4.nD Cert.Kernel4.τ).loc Cert.Kernel4.main_arg32)
      ∧ r.2.mem ((c.tc : Thread Cert.Kernel4.nD Cert.Kernel4.τ).loc Cert.Kernel4.main_arg33) = m ((c.tc : Thread Cert.Kernel4.nD Cert.Kernel4.τ).loc Cert.Kernel4.main_arg33)
      ∧ r.2.mem ((c.tc : Thread Cert.Kernel4.nD Cert.Kernel4.τ).loc Cert.Kernel4.main_arg34) = m ((c.tc : Thread Cert.Kernel4.nD Cert.Kernel4.τ).loc Cert.Kernel4.main_arg34)
      ∧ r.2.mem ((c.tc : Thread Cert.Kernel4.nD Cert.Kernel4.τ).loc Cert.Kernel4.main_arg35) = m ((c.tc : Thread Cert.Kernel4.nD Cert.Kernel4.τ).loc Cert.Kernel4.main_arg35)
      ∧ r.2.mem ((c.tc : Thread Cert.Kernel4.nD Cert.Kernel4.τ).loc Cert.Kernel4.main_arg36) = m ((c.tc : Thread Cert.Kernel4.nD Cert.Kernel4.τ).loc Cert.Kernel4.main_arg36)
      ∧ r.2.mem ((c.tc : Thread Cert.Kernel4.nD Cert.Kernel4.τ).loc Cert.Kernel4.main_arg37) = m ((c.tc : Thread Cert.Kernel4.nD Cert.Kernel4.τ).loc Cert.Kernel4.main_arg37)
      ∧ r.2.mem ((c.tc : Thread Cert.Kernel4.nD Cert.Kernel4.τ).loc Cert.Kernel4.main_arg38) = m ((c.tc : Thread Cert.Kernel4.nD Cert.Kernel4.τ).loc Cert.Kernel4.main_arg38)
      ∧ r.2.mem ((c.tc : Thread Cert.Kernel4.nD Cert.Kernel4.τ).loc Cert.Kernel4.main_arg39) = m ((c.tc : Thread Cert.Kernel4.nD Cert.Kernel4.τ).loc Cert.Kernel4.main_arg39))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
      ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
      ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
      ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
      ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
      ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
      ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
      ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
      ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
      ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
      ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
      ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
      ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
      ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
      ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
      ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27)
      ∧ r.2.mem ((c.tc : Thread Cert.Reference4Ideal.nD Cert.Reference4Ideal.τ).loc Cert.Reference4Ideal.main_arg28) = m ((c.tc : Thread Cert.Reference4Ideal.nD Cert.Reference4Ideal.τ).loc Cert.Reference4Ideal.main_arg28)
      ∧ r.2.mem ((c.tc : Thread Cert.Reference4Ideal.nD Cert.Reference4Ideal.τ).loc Cert.Reference4Ideal.main_arg29) = m ((c.tc : Thread Cert.Reference4Ideal.nD Cert.Reference4Ideal.τ).loc Cert.Reference4Ideal.main_arg29)
      ∧ r.2.mem ((c.tc : Thread Cert.Reference4Ideal.nD Cert.Reference4Ideal.τ).loc Cert.Reference4Ideal.main_arg30) = m ((c.tc : Thread Cert.Reference4Ideal.nD Cert.Reference4Ideal.τ).loc Cert.Reference4Ideal.main_arg30)
      ∧ r.2.mem ((c.tc : Thread Cert.Reference4Ideal.nD Cert.Reference4Ideal.τ).loc Cert.Reference4Ideal.main_arg31) = m ((c.tc : Thread Cert.Reference4Ideal.nD Cert.Reference4Ideal.τ).loc Cert.Reference4Ideal.main_arg31)
      ∧ r.2.mem ((c.tc : Thread Cert.Reference4Ideal.nD Cert.Reference4Ideal.τ).loc Cert.Reference4Ideal.main_arg32) = m ((c.tc : Thread Cert.Reference4Ideal.nD Cert.Reference4Ideal.τ).loc Cert.Reference4Ideal.main_arg32)
      ∧ r.2.mem ((c.tc : Thread Cert.Reference4Ideal.nD Cert.Reference4Ideal.τ).loc Cert.Reference4Ideal.main_arg33) = m ((c.tc : Thread Cert.Reference4Ideal.nD Cert.Reference4Ideal.τ).loc Cert.Reference4Ideal.main_arg33)
      ∧ r.2.mem ((c.tc : Thread Cert.Reference4Ideal.nD Cert.Reference4Ideal.τ).loc Cert.Reference4Ideal.main_arg34) = m ((c.tc : Thread Cert.Reference4Ideal.nD Cert.Reference4Ideal.τ).loc Cert.Reference4Ideal.main_arg34)
      ∧ r.2.mem ((c.tc : Thread Cert.Reference4Ideal.nD Cert.Reference4Ideal.τ).loc Cert.Reference4Ideal.main_arg35) = m ((c.tc : Thread Cert.Reference4Ideal.nD Cert.Reference4Ideal.τ).loc Cert.Reference4Ideal.main_arg35)
      ∧ r.2.mem ((c.tc : Thread Cert.Reference4Ideal.nD Cert.Reference4Ideal.τ).loc Cert.Reference4Ideal.main_arg36) = m ((c.tc : Thread Cert.Reference4Ideal.nD Cert.Reference4Ideal.τ).loc Cert.Reference4Ideal.main_arg36)
      ∧ r.2.mem ((c.tc : Thread Cert.Reference4Ideal.nD Cert.Reference4Ideal.τ).loc Cert.Reference4Ideal.main_arg37) = m ((c.tc : Thread Cert.Reference4Ideal.nD Cert.Reference4Ideal.τ).loc Cert.Reference4Ideal.main_arg37)
      ∧ r.2.mem ((c.tc : Thread Cert.Reference4Ideal.nD Cert.Reference4Ideal.τ).loc Cert.Reference4Ideal.main_arg38) = m ((c.tc : Thread Cert.Reference4Ideal.nD Cert.Reference4Ideal.τ).loc Cert.Reference4Ideal.main_arg38)
      ∧ r.2.mem ((c.tc : Thread Cert.Reference4Ideal.nD Cert.Reference4Ideal.τ).loc Cert.Reference4Ideal.main_arg39) = m ((c.tc : Thread Cert.Reference4Ideal.nD Cert.Reference4Ideal.τ).loc Cert.Reference4Ideal.main_arg39))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)
      ∧ m' ((c.tc : Thread Cert.Reference4Ideal.nD Cert.Reference4Ideal.τ).loc Cert.Reference4Ideal.main_arg25) = m ((c.tc : Thread Cert.Kernel4Ideal.nD Cert.Kernel4Ideal.τ).loc Cert.Kernel4Ideal.main_arg25)
      ∧ m' ((c.tc : Thread Cert.Reference4Ideal.nD Cert.Reference4Ideal.τ).loc Cert.Reference4Ideal.main_arg26) = m ((c.tc : Thread Cert.Kernel4Ideal.nD Cert.Kernel4Ideal.τ).loc Cert.Kernel4Ideal.main_arg26)
      ∧ m' ((c.tc : Thread Cert.Reference4Ideal.nD Cert.Reference4Ideal.τ).loc Cert.Reference4Ideal.main_arg27) = m ((c.tc : Thread Cert.Kernel4Ideal.nD Cert.Kernel4Ideal.τ).loc Cert.Kernel4Ideal.main_arg27)
      ∧ m' ((c.tc : Thread Cert.Reference4Ideal.nD Cert.Reference4Ideal.τ).loc Cert.Reference4Ideal.main_arg28) = m ((c.tc : Thread Cert.Kernel4Ideal.nD Cert.Kernel4Ideal.τ).loc Cert.Kernel4Ideal.main_arg28)
      ∧ m' ((c.tc : Thread Cert.Reference4Ideal.nD Cert.Reference4Ideal.τ).loc Cert.Reference4Ideal.main_arg29) = m ((c.tc : Thread Cert.Kernel4Ideal.nD Cert.Kernel4Ideal.τ).loc Cert.Kernel4Ideal.main_arg29)
      ∧ m' ((c.tc : Thread Cert.Reference4Ideal.nD Cert.Reference4Ideal.τ).loc Cert.Reference4Ideal.main_arg30) = m ((c.tc : Thread Cert.Kernel4Ideal.nD Cert.Kernel4Ideal.τ).loc Cert.Kernel4Ideal.main_arg30)
      ∧ m' ((c.tc : Thread Cert.Reference4Ideal.nD Cert.Reference4Ideal.τ).loc Cert.Reference4Ideal.main_arg31) = m ((c.tc : Thread Cert.Kernel4Ideal.nD Cert.Kernel4Ideal.τ).loc Cert.Kernel4Ideal.main_arg31)
      ∧ m' ((c.tc : Thread Cert.Reference4Ideal.nD Cert.Reference4Ideal.τ).loc Cert.Reference4Ideal.main_arg32) = m ((c.tc : Thread Cert.Kernel4Ideal.nD Cert.Kernel4Ideal.τ).loc Cert.Kernel4Ideal.main_arg32)
      ∧ m' ((c.tc : Thread Cert.Reference4Ideal.nD Cert.Reference4Ideal.τ).loc Cert.Reference4Ideal.main_arg33) = m ((c.tc : Thread Cert.Kernel4Ideal.nD Cert.Kernel4Ideal.τ).loc Cert.Kernel4Ideal.main_arg33)
      ∧ m' ((c.tc : Thread Cert.Reference4Ideal.nD Cert.Reference4Ideal.τ).loc Cert.Reference4Ideal.main_arg34) = m ((c.tc : Thread Cert.Kernel4Ideal.nD Cert.Kernel4Ideal.τ).loc Cert.Kernel4Ideal.main_arg34)
      ∧ m' ((c.tc : Thread Cert.Reference4Ideal.nD Cert.Reference4Ideal.τ).loc Cert.Reference4Ideal.main_arg35) = m ((c.tc : Thread Cert.Kernel4Ideal.nD Cert.Kernel4Ideal.τ).loc Cert.Kernel4Ideal.main_arg35)
      ∧ m' ((c.tc : Thread Cert.Reference4Ideal.nD Cert.Reference4Ideal.τ).loc Cert.Reference4Ideal.main_arg36) = m ((c.tc : Thread Cert.Kernel4Ideal.nD Cert.Kernel4Ideal.τ).loc Cert.Kernel4Ideal.main_arg36)
      ∧ m' ((c.tc : Thread Cert.Reference4Ideal.nD Cert.Reference4Ideal.τ).loc Cert.Reference4Ideal.main_arg37) = m ((c.tc : Thread Cert.Kernel4Ideal.nD Cert.Kernel4Ideal.τ).loc Cert.Kernel4Ideal.main_arg37)
      ∧ m' ((c.tc : Thread Cert.Reference4Ideal.nD Cert.Reference4Ideal.τ).loc Cert.Reference4Ideal.main_arg38) = m ((c.tc : Thread Cert.Kernel4Ideal.nD Cert.Kernel4Ideal.τ).loc Cert.Kernel4Ideal.main_arg38)
      ∧ m' ((c.tc : Thread Cert.Reference4Ideal.nD Cert.Reference4Ideal.τ).loc Cert.Reference4Ideal.main_arg39) = m ((c.tc : Thread Cert.Kernel4Ideal.nD Cert.Kernel4Ideal.τ).loc Cert.Kernel4Ideal.main_arg39)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)) (v10 : (c : Dev Cert.Kernel4Ideal.nD) → Buf (Elt Ideal) ((c.tc : Thread Cert.Kernel4Ideal.nD Cert.Kernel4Ideal.τ).loc Cert.Kernel4Ideal.main_v0_10)) (v11 : (c : Dev Cert.Kernel4Ideal.nD) → Buf (Elt Ideal) ((c.tc : Thread Cert.Kernel4Ideal.nD Cert.Kernel4Ideal.τ).loc Cert.Kernel4Ideal.main_v0_11)) (v12 : (c : Dev Cert.Kernel4Ideal.nD) → Buf (Elt Ideal) ((c.tc : Thread Cert.Kernel4Ideal.nD Cert.Kernel4Ideal.τ).loc Cert.Kernel4Ideal.main_v0_12)) (v13 : (c : Dev Cert.Kernel4Ideal.nD) → Buf (Elt Ideal) ((c.tc : Thread Cert.Kernel4Ideal.nD Cert.Kernel4Ideal.τ).loc Cert.Kernel4Ideal.main_v0_13)) (v14 : (c : Dev Cert.Kernel4Ideal.nD) → Buf (Elt Ideal) ((c.tc : Thread Cert.Kernel4Ideal.nD Cert.Kernel4Ideal.τ).loc Cert.Kernel4Ideal.main_v0_14)) (v15 : (c : Dev Cert.Kernel4Ideal.nD) → Buf (Elt Ideal) ((c.tc : Thread Cert.Kernel4Ideal.nD Cert.Kernel4Ideal.τ).loc Cert.Kernel4Ideal.main_v0_15)) (v16 : (c : Dev Cert.Kernel4Ideal.nD) → Buf (Elt Ideal) ((c.tc : Thread Cert.Kernel4Ideal.nD Cert.Kernel4Ideal.τ).loc Cert.Kernel4Ideal.main_v0_16)) (v17 : (c : Dev Cert.Kernel4Ideal.nD) → Buf (Elt Ideal) ((c.tc : Thread Cert.Kernel4Ideal.nD Cert.Kernel4Ideal.τ).loc Cert.Kernel4Ideal.main_v0_17)) (v18 : (c : Dev Cert.Kernel4Ideal.nD) → Buf (Elt Ideal) ((c.tc : Thread Cert.Kernel4Ideal.nD Cert.Kernel4Ideal.τ).loc Cert.Kernel4Ideal.main_v0_18)) (v19 : (c : Dev Cert.Kernel4Ideal.nD) → Buf (Elt Ideal) ((c.tc : Thread Cert.Kernel4Ideal.nD Cert.Kernel4Ideal.τ).loc Cert.Kernel4Ideal.main_v0_19)) (v20 : (c : Dev Cert.Kernel4Ideal.nD) → Buf (Elt Ideal) ((c.tc : Thread Cert.Kernel4Ideal.nD Cert.Kernel4Ideal.τ).loc Cert.Kernel4Ideal.main_v0_20)) (v21 : (c : Dev Cert.Kernel4Ideal.nD) → Buf (Elt Ideal) ((c.tc : Thread Cert.Kernel4Ideal.nD Cert.Kernel4Ideal.τ).loc Cert.Kernel4Ideal.main_v0_21)) (v22 : (c : Dev Cert.Kernel4Ideal.nD) → Buf (Elt Ideal) ((c.tc : Thread Cert.Kernel4Ideal.nD Cert.Kernel4Ideal.τ).loc Cert.Kernel4Ideal.main_v0_22)) (v23 : (c : Dev Cert.Kernel4Ideal.nD) → Buf (Elt Ideal) ((c.tc : Thread Cert.Kernel4Ideal.nD Cert.Kernel4Ideal.τ).loc Cert.Kernel4Ideal.main_v0_23)) (v24 : (c : Dev Cert.Kernel4Ideal.nD) → Buf (Elt Ideal) ((c.tc : Thread Cert.Kernel4Ideal.nD Cert.Kernel4Ideal.τ).loc Cert.Kernel4Ideal.main_v0_24)) (v25 : (c : Dev Cert.Kernel4Ideal.nD) → Buf (Elt Ideal) ((c.tc : Thread Cert.Kernel4Ideal.nD Cert.Kernel4Ideal.τ).loc Cert.Kernel4Ideal.main_v0_25)) (v26 : (c : Dev Cert.Kernel4Ideal.nD) → Buf (Elt Ideal) ((c.tc : Thread Cert.Kernel4Ideal.nD Cert.Kernel4Ideal.τ).loc Cert.Kernel4Ideal.main_v0_26)) (v27 : (c : Dev Cert.Kernel4Ideal.nD) → Buf (Elt Ideal) ((c.tc : Thread Cert.Kernel4Ideal.nD Cert.Kernel4Ideal.τ).loc Cert.Kernel4Ideal.main_v0_27)) (v28 : (c : Dev Cert.Kernel4Ideal.nD) → Buf (Elt Ideal) ((c.tc : Thread Cert.Kernel4Ideal.nD Cert.Kernel4Ideal.τ).loc Cert.Kernel4Ideal.main_v0_28)) (v29 : (c : Dev Cert.Kernel4Ideal.nD) → Buf (Elt Ideal) ((c.tc : Thread Cert.Kernel4Ideal.nD Cert.Kernel4Ideal.τ).loc Cert.Kernel4Ideal.main_v0_29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_v0_10) = v10 c
          ∧ r.2.mem ((c.tc : Thread Cert.Kernel4Ideal.nD Cert.Kernel4Ideal.τ).loc Cert.Kernel4Ideal.main_v0_11) = v11 c
          ∧ r.2.mem ((c.tc : Thread Cert.Kernel4Ideal.nD Cert.Kernel4Ideal.τ).loc Cert.Kernel4Ideal.main_v0_12) = v12 c
          ∧ r.2.mem ((c.tc : Thread Cert.Kernel4Ideal.nD Cert.Kernel4Ideal.τ).loc Cert.Kernel4Ideal.main_v0_13) = v13 c
          ∧ r.2.mem ((c.tc : Thread Cert.Kernel4Ideal.nD Cert.Kernel4Ideal.τ).loc Cert.Kernel4Ideal.main_v0_14) = v14 c
          ∧ r.2.mem ((c.tc : Thread Cert.Kernel4Ideal.nD Cert.Kernel4Ideal.τ).loc Cert.Kernel4Ideal.main_v0_15) = v15 c
          ∧ r.2.mem ((c.tc : Thread Cert.Kernel4Ideal.nD Cert.Kernel4Ideal.τ).loc Cert.Kernel4Ideal.main_v0_16) = v16 c
          ∧ r.2.mem ((c.tc : Thread Cert.Kernel4Ideal.nD Cert.Kernel4Ideal.τ).loc Cert.Kernel4Ideal.main_v0_17) = v17 c
          ∧ r.2.mem ((c.tc : Thread Cert.Kernel4Ideal.nD Cert.Kernel4Ideal.τ).loc Cert.Kernel4Ideal.main_v0_18) = v18 c
          ∧ r.2.mem ((c.tc : Thread Cert.Kernel4Ideal.nD Cert.Kernel4Ideal.τ).loc Cert.Kernel4Ideal.main_v0_19) = v19 c
          ∧ r.2.mem ((c.tc : Thread Cert.Kernel4Ideal.nD Cert.Kernel4Ideal.τ).loc Cert.Kernel4Ideal.main_v0_20) = v20 c
          ∧ r.2.mem ((c.tc : Thread Cert.Kernel4Ideal.nD Cert.Kernel4Ideal.τ).loc Cert.Kernel4Ideal.main_v0_21) = v21 c
          ∧ r.2.mem ((c.tc : Thread Cert.Kernel4Ideal.nD Cert.Kernel4Ideal.τ).loc Cert.Kernel4Ideal.main_v0_22) = v22 c
          ∧ r.2.mem ((c.tc : Thread Cert.Kernel4Ideal.nD Cert.Kernel4Ideal.τ).loc Cert.Kernel4Ideal.main_v0_23) = v23 c
          ∧ r.2.mem ((c.tc : Thread Cert.Kernel4Ideal.nD Cert.Kernel4Ideal.τ).loc Cert.Kernel4Ideal.main_v0_24) = v24 c
          ∧ r.2.mem ((c.tc : Thread Cert.Kernel4Ideal.nD Cert.Kernel4Ideal.τ).loc Cert.Kernel4Ideal.main_v0_25) = v25 c
          ∧ r.2.mem ((c.tc : Thread Cert.Kernel4Ideal.nD Cert.Kernel4Ideal.τ).loc Cert.Kernel4Ideal.main_v0_26) = v26 c
          ∧ r.2.mem ((c.tc : Thread Cert.Kernel4Ideal.nD Cert.Kernel4Ideal.τ).loc Cert.Kernel4Ideal.main_v0_27) = v27 c
          ∧ r.2.mem ((c.tc : Thread Cert.Kernel4Ideal.nD Cert.Kernel4Ideal.τ).loc Cert.Kernel4Ideal.main_v0_28) = v28 c
          ∧ r.2.mem ((c.tc : Thread Cert.Kernel4Ideal.nD Cert.Kernel4Ideal.τ).loc Cert.Kernel4Ideal.main_v0_29) = v29 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
          ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
          ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
          ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
          ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
          ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
          ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
          ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31)
          ∧ r.2.mem ((c.tc : Thread Cert.Kernel4Ideal.nD Cert.Kernel4Ideal.τ).loc Cert.Kernel4Ideal.main_arg32) = m ((c.tc : Thread Cert.Kernel4Ideal.nD Cert.Kernel4Ideal.τ).loc Cert.Kernel4Ideal.main_arg32)
          ∧ r.2.mem ((c.tc : Thread Cert.Kernel4Ideal.nD Cert.Kernel4Ideal.τ).loc Cert.Kernel4Ideal.main_arg33) = m ((c.tc : Thread Cert.Kernel4Ideal.nD Cert.Kernel4Ideal.τ).loc Cert.Kernel4Ideal.main_arg33)
          ∧ r.2.mem ((c.tc : Thread Cert.Kernel4Ideal.nD Cert.Kernel4Ideal.τ).loc Cert.Kernel4Ideal.main_arg34) = m ((c.tc : Thread Cert.Kernel4Ideal.nD Cert.Kernel4Ideal.τ).loc Cert.Kernel4Ideal.main_arg34)
          ∧ r.2.mem ((c.tc : Thread Cert.Kernel4Ideal.nD Cert.Kernel4Ideal.τ).loc Cert.Kernel4Ideal.main_arg35) = m ((c.tc : Thread Cert.Kernel4Ideal.nD Cert.Kernel4Ideal.τ).loc Cert.Kernel4Ideal.main_arg35)
          ∧ r.2.mem ((c.tc : Thread Cert.Kernel4Ideal.nD Cert.Kernel4Ideal.τ).loc Cert.Kernel4Ideal.main_arg36) = m ((c.tc : Thread Cert.Kernel4Ideal.nD Cert.Kernel4Ideal.τ).loc Cert.Kernel4Ideal.main_arg36)
          ∧ r.2.mem ((c.tc : Thread Cert.Kernel4Ideal.nD Cert.Kernel4Ideal.τ).loc Cert.Kernel4Ideal.main_arg37) = m ((c.tc : Thread Cert.Kernel4Ideal.nD Cert.Kernel4Ideal.τ).loc Cert.Kernel4Ideal.main_arg37)
          ∧ r.2.mem ((c.tc : Thread Cert.Kernel4Ideal.nD Cert.Kernel4Ideal.τ).loc Cert.Kernel4Ideal.main_arg38) = m ((c.tc : Thread Cert.Kernel4Ideal.nD Cert.Kernel4Ideal.τ).loc Cert.Kernel4Ideal.main_arg38)
          ∧ r.2.mem ((c.tc : Thread Cert.Kernel4Ideal.nD Cert.Kernel4Ideal.τ).loc Cert.Kernel4Ideal.main_arg39) = m ((c.tc : Thread Cert.Kernel4Ideal.nD Cert.Kernel4Ideal.τ).loc Cert.Kernel4Ideal.main_arg39))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_v119) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_v191) = v7 c
          ∧ r.2.mem ((c.tc : Thread Cert.Reference4Ideal.nD Cert.Reference4Ideal.τ).loc Cert.Reference4Ideal.main_v215) = v8 c
          ∧ r.2.mem ((c.tc : Thread Cert.Reference4Ideal.nD Cert.Reference4Ideal.τ).loc Cert.Reference4Ideal.main_v239) = v9 c
          ∧ r.2.mem ((c.tc : Thread Cert.Reference4Ideal.nD Cert.Reference4Ideal.τ).loc Cert.Reference4Ideal.main_v4) = v10 c
          ∧ r.2.mem ((c.tc : Thread Cert.Reference4Ideal.nD Cert.Reference4Ideal.τ).loc Cert.Reference4Ideal.main_v28) = v11 c
          ∧ r.2.mem ((c.tc : Thread Cert.Reference4Ideal.nD Cert.Reference4Ideal.τ).loc Cert.Reference4Ideal.main_v52) = v12 c
          ∧ r.2.mem ((c.tc : Thread Cert.Reference4Ideal.nD Cert.Reference4Ideal.τ).loc Cert.Reference4Ideal.main_v76) = v13 c
          ∧ r.2.mem ((c.tc : Thread Cert.Reference4Ideal.nD Cert.Reference4Ideal.τ).loc Cert.Reference4Ideal.main_v100) = v14 c
          ∧ r.2.mem ((c.tc : Thread Cert.Reference4Ideal.nD Cert.Reference4Ideal.τ).loc Cert.Reference4Ideal.main_v124) = v15 c
          ∧ r.2.mem ((c.tc : Thread Cert.Reference4Ideal.nD Cert.Reference4Ideal.τ).loc Cert.Reference4Ideal.main_v148) = v16 c
          ∧ r.2.mem ((c.tc : Thread Cert.Reference4Ideal.nD Cert.Reference4Ideal.τ).loc Cert.Reference4Ideal.main_v172) = v17 c
          ∧ r.2.mem ((c.tc : Thread Cert.Reference4Ideal.nD Cert.Reference4Ideal.τ).loc Cert.Reference4Ideal.main_v196) = v18 c
          ∧ r.2.mem ((c.tc : Thread Cert.Reference4Ideal.nD Cert.Reference4Ideal.τ).loc Cert.Reference4Ideal.main_v220) = v19 c
          ∧ r.2.mem ((c.tc : Thread Cert.Reference4Ideal.nD Cert.Reference4Ideal.τ).loc Cert.Reference4Ideal.main_v10) = v20 c
          ∧ r.2.mem ((c.tc : Thread Cert.Reference4Ideal.nD Cert.Reference4Ideal.τ).loc Cert.Reference4Ideal.main_v34) = v21 c
          ∧ r.2.mem ((c.tc : Thread Cert.Reference4Ideal.nD Cert.Reference4Ideal.τ).loc Cert.Reference4Ideal.main_v58) = v22 c
          ∧ r.2.mem ((c.tc : Thread Cert.Reference4Ideal.nD Cert.Reference4Ideal.τ).loc Cert.Reference4Ideal.main_v82) = v23 c
          ∧ r.2.mem ((c.tc : Thread Cert.Reference4Ideal.nD Cert.Reference4Ideal.τ).loc Cert.Reference4Ideal.main_v106) = v24 c
          ∧ r.2.mem ((c.tc : Thread Cert.Reference4Ideal.nD Cert.Reference4Ideal.τ).loc Cert.Reference4Ideal.main_v130) = v25 c
          ∧ r.2.mem ((c.tc : Thread Cert.Reference4Ideal.nD Cert.Reference4Ideal.τ).loc Cert.Reference4Ideal.main_v154) = v26 c
          ∧ r.2.mem ((c.tc : Thread Cert.Reference4Ideal.nD Cert.Reference4Ideal.τ).loc Cert.Reference4Ideal.main_v178) = v27 c
          ∧ r.2.mem ((c.tc : Thread Cert.Reference4Ideal.nD Cert.Reference4Ideal.τ).loc Cert.Reference4Ideal.main_v202) = v28 c
          ∧ r.2.mem ((c.tc : Thread Cert.Reference4Ideal.nD Cert.Reference4Ideal.τ).loc Cert.Reference4Ideal.main_v226) = v29 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24)
          ∧ r.2.mem ((c.tc : Thread Cert.Reference4Ideal.nD Cert.Reference4Ideal.τ).loc Cert.Reference4Ideal.main_arg25) = m' ((c.tc : Thread Cert.Reference4Ideal.nD Cert.Reference4Ideal.τ).loc Cert.Reference4Ideal.main_arg25)
          ∧ r.2.mem ((c.tc : Thread Cert.Reference4Ideal.nD Cert.Reference4Ideal.τ).loc Cert.Reference4Ideal.main_arg26) = m' ((c.tc : Thread Cert.Reference4Ideal.nD Cert.Reference4Ideal.τ).loc Cert.Reference4Ideal.main_arg26)
          ∧ r.2.mem ((c.tc : Thread Cert.Reference4Ideal.nD Cert.Reference4Ideal.τ).loc Cert.Reference4Ideal.main_arg27) = m' ((c.tc : Thread Cert.Reference4Ideal.nD Cert.Reference4Ideal.τ).loc Cert.Reference4Ideal.main_arg27)
          ∧ r.2.mem ((c.tc : Thread Cert.Reference4Ideal.nD Cert.Reference4Ideal.τ).loc Cert.Reference4Ideal.main_arg28) = m' ((c.tc : Thread Cert.Reference4Ideal.nD Cert.Reference4Ideal.τ).loc Cert.Reference4Ideal.main_arg28)
          ∧ r.2.mem ((c.tc : Thread Cert.Reference4Ideal.nD Cert.Reference4Ideal.τ).loc Cert.Reference4Ideal.main_arg29) = m' ((c.tc : Thread Cert.Reference4Ideal.nD Cert.Reference4Ideal.τ).loc Cert.Reference4Ideal.main_arg29)
          ∧ r.2.mem ((c.tc : Thread Cert.Reference4Ideal.nD Cert.Reference4Ideal.τ).loc Cert.Reference4Ideal.main_arg30) = m' ((c.tc : Thread Cert.Reference4Ideal.nD Cert.Reference4Ideal.τ).loc Cert.Reference4Ideal.main_arg30)
          ∧ r.2.mem ((c.tc : Thread Cert.Reference4Ideal.nD Cert.Reference4Ideal.τ).loc Cert.Reference4Ideal.main_arg31) = m' ((c.tc : Thread Cert.Reference4Ideal.nD Cert.Reference4Ideal.τ).loc Cert.Reference4Ideal.main_arg31)
          ∧ r.2.mem ((c.tc : Thread Cert.Reference4Ideal.nD Cert.Reference4Ideal.τ).loc Cert.Reference4Ideal.main_arg32) = m' ((c.tc : Thread Cert.Reference4Ideal.nD Cert.Reference4Ideal.τ).loc Cert.Reference4Ideal.main_arg32)
          ∧ r.2.mem ((c.tc : Thread Cert.Reference4Ideal.nD Cert.Reference4Ideal.τ).loc Cert.Reference4Ideal.main_arg33) = m' ((c.tc : Thread Cert.Reference4Ideal.nD Cert.Reference4Ideal.τ).loc Cert.Reference4Ideal.main_arg33)
          ∧ r.2.mem ((c.tc : Thread Cert.Reference4Ideal.nD Cert.Reference4Ideal.τ).loc Cert.Reference4Ideal.main_arg34) = m' ((c.tc : Thread Cert.Reference4Ideal.nD Cert.Reference4Ideal.τ).loc Cert.Reference4Ideal.main_arg34)
          ∧ r.2.mem ((c.tc : Thread Cert.Reference4Ideal.nD Cert.Reference4Ideal.τ).loc Cert.Reference4Ideal.main_arg35) = m' ((c.tc : Thread Cert.Reference4Ideal.nD Cert.Reference4Ideal.τ).loc Cert.Reference4Ideal.main_arg35)
          ∧ r.2.mem ((c.tc : Thread Cert.Reference4Ideal.nD Cert.Reference4Ideal.τ).loc Cert.Reference4Ideal.main_arg36) = m' ((c.tc : Thread Cert.Reference4Ideal.nD Cert.Reference4Ideal.τ).loc Cert.Reference4Ideal.main_arg36)
          ∧ r.2.mem ((c.tc : Thread Cert.Reference4Ideal.nD Cert.Reference4Ideal.τ).loc Cert.Reference4Ideal.main_arg37) = m' ((c.tc : Thread Cert.Reference4Ideal.nD Cert.Reference4Ideal.τ).loc Cert.Reference4Ideal.main_arg37)
          ∧ r.2.mem ((c.tc : Thread Cert.Reference4Ideal.nD Cert.Reference4Ideal.τ).loc Cert.Reference4Ideal.main_arg38) = m' ((c.tc : Thread Cert.Reference4Ideal.nD Cert.Reference4Ideal.τ).loc Cert.Reference4Ideal.main_arg38)
          ∧ r.2.mem ((c.tc : Thread Cert.Reference4Ideal.nD Cert.Reference4Ideal.τ).loc Cert.Reference4Ideal.main_arg39) = m' ((c.tc : Thread Cert.Reference4Ideal.nD Cert.Reference4Ideal.τ).loc Cert.Reference4Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel4_Kernel4Ideal
    ∧ algebraic_Kernel4Ideal_Reference4Ideal (hKernel4Ideal := hKernel4Ideal) (hReference4Ideal := hReference4Ideal)
-- ==== Pre_finite.lean ====
abbrev S16x4096x128 : Shape := ⟨3, ![16, 4096, 128]⟩
abbrev S4096x128 : Shape := ⟨2, ![4096, 128]⟩
abbrev S_ : Shape := ⟨0, ![]⟩

class Facts : Prop where
  bcast_S_S16x4096x128 : S_.BroadcastsInDim S16x4096x128 (![] : Fin 0 → Fin S16x4096x128.rank)
  bcast_S_S4096x128 : S_.BroadcastsInDim S4096x128 (![] : Fin 0 → Fin S4096x128.rank)

variable [Facts]

def fn_part1 {F : FTy → Type} [FloatOps F] (main_arg3 : FVec F S4096x128 .f32) (main_arg4 : FVec F S16x4096x128 .f32) (main_v4 : IVec S16x4096x128 1) (main_v9 : IVec S16x4096x128 1) (main_v14 : IVec S4096x128 1) (main_v16 : IVec S4096x128 1) : IVec S16x4096x128 1 × IVec S16x4096x128 1 × IVec S4096x128 1 × IVec S4096x128 1 × IVec S16x4096x128 1 :=
  let main_cst_6 : FVec F S_ .f32 := constant S_ .f32 0x7F800000#32
  let main_v17 : FVec F S4096x128 .f32 := broadcastInDim S4096x128 ![] bcast_S_S4096x128 main_cst_6
  let main_v18 : IVec S4096x128 1 := cmpf .olt main_arg3 main_v17
  let main_v19 : IVec S4096x128 1 := andi main_v16 main_v18
  let main_cst_7 : FVec F S_ .f32 := constant S_ .f32 0xFF800000#32
  let main_v20 : FVec F S16x4096x128 .f32 := broadcastInDim S16x4096x128 ![] bcast_S_S16x4096x128 main_cst_7
  let main_v21 : IVec S16x4096x128 1 := cmpf .ogt main_arg4 main_v20
  let main_cst_8 : FVec F S_ .f32 := constant S_ .f32 0x7F800000#32
  let main_v22 : FVec F S16x4096x128 .f32 := broadcastInDim S16x4096x128 ![] bcast_S_S16x4096x128 main_cst_8
  let main_v23 : IVec S16x4096x128 1 := cmpf .olt main_arg4 main_v22
  let main_v24 : IVec S16x4096x128 1 := andi main_v21 main_v23
  (main_v4, main_v9, main_v14, main_v19, main_v24)

def fn {F : FTy → Type} [FloatOps F] (main_arg0 : FVec F S16x4096x128 .f32) (main_arg1 : FVec F S16x4096x128 .f32) (main_arg2 : FVec F S4096x128 .f32) (main_arg3 : FVec F S4096x128 .f32) (main_arg4 : FVec F S16x4096x128 .f32) : IVec S16x4096x128 1 × IVec S16x4096x128 1 × IVec S4096x128 1 × IVec S4096x128 1 × IVec S16x4096x128 1 :=
  let main_cst : FVec F S_ .f32 := constant S_ .f32 0xFF800000#32
  let main_v0 : FVec F S16x4096x128 .f32 := broadcastInDim S16x4096x128 ![] bcast_S_S16x4096x128 main_cst
  let main_v1 : IVec S16x4096x128 1 := cmpf .ogt main_arg0 main_v0
  let main_cst_0 : FVec F S_ .f32 := constant S_ .f32 0x7F800000#32
  let main_v2 : FVec F S16x4096x128 .f32 := broadcastInDim S16x4096x128 ![] bcast_S_S16x4096x128 main_cst_0
  let main_v3 : IVec S16x4096x128 1 := cmpf .olt main_arg0 main_v2
  let main_v4 : IVec S16x4096x128 1 := andi main_v1 main_v3
  let main_cst_1 : FVec F S_ .f32 := constant S_ .f32 0xFF800000#32
  let main_v5 : FVec F S16x4096x128 .f32 := broadcastInDim S16x4096x128 ![] bcast_S_S16x4096x128 main_cst_1
  let main_v6 : IVec S16x4096x128 1 := cmpf .ogt main_arg1 main_v5
  let main_cst_2 : FVec F S_ .f32 := constant S_ .f32 0x7F800000#32
  let main_v7 : FVec F S16x4096x128 .f32 := broadcastInDim S16x4096x128 ![] bcast_S_S16x4096x128 main_cst_2
  let main_v8 : IVec S16x4096x128 1 := cmpf .olt main_arg1 main_v7
  let main_v9 : IVec S16x4096x128 1 := andi main_v6 main_v8
  let main_cst_3 : FVec F S_ .f32 := constant S_ .f32 0xFF800000#32
  let main_v10 : FVec F S4096x128 .f32 := broadcastInDim S4096x128 ![] bcast_S_S4096x128 main_cst_3
  let main_v11 : IVec S4096x128 1 := cmpf .ogt main_arg2 main_v10
  let main_cst_4 : FVec F S_ .f32 := constant S_ .f32 0x7F800000#32
  let main_v12 : FVec F S4096x128 .f32 := broadcastInDim S4096x128 ![] bcast_S_S4096x128 main_cst_4
  let main_v13 : IVec S4096x128 1 := cmpf .olt main_arg2 main_v12
  let main_v14 : IVec S4096x128 1 := andi main_v11 main_v13
  let main_cst_5 : FVec F S_ .f32 := constant S_ .f32 0xFF800000#32
  let main_v15 : FVec F S4096x128 .f32 := broadcastInDim S4096x128 ![] bcast_S_S4096x128 main_cst_5
  let main_v16 : IVec S4096x128 1 := cmpf .ogt main_arg3 main_v15
  fn_part1 (F := F) main_arg3 main_arg4 main_v4 main_v9 main_v14 main_v16
-- ==== Pre_finite2.lean ====
abbrev S16x4096x128 : Shape := ⟨3, ![16, 4096, 128]⟩
abbrev S4096x128 : Shape := ⟨2, ![4096, 128]⟩
abbrev S_ : Shape := ⟨0, ![]⟩

class Facts : Prop where
  bcast_S_S16x4096x128 : S_.BroadcastsInDim S16x4096x128 (![] : Fin 0 → Fin S16x4096x128.rank)
  bcast_S_S4096x128 : S_.BroadcastsInDim S4096x128 (![] : Fin 0 → Fin S4096x128.rank)

variable [Facts]

def fn_part1 {F : FTy → Type} [FloatOps F] (main_arg3 : FVec F S4096x128 .f32) (main_v4 : IVec S16x4096x128 1) (main_v9 : IVec S16x4096x128 1) (main_v14 : IVec S4096x128 1) (main_v16 : IVec S4096x128 1) : IVec S16x4096x128 1 × IVec S16x4096x128 1 × IVec S4096x128 1 × IVec S4096x128 1 :=
  let main_cst_6 : FVec F S_ .f32 := constant S_ .f32 0x7F800000#32
  let main_v17 : FVec F S4096x128 .f32 := broadcastInDim S4096x128 ![] bcast_S_S4096x128 main_cst_6
  let main_v18 : IVec S4096x128 1 := cmpf .olt main_arg3 main_v17
  let main_v19 : IVec S4096x128 1 := andi main_v16 main_v18
  (main_v4, main_v9, main_v14, main_v19)

def fn {F : FTy → Type} [FloatOps F] (main_arg0 : FVec F S16x4096x128 .f32) (main_arg1 : FVec F S16x4096x128 .f32) (main_arg2 : FVec F S4096x128 .f32) (main_arg3 : FVec F S4096x128 .f32) : IVec S16x4096x128 1 × IVec S16x4096x128 1 × IVec S4096x128 1 × IVec S4096x128 1 :=
  let main_cst : FVec F S_ .f32 := constant S_ .f32 0xFF800000#32
  let main_v0 : FVec F S16x4096x128 .f32 := broadcastInDim S16x4096x128 ![] bcast_S_S16x4096x128 main_cst
  let main_v1 : IVec S16x4096x128 1 := cmpf .ogt main_arg0 main_v0
  let main_cst_0 : FVec F S_ .f32 := constant S_ .f32 0x7F800000#32
  let main_v2 : FVec F S16x4096x128 .f32 := broadcastInDim S16x4096x128 ![] bcast_S_S16x4096x128 main_cst_0
  let main_v3 : IVec S16x4096x128 1 := cmpf .olt main_arg0 main_v2
  let main_v4 : IVec S16x4096x128 1 := andi main_v1 main_v3
  let main_cst_1 : FVec F S_ .f32 := constant S_ .f32 0xFF800000#32
  let main_v5 : FVec F S16x4096x128 .f32 := broadcastInDim S16x4096x128 ![] bcast_S_S16x4096x128 main_cst_1
  let main_v6 : IVec S16x4096x128 1 := cmpf .ogt main_arg1 main_v5
  let main_cst_2 : FVec F S_ .f32 := constant S_ .f32 0x7F800000#32
  let main_v7 : FVec F S16x4096x128 .f32 := broadcastInDim S16x4096x128 ![] bcast_S_S16x4096x128 main_cst_2
  let main_v8 : IVec S16x4096x128 1 := cmpf .olt main_arg1 main_v7
  let main_v9 : IVec S16x4096x128 1 := andi main_v6 main_v8
  let main_cst_3 : FVec F S_ .f32 := constant S_ .f32 0xFF800000#32
  let main_v10 : FVec F S4096x128 .f32 := broadcastInDim S4096x128 ![] bcast_S_S4096x128 main_cst_3
  let main_v11 : IVec S4096x128 1 := cmpf .ogt main_arg2 main_v10
  let main_cst_4 : FVec F S_ .f32 := constant S_ .f32 0x7F800000#32
  let main_v12 : FVec F S4096x128 .f32 := broadcastInDim S4096x128 ![] bcast_S_S4096x128 main_cst_4
  let main_v13 : IVec S4096x128 1 := cmpf .olt main_arg2 main_v12
  let main_v14 : IVec S4096x128 1 := andi main_v11 main_v13
  let main_cst_5 : FVec F S_ .f32 := constant S_ .f32 0xFF800000#32
  let main_v15 : FVec F S4096x128 .f32 := broadcastInDim S4096x128 ![] bcast_S_S4096x128 main_cst_5
  let main_v16 : IVec S4096x128 1 := cmpf .ogt main_arg3 main_v15
  fn_part1 (F := F) main_arg3 main_v4 main_v9 main_v14 main_v16
-- ==== Kernel.lean ====
abbrev S16x4096x128 : Shape := ⟨3, ![16, 4096, 128]⟩
abbrev S4096x128 : Shape := ⟨2, ![4096, 128]⟩
abbrev S_ : Shape := ⟨0, ![]⟩
abbrev S1x1x1 : Shape := ⟨3, ![1, 1, 1]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x4096x256 : Shape := ⟨3, ![16, 4096, 256]⟩
abbrev S4096x256 : Shape := ⟨2, ![4096, 256]⟩
abbrev S16x128x256 : Shape := ⟨3, ![16, 128, 256]⟩
abbrev S16x128x128 : Shape := ⟨3, ![16, 128, 128]⟩
abbrev S2048x256 : Shape := ⟨2, ![2048, 256]⟩
abbrev S2048x128 : Shape := ⟨2, ![2048, 128]⟩
abbrev S2048x1 : Shape := ⟨2, ![2048, 1]⟩
abbrev S2048 : Shape := ⟨1, ![2048]⟩
abbrev S512x256 : Shape := ⟨2, ![512, 256]⟩
abbrev S1024x256 : Shape := ⟨2, ![1024, 256]⟩
abbrev S1024x128 : Shape := ⟨2, ![1024, 128]⟩
abbrev S1024x512 : Shape := ⟨2, ![1024, 512]⟩
abbrev S1024x1 : Shape := ⟨2, ![1024, 1]⟩
abbrev S512x128 : Shape := ⟨2, ![512, 128]⟩
abbrev S128x256 : Shape := ⟨2, ![128, 256]⟩
abbrev S128x128 : Shape := ⟨2, ![128, 128]⟩
abbrev S256x256 : Shape := ⟨2, ![256, 256]⟩
abbrev S256x128 : Shape := ⟨2, ![256, 128]⟩
abbrev S384x256 : Shape := ⟨2, ![384, 256]⟩
abbrev S1024x384 : Shape := ⟨2, ![1024, 384]⟩
abbrev S384x128 : Shape := ⟨2, ![384, 128]⟩

abbrev nBuf : Space → Nat
  | .hbm => 120
  | .vmem => 12
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S4096x128, .f32⟩
  | .hbm, ⟨3, _⟩ => ⟨S4096x128, .f32⟩
  | .hbm, ⟨4, _⟩ => ⟨S16x4096x128, .f32⟩
  | .hbm, ⟨5, _⟩ => ⟨S_, .f32⟩
  | .hbm, ⟨6, _⟩ => ⟨S1x1x1, .f32⟩
  | .hbm, ⟨7, _⟩ => ⟨S1x1x1, .f32⟩
  | .hbm, ⟨8, _⟩ => ⟨S16x4096x4096, .f32⟩
  | .hbm, ⟨9, _⟩ => ⟨S16x4096x4096, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x4096x128, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S_, .f32⟩
  | .hbm, ⟨62, _⟩ => ⟨S16x4096x4096, .f32⟩
  | .hbm, ⟨63, _⟩ => ⟨S16x4096x4096, .f32⟩
  | .hbm, ⟨64, _⟩ => ⟨S4096, .i32⟩
  | .hbm, ⟨65, _⟩ => ⟨S_, .i32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S1x4096, .i32⟩
  | .hbm, ⟨84, _⟩ => ⟨S4096x1, .i32⟩
  | .hbm, ⟨85, _⟩ => ⟨S4096x4096, .i32⟩
  | .hbm, ⟨86, _⟩ => ⟨S4096x4096, .i32⟩
  | .hbm, ⟨87, _⟩ => ⟨S4096x4096, .i1⟩
  | .hbm, ⟨88, _⟩ => ⟨S_, .f32⟩
  | .hbm, ⟨89, _⟩ => ⟨S_, .f32⟩
  | .hbm, ⟨90, _⟩ => ⟨S16x4096x4096, .i1⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S_, .f32⟩
  | .hbm, ⟨100, _⟩ => ⟨S16x4096, .f32⟩
  | .hbm, ⟨101, _⟩ => ⟨S16x4096x1, .f32⟩
  | .hbm, ⟨102, _⟩ => ⟨S16x4096x1, .f32⟩
  | .hbm, ⟨103, _⟩ => ⟨S16x4096x1, .f32⟩
  | .hbm, ⟨104, _⟩ => ⟨S16x4096x1, .f32⟩
  | .hbm, ⟨105, _⟩ => ⟨S16x4096x1, .f32⟩
  | .hbm, ⟨106, _⟩ => ⟨S16x4096x256, .f32⟩
  | .hbm, ⟨107, _⟩ => ⟨S4096x256, .f32⟩
  | .hbm, ⟨108, _⟩ => ⟨S_, .f32⟩
  | .hbm, ⟨109, _⟩ => ⟨S1x1x1, .f32⟩
  | .hbm, ⟨110, _⟩ => ⟨S1x1x1, .f32⟩
  | .hbm, ⟨111, _⟩ => ⟨S16x4096x256, .f32⟩
  | .hbm, ⟨112, _⟩ => ⟨S16x4096x256, .f32⟩
  | .hbm, ⟨113, _⟩ => ⟨S16x4096x256, .bf16⟩
  | .hbm, ⟨114, _⟩ => ⟨S4096x256, .bf16⟩
  | .hbm, ⟨115, _⟩ => ⟨S16x4096x128, .bf16⟩
  | .hbm, ⟨116, _⟩ => ⟨S16x4096x128, .bf16⟩
  | .hbm, ⟨117, _⟩ => ⟨S16x4096x128, .f32⟩
  | .hbm, ⟨118, _⟩ => ⟨S16x4096x256, .bf16⟩
  | .hbm, ⟨119, _⟩ => ⟨S4096x256, .f32⟩
  | .local _ .vmem, ⟨0, _⟩ => ⟨S16x128x256, .bf16⟩
  | .local _ .vmem, ⟨1, _⟩ => ⟨S16x128x256, .bf16⟩
  | .local _ .vmem, ⟨2, _⟩ => ⟨S4096x256, .bf16⟩
  | .local _ .vmem, ⟨3, _⟩ => ⟨S16x128x128, .bf16⟩
  | .local _ .vmem, ⟨4, _⟩ => ⟨S16x128x128, .bf16⟩
  | .local _ .vmem, ⟨5, _⟩ => ⟨S16x128x128, .bf16⟩
  | .local _ .vmem, ⟨6, _⟩ => ⟨S16x128x128, .bf16⟩
  | .local _ .vmem, ⟨7, _⟩ => ⟨S16x128x128, .f32⟩
  | .local _ .vmem, ⟨8, _⟩ => ⟨S16x128x128, .f32⟩
  | .local _ .vmem, ⟨9, _⟩ => ⟨S16x128x256, .bf16⟩
  | .local _ .vmem, ⟨10, _⟩ => ⟨S16x128x256, .bf16⟩
  | .local _ .vmem, ⟨11, _⟩ => ⟨S4096x256, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_7 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v39 : Ref sig .tc := ⟨.hbm, 92, rfl⟩
abbrev main_cst_8 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_9 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_10 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62_0 : Ref sig .tc := ⟨.hbm, 118, rfl⟩
abbrev main_v62_1 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_18 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v40 : BitVec 32 := Scalar.subi v17 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_20 : BitVec 32 := 1#32
  ⟨c0_i32_18, v44, c1_i32_20⟩
def k0_mult1 (i : grid0.Coords) (k0_t1 : Fin (k0_t1_loop i).trips) : BitVec 32 :=
  let c0_i32_18 : BitVec 32 := 0#32
  let c1_i32_20 : BitVec 32 := 1#32
  let arg8 : BitVec 32 := Scf.iv c0_i32_18 c1_i32_20 k0_t1
  let c512_i32_51 : BitVec 32 := 512#32
  let v99 : BitVec 32 := Scalar.muli arg8 c512_i32_51
  v99
def k0_off1 (i : grid0.Coords) (k0_t1 : Fin (k0_t1_loop i).trips) : Fin 2 → Nat :=
  let c0_i32_18 : BitVec 32 := 0#32
  let c1_i32_20 : BitVec 32 := 1#32
  let arg8 : BitVec 32 := Scf.iv c0_i32_18 c1_i32_20 k0_t1
  let c512_i32_51 : BitVec 32 := 512#32
  let v99 : BitVec 32 := Scalar.muli arg8 c512_i32_51
  let v100 : BitVec 32 := v99
  let v101 : Index := Scalar.indexCast v100
  let c0_52 : Index := 0#32
  ![v101.toNat, 0]
def k0_off2 (i : grid0.Coords) (k0_t1 : Fin (k0_t1_loop i).trips) : Fin 2 → Nat :=
  let c0_i32_18 : BitVec 32 := 0#32
  let c1_i32_20 : BitVec 32 := 1#32
  let arg8 : BitVec 32 := Scf.iv c0_i32_18 c1_i32_20 k0_t1
  let c512_i32_51 : BitVec 32 := 512#32
  let v99 : BitVec 32 := Scalar.muli arg8 c512_i32_51
  let v100 : BitVec 32 := v99
  let v127 : Index := Scalar.indexCast v100
  let c0_59 : Index := 0#32
  ![v127.toNat, 0]
@[reducible] def k0_t2_loop (i : grid0.Coords) : Scf.Loop 32 :=
  let c0_i32_18 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v40 : BitVec 32 := Scalar.subi v17 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let v41 : BitVec 32 := Scalar.addi c0_i32_18 v40
  let c1_i32_21 : BitVec 32 := 1#32
  ⟨v44, v41, c1_i32_21⟩
def k0_mult2 (i : grid0.Coords) (k0_t2 : Fin (k0_t2_loop i).trips) : BitVec 32 :=
  let c0_i32_18 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v40 : BitVec 32 := Scalar.subi v17 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg8 : BitVec 32 := Scf.iv v44 c1_i32_21 k0_t2
  let c512_i32_51 : BitVec 32 := 512#32
  let v99 : BitVec 32 := Scalar.muli arg8 c512_i32_51
  v99
def k0_off3 (i : grid0.Coords) (k0_t2 : Fin (k0_t2_loop i).trips) : Fin 2 → Nat :=
  let c0_i32_18 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v40 : BitVec 32 := Scalar.subi v17 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg8 : BitVec 32 := Scf.iv v44 c1_i32_21 k0_t2
  let c512_i32_51 : BitVec 32 := 512#32
  let v99 : BitVec 32 := Scalar.muli arg8 c512_i32_51
  let v100 : BitVec 32 := v99
  let v101 : Index := Scalar.indexCast v100
  let c0_52 : Index := 0#32
  ![v101.toNat, 0]
def k0_off4 (i : grid0.Coords) (k0_t2 : Fin (k0_t2_loop i).trips) : Fin 2 → Nat :=
  let c0_i32_18 : BitVec 32 := 0#32
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v40 : BitVec 32 := Scalar.subi v17 c0_i32_18
  let c1_i32_19 : BitVec 32 := 1#32
  let v42 : BitVec 32 := Scalar.divsi v40 c1_i32_19
  let v43 : BitVec 32 := Scalar.muli v42 c1_i32_19
  let v44 : BitVec 32 := Scalar.addi c0_i32_18 v43
  let c1_i32_21 : BitVec 32 := 1#32
  let arg8 : BitVec 32 := Scf.iv v44 c1_i32_21 k0_t2
  let c512_i32_51 : BitVec 32 := 512#32
  let v99 : BitVec 32 := Scalar.muli arg8 c512_i32_51
  let v100 : BitVec 32 := v99
  let v127 : Index := Scalar.indexCast v100
  let c0_59 : Index := 0#32
  ![v127.toNat, 0]
def k0_cond2 (i : grid0.Coords) : BitVec 1 :=
  let arg0 : BitVec 32 := BitVec.ofNat 32 (i 0).val
  let c4_i32 : BitVec 32 := 4#32
  let c0_i32_22 : BitVec 32 := 0#32
  let v47 : BitVec 1 := Scalar.cmpi .eq c4_i32 c0_i32_22
  let c1_i32_23 : BitVec 32 := 1#32
  let v48 : BitVec 32 := Scalar.select v47 c1_i32_23 c4_i32
  let v49 : BitVec 32 := Scalar.remsi arg0 v48
  let c0_i32_25 : BitVec 32 := 0#32
  let v51 : BitVec 1 := Scalar.cmpi .slt v49 c0_i32_25
  let c0_i32_26 : BitVec 32 := 0#32
  let v52 : BitVec 1 := Scalar.cmpi .slt v48 c0_i32_26
  let v53 : BitVec 1 := Scalar.xori v51 v52
  let c0_i32_24 : BitVec 32 := 0#32
  let v50 : BitVec 1 := Scalar.cmpi .ne v49 c0_i32_24
  let v54 : BitVec 1 := Scalar.andi v53 v50
  let v55 : BitVec 32 := Scalar.addi v49 v48
  let v56 : BitVec 32 := Scalar.select v54 v55 v49
  let c0_i32_27 : BitVec 32 := 0#32
  let v57 : BitVec 1 := Scalar.cmpi .eq v56 c0_i32_27
  let v58 : BitVec 32 := Scalar.extui v57
  let c0_i32_28 : BitVec 32 := 0#32
  let v59 : BitVec 1 := Scalar.cmpi .ne v58 c0_i32_28
  v59

def k0_mult3 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  v99
def k0_off5 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v101 : Index := Scalar.indexCast v100
  let c0_52 : Index := 0#32
  ![v101.toNat, 0]
def k0_off6 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v201 : Index := Scalar.indexCast v100
  let c0_80 : Index := 0#32
  ![v201.toNat, 0]
def k0_cond3 (i : grid0.Coords) : BitVec 1 :=
  let arg0 : BitVec 32 := BitVec.ofNat 32 (i 0).val
  let c4_i32_29 : BitVec 32 := 4#32
  let c0_i32_30 : BitVec 32 := 0#32
  let v60 : BitVec 1 := Scalar.cmpi .eq c4_i32_29 c0_i32_30
  let c1_i32_31 : BitVec 32 := 1#32
  let v61 : BitVec 32 := Scalar.select v60 c1_i32_31 c4_i32_29
  let v62 : BitVec 32 := Scalar.remsi arg0 v61
  let c0_i32_33 : BitVec 32 := 0#32
  let v64 : BitVec 1 := Scalar.cmpi .slt v62 c0_i32_33
  let c0_i32_34 : BitVec 32 := 0#32
  let v65 : BitVec 1 := Scalar.cmpi .slt v61 c0_i32_34
  let v66 : BitVec 1 := Scalar.xori v64 v65
  let c0_i32_32 : BitVec 32 := 0#32
  let v63 : BitVec 1 := Scalar.cmpi .ne v62 c0_i32_32
  let v67 : BitVec 1 := Scalar.andi v66 v63
  let v68 : BitVec 32 := Scalar.addi v62 v61
  let v69 : BitVec 32 := Scalar.select v67 v68 v62
  let c1_i32_35 : BitVec 32 := 1#32
  let v70 : BitVec 1 := Scalar.cmpi .eq v69 c1_i32_35
  let v71 : BitVec 32 := Scalar.extui v70
  let c0_i32_36 : BitVec 32 := 0#32
  let v72 : BitVec 1 := Scalar.cmpi .ne v71 c0_i32_36
  v72

def k0_mult4 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  v99
def k0_off7 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v101 : Index := Scalar.indexCast v100
  let c0_52 : Index := 0#32
  ![v101.toNat, 0]
def k0_off8 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v201 : Index := Scalar.indexCast v100
  let c0_80 : Index := 0#32
  ![v201.toNat, 0]
def k0_cond4 (i : grid0.Coords) : BitVec 1 :=
  let arg0 : BitVec 32 := BitVec.ofNat 32 (i 0).val
  let c4_i32_37 : BitVec 32 := 4#32
  let c0_i32_38 : BitVec 32 := 0#32
  let v73 : BitVec 1 := Scalar.cmpi .eq c4_i32_37 c0_i32_38
  let c1_i32_39 : BitVec 32 := 1#32
  let v74 : BitVec 32 := Scalar.select v73 c1_i32_39 c4_i32_37
  let v75 : BitVec 32 := Scalar.remsi arg0 v74
  let c0_i32_41 : BitVec 32 := 0#32
  let v77 : BitVec 1 := Scalar.cmpi .slt v75 c0_i32_41
  let c0_i32_42 : BitVec 32 := 0#32
  let v78 : BitVec 1 := Scalar.cmpi .slt v74 c0_i32_42
  let v79 : BitVec 1 := Scalar.xori v77 v78
  let c0_i32_40 : BitVec 32 := 0#32
  let v76 : BitVec 1 := Scalar.cmpi .ne v75 c0_i32_40
  let v80 : BitVec 1 := Scalar.andi v79 v76
  let v81 : BitVec 32 := Scalar.addi v75 v74
  let v82 : BitVec 32 := Scalar.select v80 v81 v75
  let c2_i32 : BitVec 32 := 2#32
  let v83 : BitVec 1 := Scalar.cmpi .eq v82 c2_i32
  let v84 : BitVec 32 := Scalar.extui v83
  let c0_i32_43 : BitVec 32 := 0#32
  let v85 : BitVec 1 := Scalar.cmpi .ne v84 c0_i32_43
  v85

def k0_mult5 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  v99
def k0_off9 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v101 : Index := Scalar.indexCast v100
  let c0_52 : Index := 0#32
  ![v101.toNat, 0]
def k0_off10 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v201 : Index := Scalar.indexCast v100
  let c0_80 : Index := 0#32
  ![v201.toNat, 0]
def k0_cond5 (i : grid0.Coords) : BitVec 1 :=
  let arg0 : BitVec 32 := BitVec.ofNat 32 (i 0).val
  let c4_i32_44 : BitVec 32 := 4#32
  let c0_i32_45 : BitVec 32 := 0#32
  let v86 : BitVec 1 := Scalar.cmpi .eq c4_i32_44 c0_i32_45
  let c1_i32_46 : BitVec 32 := 1#32
  let v87 : BitVec 32 := Scalar.select v86 c1_i32_46 c4_i32_44
  let v88 : BitVec 32 := Scalar.remsi arg0 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let c3_i32 : BitVec 32 := 3#32
  let v96 : BitVec 1 := Scalar.cmpi .eq v95 c3_i32
  let v97 : BitVec 32 := Scalar.extui v96
  let c0_i32_50 : BitVec 32 := 0#32
  let v98 : BitVec 1 := Scalar.cmpi .ne v97 c0_i32_50
  v98

def k0_mult6 (i : grid0.Coords) : BitVec 32 :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  v99
def k0_off11 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v101 : Index := Scalar.indexCast v100
  let c0_52 : Index := 0#32
  ![v101.toNat, 0]
def k0_off12 (i : grid0.Coords) : Fin 2 → Nat :=
  let arg0 : BitVec 32 := BitVec.ofNat 32 (i 0).val
  let c128_i32 : BitVec 32 := 128#32
  let v0 : BitVec 32 := Scalar.muli arg0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_51 : BitVec 32 := 512#32
  let v99 : BitVec 32 := Scalar.muli v17 c512_i32_51
  let v100 : BitVec 32 := v99
  let v201 : Index := Scalar.indexCast v100
  let c0_80 : Index := 0#32
  ![v201.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16x4096x128 : Shape := ⟨3, ![16, 4096, 128]⟩
abbrev S4096x128 : Shape := ⟨2, ![4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S128x4096 : Shape := ⟨2, ![128, 4096]⟩
abbrev S16x4096x256 : Shape := ⟨3, ![16, 4096, 256]⟩
abbrev S4096x256 : Shape := ⟨2, ![4096, 256]⟩

abbrev nBuf : Space → Nat
  | .hbm => 112
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S4096x128, .f32⟩
  | .hbm, ⟨3, _⟩ => ⟨S4096x128, .f32⟩
  | .hbm, ⟨4, _⟩ => ⟨S16x4096x128, .f32⟩
  | .hbm, ⟨5, _⟩ => ⟨S16x4096x4096, .f32⟩
  | .hbm, ⟨6, _⟩ => ⟨S16x4096x4096, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S16x4096x4096, .f32⟩
  | .hbm, ⟨46, _⟩ => ⟨S16x4096x4096, .i1⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S16x4096, .i1⟩
  | .hbm, ⟨56, _⟩ => ⟨S_, .f32⟩
  | .hbm, ⟨57, _⟩ => ⟨S16x4096, .f32⟩
  | .hbm, ⟨58, _⟩ => ⟨S16x4096, .i1⟩
  | .hbm, ⟨59, _⟩ => ⟨S_, .f32⟩
  | .hbm, ⟨60, _⟩ => ⟨S16x4096, .f32⟩
  | .hbm, ⟨61, _⟩ => ⟨S_, .f32⟩
  | .hbm, ⟨62, _⟩ => ⟨S16x4096, .f32⟩
  | .hbm, ⟨63, _⟩ => ⟨S_, .f32⟩
  | .hbm, ⟨64, _⟩ => ⟨S16x4096, .f32⟩
  | .hbm, ⟨65, _⟩ => ⟨S16x4096, .f32⟩
  | .hbm, ⟨66, _⟩ => ⟨S16x4096, .f32⟩
  | .hbm, ⟨67, _⟩ => ⟨S16x4096x1, .f32⟩
  | .hbm, ⟨68, _⟩ => ⟨S16x4096x4096, .f32⟩
  | .hbm, ⟨69, _⟩ => ⟨S16x4096x4096, .f32⟩
  | .hbm, ⟨70, _⟩ => ⟨S16x4096x4096, .f32⟩
  | .hbm, ⟨71, _⟩ => ⟨S_, .f32⟩
  | .hbm, ⟨72, _⟩ => ⟨S16x4096, .f32⟩
  | .hbm, ⟨73, _⟩ => ⟨S16x4096x1, .f32⟩
  | .hbm, ⟨74, _⟩ => ⟨S16x4096x4096, .f32⟩
  | .hbm, ⟨75, _⟩ => ⟨S16x4096x4096, .f32⟩
  | .hbm, ⟨76, _⟩ => ⟨S16x4096x1, .f32⟩
  | .hbm, ⟨77, _⟩ => ⟨S_, .f32⟩
  | .hbm, ⟨78, _⟩ => ⟨S16x4096x1, .f32⟩
  | .hbm, ⟨79, _⟩ => ⟨S16x4096x1, .f32⟩
  | .hbm, ⟨80, _⟩ => ⟨S16x4096x128, .f32⟩
  | .hbm, ⟨81, _⟩ => ⟨S128x4096, .f32⟩
  | .hbm, ⟨82, _⟩ => ⟨S4096x128, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x1, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096x4096, .f32⟩
  | .hbm, ⟨100, _⟩ => ⟨S16x4096x4096, .f32⟩
  | .hbm, ⟨101, _⟩ => ⟨S_, .f32⟩
  | .hbm, ⟨102, _⟩ => ⟨S16x4096x4096, .f32⟩
  | .hbm, ⟨103, _⟩ => ⟨S16x4096x4096, .f32⟩
  | .hbm, ⟨104, _⟩ => ⟨S4096x128, .f32⟩
  | .hbm, ⟨105, _⟩ => ⟨S16x4096x128, .f32⟩
  | .hbm, ⟨106, _⟩ => ⟨S4096x128, .f32⟩
  | .hbm, ⟨107, _⟩ => ⟨S4096x128, .f32⟩
  | .hbm, ⟨108, _⟩ => ⟨S16x4096x128, .f32⟩
  | .hbm, ⟨109, _⟩ => ⟨S16x4096x256, .f32⟩
  | .hbm, ⟨110, _⟩ => ⟨S16x4096x256, .bf16⟩
  | .hbm, ⟨111, _⟩ => ⟨S4096x256, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_0 : Ref sig .tc := ⟨.hbm, 35, rfl⟩
abbrev main_call1_v0 : Ref sig .tc := ⟨.hbm, 36, rfl⟩
abbrev main_v12_1 : Ref sig .tc := ⟨.hbm, 37, rfl⟩
abbrev main_call1_v2 : Ref sig .tc := ⟨.hbm, 38, rfl⟩
abbrev main_v12_0 : Ref sig .tc := ⟨.hbm, 39, rfl⟩
abbrev main_call1_cst : Ref sig .tc := ⟨.hbm, 40, rfl⟩
abbrev main_v12_2 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_cst_7 : Ref sig .tc := ⟨.hbm, 61, rfl⟩
abbrev main_v26 : Ref sig .tc := ⟨.hbm, 62, rfl⟩
abbrev main_cst_8 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_9 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_10 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call2_cst : Ref sig .tc := ⟨.hbm, 98, rfl⟩
abbrev main_call2_v0 : Ref sig .tc := ⟨.hbm, 99, rfl⟩
abbrev main_v57 : Ref sig .tc := ⟨.hbm, 100, rfl⟩
abbrev main_cst_13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== Kernel2.lean ====
abbrev S16x4096x128 : Shape := ⟨3, ![16, 4096, 128]⟩
abbrev S4096x128 : Shape := ⟨2, ![4096, 128]⟩
abbrev S_ : Shape := ⟨0, ![]⟩
abbrev S1x1x1 : Shape := ⟨3, ![1, 1, 1]⟩
abbrev S16x4096x256 : Shape := ⟨3, ![16, 4096, 256]⟩
abbrev S4096x256 : Shape := ⟨2, ![4096, 256]⟩
abbrev S16x128x256 : Shape := ⟨3, ![16, 128, 256]⟩
abbrev S16x128x128 : Shape := ⟨3, ![16, 128, 128]⟩
abbrev S2048x256 : Shape := ⟨2, ![2048, 256]⟩
abbrev S2048x1 : Shape := ⟨2, ![2048, 1]⟩
abbrev S2048x128 : Shape := ⟨2, ![2048, 128]⟩
abbrev S1024x256 : Shape := ⟨2, ![1024, 256]⟩
abbrev S2048x1024 : Shape := ⟨2, ![2048, 1024]⟩
abbrev S2048 : Shape := ⟨1, ![2048]⟩
abbrev S1024x128 : Shape := ⟨2, ![1024, 128]⟩
abbrev S128x256 : Shape := ⟨2, ![128, 256]⟩
abbrev S128x128 : Shape := ⟨2, ![128, 128]⟩
abbrev S256x256 : Shape := ⟨2, ![256, 256]⟩
abbrev S256x128 : Shape := ⟨2, ![256, 128]⟩
abbrev S384x256 : Shape := ⟨2, ![384, 256]⟩
abbrev S2048x384 : Shape := ⟨2, ![2048, 384]⟩
abbrev S384x128 : Shape := ⟨2, ![384, 128]⟩
abbrev S512x256 : Shape := ⟨2, ![512, 256]⟩
abbrev S2048x512 : Shape := ⟨2, ![2048, 512]⟩
abbrev S512x128 : Shape := ⟨2, ![512, 128]⟩
abbrev S640x256 : Shape := ⟨2, ![640, 256]⟩
abbrev S2048x640 : Shape := ⟨2, ![2048, 640]⟩
abbrev S640x128 : Shape := ⟨2, ![640, 128]⟩
abbrev S768x256 : Shape := ⟨2, ![768, 256]⟩
abbrev S2048x768 : Shape := ⟨2, ![2048, 768]⟩
abbrev S768x128 : Shape := ⟨2, ![768, 128]⟩
abbrev S896x256 : Shape := ⟨2, ![896, 256]⟩
abbrev S2048x896 : Shape := ⟨2, ![2048, 896]⟩
abbrev S896x128 : Shape := ⟨2, ![896, 128]⟩

abbrev nBuf : Space → Nat
  | .hbm => 18
  | .vmem => 7
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S1x1x1, .f32⟩
  | .hbm, ⟨6, _⟩ => ⟨S1x1x1, .f32⟩
  | .hbm, ⟨7, _⟩ => ⟨S16x4096x256, .f32⟩
  | .hbm, ⟨8, _⟩ => ⟨S4096x256, .f32⟩
  | .hbm, ⟨9, _⟩ => ⟨S_, .f32⟩
  | .hbm, ⟨10, _⟩ => ⟨S1x1x1, .f32⟩
  | .hbm, ⟨11, _⟩ => ⟨S1x1x1, .f32⟩
  | .hbm, ⟨12, _⟩ => ⟨S16x4096x256, .f32⟩
  | .hbm, ⟨13, _⟩ => ⟨S16x4096x256, .f32⟩
  | .hbm, ⟨14, _⟩ => ⟨S16x4096x256, .bf16⟩
  | .hbm, ⟨15, _⟩ => ⟨S4096x256, .bf16⟩
  | .hbm, ⟨16, _⟩ => ⟨S16x4096x128, .bf16⟩
  | .hbm, ⟨17, _⟩ => ⟨S16x4096x128, .f32⟩
  | .local _ .vmem, ⟨0, _⟩ => ⟨S16x128x256, .bf16⟩
  | .local _ .vmem, ⟨1, _⟩ => ⟨S16x128x256, .bf16⟩
  | .local _ .vmem, ⟨2, _⟩ => ⟨S4096x256, .bf16⟩
  | .local _ .vmem, ⟨3, _⟩ => ⟨S16x128x128, .bf16⟩
  | .local _ .vmem, ⟨4, _⟩ => ⟨S16x128x128, .bf16⟩
  | .local _ .vmem, ⟨5, _⟩ => ⟨S16x128x128, .f32⟩
  | .local _ .vmem, ⟨6, _⟩ => ⟨S16x128x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop (i : grid0.Coords) : Scf.Loop 32 :=
  let c0_i32_8 : BitVec 32 := 0#32
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let v24 : BitVec 32 := Scalar.subi v20 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_10 : BitVec 32 := 1#32
  ⟨c0_i32_8, v28, c1_i32_10⟩
def k0_mult1 (i : grid0.Coords) (k0_t1 : Fin (k0_t1_loop i).trips) : BitVec 32 :=
  let c0_i32_8 : BitVec 32 := 0#32
  let c1_i32_10 : BitVec 32 := 1#32
  let arg5 : BitVec 32 := Scf.iv c0_i32_8 c1_i32_10 k0_t1
  let c1024_i32_69 : BitVec 32 := 1024#32
  let v135 : BitVec 32 := Scalar.muli arg5 c1024_i32_69
  v135
def k0_off1 (i : grid0.Coords) (k0_t1 : Fin (k0_t1_loop i).trips) : Fin 2 → Nat :=
  let c0_i32_8 : BitVec 32 := 0#32
  let c1_i32_10 : BitVec 32 := 1#32
  let arg5 : BitVec 32 := Scf.iv c0_i32_8 c1_i32_10 k0_t1
  let c1024_i32_69 : BitVec 32 := 1024#32
  let v135 : BitVec 32 := Scalar.muli arg5 c1024_i32_69
  let v136 : BitVec 32 := v135
  let v137 : Index := Scalar.indexCast v136
  let c0_70 : Index := 0#32
  ![v137.toNat, 0]
@[reducible] def k0_t2_loop (i : grid0.Coords) : Scf.Loop 32 :=
  let c0_i32_8 : BitVec 32 := 0#32
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let v24 : BitVec 32 := Scalar.subi v20 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let v25 : BitVec 32 := Scalar.addi c0_i32_8 v24
  let c1_i32_11 : BitVec 32 := 1#32
  ⟨v28, v25, c1_i32_11⟩
def k0_mult2 (i : grid0.Coords) (k0_t2 : Fin (k0_t2_loop i).trips) : BitVec 32 :=
  let c0_i32_8 : BitVec 32 := 0#32
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let v24 : BitVec 32 := Scalar.subi v20 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_11 : BitVec 32 := 1#32
  let arg5 : BitVec 32 := Scf.iv v28 c1_i32_11 k0_t2
  let c1024_i32_69 : BitVec 32 := 1024#32
  let v135 : BitVec 32 := Scalar.muli arg5 c1024_i32_69
  v135
def k0_off2 (i : grid0.Coords) (k0_t2 : Fin (k0_t2_loop i).trips) : Fin 2 → Nat :=
  let c0_i32_8 : BitVec 32 := 0#32
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let v24 : BitVec 32 := Scalar.subi v20 c0_i32_8
  let c1_i32_9 : BitVec 32 := 1#32
  let v26 : BitVec 32 := Scalar.divsi v24 c1_i32_9
  let v27 : BitVec 32 := Scalar.muli v26 c1_i32_9
  let v28 : BitVec 32 := Scalar.addi c0_i32_8 v27
  let c1_i32_11 : BitVec 32 := 1#32
  let arg5 : BitVec 32 := Scf.iv v28 c1_i32_11 k0_t2
  let c1024_i32_69 : BitVec 32 := 1024#32
  let v135 : BitVec 32 := Scalar.muli arg5 c1024_i32_69
  let v136 : BitVec 32 := v135
  let v137 : Index := Scalar.indexCast v136
  let c0_70 : Index := 0#32
  ![v137.toNat, 0]
def k0_cond1 (i : grid0.Coords) : BitVec 1 :=
  let arg0 : BitVec 32 := BitVec.ofNat 32 (i 0).val
  let c8_i32 : BitVec 32 := 8#32
  let c0_i32_12 : BitVec 32 := 0#32
  let v31 : BitVec 1 := Scalar.cmpi .eq c8_i32 c0_i32_12
  let c1_i32_13 : BitVec 32 := 1#32
  let v32 : BitVec 32 := Scalar.select v31 c1_i32_13 c8_i32
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c0_i32_17 : BitVec 32 := 0#32
  let v41 : BitVec 1 := Scalar.cmpi .eq v40 c0_i32_17
  let v42 : BitVec 32 := Scalar.extui v41
  let c0_i32_18 : BitVec 32 := 0#32
  let v43 : BitVec 1 := Scalar.cmpi .ne v42 c0_i32_18
  v43

def k0_mult3 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off3 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond2 (i : grid0.Coords) : BitVec 1 :=
  let arg0 : BitVec 32 := BitVec.ofNat 32 (i 0).val
  let c8_i32_19 : BitVec 32 := 8#32
  let c0_i32_20 : BitVec 32 := 0#32
  let v44 : BitVec 1 := Scalar.cmpi .eq c8_i32_19 c0_i32_20
  let c1_i32_21 : BitVec 32 := 1#32
  let v45 : BitVec 32 := Scalar.select v44 c1_i32_21 c8_i32_19
  let v46 : BitVec 32 := Scalar.remsi arg0 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let c1_i32_25 : BitVec 32 := 1#32
  let v54 : BitVec 1 := Scalar.cmpi .eq v53 c1_i32_25
  let v55 : BitVec 32 := Scalar.extui v54
  let c0_i32_26 : BitVec 32 := 0#32
  let v56 : BitVec 1 := Scalar.cmpi .ne v55 c0_i32_26
  v56

def k0_mult4 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off4 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond3 (i : grid0.Coords) : BitVec 1 :=
  let arg0 : BitVec 32 := BitVec.ofNat 32 (i 0).val
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi arg0 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c2_i32 : BitVec 32 := 2#32
  let v67 : BitVec 1 := Scalar.cmpi .eq v66 c2_i32
  let v68 : BitVec 32 := Scalar.extui v67
  let c0_i32_33 : BitVec 32 := 0#32
  let v69 : BitVec 1 := Scalar.cmpi .ne v68 c0_i32_33
  v69

def k0_mult5 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off5 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond4 (i : grid0.Coords) : BitVec 1 :=
  let arg0 : BitVec 32 := BitVec.ofNat 32 (i 0).val
  let c8_i32_34 : BitVec 32 := 8#32
  let c0_i32_35 : BitVec 32 := 0#32
  let v70 : BitVec 1 := Scalar.cmpi .eq c8_i32_34 c0_i32_35
  let c1_i32_36 : BitVec 32 := 1#32
  let v71 : BitVec 32 := Scalar.select v70 c1_i32_36 c8_i32_34
  let v72 : BitVec 32 := Scalar.remsi arg0 v71
  let c0_i32_38 : BitVec 32 := 0#32
  let v74 : BitVec 1 := Scalar.cmpi .slt v72 c0_i32_38
  let c0_i32_39 : BitVec 32 := 0#32
  let v75 : BitVec 1 := Scalar.cmpi .slt v71 c0_i32_39
  let v76 : BitVec 1 := Scalar.xori v74 v75
  let c0_i32_37 : BitVec 32 := 0#32
  let v73 : BitVec 1 := Scalar.cmpi .ne v72 c0_i32_37
  let v77 : BitVec 1 := Scalar.andi v76 v73
  let v78 : BitVec 32 := Scalar.addi v72 v71
  let v79 : BitVec 32 := Scalar.select v77 v78 v72
  let c3_i32 : BitVec 32 := 3#32
  let v80 : BitVec 1 := Scalar.cmpi .eq v79 c3_i32
  let v81 : BitVec 32 := Scalar.extui v80
  let c0_i32_40 : BitVec 32 := 0#32
  let v82 : BitVec 1 := Scalar.cmpi .ne v81 c0_i32_40
  v82

def k0_mult6 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off6 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond5 (i : grid0.Coords) : BitVec 1 :=
  let arg0 : BitVec 32 := BitVec.ofNat 32 (i 0).val
  let c8_i32_41 : BitVec 32 := 8#32
  let c0_i32_42 : BitVec 32 := 0#32
  let v83 : BitVec 1 := Scalar.cmpi .eq c8_i32_41 c0_i32_42
  let c1_i32_43 : BitVec 32 := 1#32
  let v84 : BitVec 32 := Scalar.select v83 c1_i32_43 c8_i32_41
  let v85 : BitVec 32 := Scalar.remsi arg0 v84
  let c0_i32_45 : BitVec 32 := 0#32
  let v87 : BitVec 1 := Scalar.cmpi .slt v85 c0_i32_45
  let c0_i32_46 : BitVec 32 := 0#32
  let v88 : BitVec 1 := Scalar.cmpi .slt v84 c0_i32_46
  let v89 : BitVec 1 := Scalar.xori v87 v88
  let c0_i32_44 : BitVec 32 := 0#32
  let v86 : BitVec 1 := Scalar.cmpi .ne v85 c0_i32_44
  let v90 : BitVec 1 := Scalar.andi v89 v86
  let v91 : BitVec 32 := Scalar.addi v85 v84
  let v92 : BitVec 32 := Scalar.select v90 v91 v85
  let c4_i32 : BitVec 32 := 4#32
  let v93 : BitVec 1 := Scalar.cmpi .eq v92 c4_i32
  let v94 : BitVec 32 := Scalar.extui v93
  let c0_i32_47 : BitVec 32 := 0#32
  let v95 : BitVec 1 := Scalar.cmpi .ne v94 c0_i32_47
  v95

def k0_mult7 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off7 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond6 (i : grid0.Coords) : BitVec 1 :=
  let arg0 : BitVec 32 := BitVec.ofNat 32 (i 0).val
  let c8_i32_48 : BitVec 32 := 8#32
  let c0_i32_49 : BitVec 32 := 0#32
  let v96 : BitVec 1 := Scalar.cmpi .eq c8_i32_48 c0_i32_49
  let c1_i32_50 : BitVec 32 := 1#32
  let v97 : BitVec 32 := Scalar.select v96 c1_i32_50 c8_i32_48
  let v98 : BitVec 32 := Scalar.remsi arg0 v97
  let c0_i32_52 : BitVec 32 := 0#32
  let v100 : BitVec 1 := Scalar.cmpi .slt v98 c0_i32_52
  let c0_i32_53 : BitVec 32 := 0#32
  let v101 : BitVec 1 := Scalar.cmpi .slt v97 c0_i32_53
  let v102 : BitVec 1 := Scalar.xori v100 v101
  let c0_i32_51 : BitVec 32 := 0#32
  let v99 : BitVec 1 := Scalar.cmpi .ne v98 c0_i32_51
  let v103 : BitVec 1 := Scalar.andi v102 v99
  let v104 : BitVec 32 := Scalar.addi v98 v97
  let v105 : BitVec 32 := Scalar.select v103 v104 v98
  let c5_i32 : BitVec 32 := 5#32
  let v106 : BitVec 1 := Scalar.cmpi .eq v105 c5_i32
  let v107 : BitVec 32 := Scalar.extui v106
  let c0_i32_54 : BitVec 32 := 0#32
  let v108 : BitVec 1 := Scalar.cmpi .ne v107 c0_i32_54
  v108

def k0_mult8 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off8 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond7 (i : grid0.Coords) : BitVec 1 :=
  let arg0 : BitVec 32 := BitVec.ofNat 32 (i 0).val
  let c8_i32_55 : BitVec 32 := 8#32
  let c0_i32_56 : BitVec 32 := 0#32
  let v109 : BitVec 1 := Scalar.cmpi .eq c8_i32_55 c0_i32_56
  let c1_i32_57 : BitVec 32 := 1#32
  let v110 : BitVec 32 := Scalar.select v109 c1_i32_57 c8_i32_55
  let v111 : BitVec 32 := Scalar.remsi arg0 v110
  let c0_i32_59 : BitVec 32 := 0#32
  let v113 : BitVec 1 := Scalar.cmpi .slt v111 c0_i32_59
  let c0_i32_60 : BitVec 32 := 0#32
  let v114 : BitVec 1 := Scalar.cmpi .slt v110 c0_i32_60
  let v115 : BitVec 1 := Scalar.xori v113 v114
  let c0_i32_58 : BitVec 32 := 0#32
  let v112 : BitVec 1 := Scalar.cmpi .ne v111 c0_i32_58
  let v116 : BitVec 1 := Scalar.andi v115 v112
  let v117 : BitVec 32 := Scalar.addi v111 v110
  let v118 : BitVec 32 := Scalar.select v116 v117 v111
  let c6_i32 : BitVec 32 := 6#32
  let v119 : BitVec 1 := Scalar.cmpi .eq v118 c6_i32
  let v120 : BitVec 32 := Scalar.extui v119
  let c0_i32_61 : BitVec 32 := 0#32
  let v121 : BitVec 1 := Scalar.cmpi .ne v120 c0_i32_61
  v121

def k0_mult9 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off9 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def k0_cond8 (i : grid0.Coords) : BitVec 1 :=
  let arg0 : BitVec 32 := BitVec.ofNat 32 (i 0).val
  let c8_i32_62 : BitVec 32 := 8#32
  let c0_i32_63 : BitVec 32 := 0#32
  let v122 : BitVec 1 := Scalar.cmpi .eq c8_i32_62 c0_i32_63
  let c1_i32_64 : BitVec 32 := 1#32
  let v123 : BitVec 32 := Scalar.select v122 c1_i32_64 c8_i32_62
  let v124 : BitVec 32 := Scalar.remsi arg0 v123
  let c0_i32_66 : BitVec 32 := 0#32
  let v126 : BitVec 1 := Scalar.cmpi .slt v124 c0_i32_66
  let c0_i32_67 : BitVec 32 := 0#32
  let v127 : BitVec 1 := Scalar.cmpi .slt v123 c0_i32_67
  let v128 : BitVec 1 := Scalar.xori v126 v127
  let c0_i32_65 : BitVec 32 := 0#32
  let v125 : BitVec 1 := Scalar.cmpi .ne v124 c0_i32_65
  let v129 : BitVec 1 := Scalar.andi v128 v125
  let v130 : BitVec 32 := Scalar.addi v124 v123
  let v131 : BitVec 32 := Scalar.select v129 v130 v124
  let c7_i32 : BitVec 32 := 7#32
  let v132 : BitVec 1 := Scalar.cmpi .eq v131 c7_i32
  let v133 : BitVec 32 := Scalar.extui v132
  let c0_i32_68 : BitVec 32 := 0#32
  let v134 : BitVec 1 := Scalar.cmpi .ne v133 c0_i32_68
  v134

def k0_mult10 (i : grid0.Coords) : BitVec 32 :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  v135
def k0_off10 (i : grid0.Coords) : Fin 2 → Nat :=
  let arg0 : BitVec 32 := BitVec.ofNat 32 (i 0).val
  let c128_i32 : BitVec 32 := 128#32
  let v3 : BitVec 32 := Scalar.muli arg0 c128_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32 : BitVec 32 := 1024#32
  let c0_i32_3 : BitVec 32 := 0#32
  let v10 : BitVec 1 := Scalar.cmpi .sgt c1024_i32 c0_i32_3
  let v11 : BitVec 32 := Scalar.extui v10
  let c0_i32_4 : BitVec 32 := 0#32
  let v12 : BitVec 1 := Scalar.cmpi .slt c1024_i32 c0_i32_4
  let v13 : BitVec 32 := Scalar.extui v12
  let v14 : BitVec 32 := Scalar.subi v11 v13
  let v15 : BitVec 1 := Scalar.cmpi .ne v9 v14
  let v16 : BitVec 32 := Scalar.remsi v3 c1024_i32
  let c0_i32_5 : BitVec 32 := 0#32
  let v17 : BitVec 1 := Scalar.cmpi .ne v16 c0_i32_5
  let v18 : BitVec 1 := Scalar.andi v15 v17
  let v4 : BitVec 32 := Scalar.divsi v3 c1024_i32
  let c1_i32 : BitVec 32 := 1#32
  let v19 : BitVec 32 := Scalar.subi v4 c1_i32
  let v20 : BitVec 32 := Scalar.select v18 v19 v4
  let c1024_i32_69 : BitVec 32 := 1024#32
  let v135 : BitVec 32 := Scalar.muli v20 c1024_i32_69
  let v136 : BitVec 32 := v135
  let v137 : Index := Scalar.indexCast v136
  let c0_70 : Index := 0#32
  ![v137.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel2Ideal.lean ====
variable {F : FTy → Type} [FloatOps F] [Named F]
def κ : String → Option EReal := fun
  | "log2e" => some (((Real.log 2)⁻¹ : ℝ) : EReal)
  | "mask" => some ⊥
  | _ => none
-- ==== Reference2Ideal.lean ====
abbrev S16x4096x128 : Shape := ⟨3, ![16, 4096, 128]⟩
abbrev S4096x128 : Shape := ⟨2, ![4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S1x1x1 : Shape := ⟨3, ![1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x128, .f32⟩
  | .hbm, ⟨2, _⟩ => ⟨S4096x128, .f32⟩
  | .hbm, ⟨3, _⟩ => ⟨S4096x128, .f32⟩
  | .hbm, ⟨4, _⟩ => ⟨S16x4096x4096, .f32⟩
  | .hbm, ⟨5, _⟩ => ⟨S16x4096x4096, .f32⟩
  | .hbm, ⟨6, _⟩ => ⟨S16x4096x4096, .f32⟩
  | .hbm, ⟨7, _⟩ => ⟨S_, .f32⟩
  | .hbm, ⟨8, _⟩ => ⟨S16x4096x4096, .f32⟩
  | .hbm, ⟨9, _⟩ => ⟨S16x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S16x4096x4096, .i1⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x1, .f32⟩
  | .hbm, ⟨49, _⟩ => ⟨S16x4096x1, .f32⟩
  | .hbm, ⟨50, _⟩ => ⟨S_, .f32⟩
  | .hbm, ⟨51, _⟩ => ⟨S1x1x1, .f32⟩
  | .hbm, ⟨52, _⟩ => ⟨S1x1x1, .f32⟩
  | .hbm, ⟨53, _⟩ => ⟨S16x4096x1, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096x4096, .f32⟩
  | .hbm, ⟨60, _⟩ => ⟨S16x4096x4096, .f32⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S4096, .i32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S1x4096, .i32⟩
  | .hbm, ⟨81, _⟩ => ⟨S4096x1, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S_, .f32⟩
  | .hbm, ⟨86, _⟩ => ⟨S_, .f32⟩
  | .hbm, ⟨87, _⟩ => ⟨S16x4096x4096, .i1⟩
  | .hbm, ⟨88, _⟩ => ⟨S16x4096x4096, .f32⟩
  | .hbm, ⟨89, _⟩ => ⟨S16x4096x4096, .f32⟩
  | .hbm, ⟨90, _⟩ => ⟨S_, .f32⟩
  | .hbm, ⟨91, _⟩ => ⟨S16x4096, .f32⟩
  | .hbm, ⟨92, _⟩ => ⟨S_, .f32⟩
  | .hbm, ⟨93, _⟩ => ⟨S16x4096, .f32⟩
  | .hbm, ⟨94, _⟩ => ⟨S16x4096, .f32⟩
  | .hbm, ⟨95, _⟩ => ⟨S16x4096x1, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S_, .f32⟩
  | .hbm, ⟨100, _⟩ => ⟨S16x4096, .f32⟩
  | .hbm, ⟨101, _⟩ => ⟨S16x4096x1, .f32⟩
  | .hbm, ⟨102, _⟩ => ⟨S16x4096x4096, .f32⟩
  | .hbm, ⟨103, _⟩ => ⟨S16x4096x4096, .f32⟩
  | .hbm, ⟨104, _⟩ => ⟨S16x4096x128, .f32⟩
  | .hbm, ⟨105, _⟩ => ⟨S16x4096x128, .bf16⟩
  | .hbm, ⟨106, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_6 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_cst_8 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_9 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩

abbrev nD : Nat := 1
abbrev τ : Topo := Topo.v7x

variable {F : FTy → Type} [FloatOps F]
-- ==== Kernel3.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S1024x4x1280 : Shape := ⟨3, ![1024, 4, 1280]⟩
abbrev S4x1024x1280 : Shape := ⟨3, ![4, 1024, 1280]⟩
abbrev S512x5120 : Shape := ⟨2, ![512, 5120]⟩
abbrev S512x1024 : Shape := ⟨2, ![512, 1024]⟩
abbrev S512x1280 : Shape := ⟨2, ![512, 1280]⟩
abbrev S1x1024x1280 : Shape := ⟨3, ![1, 1024, 1280]⟩
abbrev S1024x1280 : Shape := ⟨2, ![1024, 1280]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1280, .f32⟩
  | .hbm, ⟨6, _⟩ => ⟨S4x1024x1280, .f32⟩
  | .hbm, ⟨7, _⟩ => ⟨S4096x5120, .bf16⟩
  | .hbm, ⟨8, _⟩ => ⟨S4x1024x1280, .bf16⟩
  | .hbm, ⟨9, _⟩ => ⟨S4096x1024, .f32⟩
  | .hbm, ⟨10, _⟩ => ⟨S1x1024, .f32⟩
  | .hbm, ⟨11, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S4x1024x1280, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S4096x5120 : Shape := ⟨2, ![4096, 5120]⟩
abbrev S1024x5120 : Shape := ⟨2, ![1024, 5120]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S1024x5120, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x5120, .f32⟩
  | .hbm, ⟨15, _⟩ => ⟨S4096x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel5.lean ====
abbrev S2x1024x768 : Shape := ⟨3, ![2, 1024, 768]⟩
abbrev S1x256x768 : Shape := ⟨3, ![1, 256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
abbrev S2x1024x768 : Shape := ⟨3, ![2, 1024, 768]⟩
abbrev S1x256x768 : Shape := ⟨3, ![1, 256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S1x1024x1280 : Shape := ⟨3, ![1, 1024, 1280]⟩
abbrev S1x256x1280 : Shape := ⟨3, ![1, 256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1280, .f32⟩
  | .hbm, ⟨1, _⟩ => ⟨S1x1024x1280, .f32⟩
  | .hbm, ⟨2, _⟩ => ⟨S1x1024x1280, .f32⟩
  | .hbm, ⟨3, _⟩ => ⟨S1x1024x1280, .f32⟩
  | .hbm, ⟨4, _⟩ => ⟨S1x1024x1280, .f32⟩
  | .hbm, ⟨5, _⟩ => ⟨S1x1024x1280, .f32⟩
  | .hbm, ⟨6, _⟩ => ⟨S1x1024x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | _, _ => ⟨S1x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
abbrev S1x1024x1280 : Shape := ⟨3, ![1, 1024, 1280]⟩
abbrev S1x256x1280 : Shape := ⟨3, ![1, 256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1280, .f32⟩
  | .hbm, ⟨1, _⟩ => ⟨S1x1024x1280, .f32⟩
  | .hbm, ⟨2, _⟩ => ⟨S1x1024x1280, .f32⟩
  | .hbm, ⟨3, _⟩ => ⟨S1x1024x1280, .f32⟩
  | .hbm, ⟨4, _⟩ => ⟨S1x1024x1280, .f32⟩
  | .hbm, ⟨5, _⟩ => ⟨S1x1024x1280, .f32⟩
  | .hbm, ⟨6, _⟩ => ⟨S1x1024x1280, .f32⟩
  | .local _ .vmem, ⟨0, _⟩ => ⟨S1x256x1280, .f32⟩
  | .local _ .vmem, ⟨1, _⟩ => ⟨S1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | _, _ => ⟨S1x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S1x1024x1280 : Shape := ⟨3, ![1, 1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1280, .f32⟩
  | .hbm, ⟨1, _⟩ => ⟨S1x1024x1280, .f32⟩
  | .hbm, ⟨2, _⟩ => ⟨S1x1024x1280, .f32⟩
  | .hbm, ⟨3, _⟩ => ⟨S1x1024x1280, .f32⟩
  | .hbm, ⟨4, _⟩ => ⟨S_, .f32⟩
  | .hbm, ⟨5, _⟩ => ⟨S1x1024x1280, .f32⟩
  | .hbm, ⟨6, _⟩ => ⟨S1x1024x1280, .f32⟩
  | .hbm, ⟨7, _⟩ => ⟨S_, .f32⟩
  | .hbm, ⟨8, _⟩ => ⟨S1x1024x1280, .f32⟩
  | .hbm, ⟨9, _⟩ => ⟨S1x1024x1280, .f32⟩
  | .hbm, ⟨10, _⟩ => ⟨S1x1024x1280, .f32⟩
  | .hbm, ⟨11, _⟩ => ⟨S_, .f32⟩
  | .hbm, ⟨12, _⟩ => ⟨S1x1024x1280, .f32⟩
  | .hbm, ⟨13, _⟩ => ⟨S1x1024x1280, .f32⟩
  | .hbm, ⟨14, _⟩ => ⟨S1x1024x1280, .f32⟩
  | .hbm, ⟨15, _⟩ => ⟨S_, .f32⟩
  | .hbm, ⟨16, _⟩ => ⟨S1x1024x1280, .f32⟩
  | .hbm, ⟨17, _⟩ => ⟨S1x1024x1280, .f32⟩
  | .hbm, ⟨18, _⟩ => ⟨S1x1024x1280, .f32⟩
  | .hbm, ⟨19, _⟩ => ⟨S_, .f32⟩
  | .hbm, ⟨20, _⟩ => ⟨S1x1024x1280, .f32⟩
  | .hbm, ⟨21, _⟩ => ⟨S1x1024x1280, .f32⟩
  | .hbm, ⟨22, _⟩ => ⟨S_, .f32⟩
  | .hbm, ⟨23, _⟩ => ⟨S1x1024x1280, .f32⟩
  | .hbm, ⟨24, _⟩ => ⟨S1x1024x1280, .f32⟩
  | .hbm, ⟨25, _⟩ => ⟨S1x1024x1280, .f32⟩
  | .hbm, ⟨26, _⟩ => ⟨S_, .f32⟩
  | .hbm, ⟨27, _⟩ => ⟨S1x1024x1280, .f32⟩
  | .hbm, ⟨28, _⟩ => ⟨S1x1024x1280, .f32⟩
  | .hbm, ⟨29, _⟩ => ⟨S1x1024x1280, .f32⟩
  | .hbm, ⟨30, _⟩ => ⟨S_, .f32⟩
  | .hbm, ⟨31, _⟩ => ⟨S1x1024x1280, .f32⟩
  | .hbm, ⟨32, _⟩ => ⟨S1x1024x1280, .f32⟩
  | .hbm, ⟨33, _⟩ => ⟨S1x1024x1280, .f32⟩
  | .hbm, ⟨34, _⟩ => ⟨S_, .f32⟩
  | .hbm, ⟨35, _⟩ => ⟨S1x1024x1280, .f32⟩
  | .hbm, ⟨36, _⟩ => ⟨S1x1024x1280, .f32⟩
  | _, _ => ⟨S1x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1x4x128x128 : Shape := ⟨4, ![1, 4, 128, 128]⟩
abbrev S4x128x128 : Shape := ⟨3, ![4, 128, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S4x128x128, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel7Ideal.lean ====
abbrev S1x4x128x128 : Shape := ⟨4, ![1, 4, 128, 128]⟩
abbrev S4x128x128 : Shape := ⟨3, ![4, 128, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S4x128x128, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference7Ideal.lean ====
abbrev S1x4x128x128 : Shape := ⟨4, ![1, 4, 128, 128]⟩
abbrev S_ : Shape := ⟨0, ![]⟩
abbrev S4x128x128 : Shape := ⟨3, ![4, 128, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S1x4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S_, .f32⟩
  | .hbm, ⟨12, _⟩ => ⟨S1x4x128x128, .f32⟩
  | .hbm, ⟨13, _⟩ => ⟨S1x4x128x128, .f32⟩
  | .hbm, ⟨14, _⟩ => ⟨S1x4x128x128, .f32⟩
  | .hbm, ⟨15, _⟩ => ⟨S_, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S_, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S1x4x128x128, .f32⟩
  | .hbm, ⟨26, _⟩ => ⟨S_, .f32⟩
  | .hbm, ⟨27, _⟩ => ⟨S1x4x128x128, .f32⟩
  | .hbm, ⟨28, _⟩ => ⟨S1x4x128x128, .f32⟩
  | .hbm, ⟨29, _⟩ => ⟨S1x4x128x128, .f32⟩
  | .hbm, ⟨30, _⟩ => ⟨S_, .f32⟩
  | .hbm, ⟨31, _⟩ => ⟨S1x4x128x128, .f32⟩
  | .hbm, ⟨32, _⟩ => ⟨S1x4x128x128, .f32⟩
  | .hbm, ⟨33, _⟩ => ⟨S1x4x128x128, .f32⟩
  | .hbm, ⟨34, _⟩ => ⟨S_, .f32⟩
  | .hbm, ⟨35, _⟩ => ⟨S1x4x128x128, .f32⟩
  | .hbm, ⟨36, _⟩ => ⟨S1x4x128x128, .f32⟩
  | .hbm, ⟨37, _⟩ => ⟨S4x128x128, .f32⟩
  | .hbm, ⟨38, _⟩ => ⟨S4x128x128, .f32⟩
  | .hbm, ⟨39, _⟩ => ⟨S4x128x128, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S1x4x64x256 : Shape := ⟨4, ![1, 4, 64, 256]⟩
abbrev S4x64x256 : Shape := ⟨3, ![4, 64, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S4x64x256, .f32⟩
  | .hbm, ⟨5, _⟩ => ⟨S4x64x256, .f32⟩
  | .hbm, ⟨6, _⟩ => ⟨S4x64x256, .f32⟩
  | .hbm, ⟨7, _⟩ => ⟨S4x64x256, .f32⟩
  | .hbm, ⟨8, _⟩ => ⟨S4x64x256, .f32⟩
  | .hbm, ⟨9, _⟩ => ⟨S4x64x256, .f32⟩
  | .hbm, ⟨10, _⟩ => ⟨S4x64x256, .f32⟩
  | .local _ .vmem, ⟨0, _⟩ => ⟨S4x64x256, .f32⟩
  | .local _ .vmem, ⟨1, _⟩ => ⟨S4x64x256, .f32⟩
  | .local _ .vmem, ⟨2, _⟩ => ⟨S4x64x256, .f32⟩
  | .local _ .vmem, ⟨3, _⟩ => ⟨S4x64x256, .f32⟩
  | .local _ .vmem, ⟨4, _⟩ => ⟨S4x64x256, .f32⟩
  | .local _ .vmem, ⟨5, _⟩ => ⟨S4x64x256, .f32⟩
  | .local _ .vmem, ⟨6, _⟩ => ⟨S4x64x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel8Ideal.lean ====
abbrev S1x4x64x256 : Shape := ⟨4, ![1, 4, 64, 256]⟩
abbrev S4x64x256 : Shape := ⟨3, ![4, 64, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S4x64x256, .f32⟩
  | .hbm, ⟨5, _⟩ => ⟨S4x64x256, .f32⟩
  | .hbm, ⟨6, _⟩ => ⟨S4x64x256, .f32⟩
  | .hbm, ⟨7, _⟩ => ⟨S4x64x256, .f32⟩
  | .hbm, ⟨8, _⟩ => ⟨S4x64x256, .f32⟩
  | .hbm, ⟨9, _⟩ => ⟨S4x64x256, .f32⟩
  | .hbm, ⟨10, _⟩ => ⟨S4x64x256, .f32⟩
  | .local _ .vmem, ⟨0, _⟩ => ⟨S4x64x256, .f32⟩
  | .local _ .vmem, ⟨1, _⟩ => ⟨S4x64x256, .f32⟩
  | .local _ .vmem, ⟨2, _⟩ => ⟨S4x64x256, .f32⟩
  | .local _ .vmem, ⟨3, _⟩ => ⟨S4x64x256, .f32⟩
  | .local _ .vmem, ⟨4, _⟩ => ⟨S4x64x256, .f32⟩
  | .local _ .vmem, ⟨5, _⟩ => ⟨S4x64x256, .f32⟩
  | .local _ .vmem, ⟨6, _⟩ => ⟨S4x64x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference8Ideal.lean ====
abbrev S1x4x64x256 : Shape := ⟨4, ![1, 4, 64, 256]⟩
abbrev S_ : Shape := ⟨0, ![]⟩
abbrev S4x64x256 : Shape := ⟨3, ![4, 64, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S1x4x64x256, .f32⟩
  | .hbm, ⟨4, _⟩ => ⟨S_, .f32⟩
  | .hbm, ⟨5, _⟩ => ⟨S1x4x64x256, .f32⟩
  | .hbm, ⟨6, _⟩ => ⟨S1x4x64x256, .f32⟩
  | .hbm, ⟨7, _⟩ => ⟨S_, .f32⟩
  | .hbm, ⟨8, _⟩ => ⟨S1x4x64x256, .f32⟩
  | .hbm, ⟨9, _⟩ => ⟨S1x4x64x256, .f32⟩
  | .hbm, ⟨10, _⟩ => ⟨S1x4x64x256, .f32⟩
  | .hbm, ⟨11, _⟩ => ⟨S_, .f32⟩
  | .hbm, ⟨12, _⟩ => ⟨S1x4x64x256, .f32⟩
  | .hbm, ⟨13, _⟩ => ⟨S1x4x64x256, .f32⟩
  | .hbm, ⟨14, _⟩ => ⟨S1x4x64x256, .f32⟩
  | .hbm, ⟨15, _⟩ => ⟨S_, .f32⟩
  | .hbm, ⟨16, _⟩ => ⟨S1x4x64x256, .f32⟩
  | .hbm, ⟨17, _⟩ => ⟨S1x4x64x256, .f32⟩
  | .hbm, ⟨18, _⟩ => ⟨S1x4x64x256, .f32⟩
  | .hbm, ⟨19, _⟩ => ⟨S_, .f32⟩
  | .hbm, ⟨20, _⟩ => ⟨S1x4x64x256, .f32⟩
  | .hbm, ⟨21, _⟩ => ⟨S1x4x64x256, .f32⟩
  | .hbm, ⟨22, _⟩ => ⟨S_, .f32⟩
  | .hbm, ⟨23, _⟩ => ⟨S1x4x64x256, .f32⟩
  | .hbm, ⟨24, _⟩ => ⟨S1x4x64x256, .f32⟩
  | .hbm, ⟨25, _⟩ => ⟨S1x4x64x256, .f32⟩
  | .hbm, ⟨26, _⟩ => ⟨S_, .f32⟩
  | .hbm, ⟨27, _⟩ => ⟨S1x4x64x256, .f32⟩
  | .hbm, ⟨28, _⟩ => ⟨S1x4x64x256, .f32⟩
  | .hbm, ⟨29, _⟩ => ⟨S1x4x64x256, .f32⟩
  | .hbm, ⟨30, _⟩ => ⟨S_, .f32⟩
  | .hbm, ⟨31, _⟩ => ⟨S1x4x64x256, .f32⟩
  | .hbm, ⟨32, _⟩ => ⟨S1x4x64x256, .f32⟩
  | .hbm, ⟨33, _⟩ => ⟨S1x4x64x256, .f32⟩
  | .hbm, ⟨34, _⟩ => ⟨S_, .f32⟩
  | .hbm, ⟨35, _⟩ => ⟨S1x4x64x256, .f32⟩
  | .hbm, ⟨36, _⟩ => ⟨S1x4x64x256, .f32⟩
  | .hbm, ⟨37, _⟩ => ⟨S4x64x256, .f32⟩
  | .hbm, ⟨38, _⟩ => ⟨S4x64x256, .f32⟩
  | .hbm, ⟨39, _⟩ => ⟨S4x64x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S1x512x1024 : Shape := ⟨3, ![1, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel9Ideal.lean ====
abbrev S1x512x1024 : Shape := ⟨3, ![1, 512, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S1x512x1024 : Shape := ⟨3, ![1, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1x1024x624 : Shape := ⟨3, ![1, 1024, 624]⟩
abbrev S1x256x624 : Shape := ⟨3, ![1, 256, 624]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x624, .f32⟩
  | .hbm, ⟨1, _⟩ => ⟨S1x1024x624, .f32⟩
  | .hbm, ⟨2, _⟩ => ⟨S1x1024x624, .f32⟩
  | .hbm, ⟨3, _⟩ => ⟨S1x1024x624, .f32⟩
  | .hbm, ⟨4, _⟩ => ⟨S1x1024x624, .f32⟩
  | .hbm, ⟨5, _⟩ => ⟨S1x1024x624, .f32⟩
  | .hbm, ⟨6, _⟩ => ⟨S1x1024x624, .f32⟩
  | .local _ .vmem, ⟨0, _⟩ => ⟨S1x256x624, .f32⟩
  | .local _ .vmem, ⟨1, _⟩ => ⟨S1x256x624, .f32⟩
  | .local _ .vmem, ⟨2, _⟩ => ⟨S1x256x624, .f32⟩
  | .local _ .vmem, ⟨3, _⟩ => ⟨S1x256x624, .f32⟩
  | .local _ .vmem, ⟨4, _⟩ => ⟨S1x256x624, .f32⟩
  | .local _ .vmem, ⟨5, _⟩ => ⟨S1x256x624, .f32⟩
  | .local _ .vmem, ⟨6, _⟩ => ⟨S1x256x624, .f32⟩
  | .local _ .vmem, ⟨7, _⟩ => ⟨S1x256x624, .f32⟩
  | .local _ .vmem, ⟨8, _⟩ => ⟨S1x256x624, .f32⟩
  | .local _ .vmem, ⟨9, _⟩ => ⟨S1x256x624, .f32⟩
  | .local _ .vmem, ⟨10, _⟩ => ⟨S1x256x624, .f32⟩
  | .local _ .vmem, ⟨11, _⟩ => ⟨S1x256x624, .f32⟩
  | .local _ .vmem, ⟨12, _⟩ => ⟨S1x256x624, .f32⟩
  | .local _ .vmem, ⟨13, _⟩ => ⟨S1x256x624, .f32⟩
  | _, _ => ⟨S1x1024x624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x624 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x624 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x624 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x624 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x624 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel10Ideal.lean ====
abbrev S1x1024x624 : Shape := ⟨3, ![1, 1024, 624]⟩
abbrev S1x256x624 : Shape := ⟨3, ![1, 256, 624]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x624, .f32⟩
  | .hbm, ⟨1, _⟩ => ⟨S1x1024x624, .f32⟩
  | .hbm, ⟨2, _⟩ => ⟨S1x1024x624, .f32⟩
  | .hbm, ⟨3, _⟩ => ⟨S1x1024x624, .f32⟩
  | .hbm, ⟨4, _⟩ => ⟨S1x1024x624, .f32⟩
  | .hbm, ⟨5, _⟩ => ⟨S1x1024x624, .f32⟩
  | .hbm, ⟨6, _⟩ => ⟨S1x1024x624, .f32⟩
  | .local _ .vmem, ⟨0, _⟩ => ⟨S1x256x624, .f32⟩
  | .local _ .vmem, ⟨1, _⟩ => ⟨S1x256x624, .f32⟩
  | .local _ .vmem, ⟨2, _⟩ => ⟨S1x256x624, .f32⟩
  | .local _ .vmem, ⟨3, _⟩ => ⟨S1x256x624, .f32⟩
  | .local _ .vmem, ⟨4, _⟩ => ⟨S1x256x624, .f32⟩
  | .local _ .vmem, ⟨5, _⟩ => ⟨S1x256x624, .f32⟩
  | .local _ .vmem, ⟨6, _⟩ => ⟨S1x256x624, .f32⟩
  | .local _ .vmem, ⟨7, _⟩ => ⟨S1x256x624, .f32⟩
  | .local _ .vmem, ⟨8, _⟩ => ⟨S1x256x624, .f32⟩
  | .local _ .vmem, ⟨9, _⟩ => ⟨S1x256x624, .f32⟩
  | .local _ .vmem, ⟨10, _⟩ => ⟨S1x256x624, .f32⟩
  | .local _ .vmem, ⟨11, _⟩ => ⟨S1x256x624, .f32⟩
  | .local _ .vmem, ⟨12, _⟩ => ⟨S1x256x624, .f32⟩
  | .local _ .vmem, ⟨13, _⟩ => ⟨S1x256x624, .f32⟩
  | _, _ => ⟨S1x1024x624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x624 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x624 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x624 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x624 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x624 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x624 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S1x1024x624 : Shape := ⟨3, ![1, 1024, 624]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x624, .f32⟩
  | .hbm, ⟨1, _⟩ => ⟨S1x1024x624, .f32⟩
  | .hbm, ⟨2, _⟩ => ⟨S1x1024x624, .f32⟩
  | .hbm, ⟨3, _⟩ => ⟨S1x1024x624, .f32⟩
  | .hbm, ⟨4, _⟩ => ⟨S_, .f32⟩
  | .hbm, ⟨5, _⟩ => ⟨S1x1024x624, .f32⟩
  | .hbm, ⟨6, _⟩ => ⟨S1x1024x624, .f32⟩
  | .hbm, ⟨7, _⟩ => ⟨S_, .f32⟩
  | .hbm, ⟨8, _⟩ => ⟨S1x1024x624, .f32⟩
  | .hbm, ⟨9, _⟩ => ⟨S1x1024x624, .f32⟩
  | .hbm, ⟨10, _⟩ => ⟨S1x1024x624, .f32⟩
  | .hbm, ⟨11, _⟩ => ⟨S_, .f32⟩
  | .hbm, ⟨12, _⟩ => ⟨S1x1024x624, .f32⟩
  | .hbm, ⟨13, _⟩ => ⟨S1x1024x624, .f32⟩
  | .hbm, ⟨14, _⟩ => ⟨S1x1024x624, .f32⟩
  | .hbm, ⟨15, _⟩ => ⟨S_, .f32⟩
  | .hbm, ⟨16, _⟩ => ⟨S1x1024x624, .f32⟩
  | .hbm, ⟨17, _⟩ => ⟨S1x1024x624, .f32⟩
  | .hbm, ⟨18, _⟩ => ⟨S1x1024x624, .f32⟩
  | .hbm, ⟨19, _⟩ => ⟨S_, .f32⟩
  | .hbm, ⟨20, _⟩ => ⟨S1x1024x624, .f32⟩
  | .hbm, ⟨21, _⟩ => ⟨S1x1024x624, .f32⟩
  | .hbm, ⟨22, _⟩ => ⟨S_, .f32⟩
  | .hbm, ⟨23, _⟩ => ⟨S1x1024x624, .f32⟩
  | .hbm, ⟨24, _⟩ => ⟨S1x1024x624, .f32⟩
  | .hbm, ⟨25, _⟩ => ⟨S1x1024x624, .f32⟩
  | .hbm, ⟨26, _⟩ => ⟨S_, .f32⟩
  | .hbm, ⟨27, _⟩ => ⟨S1x1024x624, .f32⟩
  | .hbm, ⟨28, _⟩ => ⟨S1x1024x624, .f32⟩
  | .hbm, ⟨29, _⟩ => ⟨S1x1024x624, .f32⟩
  | .hbm, ⟨30, _⟩ => ⟨S_, .f32⟩
  | .hbm, ⟨31, _⟩ => ⟨S1x1024x624, .f32⟩
  | .hbm, ⟨32, _⟩ => ⟨S1x1024x624, .f32⟩
  | .hbm, ⟨33, _⟩ => ⟨S1x1024x624, .f32⟩
  | .hbm, ⟨34, _⟩ => ⟨S_, .f32⟩
  | .hbm, ⟨35, _⟩ => ⟨S1x1024x624, .f32⟩
  | .hbm, ⟨36, _⟩ => ⟨S1x1024x624, .f32⟩
  | _, _ => ⟨S1x1024x624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1x64x16x192 : Shape := ⟨4, ![1, 64, 16, 192]⟩
abbrev S64x16x192 : Shape := ⟨3, ![64, 16, 192]⟩

abbrev nBuf : Space → Nat
  | .hbm => 11
  | .vmem => 7
  | .smem => 0
  | _ => 0

abbrev bufTy : (tb : Table) → Fin (tcTables nBuf tb) → BufTy
  | .hbm, ⟨0, _⟩ => ⟨S1x64x16x192, .f32⟩
  | .hbm, ⟨1, _⟩ => ⟨S1x64x16x192, .f32⟩
  | .hbm, ⟨2, _⟩ => ⟨S1x64x16x192, .f32⟩
  | .hbm, ⟨3, _⟩ => ⟨S1x64x16x192, .f32⟩
  | .hbm, ⟨4, _⟩ => ⟨S64x16x192, .f32⟩
  | .hbm, ⟨5, _⟩ => ⟨S64x16x192, .f32⟩
  | .hbm, ⟨6, _⟩ => ⟨S64x16x192, .f32⟩
  | .hbm, ⟨7, _⟩ => ⟨S64x16x192, .f32⟩
  | .hbm, ⟨8, _⟩ => ⟨S64x16x192, .f32⟩
  | .hbm, ⟨9, _⟩ => ⟨S64x16x192, .f32⟩
  | .hbm, ⟨10, _⟩ => ⟨S64x16x192, .f32⟩
  | .local _ .vmem, ⟨0, _⟩ => ⟨S64x16x192, .f32⟩
  | .local _ .vmem, ⟨1, _⟩ => ⟨S64x16x192, .f32⟩
  | .local _ .vmem, ⟨2, _⟩ => ⟨S64x16x192, .f32⟩
  | .local _ .vmem, ⟨3, _⟩ => ⟨S64x16x192, .f32⟩
  | .local _ .vmem, ⟨4, _⟩ => ⟨S64x16x192, .f32⟩
  | .local _ .vmem, ⟨5, _⟩ => ⟨S64x16x192, .f32⟩
  | .local _ .vmem, ⟨6, _⟩ => ⟨S64x16x192, .f32⟩
  | _, _ => ⟨S1x64x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S64x16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S64x16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S64x16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S64x16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S64x16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S64x16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S64x16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel11Ideal.lean ====
abbrev S1x64x16x192 : Shape := ⟨4, ![1, 64, 16, 192]⟩
abbrev S64x16x192 : Shape := ⟨3, ![64, 16, 192]⟩

abbrev nBuf : Space → Nat
  | .hbm => 11
  | .vmem => 7
  | .smem => 0
  | _ => 0

abbrev bufTy : (tb : Table) → Fin (tcTables nBuf tb) → BufTy
  | .hbm, ⟨0, _⟩ => ⟨S1x64x16x192, .f32⟩
  | .hbm, ⟨1, _⟩ => ⟨S1x64x16x192, .f32⟩
  | .hbm, ⟨2, _⟩ => ⟨S1x64x16x192, .f32⟩
  | .hbm, ⟨3, _⟩ => ⟨S1x64x16x192, .f32⟩
  | .hbm, ⟨4, _⟩ => ⟨S64x16x192, .f32⟩
  | .hbm, ⟨5, _⟩ => ⟨S64x16x192, .f32⟩
  | .hbm, ⟨6, _⟩ => ⟨S64x16x192, .f32⟩
  | .hbm, ⟨7, _⟩ => ⟨S64x16x192, .f32⟩
  | .hbm, ⟨8, _⟩ => ⟨S64x16x192, .f32⟩
  | .hbm, ⟨9, _⟩ => ⟨S64x16x192, .f32⟩
  | .hbm, ⟨10, _⟩ => ⟨S64x16x192, .f32⟩
  | .local _ .vmem, ⟨0, _⟩ => ⟨S64x16x192, .f32⟩
  | .local _ .vmem, ⟨1, _⟩ => ⟨S64x16x192, .f32⟩
  | .local _ .vmem, ⟨2, _⟩ => ⟨S64x16x192, .f32⟩
  | .local _ .vmem, ⟨3, _⟩ => ⟨S64x16x192, .f32⟩
  | .local _ .vmem, ⟨4, _⟩ => ⟨S64x16x192, .f32⟩
  | .local _ .vmem, ⟨5, _⟩ => ⟨S64x16x192, .f32⟩
  | .local _ .vmem, ⟨6, _⟩ => ⟨S64x16x192, .f32⟩
  | _, _ => ⟨S1x64x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S64x16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S64x16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S64x16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S64x16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S64x16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S64x16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S64x16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference11Ideal.lean ====
abbrev S1x64x16x192 : Shape := ⟨4, ![1, 64, 16, 192]⟩
abbrev S_ : Shape := ⟨0, ![]⟩
abbrev S64x16x192 : Shape := ⟨3, ![64, 16, 192]⟩

abbrev nBuf : Space → Nat
  | .hbm => 40
  | .vmem => 0
  | .smem => 0
  | _ => 0

abbrev bufTy : (tb : Table) → Fin (tcTables nBuf tb) → BufTy
  | .hbm, ⟨0, _⟩ => ⟨S1x64x16x192, .f32⟩
  | .hbm, ⟨1, _⟩ => ⟨S1x64x16x192, .f32⟩
  | .hbm, ⟨2, _⟩ => ⟨S1x64x16x192, .f32⟩
  | .hbm, ⟨3, _⟩ => ⟨S1x64x16x192, .f32⟩
  | .hbm, ⟨4, _⟩ => ⟨S_, .f32⟩
  | .hbm, ⟨5, _⟩ => ⟨S1x64x16x192, .f32⟩
  | .hbm, ⟨6, _⟩ => ⟨S1x64x16x192, .f32⟩
  | .hbm, ⟨7, _⟩ => ⟨S_, .f32⟩
  | .hbm, ⟨8, _⟩ => ⟨S1x64x16x192, .f32⟩
  | .hbm, ⟨9, _⟩ => ⟨S1x64x16x192, .f32⟩
  | .hbm, ⟨10, _⟩ => ⟨S1x64x16x192, .f32⟩
  | .hbm, ⟨11, _⟩ => ⟨S_, .f32⟩
  | .hbm, ⟨12, _⟩ => ⟨S1x64x16x192, .f32⟩
  | .hbm, ⟨13, _⟩ => ⟨S1x64x16x192, .f32⟩
  | .hbm, ⟨14, _⟩ => ⟨S1x64x16x192, .f32⟩
  | .hbm, ⟨15, _⟩ => ⟨S_, .f32⟩
  | .hbm, ⟨16, _⟩ => ⟨S1x64x16x192, .f32⟩
  | .hbm, ⟨17, _⟩ => ⟨S1x64x16x192, .f32⟩
  | .hbm, ⟨18, _⟩ => ⟨S1x64x16x192, .f32⟩
  | .hbm, ⟨19, _⟩ => ⟨S_, .f32⟩
  | .hbm, ⟨20, _⟩ => ⟨S1x64x16x192, .f32⟩
  | .hbm, ⟨21, _⟩ => ⟨S1x64x16x192, .f32⟩
  | .hbm, ⟨22, _⟩ => ⟨S_, .f32⟩
  | .hbm, ⟨23, _⟩ => ⟨S1x64x16x192, .f32⟩
  | .hbm, ⟨24, _⟩ => ⟨S1x64x16x192, .f32⟩
  | .hbm, ⟨25, _⟩ => ⟨S1x64x16x192, .f32⟩
  | .hbm, ⟨26, _⟩ => ⟨S_, .f32⟩
  | .hbm, ⟨27, _⟩ => ⟨S1x64x16x192, .f32⟩
  | .hbm, ⟨28, _⟩ => ⟨S1x64x16x192, .f32⟩
  | .hbm, ⟨29, _⟩ => ⟨S1x64x16x192, .f32⟩
  | .hbm, ⟨30, _⟩ => ⟨S_, .f32⟩
  | .hbm, ⟨31, _⟩ => ⟨S1x64x16x192, .f32⟩
  | .hbm, ⟨32, _⟩ => ⟨S1x64x16x192, .f32⟩
  | .hbm, ⟨33, _⟩ => ⟨S1x64x16x192, .f32⟩
  | .hbm, ⟨34, _⟩ => ⟨S_, .f32⟩
  | .hbm, ⟨35, _⟩ => ⟨S1x64x16x192, .f32⟩
  | .hbm, ⟨36, _⟩ => ⟨S1x64x16x192, .f32⟩
  | .hbm, ⟨37, _⟩ => ⟨S64x16x192, .f32⟩
  | .hbm, ⟨38, _⟩ => ⟨S64x16x192, .f32⟩
  | .hbm, ⟨39, _⟩ => ⟨S64x16x192, .f32⟩
  | _, _ => ⟨S1x64x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S1x128x16x128 : Shape := ⟨4, ![1, 128, 16, 128]⟩
abbrev S128x16x128 : Shape := ⟨3, ![128, 16, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x128x16x128, .f32⟩
  | .hbm, ⟨1, _⟩ => ⟨S1x128x16x128, .f32⟩
  | .hbm, ⟨2, _⟩ => ⟨S1x128x16x128, .f32⟩
  | .hbm, ⟨3, _⟩ => ⟨S1x128x16x128, .f32⟩
  | .hbm, ⟨4, _⟩ => ⟨S128x16x128, .f32⟩
  | .hbm, ⟨5, _⟩ => ⟨S128x16x128, .f32⟩
  | .hbm, ⟨6, _⟩ => ⟨S128x16x128, .f32⟩
  | .hbm, ⟨7, _⟩ => ⟨S128x16x128, .f32⟩
  | .hbm, ⟨8, _⟩ => ⟨S128x16x128, .f32⟩
  | .hbm, ⟨9, _⟩ => ⟨S128x16x128, .f32⟩
  | .hbm, ⟨10, _⟩ => ⟨S128x16x128, .f32⟩
  | .local _ .vmem, ⟨0, _⟩ => ⟨S128x16x128, .f32⟩
  | .local _ .vmem, ⟨1, _⟩ => ⟨S128x16x128, .f32⟩
  | .local _ .vmem, ⟨2, _⟩ => ⟨S128x16x128, .f32⟩
  | .local _ .vmem, ⟨3, _⟩ => ⟨S128x16x128, .f32⟩
  | .local _ .vmem, ⟨4, _⟩ => ⟨S128x16x128, .f32⟩
  | .local _ .vmem, ⟨5, _⟩ => ⟨S128x16x128, .f32⟩
  | .local _ .vmem, ⟨6, _⟩ => ⟨S128x16x128, .f32⟩
  | _, _ => ⟨S1x128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference12Ideal.lean ====
abbrev S1x128x16x128 : Shape := ⟨4, ![1, 128, 16, 128]⟩
abbrev S_ : Shape := ⟨0, ![]⟩
abbrev S128x16x128 : Shape := ⟨3, ![128, 16, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x128x16x128, .f32⟩
  | .hbm, ⟨1, _⟩ => ⟨S1x128x16x128, .f32⟩
  | .hbm, ⟨2, _⟩ => ⟨S1x128x16x128, .f32⟩
  | .hbm, ⟨3, _⟩ => ⟨S1x128x16x128, .f32⟩
  | .hbm, ⟨4, _⟩ => ⟨S_, .f32⟩
  | .hbm, ⟨5, _⟩ => ⟨S1x128x16x128, .f32⟩
  | .hbm, ⟨6, _⟩ => ⟨S1x128x16x128, .f32⟩
  | .hbm, ⟨7, _⟩ => ⟨S_, .f32⟩
  | .hbm, ⟨8, _⟩ => ⟨S1x128x16x128, .f32⟩
  | .hbm, ⟨9, _⟩ => ⟨S1x128x16x128, .f32⟩
  | .hbm, ⟨10, _⟩ => ⟨S1x128x16x128, .f32⟩
  | .hbm, ⟨11, _⟩ => ⟨S_, .f32⟩
  | .hbm, ⟨12, _⟩ => ⟨S1x128x16x128, .f32⟩
  | .hbm, ⟨13, _⟩ => ⟨S1x128x16x128, .f32⟩
  | .hbm, ⟨14, _⟩ => ⟨S1x128x16x128, .f32⟩
  | .hbm, ⟨15, _⟩ => ⟨S_, .f32⟩
  | .hbm, ⟨16, _⟩ => ⟨S1x128x16x128, .f32⟩
  | .hbm, ⟨17, _⟩ => ⟨S1x128x16x128, .f32⟩
  | .hbm, ⟨18, _⟩ => ⟨S1x128x16x128, .f32⟩
  | .hbm, ⟨19, _⟩ => ⟨S_, .f32⟩
  | .hbm, ⟨20, _⟩ => ⟨S1x128x16x128, .f32⟩
  | .hbm, ⟨21, _⟩ => ⟨S1x128x16x128, .f32⟩
  | .hbm, ⟨22, _⟩ => ⟨S_, .f32⟩
  | .hbm, ⟨23, _⟩ => ⟨S1x128x16x128, .f32⟩
  | .hbm, ⟨24, _⟩ => ⟨S1x128x16x128, .f32⟩
  | .hbm, ⟨25, _⟩ => ⟨S1x128x16x128, .f32⟩
  | .hbm, ⟨26, _⟩ => ⟨S_, .f32⟩
  | .hbm, ⟨27, _⟩ => ⟨S1x128x16x128, .f32⟩
  | .hbm, ⟨28, _⟩ => ⟨S1x128x16x128, .f32⟩
  | .hbm, ⟨29, _⟩ => ⟨S1x128x16x128, .f32⟩
  | .hbm, ⟨30, _⟩ => ⟨S_, .f32⟩
  | .hbm, ⟨31, _⟩ => ⟨S1x128x16x128, .f32⟩
  | .hbm, ⟨32, _⟩ => ⟨S1x128x16x128, .f32⟩
  | .hbm, ⟨33, _⟩ => ⟨S1x128x16x128, .f32⟩
  | .hbm, ⟨34, _⟩ => ⟨S_, .f32⟩
  | .hbm, ⟨35, _⟩ => ⟨S1x128x16x128, .f32⟩
  | .hbm, ⟨36, _⟩ => ⟨S1x128x16x128, .f32⟩
  | .hbm, ⟨37, _⟩ => ⟨S128x16x128, .f32⟩
  | .hbm, ⟨38, _⟩ => ⟨S128x16x128, .f32⟩
  | .hbm, ⟨39, _⟩ => ⟨S128x16x128, .f32⟩
  | _, _ => ⟨S1x128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel4.lean ====
abbrev S2x3072 : Shape := ⟨2, ![2, 3072]⟩
abbrev S2x1024 : Shape := ⟨2, ![2, 1024]⟩
abbrev S1x256 : Shape := ⟨2, ![1, 256]⟩
abbrev S1x4x128 : Shape := ⟨3, ![1, 4, 128]⟩
abbrev S1x1024 : Shape := ⟨2, ![1, 1024]⟩
abbrev S1x64 : Shape := ⟨2, ![1, 64]⟩
abbrev S1x128 : Shape := ⟨2, ![1, 128]⟩

abbrev nBuf : Space → Nat
  | .hbm => 70
  | .vmem => 70
  | .smem => 0
  | _ => 0

abbrev bufTy : (tb : Table) → Fin (tcTables nBuf tb) → BufTy
  | .hbm, ⟨0, _⟩ => ⟨S2x3072, .f32⟩
  | .hbm, ⟨1, _⟩ => ⟨S2x1024, .f32⟩
  | .hbm, ⟨2, _⟩ => ⟨S2x1024, .f32⟩
  | .hbm, ⟨3, _⟩ => ⟨S1x256, .f32⟩
  | .hbm, ⟨4, _⟩ => ⟨S1x256, .f32⟩
  | .hbm, ⟨5, _⟩ => ⟨S1x4x128, .f32⟩
  | .hbm, ⟨6, _⟩ => ⟨S1x1024, .f32⟩
  | .hbm, ⟨7, _⟩ => ⟨S1x1024, .f32⟩
  | .hbm, ⟨8, _⟩ => ⟨S1x64, .f32⟩
  | .hbm, ⟨9, _⟩ => ⟨S1x128, .f32⟩
  | .hbm, ⟨10, _⟩ => ⟨S2x3072, .f32⟩
  | .hbm, ⟨11, _⟩ => ⟨S2x1024, .f32⟩
  | .hbm, ⟨12, _⟩ => ⟨S2x1024, .f32⟩
  | .hbm, ⟨13, _⟩ => ⟨S1x256, .f32⟩
  | .hbm, ⟨14, _⟩ => ⟨S1x256, .f32⟩
  | .hbm, ⟨15, _⟩ => ⟨S1x4x128, .f32⟩
  | .hbm, ⟨16, _⟩ => ⟨S1x1024, .f32⟩
  | .hbm, ⟨17, _⟩ => ⟨S1x1024, .f32⟩
  | .hbm, ⟨18, _⟩ => ⟨S1x64, .f32⟩
  | .hbm, ⟨19, _⟩ => ⟨S1x128, .f32⟩
  | .hbm, ⟨20, _⟩ => ⟨S2x3072, .f32⟩
  | .hbm, ⟨21, _⟩ => ⟨S2x1024, .f32⟩
  | .hbm, ⟨22, _⟩ => ⟨S2x1024, .f32⟩
  | .hbm, ⟨23, _⟩ => ⟨S1x256, .f32⟩
  | .hbm, ⟨24, _⟩ => ⟨S1x256, .f32⟩
  | .hbm, ⟨25, _⟩ => ⟨S1x4x128, .f32⟩
  | .hbm, ⟨26, _⟩ => ⟨S1x1024, .f32⟩
  | .hbm, ⟨27, _⟩ => ⟨S1x1024, .f32⟩
  | .hbm, ⟨28, _⟩ => ⟨S1x64, .f32⟩
  | .hbm, ⟨29, _⟩ => ⟨S1x128, .f32⟩
  | .hbm, ⟨30, _⟩ => ⟨S2x3072, .f32⟩
  | .hbm, ⟨31, _⟩ => ⟨S2x1024, .f32⟩
  | .hbm, ⟨32, _⟩ => ⟨S2x1024, .f32⟩
  | .hbm, ⟨33, _⟩ => ⟨S1x256, .f32⟩
  | .hbm, ⟨34, _⟩ => ⟨S1x256, .f32⟩
  | .hbm, ⟨35, _⟩ => ⟨S1x4x128, .f32⟩
  | .hbm, ⟨36, _⟩ => ⟨S1x1024, .f32⟩
  | .hbm, ⟨37, _⟩ => ⟨S1x1024, .f32⟩
  | .hbm, ⟨38, _⟩ => ⟨S1x64, .f32⟩
  | .hbm, ⟨39, _⟩ => ⟨S1x128, .f32⟩
  | .hbm, ⟨40, _⟩ => ⟨S2x3072, .f32⟩
  | .hbm, ⟨41, _⟩ => ⟨S2x1024, .f32⟩
  | .hbm, ⟨42, _⟩ => ⟨S2x1024, .f32⟩
  | .hbm, ⟨43, _⟩ => ⟨S1x256, .f32⟩
  | .hbm, ⟨44, _⟩ => ⟨S1x256, .f32⟩
  | .hbm, ⟨45, _⟩ => ⟨S1x4x128, .f32⟩
  | .hbm, ⟨46, _⟩ => ⟨S1x1024, .f32⟩
  | .hbm, ⟨47, _⟩ => ⟨S1x1024, .f32⟩
  | .hbm, ⟨48, _⟩ => ⟨S1x64, .f32⟩
  | .hbm, ⟨49, _⟩ => ⟨S1x128, .f32⟩
  | .hbm, ⟨50, _⟩ => ⟨S2x3072, .f32⟩
  | .hbm, ⟨51, _⟩ => ⟨S2x1024, .f32⟩
  | .hbm, ⟨52, _⟩ => ⟨S2x1024, .f32⟩
  | .hbm, ⟨53, _⟩ => ⟨S1x256, .f32⟩
  | .hbm, ⟨54, _⟩ => ⟨S1x256, .f32⟩
  | .hbm, ⟨55, _⟩ => ⟨S1x4x128, .f32⟩
  | .hbm, ⟨56, _⟩ => ⟨S1x1024, .f32⟩
  | .hbm, ⟨57, _⟩ => ⟨S1x1024, .f32⟩
  | .hbm, ⟨58, _⟩ => ⟨S1x64, .f32⟩
  | .hbm, ⟨59, _⟩ => ⟨S1x128, .f32⟩
  | .hbm, ⟨60, _⟩ => ⟨S2x3072, .f32⟩
  | .hbm, ⟨61, _⟩ => ⟨S2x1024, .f32⟩
  | .hbm, ⟨62, _⟩ => ⟨S2x1024, .f32⟩
  | .hbm, ⟨63, _⟩ => ⟨S1x256, .f32⟩
  | .hbm, ⟨64, _⟩ => ⟨S1x256, .f32⟩
  | .hbm, ⟨65, _⟩ => ⟨S1x4x128, .f32⟩
  | .hbm, ⟨66, _⟩ => ⟨S1x1024, .f32⟩
  | .hbm, ⟨67, _⟩ => ⟨S1x1024, .f32⟩
  | .hbm, ⟨68, _⟩ => ⟨S1x64, .f32⟩
  | .hbm, ⟨69, _⟩ => ⟨S1x128, .f32⟩
  | .local _ .vmem, ⟨0, _⟩ => ⟨S2x3072, .f32⟩
  | .local _ .vmem, ⟨1, _⟩ => ⟨S2x1024, .f32⟩
  | .local _ .vmem, ⟨2, _⟩ => ⟨S2x1024, .f32⟩
  | .local _ .vmem, ⟨3, _⟩ => ⟨S1x256, .f32⟩
  | .local _ .vmem, ⟨4, _⟩ => ⟨S1x256, .f32⟩
  | .local _ .vmem, ⟨5, _⟩ => ⟨S1x4x128, .f32⟩
  | .local _ .vmem, ⟨6, _⟩ => ⟨S1x1024, .f32⟩
  | .local _ .vmem, ⟨7, _⟩ => ⟨S1x1024, .f32⟩
  | .local _ .vmem, ⟨8, _⟩ => ⟨S1x64, .f32⟩
  | .local _ .vmem, ⟨9, _⟩ => ⟨S1x128, .f32⟩
  | .local _ .vmem, ⟨10, _⟩ => ⟨S2x3072, .f32⟩
  | .local _ .vmem, ⟨11, _⟩ => ⟨S2x1024, .f32⟩
  | .local _ .vmem, ⟨12, _⟩ => ⟨S2x1024, .f32⟩
  | .local _ .vmem, ⟨13, _⟩ => ⟨S1x256, .f32⟩
  | .local _ .vmem, ⟨14, _⟩ => ⟨S1x256, .f32⟩
  | .local _ .vmem, ⟨15, _⟩ => ⟨S1x4x128, .f32⟩
  | .local _ .vmem, ⟨16, _⟩ => ⟨S1x1024, .f32⟩
  | .local _ .vmem, ⟨17, _⟩ => ⟨S1x1024, .f32⟩
  | .local _ .vmem, ⟨18, _⟩ => ⟨S1x64, .f32⟩
  | .local _ .vmem, ⟨19, _⟩ => ⟨S1x128, .f32⟩
  | .local _ .vmem, ⟨20, _⟩ => ⟨S2x3072, .f32⟩
  | .local _ .vmem, ⟨21, _⟩ => ⟨S2x1024, .f32⟩
  | .local _ .vmem, ⟨22, _⟩ => ⟨S2x1024, .f32⟩
  | .local _ .vmem, ⟨23, _⟩ => ⟨S1x256, .f32⟩
  | .local _ .vmem, ⟨24, _⟩ => ⟨S1x256, .f32⟩
  | .local _ .vmem, ⟨25, _⟩ => ⟨S1x4x128, .f32⟩
  | .local _ .vmem, ⟨26, _⟩ => ⟨S1x1024, .f32⟩
  | .local _ .vmem, ⟨27, _⟩ => ⟨S1x1024, .f32⟩
  | .local _ .vmem, ⟨28, _⟩ => ⟨S1x64, .f32⟩
  | .local _ .vmem, ⟨29, _⟩ => ⟨S1x128, .f32⟩
  | .local _ .vmem, ⟨30, _⟩ => ⟨S2x3072, .f32⟩
  | .local _ .vmem, ⟨31, _⟩ => ⟨S2x1024, .f32⟩
  | .local _ .vmem, ⟨32, _⟩ => ⟨S2x1024, .f32⟩
  | .local _ .vmem, ⟨33, _⟩ => ⟨S1x256, .f32⟩
  | .local _ .vmem, ⟨34, _⟩ => ⟨S1x256, .f32⟩
  | .local _ .vmem, ⟨35, _⟩ => ⟨S1x4x128, .f32⟩
  | .local _ .vmem, ⟨36, _⟩ => ⟨S1x1024, .f32⟩
  | .local _ .vmem, ⟨37, _⟩ => ⟨S1x1024, .f32⟩
  | .local _ .vmem, ⟨38, _⟩ => ⟨S1x64, .f32⟩
  | .local _ .vmem, ⟨39, _⟩ => ⟨S1x128, .f32⟩
  | .local _ .vmem, ⟨40, _⟩ => ⟨S2x3072, .f32⟩
  | .local _ .vmem, ⟨41, _⟩ => ⟨S2x1024, .f32⟩
  | .local _ .vmem, ⟨42, _⟩ => ⟨S2x1024, .f32⟩
  | .local _ .vmem, ⟨43, _⟩ => ⟨S1x256, .f32⟩
  | .local _ .vmem, ⟨44, _⟩ => ⟨S1x256, .f32⟩
  | .local _ .vmem, ⟨45, _⟩ => ⟨S1x4x128, .f32⟩
  | .local _ .vmem, ⟨46, _⟩ => ⟨S1x1024, .f32⟩
  | .local _ .vmem, ⟨47, _⟩ => ⟨S1x1024, .f32⟩
  | .local _ .vmem, ⟨48, _⟩ => ⟨S1x64, .f32⟩
  | .local _ .vmem, ⟨49, _⟩ => ⟨S1x128, .f32⟩
  | .local _ .vmem, ⟨50, _⟩ => ⟨S2x3072, .f32⟩
  | .local _ .vmem, ⟨51, _⟩ => ⟨S2x1024, .f32⟩
  | .local _ .vmem, ⟨52, _⟩ => ⟨S2x1024, .f32⟩
  | .local _ .vmem, ⟨53, _⟩ => ⟨S1x256, .f32⟩
  | .local _ .vmem, ⟨54, _⟩ => ⟨S1x256, .f32⟩
  | .local _ .vmem, ⟨55, _⟩ => ⟨S1x4x128, .f32⟩
  | .local _ .vmem, ⟨56, _⟩ => ⟨S1x1024, .f32⟩
  | .local _ .vmem, ⟨57, _⟩ => ⟨S1x1024, .f32⟩
  | .local _ .vmem, ⟨58, _⟩ => ⟨S1x64, .f32⟩
  | .local _ .vmem, ⟨59, _⟩ => ⟨S1x128, .f32⟩
  | .local _ .vmem, ⟨60, _⟩ => ⟨S2x3072, .f32⟩
  | .local _ .vmem, ⟨61, _⟩ => ⟨S2x1024, .f32⟩
  | .local _ .vmem, ⟨62, _⟩ => ⟨S2x1024, .f32⟩
  | .local _ .vmem, ⟨63, _⟩ => ⟨S1x256, .f32⟩
  | .local _ .vmem, ⟨64, _⟩ => ⟨S1x256, .f32⟩
  | .local _ .vmem, ⟨65, _⟩ => ⟨S1x4x128, .f32⟩
  | .local _ .vmem, ⟨66, _⟩ => ⟨S1x1024, .f32⟩
  | .local _ .vmem, ⟨67, _⟩ => ⟨S1x1024, .f32⟩
  | .local _ .vmem, ⟨68, _⟩ => ⟨S1x64, .f32⟩
  | .local _ .vmem, ⟨69, _⟩ => ⟨S1x128, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69

abbrev nD : Nat := 1
abbrev τ : Topo := Topo.v7x

variable {F : FTy → Type} [FloatOps F]

abbrev grid0 : Pipeline.Grid := .none

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x4x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x3072 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x4x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x64 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x3072 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x256 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x256 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x4x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x3072 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x256 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x256 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x4x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x128 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S2x3072 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S2x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S2x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x256 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x256 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x4x128 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))
-- ==== Reference4Ideal.lean ====
abbrev S2x3072 : Shape := ⟨2, ![2, 3072]⟩
abbrev S2x1024 : Shape := ⟨2, ![2, 1024]⟩
abbrev S1x256 : Shape := ⟨2, ![1, 256]⟩
abbrev S1x4x128 : Shape := ⟨3, ![1, 4, 128]⟩
abbrev S1x1024 : Shape := ⟨2, ![1, 1024]⟩
abbrev S1x64 : Shape := ⟨2, ![1, 64]⟩
abbrev S1x128 : Shape := ⟨2, ![1, 128]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S2x3072, .f32⟩
  | 1 => ⟨S2x1024, .f32⟩
  | 2 => ⟨S2x1024, .f32⟩
  | 3 => ⟨S1x256, .f32⟩
  | 4 => ⟨S1x256, .f32⟩
  | 5 => ⟨S1x4x128, .f32⟩
  | 6 => ⟨S1x1024, .f32⟩
  | 7 => ⟨S1x1024, .f32⟩
  | 8 => ⟨S1x64, .f32⟩
  | 9 => ⟨S1x128, .f32⟩
  | 10 => ⟨S2x3072, .f32⟩
  | 11 => ⟨S2x1024, .f32⟩
  | 12 => ⟨S2x1024, .f32⟩
  | 13 => ⟨S1x256, .f32⟩
  | 14 => ⟨S1x256, .f32⟩
  | 15 => ⟨S1x4x128, .f32⟩
  | 16 => ⟨S1x1024, .f32⟩
  | 17 => ⟨S1x1024, .f32⟩
  | 18 => ⟨S1x64, .f32⟩
  | 19 => ⟨S1x128, .f32⟩
  | 20 => ⟨S2x3072, .f32⟩
  | 21 => ⟨S2x1024, .f32⟩
  | 22 => ⟨S2x1024, .f32⟩
  | 23 => ⟨S1x256, .f32⟩
  | 24 => ⟨S1x256, .f32⟩
  | 25 => ⟨S1x4x128, .f32⟩
  | 26 => ⟨S1x1024, .f32⟩
  | 27 => ⟨S1x1024, .f32⟩
  | 28 => ⟨S1x64, .f32⟩
  | 29 => ⟨S1x128, .f32⟩
  | 30 => ⟨S2x3072, .f32⟩
  | 31 => ⟨S2x1024, .f32⟩
  | 32 => ⟨S2x1024, .f32⟩
  | 33 => ⟨S1x256, .f32⟩
  | 34 => ⟨S1x256, .f32⟩
  | 35 => ⟨S1x4x128, .f32⟩
  | 36 => ⟨S1x1024, .f32⟩
  | 37 => ⟨S1x1024, .f32⟩
  | 38 => ⟨S1x64, .f32⟩
  | 39 => ⟨S1x128, .f32⟩
  | 40 => ⟨S_, .f32⟩
  | 41 => ⟨S2x3072, .f32⟩
  | 42 => ⟨S2x3072, .f32⟩
  | 43 => ⟨S_, .f32⟩
  | 44 => ⟨S2x3072, .f32⟩
  | 45 => ⟨S2x3072, .f32⟩
  | 46 => ⟨S2x3072, .f32⟩
  | 47 => ⟨S_, .f32⟩
  | 48 => ⟨S2x3072, .f32⟩
  | 49 => ⟨S2x3072, .f32⟩
  | 50 => ⟨S2x3072, .f32⟩
  | 51 => ⟨S_, .f32⟩
  | 52 => ⟨S2x3072, .f32⟩
  | 53 => ⟨S2x3072, .f32⟩
  | 54 => ⟨S2x3072, .f32⟩
  | 55 => ⟨S_, .f32⟩
  | 56 => ⟨S2x3072, .f32⟩
  | 57 => ⟨S2x3072, .f32⟩
  | 58 => ⟨S_, .f32⟩
  | 59 => ⟨S2x3072, .f32⟩
  | 60 => ⟨S2x3072, .f32⟩
  | 61 => ⟨S2x3072, .f32⟩
  | 62 => ⟨S_, .f32⟩
  | 63 => ⟨S2x3072, .f32⟩
  | 64 => ⟨S2x3072, .f32⟩
  | 65 => ⟨S2x3072, .f32⟩
  | 66 => ⟨S_, .f32⟩
  | 67 => ⟨S2x3072, .f32⟩
  | 68 => ⟨S2x3072, .f32⟩
  | 69 => ⟨S2x3072, .f32⟩
  | 70 => ⟨S_, .f32⟩
  | 71 => ⟨S2x3072, .f32⟩
  | 72 => ⟨S2x3072, .f32⟩
  | 73 => ⟨S_, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x3072, .f32⟩

abbrev hbmTy0_1 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S_, .f32⟩
  | 12 => ⟨S1x256, .f32⟩
  | 13 => ⟨S1x256, .f32⟩
  | 14 => ⟨S_, .f32⟩
  | 15 => ⟨S1x256, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S_, .f32⟩
  | 23 => ⟨S1x256, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S1x256, .f32⟩
  | 33 => ⟨S_, .f32⟩
  | 34 => ⟨S1x256, .f32⟩
  | 35 => ⟨S1x256, .f32⟩
  | 36 => ⟨S1x256, .f32⟩
  | 37 => ⟨S_, .f32⟩
  | 38 => ⟨S1x256, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S_, .f32⟩
  | 45 => ⟨S1x256, .f32⟩
  | 46 => ⟨S1x256, .f32⟩
  | 47 => ⟨S_, .f32⟩
  | 48 => ⟨S1x256, .f32⟩
  | 49 => ⟨S1x256, .f32⟩
  | 50 => ⟨S1x256, .f32⟩
  | 51 => ⟨S_, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S_, .f32⟩
  | 63 => ⟨S1x256, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S_, .f32⟩
  | 71 => ⟨S1x256, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S_, .f32⟩
  | 78 => ⟨S1x4x128, .f32⟩
  | 79 => ⟨S1x4x128, .f32⟩
  | 80 => ⟨S_, .f32⟩
  | 81 => ⟨S1x4x128, .f32⟩
  | 82 => ⟨S1x4x128, .f32⟩
  | 83 => ⟨S1x4x128, .f32⟩
  | 84 => ⟨S_, .f32⟩
  | 85 => ⟨S1x4x128, .f32⟩
  | 86 => ⟨S1x4x128, .f32⟩
  | 87 => ⟨S1x4x128, .f32⟩
  | 88 => ⟨S_, .f32⟩
  | 89 => ⟨S1x4x128, .f32⟩
  | 90 => ⟨S1x4x128, .f32⟩
  | 91 => ⟨S1x4x128, .f32⟩
  | 92 => ⟨S_, .f32⟩
  | 93 => ⟨S1x4x128, .f32⟩
  | 94 => ⟨S1x4x128, .f32⟩
  | 95 => ⟨S_, .f32⟩
  | 96 => ⟨S1x4x128, .f32⟩
  | 97 => ⟨S1x4x128, .f32⟩
  | 98 => ⟨S1x4x128, .f32⟩
  | 99 => ⟨S_, .f32⟩
  | 100 => ⟨S1x4x128, .f32⟩
  | 101 => ⟨S1x4x128, .f32⟩
  | 102 => ⟨S1x4x128, .f32⟩
  | 103 => ⟨S_, .f32⟩
  | 104 => ⟨S1x4x128, .f32⟩
  | 105 => ⟨S1x4x128, .f32⟩
  | 106 => ⟨S1x4x128, .f32⟩
  | 107 => ⟨S_, .f32⟩
  | 108 => ⟨S1x4x128, .f32⟩
  | 109 => ⟨S1x4x128, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S2x3072, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | _ => ⟨S2x3072, .f32⟩

abbrev hbmTy (i : Nat) : BufTy := match i / 128 with
  | 0 => hbmTy0_0 i
  | 1 => hbmTy0_1 i
  | 2 => hbmTy0_2 i
  | _ => ⟨S2x3072, .f32⟩

abbrev bufTy : (tb : Table) → Fin (tcTables nBuf tb) → BufTy
  | .hbm, ⟨i, _⟩ => hbmTy i
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Proof.Held.lean ====
/-
  Loads and stores stated on the array that a memref holds. A rectangle of an array is read by `get`, overwritten by
  `put`; a core that owns a memref holding `X` loads `get r X` through it and, after a store of `w`, owns it holding
  `put r w X`. A kernel that adds into one buffer at offsets of the grid point is then followed as a function on arrays.
-/
module

public import Idealize.ShloMosaic.Lib.Pipeline.FrameBody
public import Idealize.ShloMosaic.Lib.Tactic
public import Idealize.ShloMosaic.Lib.Writes

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Arrays

variable {s : Shape} {α : Type}

/-- The rectangle `r` of the array `X`. -/
def get (r : Rect s) (X : s.Idx → α) : r.shape.Idx → α := fun x => X (r.emb x)

open Classical in
/-- The array `X` with its rectangle `r` overwritten by `w`. -/
def put (r : Rect s) (w : r.shape.Idx → α) (X : s.Idx → α) : s.Idx → α :=
  fun y => if h : ∃ x, r.emb x = y then w h.choose else X y

/-- Inside the rectangle `put` holds the new value, -/
theorem put_emb (r : Rect s) (w : r.shape.Idx → α) (X : s.Idx → α) (x : r.shape.Idx) : put r w X (r.emb x) = w x := by
  have h : ∃ x', r.emb x' = r.emb x := ⟨x, rfl⟩
  unfold put
  rw [dif_pos h]
  exact congrArg w (r.emb.injective h.choose_spec)

/-- and outside the old one. -/
theorem put_of_not_mem (r : Rect s) (w : r.shape.Idx → α) (X : s.Idx → α) (y : s.Idx) (h : ∀ x, r.emb x ≠ y) :
    put r w X y = X y := by
  unfold put
  rw [dif_neg (fun ⟨x, hx⟩ => h x hx)]

/-- The whole array as a rectangle: it is read, -/
theorem get_whole {off : Fin s.rank → ℕ} (h0 : ∀ a, off a = 0) (inb : ∀ a, off a + s.size a ≤ s.size a) (X : s.Idx → α) :
    get (Rect.unit off s.size inb) X = X := by
  funext x
  unfold get
  congr 1
  funext a
  apply Fin.ext
  rw [Rect.emb_apply]
  show off a + 1 * _ = _
  rw [h0, Nat.zero_add, Nat.one_mul]

/-- and overwritten, whole. -/
theorem put_whole {off : Fin s.rank → ℕ} (h0 : ∀ a, off a = 0) (inb : ∀ a, off a + s.size a ≤ s.size a) (w X : s.Idx → α) :
    put (Rect.unit off s.size inb) w X = w := by
  have h := put_emb (Rect.unit off s.size inb) w X
  funext y
  have e := congrFun (get_whole h0 inb (put (Rect.unit off s.size inb) w X)) y
  rw [← e]
  exact h y

end Arrays

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A write through a rectangle of a view is read back as `put`. -/
theorem read_write_put {κ : _} {sp : Space} (v : View sig κ sp s e) (r : Rect s) (f : v.ty.Contents Val) (w : r.shape.Idx → Val e) :
    v.read Val ((v.slice r).write Val f w Finset.univ) = put r w (v.read Val f) := by
  funext y
  by_cases h : ∃ x, r.emb x = y
  · obtain ⟨x, rfl⟩ := h
    rw [put_emb, View.read_slice_write_emb r f w (Finset.mem_univ x)]
  · rw [put_of_not_mem r w _ y (fun x hx => h ⟨x, hx⟩), View.read_slice_write_of_not_mem r f w Finset.univ]
    intro hm
    obtain ⟨x, -, hx⟩ := Finset.mem_map.mp hm
    exact h ⟨x, hx⟩

/-- A load at the head of a program, from a memref held at `X`. -/
theorem wp_load_get {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (get r X)) Q)
        -∗ wp frame (wpE defs 𝒱 c bd) E (.op (.load m r hl) k) Q) := by
  unfold owns
  iintro ⟨%f, %hf, H⟩ Hk
  subst hf
  iapply (wp_load 𝒱 c bd E (m := m) (r := r.toLoadRect) (S := m.view.set) (f := f) (m.view.setOn_subset_set _)) $$ H
  iintro H
  iapply Hk
  iexists f
  isplitr; · ipureintro; rfl
  iexact H

/-- An unmasked store at the head of a program, into a memref held at `X`. -/
theorem wp_store_put {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (w := w) (Mk := Finset.univ) (S := m.view.set) (f := f)
    (Memref.setOn_access_subset m r _)) $$ H
  iintro H
  iapply Hk
  iexists ((m.access r).write Val f w Finset.univ)
  isplitr; · ipureintro; exact read_write_put m.view r f w
  iexact H

end Cert.Held

end
-- ==== Proof.KI.Trip.lean ====
/-
  The counted loop of the backward kernel's body: the key blocks that lie wholly before the query block. A trip loads its
  512 key rows, adds both halves of the heads' contributions into the same rows of the gradient of keys and values, and
  adds its products into the gradient of the queries that the loop carries. The loop is followed as a function on the
  array that the gradient's buffer holds.
-/
module

public import proofs.«01_k».proof.Proof.Held
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Body

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one query block's trips and branches read: the block of queries, of the output's cotangent, the rows' log-sums,
    and the cotangent and the output widened. -/
structure Blk (F : FTy → Type) where
  q : FVec F S2048x256 .bf16
  dO : FVec F S2048x128 .bf16
  lse : FVec F S2048x1 .f32
  dOw : FVec F S2048x128 .f32
  ow : FVec F S2048x128 .f32

/-- The rows' products of cotangent and output. -/
abbrev Blk.delta (B : Blk F) : FVec F S2048x1 .f32 := k0_pay139 B.dOw B.ow

/-- A trip's 512 key rows, and their first 128 columns. -/
abbrev R1 (i : grid0.Coords) (k : Fin (k0_t1_loop i).trips) : Rect S4096x256 :=
  Rect.unit (s := S4096x256) (k0_off1 i k) S512x256.size (k0_off1_inb i k)
abbrev R2 (i : grid0.Coords) (k : Fin (k0_t1_loop i).trips) : Rect S4096x256 :=
  Rect.unit (s := S4096x256) (k0_off2 i k) S512x128.size (k0_off2_inb i k)

/-- The gradient of keys and values after trip `k`, over what it was before. -/
def tripY (i : grid0.Coords) (B : Blk F) (K : Vec F S4096x256 .bf16) (k : Fin (k0_t1_loop i).trips)
    (Y : Vec F S4096x256 .f32) : Vec F S4096x256 .f32 :=
  let kb : Vec F S512x256 .bf16 := get (R1 i k) K
  let Y1 : Vec F S4096x256 .f32 := put (R1 i k) (k0_pay6 B.q B.dO B.lse B.delta kb (get (R1 i k) Y)) Y
  let Y2 : Vec F S4096x256 .f32 := put (R2 i k) (k0_pay7 B.q B.dO B.lse kb (get (R2 i k) Y1)) Y1
  let Y3 : Vec F S4096x256 .f32 := put (R1 i k) (k0_pay143 B.dOw B.ow (k0_pay1 kb) (k0_pay9 B.q) (k0_pay10 B.dO)
    (k0_pay11 B.q kb) (k0_pay12 B.lse) (get (R1 i k) Y2)) Y2
  put (R2 i k) (k0_pay144 (k0_pay10 B.dO) (k0_pay11 B.q kb) (k0_pay12 B.lse) (get (R2 i k) Y3)) Y3

/-- The gradient of the queries that trip `k` yields. -/
def tripA (i : grid0.Coords) (B : Blk F) (K : Vec F S4096x256 .bf16) (k : Fin (k0_t1_loop i).trips)
    (acc : FVec F S2048x256 .f32) : FVec F S2048x256 .f32 :=
  let kb : Vec F S512x256 .bf16 := get (R1 i k) K
  k0_pay145 B.dOw B.ow acc (k0_pay1 kb) (k0_pay8 B.q B.dO B.lse B.delta acc kb) (k0_pay10 B.dO) (k0_pay11 B.q kb) (k0_pay12 B.lse)

/-- The gradient of keys and values before trip `k`. -/
def stY (i : grid0.Coords) (B : Blk F) (K : Vec F S4096x256 .bf16) (Y : Vec F S4096x256 .f32) : ℕ → Vec F S4096x256 .f32
  | 0 => Y
  | k + 1 => if h : k < (k0_t1_loop i).trips then tripY i B K ⟨k, h⟩ (stY i B K Y k) else stY i B K Y k

/-- The carried gradient of the queries before trip `k`. -/
def stA (i : grid0.Coords) (B : Blk F) (K : Vec F S4096x256 .bf16) : ℕ → FVec F S2048x256 .f32
  | 0 => k0_pay140 (F := F)
  | k + 1 => if h : k < (k0_t1_loop i).trips then tripA i B K ⟨k, h⟩ (stA i B K k) else stA i B K k

theorem stY_succ (i : grid0.Coords) (B : Blk F) (K : Vec F S4096x256 .bf16) (Y : Vec F S4096x256 .f32)
    (k : Fin (k0_t1_loop i).trips) : stY i B K Y (k.val + 1) = tripY i B K k (stY i B K Y k.val) := by
  rw [stY, dif_pos k.isLt]

theorem stA_succ (i : grid0.Coords) (B : Blk F) (K : Vec F S4096x256 .bf16) (k : Fin (k0_t1_loop i).trips) :
    stA i B K (k.val + 1) = tripA i B K k (stA i B K k.val) := by
  rw [stA, dif_pos k.isLt]

variable (c : Dev nD)

/-- One trip: from the buffers of keys and of their gradient to the same with the trip's sums added. -/
theorem trip (i : grid0.Coords) (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (arg0 v17 : BitVec 32) (B : Blk F) (K : Vec F S4096x256 .bf16) (Y : Vec F S4096x256 .f32) (k : Fin (k0_t1_loop i).trips)
    (acc : FVec F S2048x256 .f32) (E : Set ℕ) (Q : FVec F S2048x256 .f32 → sProp 𝕄) :
    iprop(owns (c : Thread nD τ) arg2 fullShare K ∗ owns (c : Thread nD τ) arg7 fullShare Y
        ∗ (iprop(owns (c : Thread nD τ) arg2 fullShare K ∗ owns (c : Thread nD τ) arg7 fullShare (tripY i B K k Y))
            -∗ Q (tripA i B K k acc)))
      ⊢ wp frame (wpE (defs₀ (F := F)) Variants.none c none) E
          (k0_t1_body i arg1 harg1 arg2 harg2 arg3 harg3 arg4 harg4 arg5 harg5 arg6 harg6 arg7 harg7 arg0 v17
            B.q B.dO B.lse B.dOw B.ow k acc) Q := by
  unfold k0_t1_body tripY tripA
  rw [k0_part1_eq_skeleton]
  unfold k0_part1_skel
  simp only [Prog.lift, Prog.bind_op, Prog.bind_ret, Prog.pure_eq_ret, Prog.bind_assoc]
  iintro ⟨H2, H7, Hk⟩
  iapply (wp_load_get Variants.none (c : Thread nD τ) none E) $$ H2; iintro H2
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  rw [wp_ret]; imodintro
  iapply Hk
  isplitl [H2]; · iexact H2
  iexact H7

end Cert.KernelIdeal.Body

end
-- ==== Proof.KI.Diag.lean ====
/-
  The diagonal key block of the backward kernel's body: the keys up to the query block's last row, in one of four widths
  (a quarter, a half, three quarters or the whole of the block) by the query block's place in it. As in the loop, both
  halves of the heads add into the key block's rows of the gradient; the gradient of the query block is then complete.
-/
module

public import proofs.«01_k».proof.Proof.KI.Trip

@[expose] public section

set_option maxRecDepth 16384

noncomputable section

namespace Cert.KernelIdeal.Body

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Width 128 -/

/-- The diagonal block's first 128 key rows, and their first 128 columns. -/
abbrev D01 (i : grid0.Coords) (h : k0_cond2 i = 1#1) : Rect S4096x256 :=
  Rect.unit (s := S4096x256) (k0_off5 i) S128x256.size (k0_off5_inb i h)
abbrev D02 (i : grid0.Coords) (h : k0_cond2 i = 1#1) : Rect S4096x256 :=
  Rect.unit (s := S4096x256) (k0_off6 i) S128x128.size (k0_off6_inb i h)

/-- The first half's ds, rounded, -/
def dsA0 (arg0 v100 : BitVec 32) (B : Blk F) (kb : Vec F S128x256 .bf16) : FVec F S1024x128 .bf16 :=
  k0_pay34 B.lse B.delta v100 (k0_pay25 kb) (k0_pay27 B.dO) (k0_pay28 B.q kb) (k0_pay29 arg0) (k0_pay30 arg0) (k0_pay31 arg0) k0_pay32

/-- and its probabilities. -/
def pA0 (arg0 v100 : BitVec 32) (B : Blk F) (kb : Vec F S128x256 .bf16) : FVec F S1024x128 .f32 :=
  k0_pay33 B.lse v100 (k0_pay28 B.q kb) (k0_pay29 arg0) (k0_pay30 arg0) (k0_pay31 arg0) k0_pay32

/-- The gradient of keys and values after the diagonal block of width 128. -/
def diagY0 (i : grid0.Coords) (h : k0_cond2 i = 1#1) (arg0 v100 : BitVec 32) (B : Blk F) (K : Vec F S4096x256 .bf16)
    (Y : Vec F S4096x256 .f32) : Vec F S4096x256 .f32 :=
  let kb : Vec F S128x256 .bf16 := get (D01 i h) K
  let Y1 : Vec F S4096x256 .f32 := put (D01 i h) (k0_pay35 (k0_pay26 B.q) (dsA0 arg0 v100 B kb) (get (D01 i h) Y)) Y
  let Y2 : Vec F S4096x256 .f32 := put (D02 i h) (k0_pay36 (k0_pay27 B.dO) (pA0 arg0 v100 B kb) (get (D02 i h) Y1)) Y1
  let Y3 : Vec F S4096x256 .f32 := put (D01 i h) (k0_pay49 B.lse B.delta (k0_pay25 kb) (k0_pay38 B.q) (k0_pay39 B.dO)
    (k0_pay40 B.q (k0_pay25 kb)) (k0_pay42 (k0_pay41 arg0)) (k0_pay44 v100) (k0_pay45 v100) (k0_pay46 v100) (get (D01 i h) Y2)) Y2
  put (D02 i h) (k0_pay50 B.lse (k0_pay39 B.dO) (k0_pay40 B.q (k0_pay25 kb)) (k0_pay42 (k0_pay41 arg0)) (k0_pay44 v100)
    (k0_pay45 v100) (k0_pay46 v100) (get (D02 i h) Y3)) Y3

/-- The block's gradient of the queries, scaled and rounded. -/
def diagQ0 (i : grid0.Coords) (h : k0_cond2 i = 1#1) (arg0 v100 : BitVec 32) (B : Blk F) (K : Vec F S4096x256 .bf16)
    (acc : FVec F S2048x256 .f32) : Vec F S16x128x256 .bf16 :=
  let kb : Vec F S128x256 .bf16 := get (D01 i h) K
  k0_pay51 B.lse B.delta acc (k0_pay25 kb) (k0_pay37 acc (k0_pay25 kb) (dsA0 arg0 v100 B kb)) (k0_pay39 B.dO) (k0_pay40 B.q (k0_pay25 kb))
    (k0_pay42 (k0_pay41 arg0)) (k0_pay44 v100) (k0_pay45 v100) (k0_pay46 v100)

/-! ## Width 256 -/

/-- The diagonal block's first 256 key rows, and their first 128 columns. -/
abbrev D11 (i : grid0.Coords) (h : k0_cond3 i = 1#1) : Rect S4096x256 :=
  Rect.unit (s := S4096x256) (k0_off7 i) S256x256.size (k0_off7_inb i h)
abbrev D12 (i : grid0.Coords) (h : k0_cond3 i = 1#1) : Rect S4096x256 :=
  Rect.unit (s := S4096x256) (k0_off8 i) S256x128.size (k0_off8_inb i h)

/-- The first half's ds, rounded, -/
def dsA1 (arg0 v100 : BitVec 32) (B : Blk F) (kb : Vec F S256x256 .bf16) : FVec F S1024x256 .bf16 :=
  k0_pay61 B.lse B.delta v100 (k0_pay52 kb) (k0_pay54 B.dO) (k0_pay55 B.q kb) (k0_pay56 arg0) (k0_pay57 arg0) (k0_pay58 arg0) k0_pay59

/-- and its probabilities. -/
def pA1 (arg0 v100 : BitVec 32) (B : Blk F) (kb : Vec F S256x256 .bf16) : FVec F S1024x256 .f32 :=
  k0_pay60 B.lse v100 (k0_pay55 B.q kb) (k0_pay56 arg0) (k0_pay57 arg0) (k0_pay58 arg0) k0_pay59

/-- The gradient of keys and values after the diagonal block of width 256. -/
def diagY1 (i : grid0.Coords) (h : k0_cond3 i = 1#1) (arg0 v100 : BitVec 32) (B : Blk F) (K : Vec F S4096x256 .bf16)
    (Y : Vec F S4096x256 .f32) : Vec F S4096x256 .f32 :=
  let kb : Vec F S256x256 .bf16 := get (D11 i h) K
  let Y1 : Vec F S4096x256 .f32 := put (D11 i h) (k0_pay62 (k0_pay53 B.q) (dsA1 arg0 v100 B kb) (get (D11 i h) Y)) Y
  let Y2 : Vec F S4096x256 .f32 := put (D12 i h) (k0_pay63 (k0_pay54 B.dO) (pA1 arg0 v100 B kb) (get (D12 i h) Y1)) Y1
  let Y3 : Vec F S4096x256 .f32 := put (D11 i h) (k0_pay76 B.lse B.delta (k0_pay52 kb) (k0_pay65 B.q) (k0_pay66 B.dO)
    (k0_pay67 B.q (k0_pay52 kb)) (k0_pay69 (k0_pay68 arg0)) (k0_pay71 v100) (k0_pay72 v100) (k0_pay73 v100) (get (D11 i h) Y2)) Y2
  put (D12 i h) (k0_pay77 B.lse (k0_pay66 B.dO) (k0_pay67 B.q (k0_pay52 kb)) (k0_pay69 (k0_pay68 arg0)) (k0_pay71 v100)
    (k0_pay72 v100) (k0_pay73 v100) (get (D12 i h) Y3)) Y3

/-- The block's gradient of the queries, scaled and rounded. -/
def diagQ1 (i : grid0.Coords) (h : k0_cond3 i = 1#1) (arg0 v100 : BitVec 32) (B : Blk F) (K : Vec F S4096x256 .bf16)
    (acc : FVec F S2048x256 .f32) : Vec F S16x128x256 .bf16 :=
  let kb : Vec F S256x256 .bf16 := get (D11 i h) K
  k0_pay78 B.lse B.delta acc (k0_pay52 kb) (k0_pay64 acc (k0_pay52 kb) (dsA1 arg0 v100 B kb)) (k0_pay66 B.dO) (k0_pay67 B.q (k0_pay52 kb))
    (k0_pay69 (k0_pay68 arg0)) (k0_pay71 v100) (k0_pay72 v100) (k0_pay73 v100)

/-! ## Width 384 -/

/-- The diagonal block's first 384 key rows, and their first 128 columns. -/
abbrev D21 (i : grid0.Coords) (h : k0_cond4 i = 1#1) : Rect S4096x256 :=
  Rect.unit (s := S4096x256) (k0_off9 i) S384x256.size (k0_off9_inb i h)
abbrev D22 (i : grid0.Coords) (h : k0_cond4 i = 1#1) : Rect S4096x256 :=
  Rect.unit (s := S4096x256) (k0_off10 i) S384x128.size (k0_off10_inb i h)

/-- The first half's ds, rounded, -/
def dsA2 (arg0 v100 : BitVec 32) (B : Blk F) (kb : Vec F S384x256 .bf16) : FVec F S1024x384 .bf16 :=
  k0_pay88 B.lse B.delta v100 (k0_pay79 kb) (k0_pay81 B.dO) (k0_pay82 B.q kb) (k0_pay83 arg0) (k0_pay84 arg0) (k0_pay85 arg0) k0_pay86

/-- and its probabilities. -/
def pA2 (arg0 v100 : BitVec 32) (B : Blk F) (kb : Vec F S384x256 .bf16) : FVec F S1024x384 .f32 :=
  k0_pay87 B.lse v100 (k0_pay82 B.q kb) (k0_pay83 arg0) (k0_pay84 arg0) (k0_pay85 arg0) k0_pay86

/-- The gradient of keys and values after the diagonal block of width 384. -/
def diagY2 (i : grid0.Coords) (h : k0_cond4 i = 1#1) (arg0 v100 : BitVec 32) (B : Blk F) (K : Vec F S4096x256 .bf16)
    (Y : Vec F S4096x256 .f32) : Vec F S4096x256 .f32 :=
  let kb : Vec F S384x256 .bf16 := get (D21 i h) K
  let Y1 : Vec F S4096x256 .f32 := put (D21 i h) (k0_pay89 (k0_pay80 B.q) (dsA2 arg0 v100 B kb) (get (D21 i h) Y)) Y
  let Y2 : Vec F S4096x256 .f32 := put (D22 i h) (k0_pay90 (k0_pay81 B.dO) (pA2 arg0 v100 B kb) (get (D22 i h) Y1)) Y1
  let Y3 : Vec F S4096x256 .f32 := put (D21 i h) (k0_pay103 B.lse B.delta (k0_pay79 kb) (k0_pay92 B.q) (k0_pay93 B.dO)
    (k0_pay94 B.q (k0_pay79 kb)) (k0_pay96 (k0_pay95 arg0)) (k0_pay98 v100) (k0_pay99 v100) (k0_pay100 v100) (get (D21 i h) Y2)) Y2
  put (D22 i h) (k0_pay104 B.lse (k0_pay93 B.dO) (k0_pay94 B.q (k0_pay79 kb)) (k0_pay96 (k0_pay95 arg0)) (k0_pay98 v100)
    (k0_pay99 v100) (k0_pay100 v100) (get (D22 i h) Y3)) Y3

/-- The block's gradient of the queries, scaled and rounded. -/
def diagQ2 (i : grid0.Coords) (h : k0_cond4 i = 1#1) (arg0 v100 : BitVec 32) (B : Blk F) (K : Vec F S4096x256 .bf16)
    (acc : FVec F S2048x256 .f32) : Vec F S16x128x256 .bf16 :=
  let kb : Vec F S384x256 .bf16 := get (D21 i h) K
  k0_pay105 B.lse B.delta acc (k0_pay79 kb) (k0_pay91 acc (k0_pay79 kb) (dsA2 arg0 v100 B kb)) (k0_pay93 B.dO) (k0_pay94 B.q (k0_pay79 kb))
    (k0_pay96 (k0_pay95 arg0)) (k0_pay98 v100) (k0_pay99 v100) (k0_pay100 v100)

/-! ## Width 512 -/

/-- The diagonal block's first 512 key rows, and their first 128 columns. -/
abbrev D31 (i : grid0.Coords) (h : k0_cond5 i = 1#1) : Rect S4096x256 :=
  Rect.unit (s := S4096x256) (k0_off11 i) S512x256.size (k0_off11_inb i h)
abbrev D32 (i : grid0.Coords) (h : k0_cond5 i = 1#1) : Rect S4096x256 :=
  Rect.unit (s := S4096x256) (k0_off12 i) S512x128.size (k0_off12_inb i h)

/-- The first half's ds, rounded, -/
def dsA3 (arg0 v100 : BitVec 32) (B : Blk F) (kb : Vec F S512x256 .bf16) : FVec F S1024x512 .bf16 :=
  k0_pay115 B.lse B.delta v100 (k0_pay106 kb) (k0_pay108 B.dO) (k0_pay109 B.q kb) (k0_pay110 arg0) (k0_pay111 arg0) (k0_pay112 arg0) k0_pay113

/-- and its probabilities. -/
def pA3 (arg0 v100 : BitVec 32) (B : Blk F) (kb : Vec F S512x256 .bf16) : FVec F S1024x512 .f32 :=
  k0_pay114 B.lse v100 (k0_pay109 B.q kb) (k0_pay110 arg0) (k0_pay111 arg0) (k0_pay112 arg0) k0_pay113

/-- The gradient of keys and values after the diagonal block of width 512. -/
def diagY3 (i : grid0.Coords) (h : k0_cond5 i = 1#1) (arg0 v100 : BitVec 32) (B : Blk F) (K : Vec F S4096x256 .bf16)
    (Y : Vec F S4096x256 .f32) : Vec F S4096x256 .f32 :=
  let kb : Vec F S512x256 .bf16 := get (D31 i h) K
  let Y1 : Vec F S4096x256 .f32 := put (D31 i h) (k0_pay116 (k0_pay107 B.q) (dsA3 arg0 v100 B kb) (get (D31 i h) Y)) Y
  let Y2 : Vec F S4096x256 .f32 := put (D32 i h) (k0_pay117 (k0_pay108 B.dO) (pA3 arg0 v100 B kb) (get (D32 i h) Y1)) Y1
  let Y3 : Vec F S4096x256 .f32 := put (D31 i h) (k0_pay130 B.lse B.delta (k0_pay106 kb) (k0_pay119 B.q) (k0_pay120 B.dO)
    (k0_pay121 B.q (k0_pay106 kb)) (k0_pay123 (k0_pay122 arg0)) (k0_pay125 v100) (k0_pay126 v100) (k0_pay127 v100) (get (D31 i h) Y2)) Y2
  put (D32 i h) (k0_pay131 B.lse (k0_pay120 B.dO) (k0_pay121 B.q (k0_pay106 kb)) (k0_pay123 (k0_pay122 arg0)) (k0_pay125 v100)
    (k0_pay126 v100) (k0_pay127 v100) (get (D32 i h) Y3)) Y3

/-- The block's gradient of the queries, scaled and rounded. -/
def diagQ3 (i : grid0.Coords) (h : k0_cond5 i = 1#1) (arg0 v100 : BitVec 32) (B : Blk F) (K : Vec F S4096x256 .bf16)
    (acc : FVec F S2048x256 .f32) : Vec F S16x128x256 .bf16 :=
  let kb : Vec F S512x256 .bf16 := get (D31 i h) K
  k0_pay132 B.lse B.delta acc (k0_pay106 kb) (k0_pay118 acc (k0_pay106 kb) (dsA3 arg0 v100 B kb)) (k0_pay120 B.dO) (k0_pay121 B.q (k0_pay106 kb))
    (k0_pay123 (k0_pay122 arg0)) (k0_pay125 v100) (k0_pay126 v100) (k0_pay127 v100)

end Cert.KernelIdeal.Body

end
-- ==== Proof.KI.Body.lean ====
/-
  The backward kernel's body at one grid point, as a function on the arrays its buffers hold: the point's query block
  `blk`, the gradient of keys and values `ptY` over what the buffer held, and the block's gradient of the queries `ptQ`.
-/
module

public import proofs.«01_k».proof.Proof.KI.Diag

@[expose] public section

set_option maxRecDepth 16384

noncomputable section

namespace Cert.KernelIdeal.Body

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Control: everything a point's number decides -/

/-- The grid point's number as a word, and the first key row of its diagonal block. -/
abbrev w0 (i : grid0.Coords) : BitVec 32 := BitVec.ofNat 32 (i 0).val
abbrev w17 (i : grid0.Coords) : BitVec 32 := BitVec.ofNat 32 ((i 0).val / 4)
abbrev w100 (i : grid0.Coords) : BitVec 32 := Scalar.muli (w17 i) 512#32

theorem cond2_iff : ∀ i : grid0.Coords, k0_cond2 i = 1#1 ↔ (i 0).val % 4 = 0 := by decide +kernel
theorem cond3_iff : ∀ i : grid0.Coords, k0_cond3 i = 1#1 ↔ (i 0).val % 4 = 1 := by decide +kernel
theorem cond4_iff : ∀ i : grid0.Coords, k0_cond4 i = 1#1 ↔ (i 0).val % 4 = 2 := by decide +kernel
theorem cond5_iff : ∀ i : grid0.Coords, k0_cond5 i = 1#1 ↔ (i 0).val % 4 = 3 := by decide +kernel

/-- Every point takes one of the four widths. -/
theorem cond5_of (i : grid0.Coords) (h2 : ¬ k0_cond2 i = 1#1) (h3 : ¬ k0_cond3 i = 1#1) (h4 : ¬ k0_cond4 i = 1#1) :
    k0_cond5 i = 1#1 := by
  rw [cond2_iff] at h2; rw [cond3_iff] at h3; rw [cond4_iff] at h4; rw [cond5_iff]
  omega

/-- The body zeroes the gradient of keys and values at the first point only. -/
abbrev cond1 (i : grid0.Coords) : Prop := Scalar.cmpi .ne (Scalar.extui (Scalar.cmpi .eq (w0 i) 0#32)) 0#32 = 1#1
theorem cond1_iff : ∀ i : grid0.Coords, cond1 i ↔ (i 0).val = 0 := by decide +kernel

/-- As many whole key blocks lie before the query block as its number's quarter; -/
theorem t1_trips : ∀ i : grid0.Coords, (k0_t1_loop i).trips = (i 0).val / 4 := by decide +kernel
/-- the loop for a remainder has no trip. -/
theorem t2_trips (i : grid0.Coords) : (k0_t2_loop i).trips = 0 := Nat.le_zero.mp (k0_t2_abs i).2.1

/-- The kernel's floor division of the block's first row by 512 is that quarter. -/
theorem w17_eq : ∀ i : grid0.Coords,
    Scalar.select
      (Scalar.andi
        (Scalar.cmpi .ne
          (Scalar.subi (Scalar.extui (Scalar.cmpi .sgt (Scalar.muli (BitVec.ofNat 32 (i 0).val) 128#32) 0#32))
            (Scalar.extui (Scalar.cmpi .slt (Scalar.muli (BitVec.ofNat 32 (i 0).val) 128#32) 0#32)))
          (Scalar.subi (Scalar.extui (Scalar.cmpi .sgt 512#32 0#32)) (Scalar.extui (Scalar.cmpi .slt 512#32 0#32))))
        (Scalar.cmpi .ne (Scalar.remsi (Scalar.muli (BitVec.ofNat 32 (i 0).val) 128#32) 512#32) 0#32))
      (Scalar.subi (Scalar.divsi (Scalar.muli (BitVec.ofNat 32 (i 0).val) 128#32) 512#32) 1#32)
      (Scalar.divsi (Scalar.muli (BitVec.ofNat 32 (i 0).val) 128#32) 512#32) = w17 i := by decide +kernel

/-! ## The arrays of one point -/

/-- The query block of a point, from the blocks of queries, cotangent, output and log-sums staged for it. -/
def blk (x0 : Vec F S16x128x256 .bf16) (x2 x3 : Vec F S16x128x128 .bf16) (x4 : Vec F S16x128x128 .f32) : Blk F :=
  ⟨k0_pay134 x0, k0_pay135 x2, k0_pay136 x4, k0_pay137 x2, k0_pay138 x3⟩

/-- The gradient of keys and values as the point's first statement leaves it. -/
def initY (i : grid0.Coords) (Y : Vec F S4096x256 .f32) : Vec F S4096x256 .f32 :=
  if (i 0).val = 0 then k0_pay133 (F := F) else Y

/-- The gradient of keys and values after a point, over what it was before. -/
def ptY (i : grid0.Coords) (B : Blk F) (K : Vec F S4096x256 .bf16) (Y : Vec F S4096x256 .f32) : Vec F S4096x256 .f32 :=
  let Y0 := stY i B K (initY i Y) (k0_t1_loop i).trips
  if h2 : k0_cond2 i = 1#1 then diagY0 i h2 (w0 i) (w100 i) B K Y0
  else if h3 : k0_cond3 i = 1#1 then diagY1 i h3 (w0 i) (w100 i) B K Y0
  else if h4 : k0_cond4 i = 1#1 then diagY2 i h4 (w0 i) (w100 i) B K Y0
  else diagY3 i (cond5_of i h2 h3 h4) (w0 i) (w100 i) B K Y0

/-- The point's block of the gradient of the queries. -/
def ptQ (i : grid0.Coords) (B : Blk F) (K : Vec F S4096x256 .bf16) : Vec F S16x128x256 .bf16 :=
  let A := stA i B K (k0_t1_loop i).trips
  if h2 : k0_cond2 i = 1#1 then diagQ0 i h2 (w0 i) (w100 i) B K A
  else if h3 : k0_cond3 i = 1#1 then diagQ1 i h3 (w0 i) (w100 i) B K A
  else if h4 : k0_cond4 i = 1#1 then diagQ2 i h4 (w0 i) (w100 i) B K A
  else diagQ3 i (cond5_of i h2 h3 h4) (w0 i) (w100 i) B K A

variable (c : Dev nD)

/-! ## The body's statements up to the loops -/

/-- The first point's zeroing, and the loads of the point's blocks. -/
theorem start (i : grid0.Coords) (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x2 x3 : Vec F S16x128x128 .bf16) (x4 : Vec F S16x128x128 .f32) (Y : Vec F S4096x256 .f32)
    (E : Set ℕ) (Q : _ → sProp 𝕄) :
    iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg7 fullShare Y
        ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg7 fullShare (initY i Y))
            -∗ Q ⟨w0 i, w17 i, (blk x0 x2 x3 x4).q, (blk x0 x2 x3 x4).dO, (blk x0 x2 x3 x4).lse, (blk x0 x2 x3 x4).dOw, (blk x0 x2 x3 x4).ow⟩))
      ⊢ wp frame (wpE (defs₀ (F := F)) Variants.none c none) E (k0_part23 i arg1 harg1 arg2 harg2 arg3 harg3 arg4 harg4 arg5 harg5 arg6 harg6 arg7 harg7) Q := by
  rw [k0_part23_eq_skeleton]
  unfold k0_part23_skel
  dsimp only
  rw [w17_eq]
  by_cases h : cond1 i
  · have h0 := (cond1_iff i).mp h
    rw [dif_pos h]
    simp only [Prog.lift, Prog.bind_op, Prog.bind_ret, Prog.pure_eq_ret, Prog.bind_assoc]
    iintro ⟨H1, H3, H4, H5, H7, Hk⟩
    iapply (wp_load_get Variants.none (c : Thread nD τ) none E) $$ H7; iintro H7
    iapply (wp_store_put Variants.none (c : Thread nD τ) none E) $$ H7; iintro H7
    iapply (wp_load_get Variants.none (c : Thread nD τ) none E) $$ H1; iintro H1
    iapply (wp_load_get Variants.none (c : Thread nD τ) none E) $$ H3; iintro H3
    iapply (wp_load_get Variants.none (c : Thread nD τ) none E) $$ H5; iintro H5
    iapply (wp_load_get Variants.none (c : Thread nD τ) none E) $$ H4; iintro H4
    rw [wp_ret]; imodintro
    rw [get_whole (fun a => by fin_cases a <;> rfl), get_whole (fun a => by fin_cases a <;> rfl), get_whole (fun a => by fin_cases a <;> rfl), get_whole (fun a => by fin_cases a <;> rfl), put_whole (fun a => by fin_cases a <;> rfl)]
    unfold initY blk
    rw [if_pos h0]
    iapply Hk
    isplitl [H1]; · iexact H1
    isplitl [H3]; · iexact H3
    isplitl [H4]; · iexact H4
    isplitl [H5]; · iexact H5
    iexact H7
  · have h0 := fun e => h ((cond1_iff i).mpr e)
    rw [dif_neg h]
    simp only [Prog.lift, Prog.bind_op, Prog.bind_ret, Prog.pure_eq_ret, Prog.bind_assoc]
    iintro ⟨H1, H3, H4, H5, H7, Hk⟩
    iapply (wp_load_get Variants.none (c : Thread nD τ) none E) $$ H1; iintro H1
    iapply (wp_load_get Variants.none (c : Thread nD τ) none E) $$ H3; iintro H3
    iapply (wp_load_get Variants.none (c : Thread nD τ) none E) $$ H5; iintro H5
    iapply (wp_load_get Variants.none (c : Thread nD τ) none E) $$ H4; iintro H4
    rw [wp_ret]; imodintro
    rw [get_whole (fun a => by fin_cases a <;> rfl), get_whole (fun a => by fin_cases a <;> rfl), get_whole (fun a => by fin_cases a <;> rfl), get_whole (fun a => by fin_cases a <;> rfl)]
    unfold initY blk
    rw [if_neg h0]
    iapply Hk
    isplitl [H1]; · iexact H1
    isplitl [H3]; · iexact H3
    isplitl [H4]; · iexact H4
    isplitl [H5]; · iexact H5
    iexact H7

/-- The loop over the key blocks before the query block: by the contents after `k` trips. -/
theorem loop1 (i : grid0.Coords) (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (arg0 v17 : BitVec 32) (B : Blk F) (K : Vec F S4096x256 .bf16) (Y : Vec F S4096x256 .f32) (E : Set ℕ) {β : Type}
    (kk : FVec F S2048x256 .f32 → Prog (TpuEff nD τ sig (Elt F) Λ₀ .tc) β) (Q : β → sProp 𝕄) :
    iprop(owns (c : Thread nD τ) arg2 fullShare K ∗ owns (c : Thread nD τ) arg7 fullShare Y
        ∗ (iprop(owns (c : Thread nD τ) arg2 fullShare K ∗ owns (c : Thread nD τ) arg7 fullShare (stY i B K Y (k0_t1_loop i).trips))
            -∗ wp frame (wpE (defs₀ (F := F)) Variants.none c none) E (kk (stA i B K (k0_t1_loop i).trips)) Q))
      ⊢ wp frame (wpE (defs₀ (F := F)) Variants.none c none) E
          (Scf.Loop.for (k0_t1_loop i) (k0_t1_ok i) (k0_pay140 (F := F)) (k0_t1_body i arg1 harg1 arg2 harg2 arg3 harg3 arg4 harg4 arg5 harg5 arg6 harg6 arg7 harg7 arg0 v17 B.q B.dO B.lse B.dOw B.ow) >>= kk) Q := by
  iintro ⟨H2, H7, Hk⟩
  iapply (Scf.wp_for_bind frame (wpE (defs₀ (F := F)) Variants.none c none) E _ _ _ _ _ _
    (fun k acc => iprop(⌜acc = stA i B K k⌝ ∗ owns (c : Thread nD τ) arg2 fullShare K ∗ owns (c : Thread nD τ) arg7 fullShare (stY i B K Y k))) ?_) $$ [H2 H7]
  · intro k acc
    iintro ⟨%ha, H2, H7⟩
    subst ha
    iapply (trip c i arg1 harg1 arg2 harg2 arg3 harg3 arg4 harg4 arg5 harg5 arg6 harg6 arg7 harg7 arg0 v17 B K (stY i B K Y k.val) k)
    isplitl [H2]; · iexact H2
    isplitl [H7]; · iexact H7
    iintro ⟨H2, H7⟩
    isplitr; · ipureintro; exact (stA_succ i B K k).symm
    isplitl [H2]; · iexact H2
    rw [stY_succ]
    iexact H7
  · isplitr; · ipureintro; rfl
    isplitl [H2]; · iexact H2
    iexact H7
  · iintro %acc ⟨%ha, H2, H7⟩
    subst ha
    iapply Hk
    isplitl [H2]; · iexact H2
    iexact H7

/-- The loop for a remainder does nothing. -/
theorem loop2 (i : grid0.Coords) {σ : Type} (init : σ) (body : Fin (k0_t2_loop i).trips → σ → Prog (TpuEff nD τ sig (Elt F) Λ₀ .tc) σ) :
    Scf.Loop.for (k0_t2_loop i) (k0_t2_ok i) init body = .ret init := by
  unfold Scf.Loop.for
  rw [Scf.for_eq]
  have h : List.finRange (k0_t2_loop i).trips = [] := List.length_eq_zero_iff.mp (by rw [List.length_finRange, t2_trips])
  rw [h, Scf.forFrom_nil]

/-! ## The whole body -/

/-- The body where the diagonal block has width 128. -/
theorem body0 (i : grid0.Coords) (h2 : k0_cond2 i = 1#1) (h3 : ¬ k0_cond3 i = 1#1) (h4 : ¬ k0_cond4 i = 1#1) (h5 : ¬ k0_cond5 i = 1#1)
    (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x1 : Vec F S4096x256 .bf16) (x2 x3 : Vec F S16x128x128 .bf16) (x4 : Vec F S16x128x128 .f32)
    (d : Vec F S16x128x256 .bf16) (Y : Vec F S4096x256 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (diagQ0 i h2 (w0 i) (w100 i) (blk x0 x2 x3 x4) x1 (stA i (blk x0 x2 x3 x4) x1 (k0_t1_loop i).trips))
            ∗ owns (c : Thread nD τ) arg7 fullShare (diagY0 i h2 (w0 i) (w100 i) (blk x0 x2 x3 x4) x1 (stY i (blk x0 x2 x3 x4) x1 (initY i Y) (k0_t1_loop i).trips)))
            -∗ Q ⟨⟩))
      ⊢ wp frame (wpE (defs₀ (F := F)) Variants.none c none) E (cc0_attn_bwd i arg1 harg1 arg2 harg2 arg3 harg3 arg4 harg4 arg5 harg5 arg6 harg6 arg7 harg7) Q := by
  rw [cc0_attn_bwd_eq_skeleton]
  unfold cc0_attn_bwd_skel
  rw [wp_bind]
  iintro ⟨H1, H2, H3, H4, H5, H6, H7, Hk⟩
  iapply (start c i arg1 harg1 arg2 harg2 arg3 harg3 arg4 harg4 arg5 harg5 arg6 harg6 arg7 harg7 x0 x2 x3 x4 Y)
  isplitl [H1]; · iexact H1
  isplitl [H3]; · iexact H3
  isplitl [H4]; · iexact H4
  isplitl [H5]; · iexact H5
  isplitl [H7]; · iexact H7
  iintro ⟨H1, H3, H4, H5, H7⟩
  rw [k0_part24_eq_skeleton]
  unfold k0_part24_skel
  dsimp only
  simp only [loop2, Prog.bind_ret, Prog.bind_assoc]
  iapply (loop1 c i arg1 harg1 arg2 harg2 arg3 harg3 arg4 harg4 arg5 harg5 arg6 harg6 arg7 harg7 (w0 i) (w17 i) (blk x0 x2 x3 x4) x1 (initY i Y))
  isplitl [H2]; · iexact H2
  isplitl [H7]; · iexact H7
  iintro ⟨H2, H7⟩
  simp only [dif_pos h2, dif_neg h3, dif_neg h4, dif_neg h5, k0_part3_eq_skeleton, k0_part4_eq_skeleton, k0_part5_eq_skeleton, k0_part6_eq_skeleton, k0_part7_eq_skeleton,
    k0_part3_skel, k0_part4_skel, k0_part5_skel, k0_part6_skel, k0_part7_skel, Prog.lift, Prog.bind_op, Prog.bind_ret, Prog.pure_eq_ret, Prog.bind_assoc]
  iapply (wp_load_get Variants.none (c : Thread nD τ) none E) $$ H2; iintro H2
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H6; iintro H6
  iapply (wp_store_put Variants.none (c : Thread nD τ) none E) $$ H6; iintro H6
  rw [wp_ret]; imodintro
  rw [put_whole (fun a => by fin_cases a <;> rfl)]
  iapply Hk
  isplitl [H1]; · iexact H1
  isplitl [H2]; · iexact H2
  isplitl [H3]; · iexact H3
  isplitl [H4]; · iexact H4
  isplitl [H5]; · iexact H5
  isplitl [H6]; · iexact H6
  iexact H7

/-- The body where the diagonal block has width 256. -/
theorem body1 (i : grid0.Coords) (h2 : ¬ k0_cond2 i = 1#1) (h3 : k0_cond3 i = 1#1) (h4 : ¬ k0_cond4 i = 1#1) (h5 : ¬ k0_cond5 i = 1#1)
    (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x1 : Vec F S4096x256 .bf16) (x2 x3 : Vec F S16x128x128 .bf16) (x4 : Vec F S16x128x128 .f32)
    (d : Vec F S16x128x256 .bf16) (Y : Vec F S4096x256 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (diagQ1 i h3 (w0 i) (w100 i) (blk x0 x2 x3 x4) x1 (stA i (blk x0 x2 x3 x4) x1 (k0_t1_loop i).trips))
            ∗ owns (c : Thread nD τ) arg7 fullShare (diagY1 i h3 (w0 i) (w100 i) (blk x0 x2 x3 x4) x1 (stY i (blk x0 x2 x3 x4) x1 (initY i Y) (k0_t1_loop i).trips)))
            -∗ Q ⟨⟩))
      ⊢ wp frame (wpE (defs₀ (F := F)) Variants.none c none) E (cc0_attn_bwd i arg1 harg1 arg2 harg2 arg3 harg3 arg4 harg4 arg5 harg5 arg6 harg6 arg7 harg7) Q := by
  rw [cc0_attn_bwd_eq_skeleton]
  unfold cc0_attn_bwd_skel
  rw [wp_bind]
  iintro ⟨H1, H2, H3, H4, H5, H6, H7, Hk⟩
  iapply (start c i arg1 harg1 arg2 harg2 arg3 harg3 arg4 harg4 arg5 harg5 arg6 harg6 arg7 harg7 x0 x2 x3 x4 Y)
  isplitl [H1]; · iexact H1
  isplitl [H3]; · iexact H3
  isplitl [H4]; · iexact H4
  isplitl [H5]; · iexact H5
  isplitl [H7]; · iexact H7
  iintro ⟨H1, H3, H4, H5, H7⟩
  rw [k0_part24_eq_skeleton]
  unfold k0_part24_skel
  dsimp only
  simp only [loop2, Prog.bind_ret, Prog.bind_assoc]
  iapply (loop1 c i arg1 harg1 arg2 harg2 arg3 harg3 arg4 harg4 arg5 harg5 arg6 harg6 arg7 harg7 (w0 i) (w17 i) (blk x0 x2 x3 x4) x1 (initY i Y))
  isplitl [H2]; · iexact H2
  isplitl [H7]; · iexact H7
  iintro ⟨H2, H7⟩
  simp only [dif_neg h2, dif_pos h3, dif_neg h4, dif_neg h5, k0_part8_eq_skeleton, k0_part9_eq_skeleton, k0_part10_eq_skeleton, k0_part11_eq_skeleton, k0_part12_eq_skeleton,
    k0_part8_skel, k0_part9_skel, k0_part10_skel, k0_part11_skel, k0_part12_skel, Prog.lift, Prog.bind_op, Prog.bind_ret, Prog.pure_eq_ret, Prog.bind_assoc]
  iapply (wp_load_get Variants.none (c : Thread nD τ) none E) $$ H2; iintro H2
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H6; iintro H6
  iapply (wp_store_put Variants.none (c : Thread nD τ) none E) $$ H6; iintro H6
  rw [wp_ret]; imodintro
  rw [put_whole (fun a => by fin_cases a <;> rfl)]
  iapply Hk
  isplitl [H1]; · iexact H1
  isplitl [H2]; · iexact H2
  isplitl [H3]; · iexact H3
  isplitl [H4]; · iexact H4
  isplitl [H5]; · iexact H5
  isplitl [H6]; · iexact H6
  iexact H7

/-- The body where the diagonal block has width 384. -/
theorem body2 (i : grid0.Coords) (h2 : ¬ k0_cond2 i = 1#1) (h3 : ¬ k0_cond3 i = 1#1) (h4 : k0_cond4 i = 1#1) (h5 : ¬ k0_cond5 i = 1#1)
    (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x1 : Vec F S4096x256 .bf16) (x2 x3 : Vec F S16x128x128 .bf16) (x4 : Vec F S16x128x128 .f32)
    (d : Vec F S16x128x256 .bf16) (Y : Vec F S4096x256 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (diagQ2 i h4 (w0 i) (w100 i) (blk x0 x2 x3 x4) x1 (stA i (blk x0 x2 x3 x4) x1 (k0_t1_loop i).trips))
            ∗ owns (c : Thread nD τ) arg7 fullShare (diagY2 i h4 (w0 i) (w100 i) (blk x0 x2 x3 x4) x1 (stY i (blk x0 x2 x3 x4) x1 (initY i Y) (k0_t1_loop i).trips)))
            -∗ Q ⟨⟩))
      ⊢ wp frame (wpE (defs₀ (F := F)) Variants.none c none) E (cc0_attn_bwd i arg1 harg1 arg2 harg2 arg3 harg3 arg4 harg4 arg5 harg5 arg6 harg6 arg7 harg7) Q := by
  rw [cc0_attn_bwd_eq_skeleton]
  unfold cc0_attn_bwd_skel
  rw [wp_bind]
  iintro ⟨H1, H2, H3, H4, H5, H6, H7, Hk⟩
  iapply (start c i arg1 harg1 arg2 harg2 arg3 harg3 arg4 harg4 arg5 harg5 arg6 harg6 arg7 harg7 x0 x2 x3 x4 Y)
  isplitl [H1]; · iexact H1
  isplitl [H3]; · iexact H3
  isplitl [H4]; · iexact H4
  isplitl [H5]; · iexact H5
  isplitl [H7]; · iexact H7
  iintro ⟨H1, H3, H4, H5, H7⟩
  rw [k0_part24_eq_skeleton]
  unfold k0_part24_skel
  dsimp only
  simp only [loop2, Prog.bind_ret, Prog.bind_assoc]
  iapply (loop1 c i arg1 harg1 arg2 harg2 arg3 harg3 arg4 harg4 arg5 harg5 arg6 harg6 arg7 harg7 (w0 i) (w17 i) (blk x0 x2 x3 x4) x1 (initY i Y))
  isplitl [H2]; · iexact H2
  isplitl [H7]; · iexact H7
  iintro ⟨H2, H7⟩
  simp only [dif_neg h2, dif_neg h3, dif_pos h4, dif_neg h5, k0_part13_eq_skeleton, k0_part14_eq_skeleton, k0_part15_eq_skeleton, k0_part16_eq_skeleton, k0_part17_eq_skeleton,
    k0_part13_skel, k0_part14_skel, k0_part15_skel, k0_part16_skel, k0_part17_skel, Prog.lift, Prog.bind_op, Prog.bind_ret, Prog.pure_eq_ret, Prog.bind_assoc]
  iapply (wp_load_get Variants.none (c : Thread nD τ) none E) $$ H2; iintro H2
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H6; iintro H6
  iapply (wp_store_put Variants.none (c : Thread nD τ) none E) $$ H6; iintro H6
  rw [wp_ret]; imodintro
  rw [put_whole (fun a => by fin_cases a <;> rfl)]
  iapply Hk
  isplitl [H1]; · iexact H1
  isplitl [H2]; · iexact H2
  isplitl [H3]; · iexact H3
  isplitl [H4]; · iexact H4
  isplitl [H5]; · iexact H5
  isplitl [H6]; · iexact H6
  iexact H7

/-- The body where the diagonal block has width 512. -/
theorem body3 (i : grid0.Coords) (h2 : ¬ k0_cond2 i = 1#1) (h3 : ¬ k0_cond3 i = 1#1) (h4 : ¬ k0_cond4 i = 1#1) (h5 : k0_cond5 i = 1#1)
    (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x1 : Vec F S4096x256 .bf16) (x2 x3 : Vec F S16x128x128 .bf16) (x4 : Vec F S16x128x128 .f32)
    (d : Vec F S16x128x256 .bf16) (Y : Vec F S4096x256 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (diagQ3 i h5 (w0 i) (w100 i) (blk x0 x2 x3 x4) x1 (stA i (blk x0 x2 x3 x4) x1 (k0_t1_loop i).trips))
            ∗ owns (c : Thread nD τ) arg7 fullShare (diagY3 i h5 (w0 i) (w100 i) (blk x0 x2 x3 x4) x1 (stY i (blk x0 x2 x3 x4) x1 (initY i Y) (k0_t1_loop i).trips)))
            -∗ Q ⟨⟩))
      ⊢ wp frame (wpE (defs₀ (F := F)) Variants.none c none) E (cc0_attn_bwd i arg1 harg1 arg2 harg2 arg3 harg3 arg4 harg4 arg5 harg5 arg6 harg6 arg7 harg7) Q := by
  rw [cc0_attn_bwd_eq_skeleton]
  unfold cc0_attn_bwd_skel
  rw [wp_bind]
  iintro ⟨H1, H2, H3, H4, H5, H6, H7, Hk⟩
  iapply (start c i arg1 harg1 arg2 harg2 arg3 harg3 arg4 harg4 arg5 harg5 arg6 harg6 arg7 harg7 x0 x2 x3 x4 Y)
  isplitl [H1]; · iexact H1
  isplitl [H3]; · iexact H3
  isplitl [H4]; · iexact H4
  isplitl [H5]; · iexact H5
  isplitl [H7]; · iexact H7
  iintro ⟨H1, H3, H4, H5, H7⟩
  rw [k0_part24_eq_skeleton]
  unfold k0_part24_skel
  dsimp only
  simp only [loop2, Prog.bind_ret, Prog.bind_assoc]
  iapply (loop1 c i arg1 harg1 arg2 harg2 arg3 harg3 arg4 harg4 arg5 harg5 arg6 harg6 arg7 harg7 (w0 i) (w17 i) (blk x0 x2 x3 x4) x1 (initY i Y))
  isplitl [H2]; · iexact H2
  isplitl [H7]; · iexact H7
  iintro ⟨H2, H7⟩
  simp only [dif_neg h2, dif_neg h3, dif_neg h4, dif_pos h5, k0_part18_eq_skeleton, k0_part19_eq_skeleton, k0_part20_eq_skeleton, k0_part21_eq_skeleton, k0_part22_eq_skeleton,
    k0_part18_skel, k0_part19_skel, k0_part20_skel, k0_part21_skel, k0_part22_skel, Prog.lift, Prog.bind_op, Prog.bind_ret, Prog.pure_eq_ret, Prog.bind_assoc]
  iapply (wp_load_get Variants.none (c : Thread nD τ) none E) $$ H2; iintro H2
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H7; iintro H7
  iapply (wp_load_get Variants.none (c : Thread nD τ) none E) $$ H7; iintro H7
  iapply (wp_store_put Variants.none (c : Thread nD τ) none E) $$ H7; iintro H7
  iapply (wp_load_get Variants.none (c : Thread nD τ) none E) $$ H6; iintro H6
  iapply (wp_store_put Variants.none (c : Thread nD τ) none E) $$ H6; iintro H6
  rw [wp_ret]; imodintro
  rw [put_whole (fun a => by fin_cases a <;> rfl)]
  iapply Hk
  isplitl [H1]; · iexact H1
  isplitl [H2]; · iexact H2
  isplitl [H3]; · iexact H3
  isplitl [H4]; · iexact H4
  isplitl [H5]; · iexact H5
  isplitl [H6]; · iexact H6
  iexact H7

/-- The body at a point: from the buffers at their contents to the same with the point's block of the gradient of the queries
    stored and the gradient of keys and values brought forward by the point. -/
theorem body (i : grid0.Coords) (arg1 : Memref sig .tc .vmem S16x128x256 .bf16) (harg1 : arg1.IsWhole) (arg2 : Memref sig .tc .vmem S4096x256 .bf16) (harg2 : arg2.IsWhole) (arg3 : Memref sig .tc .vmem S16x128x128 .bf16) (harg3 : arg3.IsWhole) (arg4 : Memref sig .tc .vmem S16x128x128 .bf16) (harg4 : arg4.IsWhole) (arg5 : Memref sig .tc .vmem S16x128x128 .f32) (harg5 : arg5.IsWhole) (arg6 : Memref sig .tc .vmem S16x128x256 .bf16) (harg6 : arg6.IsWhole) (arg7 : Memref sig .tc .vmem S4096x256 .f32) (harg7 : arg7.IsWhole)
    (x0 : Vec F S16x128x256 .bf16) (x1 : Vec F S4096x256 .bf16) (x2 x3 : Vec F S16x128x128 .bf16) (x4 : Vec F S16x128x128 .f32)
    (d : Vec F S16x128x256 .bf16) (Y : Vec F S4096x256 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (ptQ i (blk x0 x2 x3 x4) x1) ∗ owns (c : Thread nD τ) arg7 fullShare (ptY i (blk x0 x2 x3 x4) x1 Y)) -∗ Q ⟨⟩))
      ⊢ wp frame (wpE (defs₀ (F := F)) Variants.none c none) E (cc0_attn_bwd i arg1 harg1 arg2 harg2 arg3 harg3 arg4 harg4 arg5 harg5 arg6 harg6 arg7 harg7) Q := by
  have e2 := cond2_iff i; have e3 := cond3_iff i; have e4 := cond4_iff i; have e5 := cond5_iff i
  unfold ptQ ptY
  dsimp only
  by_cases h2 : k0_cond2 i = 1#1
  · have h3 : ¬ k0_cond3 i = 1#1 := fun h => by have := e2.mp h2; have := e3.mp h; omega
    have h4 : ¬ k0_cond4 i = 1#1 := fun h => by have := e2.mp h2; have := e4.mp h; omega
    have h5 : ¬ k0_cond5 i = 1#1 := fun h => by have := e2.mp h2; have := e5.mp h; omega
    rw [dif_pos h2, dif_pos h2]
    exact body0 c i h2 h3 h4 h5 arg1 harg1 arg2 harg2 arg3 harg3 arg4 harg4 arg5 harg5 arg6 harg6 arg7 harg7 x0 x1 x2 x3 x4 d Y E Q
  rw [dif_neg h2, dif_neg h2]
  by_cases h3 : k0_cond3 i = 1#1
  · have h4 : ¬ k0_cond4 i = 1#1 := fun h => by have := e3.mp h3; have := e4.mp h; omega
    have h5 : ¬ k0_cond5 i = 1#1 := fun h => by have := e3.mp h3; have := e5.mp h; omega
    rw [dif_pos h3, dif_pos h3]
    exact body1 c i h2 h3 h4 h5 arg1 harg1 arg2 harg2 arg3 harg3 arg4 harg4 arg5 harg5 arg6 harg6 arg7 harg7 x0 x1 x2 x3 x4 d Y E Q
  rw [dif_neg h3, dif_neg h3]
  by_cases h4 : k0_cond4 i = 1#1
  · have h5 : ¬ k0_cond5 i = 1#1 := fun h => by have := e4.mp h4; have := e5.mp h; omega
    rw [dif_pos h4, dif_pos h4]
    exact body2 c i h2 h3 h4 h5 arg1 harg1 arg2 harg2 arg3 harg3 arg4 harg4 arg5 harg5 arg6 harg6 arg7 harg7 x0 x1 x2 x3 x4 d Y E Q
  rw [dif_neg h4, dif_neg h4]
  exact body3 c i h2 h3 h4 (cond5_of i h2 h3 h4) arg1 harg1 arg2 harg2 arg3 harg3 arg4 harg4 arg5 harg5 arg6 harg6 arg7 harg7 x0 x1 x2 x3 x4 d Y E Q

end Cert.KernelIdeal.Body

end
-- ==== Proof.KI.Run.lean ====
/-
  The run of the backward program: what every point leaves in the windows' buffers, the body's obligation at every point,
  and the launch.  `gradAt` names the gradient of keys and values after as many points, `queryAt` the block of the gradient
  of the queries that a point stores.
-/
module

public import proofs.«01_k».proof.Proof.KI.Body
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen Cert.KernelIdeal.Body Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- The point's query block, from the four blocks staged for it. -/
def blkAt (c : Dev nD) (t : Fin cfg0.N) : Blk F := blk (iblk m c 0 t) (iblk m c 2 t) (iblk m c 3 t) (iblk m c 4 t)

/-- The block of the gradient of the queries that point `t` stores. -/
def queryAt (c : Dev nD) (t : Fin cfg0.N) : Vec F S16x128x256 .bf16 := ptQ (grid0.coords t) (blkAt m c t) (iblk m c 1 t)

/-- The gradient of keys and values after the first `n` points. -/
def gradAt (c : Dev nD) : ℕ → Vec F S4096x256 .f32
  | 0 => k0_pay133 (F := F)
  | n + 1 => if h : n < cfg0.N then ptY (grid0.coords ⟨n, h⟩) (blkAt m c ⟨n, h⟩) (iblk m c 1 ⟨n, h⟩) (gradAt c n) else gradAt c n

theorem gradAt_succ (c : Dev nD) (t : Fin cfg0.N) :
    gradAt m c (t.val + 1) = ptY (grid0.coords t) (blkAt m c t) (iblk m c 1 t) (gradAt m c t.val) := by
  rw [gradAt, dif_pos t.isLt]

/-- The first point does not read what the gradient's buffer held. -/
theorem ptY_first (i : grid0.Coords) (h : (i 0).val = 0) (B : Blk F) (K : Vec F S4096x256 .bf16) (Y Y' : Vec F S4096x256 .f32) :
    ptY i B K Y = ptY i B K Y' := by
  unfold ptY
  rw [show initY i Y = initY i Y' by unfold initY; rw [if_pos h, if_pos h]]

/-- The proof data: inputs left at their blocks, the two outputs at what the point's equations give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => queryAt m c t
    | ⟨6, _⟩ => gradAt m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = queryAt m c t := by dsimp only [dats]
theorem after0_6 (c : Dev nD) (t : Fin cfg0.N) : (dats m 0 c).after 6 t = gradAt m c (t.val + 1) := by dsimp only [dats]

/-- Every input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem N_32 : cfg0.N = 32 := by decide +kernel

/-- The grid has one axis: a point's coordinate is its number. -/
theorem coords_val : ∀ t : Fin cfg0.N, ((grid0.coords t) 0).val = t.val := by decide +kernel

/-- Point `t` leaves, over what it finds in the gradient's buffer, the gradient after `t + 1` points. -/
theorem grad_step (c : Dev nD) (t : Fin cfg0.N) (d) :
    ptY (grid0.coords t) (blkAt m c t) (iblk m c 1 t) ((dats m 0 c).before 6 t d) = gradAt m c (t.val + 1) := by
  rw [gradAt_succ]
  by_cases h : t.val = 0
  · exact ptY_first _ ((coords_val t).trans h) _ _ _ _
  · have hN : t.val < 32 := N_32 ▸ t.isLt
    rw [Pipeline.Dat.before_out_kept (dats m 0 c) 6 rfl t h
      (Bool.eq_false_iff.mpr fun hf => by have := (flush0_6 _).mp hf; dsimp only at this; omega)
      (fun _ => rfl) (fun _ _ => rfl) d, after0_6]
    dsimp only
    rw [show t.val - 1 + 1 = t.val by omega]

/-- The gradient of the queries is stored at every point. -/
theorem idle5 : ∀ i : grid0.Coords, cfg0.idle 5 i = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at a point, from the buffers as the pipeline hands them over to the buffers as the proof data describe them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ (iblk m c 0 t) (iblk m c 1 t) (iblk m c 2 t) (iblk m c 3 t)
    (iblk m c 4 t) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [show ptY (grid0.coords t) (blk (iblk m c 0 t) (iblk m c 2 t) (iblk m c 3 t) (iblk m c 4 t)) (iblk m c 1 t)
      ((dats m 0 c).before 6 t d6) = gradAt m c (t.val + 1) from grad_step m c t d6]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The pipeline's obligation, at every point. -/
theorem body_obligation (c : Dev nD) :
    BodyObligation (dats (F := F) m 0 c) (defs₀ (F := F)) Variants.none () Set.univ := fun t => by
  rw [bigSep_W0, bigSep_W0, defs₀_row, idle5]
  exact triple_restated (sound_body m c t) rfl .rfl fun _ => .rfl

/-! ## The launch -/

set_option backward.isDefEq.respectTransparency.types false in
/-- Every run of the program ends, with every counter at zero and every window's array at what the proof data say. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Run

end
-- ==== Proof.Val.Stage.lean ====
/-
  The operations of the attention's forward pass and of its gradient, one definition for each: the terms that the two
  programs' host operations compose, as functions of the five arguments.
-/
module

public import proofs.«01_k».proof.Proof.Gen.ReferenceIdeal

@[expose] public section

noncomputable section

namespace Cert.Val.Stage

open Cert.ReferenceIdeal Cert.ReferenceIdeal.Gen Idealize.ShloMosaic Idealize.ShloMosaic.StableHlo

variable {F : FTy → Type} [FloatOps F]

abbrev T3 (F : FTy → Type) := FVec F S16x4096x4096 .f32
abbrev T2 (F : FTy → Type) := FVec F S16x4096 .f32
abbrev T1 (F : FTy → Type) := FVec F S16x4096x1 .f32
abbrev TQ (F : FTy → Type) := FVec F S16x4096x128 .f32
abbrev TK (F : FTy → Type) := FVec F S4096x128 .f32

/-- Scores, scaled. -/
def s (ql qr : TQ F) (kv kr : TK F) : T3 F :=
  mulf (addf (Host.dotGeneral dot_S16x4096x128_S4096x128_S16x4096x4096_2_1_01_0_n_n none ql kv)
      (Host.dotGeneral dot_S16x4096x128_S4096x128_S16x4096x4096_2_1_01_0_n_n none qr kr))
    (broadcastInDim S16x4096x4096 ![] bcast_S_S16x4096x4096 (constant S_ .f32 0x3D93CD3A#32))

/-- The chunk of each position, by floor division; -/
def chunk : IVec S4096 32 :=
  select
    (andi
      (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- which keys a query sees; -/
def mask : IVec S16x4096x4096 1 :=
  broadcastInDim S16x4096x4096 ![1, 2] bcast_S4096x4096_S16x4096x4096_1_2
    (cmpi .sle
      (broadcastInDim S4096x4096 ![0, 1] bcast_S1x4096_S4096x4096_0_1 (broadcastInDim S1x4096 ![1] bcast_S4096_S1x4096_1 chunk))
      (broadcastInDim S4096x4096 ![0, 1] bcast_S4096x1_S4096x4096_0_1 (broadcastInDim S4096x1 ![0] bcast_S4096_S4096x1_0 chunk)))

/-- the masked scores; -/
def sm (ql qr : TQ F) (kv kr : TK F) : T3 F :=
  select mask (s ql qr kv kr) (broadcastInDim S16x4096x4096 ![] bcast_S_S16x4096x4096 (id (constant S_ .f32 0xFF800000#32)))

/-- their maximum over the keys, -/
def mx (ql qr : TQ F) (kv kr : TK F) : T2 F :=
  Host.reduce FloatOps.maximumf (sm ql qr kv kr) (constant S_ .f32 0xFF800000#32) reducesTo_S16x4096x4096_S16x4096_d2 h_S_

/-- kept away from below; -/
def above (x : T2 F) : T2 F := maximumf (broadcastInDim S16x4096 ![] bcast_S_S16x4096 (constant S_ .f32 0xFF800000#32)) x

/-- a column of rows' numbers, spread over the keys. -/
def col (x : T2 F) : T1 F := broadcastInDim S16x4096x1 ![0, 1] bcast_S16x4096_S16x4096x1_0_1 x
def wide (x : T1 F) : T3 F := broadcastInDim S16x4096x4096 ![0, 1, 2] bcast_S16x4096x1_S16x4096x4096_0_1_2 x

/-- The sum over the keys. -/
def sum (x : T3 F) : T2 F := Host.reduceAdd x (constant S_ .f32 0x00000000#32) reducesTo_S16x4096x4096_S16x4096_d2 h_S_

/-- Exponentials over the shift `m`, -/
def ex (ql qr : TQ F) (kv kr : TK F) (m : T2 F) : T3 F := Host.exp (subf (sm ql qr kv kr) (wide (col m)))

abbrev e (ql qr : TQ F) (kv kr : TK F) : T3 F := ex ql qr kv kr (above (mx ql qr kv kr))

/-- their sum, -/
def L (ql qr : TQ F) (kv kr : TK F) : T1 F := col (sum (e ql qr kv kr))

/-- the probabilities, -/
def p (ql qr : TQ F) (kv kr : TK F) : T3 F := Host.divf (e ql qr kv kr) (wide (L ql qr kv kr))

/-- the output, -/
def o (ql qr : TQ F) (kv kr : TK F) : TQ F := Host.dotGeneral dot_S16x4096x4096_S4096x128_S16x4096x128_2_0_01_1_n_n none (p ql qr kv kr) kv

/-- and the log-sums. -/
def logsum (m z : T2 F) : T1 F := addf (col m) (Host.log (col z))

abbrev lse (ql qr : TQ F) (kv kr : TK F) : T1 F := logsum (mx ql qr kv kr) (sum (ex ql qr kv kr (mx ql qr kv kr)))

/-- The gradient of the probabilities, -/
def dp (kv : TK F) (g : TQ F) : T3 F := Host.dotGeneral dot_S16x4096x128_S4096x128_S16x4096x4096_2_1_01_0_n_n none g kv

/-- the rows' correction, from the quotient's denominator: summed, negated, -/
def tneg (ql qr : TQ F) (kv kr : TK F) (g : TQ F) : T1 F :=
  Host.negf (shapeCast S16x4096x1
    (sum (mulf (mulf (dp kv g) (wide (Host.divf (broadcastInDim S16x4096x1 ![] bcast_S_S16x4096x1 (constant S_ .f32 0x3F800000#32))
      (mulf (L ql qr kv kr) (L ql qr kv kr))))) (e ql qr kv kr))) shapeCasts_S16x4096_S16x4096x1)

/-- and spread over the keys; -/
def twide (ql qr : TQ F) (kv kr : TK F) (g : TQ F) : T3 F :=
  broadcastInDim S16x4096x4096 ![0, 1] bcast_S16x4096_S16x4096x4096_0_1
    (Host.reduceAdd (tneg ql qr kv kr g) (constant S_ .f32 0x00000000#32) reducesTo_S16x4096x1_S16x4096_d2 h_S_)

/-- the gradient of the scores, -/
def ds (ql qr : TQ F) (kv kr : TK F) (g : TQ F) : T3 F :=
  mulf
    (select mask (mulf (addf (Host.divf (dp kv g) (wide (L ql qr kv kr))) (twide ql qr kv kr g)) (e ql qr kv kr))
      (broadcastInDim S16x4096x4096 ![] bcast_S_S16x4096x4096 (constant S_ .f32 0x00000000#32)))
    (broadcastInDim S16x4096x4096 ![] bcast_S_S16x4096x4096 (constant S_ .f32 0x3D93CD3A#32))

/-- of the queries, -/
def dq (ql qr : TQ F) (kv kr : TK F) (g : TQ F) : FVec F S16x4096x256 .bf16 :=
  truncf .bf16 (concatenate S16x4096x256 2
    [⟨S16x4096x128, Host.dotGeneral dot_S16x4096x4096_S4096x128_S16x4096x128_2_0_01_1_n_n none (ds ql qr kv kr g) kv⟩,
     ⟨S16x4096x128, Host.dotGeneral dot_S16x4096x4096_S4096x128_S16x4096x128_2_0_01_1_n_n none (ds ql qr kv kr g) kr⟩]
    concatenates_S16x4096x128_S16x4096x128_S16x4096x256_d2) bitsLt_bf16_f32

/-- and of keys and values. -/
def dk (ql qr : TQ F) (kv kr : TK F) (g : TQ F) : FVec F S4096x256 .f32 :=
  concatenate S4096x256 1
    [⟨S4096x128, addf (transpose S4096x128 [1, 0]
        (Host.dotGeneral dot_S16x4096x128_S16x4096x4096_S128x4096_01_01_2_2_n_n none g (p ql qr kv kr)) transposes_S128x4096_S4096x128_1_0)
        (Host.dotGeneral dot_S16x4096x4096_S16x4096x128_S4096x128_01_01_2_2_n_n none (ds ql qr kv kr g) ql)⟩,
     ⟨S4096x128, Host.dotGeneral dot_S16x4096x4096_S16x4096x128_S4096x128_01_01_2_2_n_n none (ds ql qr kv kr g) qr⟩]
    concatenates_S4096x128_S4096x128_S4096x256_d1

end Cert.Val.Stage

end
-- ==== Proof.Val.Ref.lean ====
/-
  The reference's two results as the terms of `Stage`: the gradients that its host operations compose.
-/
module

public import proofs.«01_k».proof.Proof.Val.Stage
public import proofs.«01_k».proof.Proof.Gen.ReferenceIdeal.Run

@[expose] public section

set_option maxRecDepth 16384

noncomputable section

namespace Cert.Val

open Cert.ReferenceIdeal Cert.ReferenceIdeal.Gen Idealize.ShloMosaic Idealize.ShloMosaic.TcCoe Idealize.ShloMosaic.StableHlo
variable {F : FTy → Type} [FloatOps F]

theorem ref_dq (m : (ℓ : Loc nD τ sig) → Buf (Elt F) ℓ) (c : Dev nD) :
    Value.res_main_v66 m c = Stage.dq (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v66
  rfl

theorem ref_dk (m : (ℓ : Loc nD τ sig) → Buf (Elt F) ℓ) (c : Dev nD) :
    Value.res_main_v67 m c = Stage.dk (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v67
  rfl

end Cert.Val

end
-- ==== Proof.Val.Block.lean ====
/-
  One query block's share of the gradient in real numbers: 2048 rows (16 heads of 128 queries) against `w` key rows.
-/
module

public import Idealize.ShloMosaic.Lib.Pointwise

@[expose] public section

noncomputable section

namespace Cert.Val

open Idealize.ShloMosaic

/-- A query block in real numbers: scaled queries, the output's cotangent, the rows' log-sums in base 2, the output. -/
structure RBlk where
  q : Fin 2048 → Fin 256 → ℝ
  dO : Fin 2048 → Fin 128 → ℝ
  lse : Fin 2048 → ℝ
  o : Fin 2048 → Fin 128 → ℝ

/-- A row of the first half of the heads, and of the second; one of the first 128 columns. -/
def lo (r : Fin 1024) : Fin 2048 := ⟨r.val, by omega⟩
def hi (r : Fin 1024) : Fin 2048 := ⟨1024 + r.val, by omega⟩
def col (c : Fin 128) : Fin 256 := ⟨c.val, by omega⟩

/-- The row of head `h`'s query `i` of a block. -/
def rowOf (h : Fin 16) (i : Fin 128) : Fin 2048 := ⟨128 * h.val + i.val, by omega⟩

/-- The scale of the scores, as the programs' literal states it. -/
def sigma : ℝ := (Ideal.ofBits .f32 0x3D93CD3A#32).toReal

variable (b : RBlk) {w : ℕ} (k : Fin w → Fin 256 → ℝ) (vis : Fin 2048 → Fin w → Prop)

/-- The row's product of cotangent and output. -/
def RBlk.delta (r : Fin 2048) : ℝ := ∑ c, b.dO r c * b.o r c

open Classical in
/-- The probability that row `r` gives to key `j`: zero unless the key is visible. -/
def RBlk.p (r : Fin 2048) (j : Fin w) : ℝ := if vis r j then Real.rpow 2 (∑ c, b.q r c * k j c - b.lse r) else 0

/-- The gradient of row `r`'s score of key `j`. -/
def RBlk.ds (r : Fin 2048) (j : Fin w) : ℝ := b.p k vis r j * (∑ c, b.dO r c * k j (col c) - b.delta r)

/-- The keys that a row of query block `t` sees among those from row `j0` on: a chunk of 64 at a time. -/
def visAt (t j0 : ℕ) (r : Fin 2048) (j : Fin w) : Prop := (j0 + j.val) / 64 ≤ (128 * t + r.val % 128) / 64

/-- What the two halves of the heads add to the gradient of keys and values, in scores and in values. -/
def RBlk.addS (l : Fin 1024 → Fin 2048) (j : Fin w) (c : Fin 256) : ℝ := (∑ r, b.ds k vis (l r) j * b.q (l r) c) * Real.log 2
def RBlk.addV (l : Fin 1024 → Fin 2048) (j : Fin w) (c : Fin 128) : ℝ := ∑ r, b.p k vis (l r) j * b.dO (l r) c

/-- What the key rows add to the gradient of a row's query. -/
def RBlk.addQ (r : Fin 2048) (c : Fin 256) : ℝ := ∑ j, b.ds k vis r j * k j c

/-- The scale's word is a real number. -/
theorem sigma_eq : Ideal.ofBits .f32 0x3D93CD3A#32 = ((sigma : ℝ) : EReal) := by
  have h : ∃ x : ℝ, Ideal.ofBits .f32 0x3D93CD3A#32 = (x : EReal) := ⟨_, by simp [Ideal.ofBits, Ideal.ieee, -EReal.coe_mul]; rfl⟩
  obtain ⟨x, hx⟩ := h
  rw [sigma, hx, EReal.toReal_coe]

/-- The masked probability with the order of the naturals as its condition. -/
theorem RBlk.p_visAt (b : RBlk) {w : ℕ} (k : Fin w → Fin 256 → ℝ) (t j0 : ℕ) (r : Fin 2048) (j : Fin w) :
    (if (j0 + j.val) / 64 ≤ (128 * t + r.val % 128) / 64 then Real.rpow 2 (∑ c, b.q r c * k j c - b.lse r) else 0) = b.p k (visAt t j0) r j := by
  unfold RBlk.p visAt
  congr

/-- A finite sum of reals, read in the extended reals. -/
theorem coe_sum {ι : Type*} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s

end Cert.Val

end
-- ==== Proof.Val.Words.lean ====
/-
  The words of the visibility mask: a row's number within its heads, the floor division of a row's or a key's number
  by 64, and the comparison of the two quotients.
-/
module

public import Idealize.ShloMosaic.Lib.Pointwise

@[expose] public section

set_option maxRecDepth 16384

noncomputable section

namespace Cert.Val

open Idealize.ShloMosaic

/-- The kernel's remainder of a row's number by 128, as it is computed. -/
theorem row_word : ∀ r : Fin 1024,
    Scalar.select
      (IntOp.andi
        (IntOp.xori (IntOp.cmpi .slt (IntOp.remsi .vector (BitVec.ofNat 32 r.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 r.val) (Scalar.select (Scalar.cmpi .eq 128#32 0#32) 1#32 128#32)) 0#32))
      (IntOp.addi (IntOp.remsi .vector (BitVec.ofNat 32 r.val) (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32))
      = BitVec.ofNat 32 (r.val % 128) := by decide +kernel

/-- The kernel's floor division of a number below 4096 by 64, as it is computed. -/
theorem chunk_word_all : ∀ n : Fin 4096,
    Scalar.select
      (IntOp.andi
        (IntOp.cmpi .ne
          (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 64#32 0#32)) (Scalar.extui (Scalar.cmpi .slt 64#32 0#32))))
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32) = BitVec.ofNat 32 (n.val / 64) := by decide +kernel

theorem chunk_word (n : ℕ) (h : n < 4096) :
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := chunk_word_all ⟨n, h⟩

/-- A product and a sum of words of small numbers. -/
theorem mul_add_word (a b n : ℕ) : IntOp.addi (Scalar.muli (BitVec.ofNat 32 a) (BitVec.ofNat 32 b)) (BitVec.ofNat 32 n) = BitVec.ofNat 32 (b * a + n) := by
  show BitVec.ofNat 32 a * BitVec.ofNat 32 b + BitVec.ofNat 32 n = _
  rw [← BitVec.ofNat_mul, ← BitVec.ofNat_add, Nat.mul_comm]

/-- The comparison of two quotients. -/
theorem sle_word : ∀ a b : Fin 64, IntOp.cmpi .sle (BitVec.ofNat 32 a.val) (BitVec.ofNat 32 b.val) = 1#1 ↔ a.val ≤ b.val := by
  decide +kernel

/-- A masked score's power of two: zero where the mask's −∞ was selected. -/
theorem exp2_masked (s l : ℝ) (J R : ℕ) (hJ : J < 4096) (hR : R < 4096) :
    Ideal.exp2 (Scalar.select (IntOp.cmpi .sle (BitVec.ofNat 32 (J / 64)) (BitVec.ofNat 32 (R / 64))) (s : EReal) ⊥ - (l : EReal))
      = ((if J / 64 ≤ R / 64 then Real.rpow 2 (s - l) else 0 : ℝ) : EReal) := by
  have h : IntOp.cmpi .sle (BitVec.ofNat 32 (J / 64)) (BitVec.ofNat 32 (R / 64)) = 1 ↔ J / 64 ≤ R / 64 :=
    sle_word ⟨J / 64, by omega⟩ ⟨R / 64, by omega⟩
  by_cases hc : J / 64 ≤ R / 64
  · rw [if_pos hc, Scalar.select, if_pos (h.mpr hc), ← EReal.coe_sub, Ideal.exp2_coe]
  · rw [if_neg hc, Scalar.select, if_neg (fun e => hc (h.mp e)), EReal.bot_sub, Ideal.exp2_bot]
    rfl

end Cert.Val

end
-- ==== Proof.Val.Pay.lean ====
/-
  The arrays of a query block as real numbers, and what a trip over 512 key rows before the query block computes.
-/
module

public import proofs.«01_k».proof.Proof.Val.Block
public import proofs.«01_k».proof.Proof.Val.Words
public import proofs.«01_k».proof.Proof.KI.Diag
public import Idealize.ShloMosaic.PureOps.IdealRules

@[expose] public section

noncomputable section

namespace Cert.Val

open Idealize.ShloMosaic Cert.KernelIdeal Cert.KernelIdeal.Gen Cert.KernelIdeal.Body

/-- The arrays of a query block hold the real numbers `b`. -/
structure IsBlk (B : Blk Ideal) (b : RBlk) : Prop where
  q : ∀ r c, B.q (ix2 r c) = (b.q r c : EReal)
  dO : ∀ r c, B.dO (ix2 r c) = (b.dO r c : EReal)
  lse : ∀ r c, B.lse (ix2 r c) = (b.lse r : EReal)
  dOw : ∀ r c, B.dOw (ix2 r c) = (b.dO r c : EReal)
  ow : ∀ r c, B.ow (ix2 r c) = (b.o r c : EReal)

/-- The named constants. -/
theorem ln2_named : Named.named (F := Ideal) (φ := .f32) κ "ln2" 0x3F317218#32 = ((Real.log 2 : ℝ) : EReal) :=
  IdealRules.named_const.ideal_named_scalar _ _ _ _ rfl
theorem mask_named : Named.named (F := Ideal) (φ := .f32) κ "mask" 0xF149F2CA#32 = (⊥ : EReal) :=
  IdealRules.named_const.ideal_named_scalar _ _ _ _ rfl

/-- The power of two at the extended reals. -/
theorem exp2_at (x : EReal) : (FloatOps.exp2 (F := Ideal) (φ := .f32) x : EReal) = Ideal.exp2 x := rfl

variable {B : Blk Ideal} {b : RBlk} (hB : IsBlk B b)

include hB in
theorem delta_at (r : Fin 2048) (c : Fin 1) : B.delta (ix2 r c) = ((b.delta r : ℝ) : EReal) := by
  pointwise [k0_pay139]
  simp only [hB.dOw, hB.ow, ← EReal.coe_mul, ← coe_sum]
  rfl

section
variable {kb : Vec Ideal S512x256 .bf16} {k : Fin 512 → Fin 256 → ℝ} (hk : ∀ j c, kb (ix2 j c) = (k j c : EReal))

/-- Before the query block every key is visible. -/
abbrev vtrue {w : ℕ} : Fin 2048 → Fin w → Prop := fun _ _ => True

include hB hk

theorem pay4_at (r : Fin 1024) (j : Fin 512) : k0_pay4 B.q B.lse kb (ix2 r j) = ((b.p k vtrue (lo r) j : ℝ) : EReal) := by
  pointwise [k0_pay4, k0_pay1, k0_pay2]
  simp only [hB.q, hB.lse, hk, exp2_at, ← EReal.coe_mul, ← coe_sum, ← EReal.coe_sub, Ideal.exp2_coe]
  simp only [RBlk.p, if_true]
  rfl

theorem pay5_at (r : Fin 1024) (j : Fin 512) : k0_pay5 B.q B.dO B.lse B.delta kb (ix2 r j) = ((b.ds k vtrue (lo r) j : ℝ) : EReal) := by
  pointwise [k0_pay5, k0_pay1, k0_pay3]
  simp only [pay4_at hB hk, hB.dO, delta_at hB, hk, ← EReal.coe_mul, ← coe_sum, ← EReal.coe_sub]
  rfl

theorem pay6_at (y : Vec Ideal S512x256 .f32) (yr : Fin 512 → Fin 256 → ℝ) (hy : ∀ j c, y (ix2 j c) = (yr j c : EReal)) (j : Fin 512) (c : Fin 256) :
    k0_pay6 B.q B.dO B.lse B.delta kb y (ix2 j c) = ((yr j c + b.addS k vtrue lo j c : ℝ) : EReal) := by
  pointwise [k0_pay6, k0_pay2]
  simp only [pay5_at hB hk, hB.q, hy, ln2_named, ← EReal.coe_mul, ← coe_sum, ← EReal.coe_add]
  rfl

theorem pay7_at (y : Vec Ideal S512x128 .f32) (yr : Fin 512 → Fin 128 → ℝ) (hy : ∀ j c, y (ix2 j c) = (yr j c : EReal)) (j : Fin 512) (c : Fin 128) :
    k0_pay7 B.q B.dO B.lse kb y (ix2 j c) = ((yr j c + b.addV k vtrue lo j c : ℝ) : EReal) := by
  pointwise [k0_pay7, k0_pay3]
  simp only [pay4_at hB hk, hB.dO, hy, ← EReal.coe_mul, ← coe_sum, ← EReal.coe_add]
  rfl

theorem pay8_at (acc : FVec Ideal S2048x256 .f32) (ar : Fin 2048 → Fin 256 → ℝ) (ha : ∀ r c, acc (ix2 r c) = (ar r c : EReal)) (r : Fin 1024) (c : Fin 256) :
    k0_pay8 B.q B.dO B.lse B.delta acc kb (ix2 r c) = ((ar (lo r) c + b.addQ k vtrue (lo r) c : ℝ) : EReal) := by
  pointwise [k0_pay8, k0_pay1]
  simp only [pay5_at hB hk, hk, ha, ← EReal.coe_mul, ← coe_sum, ← EReal.coe_add]
  rfl

theorem pay141_at (r : Fin 1024) (j : Fin 512) :
    k0_pay141 (k0_pay11 B.q kb) (k0_pay12 B.lse) (ix2 r j) = ((b.p k vtrue (hi r) j : ℝ) : EReal) := by
  pointwise [k0_pay141, k0_pay11, k0_pay12, k0_pay9, k0_pay1]
  simp only [hB.q, hB.lse, hk, exp2_at, ← EReal.coe_mul, ← coe_sum, ← EReal.coe_sub, Ideal.exp2_coe]
  simp only [RBlk.p, if_true]
  rfl

theorem pay142_at (r : Fin 1024) (j : Fin 512) :
    k0_pay142 B.dOw B.ow (k0_pay1 kb) (k0_pay10 B.dO) (k0_pay11 B.q kb) (k0_pay12 B.lse) (ix2 r j) = ((b.ds k vtrue (hi r) j : ℝ) : EReal) := by
  have h1 : ∀ j c, k0_pay1 kb (ix2 j c) = (k j c : EReal) := fun j c => by pointwise [k0_pay1]; exact hk j c
  have h2 : ∀ r c, k0_pay10 B.dO (ix2 r c) = (b.dO (hi r) c : EReal) := fun r c => by pointwise [k0_pay10]; exact hB.dO _ c
  pointwise [k0_pay142]
  simp only [pay141_at hB hk, h1, h2, delta_at hB, ← EReal.coe_mul, ← coe_sum, ← EReal.coe_sub]
  rfl

theorem pay143_at (y : Vec Ideal S512x256 .f32) (yr : Fin 512 → Fin 256 → ℝ) (hy : ∀ j c, y (ix2 j c) = (yr j c : EReal)) (j : Fin 512) (c : Fin 256) :
    k0_pay143 B.dOw B.ow (k0_pay1 kb) (k0_pay9 B.q) (k0_pay10 B.dO) (k0_pay11 B.q kb) (k0_pay12 B.lse) y (ix2 j c)
      = ((yr j c + b.addS k vtrue hi j c : ℝ) : EReal) := by
  have h2 : ∀ r c, k0_pay9 B.q (ix2 r c) = (b.q (hi r) c : EReal) := fun r c => by pointwise [k0_pay9]; exact hB.q _ c
  pointwise [k0_pay143]
  simp only [pay142_at hB hk, h2, hy, ln2_named, ← EReal.coe_mul, ← coe_sum, ← EReal.coe_add]
  rfl

theorem pay144_at (y : Vec Ideal S512x128 .f32) (yr : Fin 512 → Fin 128 → ℝ) (hy : ∀ j c, y (ix2 j c) = (yr j c : EReal)) (j : Fin 512) (c : Fin 128) :
    k0_pay144 (k0_pay10 B.dO) (k0_pay11 B.q kb) (k0_pay12 B.lse) y (ix2 j c) = ((yr j c + b.addV k vtrue hi j c : ℝ) : EReal) := by
  have h2 : ∀ r c, k0_pay10 B.dO (ix2 r c) = (b.dO (hi r) c : EReal) := fun r c => by pointwise [k0_pay10]; exact hB.dO _ c
  pointwise [k0_pay144]
  simp only [pay141_at hB hk, h2, hy, ← EReal.coe_mul, ← coe_sum, ← EReal.coe_add]
  rfl

/-- The gradient of the queries after the trip, both halves. -/
theorem pay145_at (acc : FVec Ideal S2048x256 .f32) (ar : Fin 2048 → Fin 256 → ℝ) (ha : ∀ r c, acc (ix2 r c) = (ar r c : EReal)) (r : Fin 2048) (c : Fin 256) :
    k0_pay145 B.dOw B.ow acc (k0_pay1 kb) (k0_pay8 B.q B.dO B.lse B.delta acc kb) (k0_pay10 B.dO) (k0_pay11 B.q kb) (k0_pay12 B.lse) (ix2 r c)
      = ((ar r c + b.addQ k vtrue r c : ℝ) : EReal) := by
  have h1 : ∀ j c, k0_pay1 kb (ix2 j c) = (k j c : EReal) := fun j c => by pointwise [k0_pay1]; exact hk j c
  pointwise [k0_pay145]
  split
  · rename_i h
    exact pay8_at hB hk acc ar ha ⟨r.val, h⟩ c
  · rename_i h
    have e : ∀ p, (⟨1024 + (r.val - 1024), p⟩ : Fin 2048) = r := fun p => Fin.ext (by show 1024 + (r.val - 1024) = _; omega)
    have e' : hi ⟨r.val - 1024, by omega⟩ = r := e _
    simp only [pay142_at hB hk, h1, e, e', ha, ← EReal.coe_mul, ← coe_sum, ← EReal.coe_add]
    rfl

end

end Cert.Val

end
-- ==== Proof.Val.Rows.lean ====
/-
  Rows of a [4096, 256] array in real numbers: a block of rows is read, and a sum is added into it.
-/
module

public import proofs.«01_k».proof.Proof.Val.Pay

@[expose] public section

noncomputable section

namespace Cert.Val

open Idealize.ShloMosaic Cert.KernelIdeal Cert.KernelIdeal.Gen Cert.KernelIdeal.Body Cert.Held

/-- Row `j` of the block of rows from `a` on, and column `c` of an array's first columns. -/
def sh {w : ℕ} (a : ℕ) (ha : a + w ≤ 4096) (j : Fin w) : Fin 4096 := ⟨a + j.val, by omega⟩
def sc {m : ℕ} (hm : m ≤ 256) (c : Fin m) : Fin 256 := ⟨c.val, by omega⟩

/-- The rectangle of `w` rows from `a` on, `m` columns of each, embeds as expected. -/
theorem emb_rows {off : Fin 2 → ℕ} {w m a : ℕ} (hoff : off = ![a, 0]) (inb : ∀ x, off x + (![w, m] : Fin 2 → ℕ) x ≤ S4096x256.size x)
    (j : Fin w) (c : Fin m) (ha : a + w ≤ 4096) (hm : m ≤ 256) :
    (Rect.unit (s := S4096x256) off ![w, m] inb).emb (ix2 j c) = ix2 (sh a ha j) (sc hm c) := by
  subst hoff
  funext x
  apply Fin.ext
  rw [Rect.emb_apply]
  fin_cases x
  · show a + 1 * j.val = a + j.val; omega
  · show 0 + 1 * c.val = c.val; omega

/-- A block of rows holds the array's rows. -/
theorem get_rows {off : Fin 2 → ℕ} {w m a : ℕ} (hoff : off = ![a, 0]) (inb : ∀ x, off x + (![w, m] : Fin 2 → ℕ) x ≤ S4096x256.size x)
    (ha : a + w ≤ 4096) (hm : m ≤ 256) {α : Type} (X : S4096x256.Idx → α) (j : Fin w) (c : Fin m) :
    Cert.Held.get (Rect.unit (s := S4096x256) off ![w, m] inb) X (ix2 j c) = X (ix2 (sh a ha j) (sc hm c)) := by
  unfold Cert.Held.get
  rw [emb_rows hoff inb j c ha hm]

/-- A block of rows read, a sum `G` added, and stored: the array with `G` added in these rows. -/
theorem add_rows {off : Fin 2 → ℕ} {w m a : ℕ} (hoff : off = ![a, 0]) (inb : ∀ x, off x + (![w, m] : Fin 2 → ℕ) x ≤ S4096x256.size x)
    (ha : a + w ≤ 4096) (hm : m ≤ 256) (f : ((⟨2, ![w, m]⟩ : Shape).Idx → EReal) → ((⟨2, ![w, m]⟩ : Shape).Idx → EReal))
    (G : Fin 4096 → Fin 256 → ℝ)
    (hf : ∀ (y : (⟨2, ![w, m]⟩ : Shape).Idx → EReal) (yr : Fin w → Fin m → ℝ), (∀ j c, y (ix2 j c) = (yr j c : EReal)) →
      ∀ j c, f y (ix2 j c) = ((yr j c + G (sh a ha j) (sc hm c) : ℝ) : EReal))
    (Y : S4096x256.Idx → EReal) (yr : Fin 4096 → Fin 256 → ℝ) (hY : ∀ J C, Y (ix2 J C) = (yr J C : EReal)) (J : Fin 4096) (C : Fin 256) :
    put (Rect.unit (s := S4096x256) off ![w, m] inb) (f (Cert.Held.get (Rect.unit (s := S4096x256) off ![w, m] inb) Y)) Y (ix2 J C)
      = ((yr J C + (if a ≤ J.val ∧ J.val < a + w ∧ C.val < m then G J C else 0) : ℝ) : EReal) := by
  by_cases h : a ≤ J.val ∧ J.val < a + w ∧ C.val < m
  · rw [if_pos h]
    obtain ⟨h1, h2, h3⟩ := h
    have e := emb_rows hoff inb (⟨J.val - a, by omega⟩ : Fin w) (⟨C.val, h3⟩ : Fin m) ha hm
    have eJ : sh a ha (⟨J.val - a, by omega⟩ : Fin w) = J := Fin.ext (by show a + (J.val - a) = J.val; omega)
    rw [eJ] at e
    rw [show (ix2 J C : S4096x256.Idx) = _ from e.symm, put_emb]
    have := hf (Cert.Held.get (Rect.unit (s := S4096x256) off ![w, m] inb) Y) (fun j c => yr (sh a ha j) (sc hm c))
      (fun j c => by rw [get_rows hoff inb ha hm]; exact hY _ _) ⟨J.val - a, by omega⟩ ⟨C.val, h3⟩
    rw [eJ] at this
    exact this
  · rw [if_neg h, add_zero, put_of_not_mem]
    · exact hY J C
    · intro x hx
      apply h
      have ex : x = ix2 (n0 := w) (n1 := m) (x 0) (x 1) := by funext z; fin_cases z <;> rfl
      rw [ex, emb_rows hoff inb (x 0) (x 1) ha hm] at hx
      have h0 := congrArg (fun z : S4096x256.Idx => (z 0).val) hx
      have h1 := congrArg (fun z : S4096x256.Idx => (z 1).val) hx
      have l0 : (x 0).val < w := (x 0).isLt
      have l1 : (x 1).val < m := (x 1).isLt
      change a + (x 0).val = J.val at h0
      change (x 1).val = C.val at h1
      omega

/-! ## A block of key rows among all -/

/-- The keys that a row of query block `t` sees. -/
def visAll (t : ℕ) (r : Fin 2048) (j : Fin 4096) : Prop := j.val / 64 ≤ (128 * t + r.val % 128) / 64

section
variable (b : RBlk) (k : Fin 4096 → Fin 256 → ℝ) {w : ℕ} (a : ℕ) (ha : a + w ≤ 4096) (vis' : Fin 2048 → Fin w → Prop) (vis : Fin 2048 → Fin 4096 → Prop)
  (hv : ∀ r (j : Fin w), vis' r j ↔ vis r (sh a ha j))
include hv

theorem p_block (r : Fin 2048) (j : Fin w) : b.p (fun j : Fin w => k (sh a ha j)) vis' r j = b.p k vis r (sh a ha j) := by
  unfold RBlk.p
  by_cases h : vis' r j
  · rw [if_pos h, if_pos ((hv r j).mp h)]
  · rw [if_neg h, if_neg (fun h' => h ((hv r j).mpr h'))]

theorem ds_block (r : Fin 2048) (j : Fin w) : b.ds (fun j : Fin w => k (sh a ha j)) vis' r j = b.ds k vis r (sh a ha j) := by
  unfold RBlk.ds
  rw [p_block b k a ha vis' vis hv]

theorem addS_block (l : Fin 1024 → Fin 2048) (j : Fin w) (c : Fin 256) :
    b.addS (fun j : Fin w => k (sh a ha j)) vis' l j c = b.addS k vis l (sh a ha j) c := by
  unfold RBlk.addS
  simp only [ds_block b k a ha vis' vis hv]

theorem addV_block (l : Fin 1024 → Fin 2048) (j : Fin w) (c : Fin 128) :
    b.addV (fun j : Fin w => k (sh a ha j)) vis' l j c = b.addV k vis l (sh a ha j) c := by
  unfold RBlk.addV
  simp only [p_block b k a ha vis' vis hv]

theorem addQ_block (r : Fin 2048) (c : Fin 256) :
    b.addQ (fun j : Fin w => k (sh a ha j)) vis' r c = ∑ j : Fin w, b.ds k vis r (sh a ha j) * k (sh a ha j) c := by
  unfold RBlk.addQ
  simp only [ds_block b k a ha vis' vis hv]

end

/-- The values' part, spread over all columns. -/
def RBlk.addW (b : RBlk) (k : Fin 4096 → Fin 256 → ℝ) (vis : Fin 2048 → Fin 4096 → Prop) (l : Fin 1024 → Fin 2048) (J : Fin 4096) (C : Fin 256) : ℝ :=
  if h : C.val < 128 then b.addV k vis l J ⟨C.val, h⟩ else 0

/-- All that a query block adds to row `J` of the gradient of keys and values. -/
def RBlk.addY (b : RBlk) (k : Fin 4096 → Fin 256 → ℝ) (vis : Fin 2048 → Fin 4096 → Prop) (J : Fin 4096) (C : Fin 256) : ℝ :=
  b.addS k vis lo J C + b.addW k vis lo J C + b.addS k vis hi J C + b.addW k vis hi J C

/-- The four sums of a block, added one after the other into the same rows. -/
theorem four_rows {off off' : Fin 2 → ℕ} {w a : ℕ} (hoff : off = ![a, 0]) (hoff' : off' = ![a, 0])
    (inb : ∀ x, off x + (![w, 256] : Fin 2 → ℕ) x ≤ S4096x256.size x) (inb' : ∀ x, off' x + (![w, 128] : Fin 2 → ℕ) x ≤ S4096x256.size x)
    (ha : a + w ≤ 4096) (f1 f3 : ((⟨2, ![w, 256]⟩ : Shape).Idx → EReal) → ((⟨2, ![w, 256]⟩ : Shape).Idx → EReal))
    (f2 f4 : ((⟨2, ![w, 128]⟩ : Shape).Idx → EReal) → ((⟨2, ![w, 128]⟩ : Shape).Idx → EReal))
    (b : RBlk) (k : Fin 4096 → Fin 256 → ℝ) (vis' : Fin 2048 → Fin w → Prop) (vis : Fin 2048 → Fin 4096 → Prop)
    (hv : ∀ r (j : Fin w), vis' r j ↔ vis r (sh a ha j))
    (h1 : ∀ (y : (⟨2, ![w, 256]⟩ : Shape).Idx → EReal) (yr : Fin w → Fin 256 → ℝ), (∀ j c, y (ix2 j c) = (yr j c : EReal)) →
      ∀ j c, f1 y (ix2 j c) = ((yr j c + b.addS (fun j : Fin w => k (sh a ha j)) vis' lo j c : ℝ) : EReal))
    (h2 : ∀ (y : (⟨2, ![w, 128]⟩ : Shape).Idx → EReal) (yr : Fin w → Fin 128 → ℝ), (∀ j c, y (ix2 j c) = (yr j c : EReal)) →
      ∀ j c, f2 y (ix2 j c) = ((yr j c + b.addV (fun j : Fin w => k (sh a ha j)) vis' lo j c : ℝ) : EReal))
    (h3 : ∀ (y : (⟨2, ![w, 256]⟩ : Shape).Idx → EReal) (yr : Fin w → Fin 256 → ℝ), (∀ j c, y (ix2 j c) = (yr j c : EReal)) →
      ∀ j c, f3 y (ix2 j c) = ((yr j c + b.addS (fun j : Fin w => k (sh a ha j)) vis' hi j c : ℝ) : EReal))
    (h4 : ∀ (y : (⟨2, ![w, 128]⟩ : Shape).Idx → EReal) (yr : Fin w → Fin 128 → ℝ), (∀ j c, y (ix2 j c) = (yr j c : EReal)) →
      ∀ j c, f4 y (ix2 j c) = ((yr j c + b.addV (fun j : Fin w => k (sh a ha j)) vis' hi j c : ℝ) : EReal))
    (Y : S4096x256.Idx → EReal) (yr : Fin 4096 → Fin 256 → ℝ) (hY : ∀ J C, Y (ix2 J C) = (yr J C : EReal)) (J : Fin 4096) (C : Fin 256)
    (Y1 Y2 Y3 Y4 : S4096x256.Idx → EReal)
    (e1 : Y1 = put (Rect.unit (s := S4096x256) off ![w, 256] inb) (f1 (Cert.Held.get (Rect.unit (s := S4096x256) off ![w, 256] inb) Y)) Y)
    (e2 : Y2 = put (Rect.unit (s := S4096x256) off' ![w, 128] inb') (f2 (Cert.Held.get (Rect.unit (s := S4096x256) off' ![w, 128] inb') Y1)) Y1)
    (e3 : Y3 = put (Rect.unit (s := S4096x256) off ![w, 256] inb) (f3 (Cert.Held.get (Rect.unit (s := S4096x256) off ![w, 256] inb) Y2)) Y2)
    (e4 : Y4 = put (Rect.unit (s := S4096x256) off' ![w, 128] inb') (f4 (Cert.Held.get (Rect.unit (s := S4096x256) off' ![w, 128] inb') Y3)) Y3) :
    Y4 (ix2 J C)
      = ((yr J C + (if a ≤ J.val ∧ J.val < a + w then b.addY k vis J C else 0) : ℝ) : EReal) := by
  have g1 := add_rows hoff inb ha (by omega) f1 (b.addS k vis lo) (fun y yr hy j c => by rw [h1 y yr hy, addS_block b k a ha vis' vis hv]; rfl) Y yr hY
  have g2 := add_rows hoff' inb' ha (by omega) f2 (b.addW k vis lo) (fun y yr hy j c => by
    rw [h2 y yr hy, addV_block b k a ha vis' vis hv]
    show _ = ((yr j c + (if h : c.val < 128 then b.addV k vis lo (sh a ha j) ⟨c.val, h⟩ else 0) : ℝ) : EReal)
    rw [dif_pos c.isLt]) Y1 _ (e1 ▸ g1)
  have g3 := add_rows hoff inb ha (by omega) f3 (b.addS k vis hi) (fun y yr hy j c => by rw [h3 y yr hy, addS_block b k a ha vis' vis hv]; rfl) Y2 _ (e2 ▸ g2)
  have g4 := add_rows hoff' inb' ha (by omega) f4 (b.addW k vis hi) (fun y yr hy j c => by
    rw [h4 y yr hy, addV_block b k a ha vis' vis hv]
    show _ = ((yr j c + (if h : c.val < 128 then b.addV k vis hi (sh a ha j) ⟨c.val, h⟩ else 0) : ℝ) : EReal)
    rw [dif_pos c.isLt]) Y3 _ (e3 ▸ g3)
  rw [e4, g4 J C]
  congr 1
  have hW : ∀ l, ¬ C.val < 128 → b.addW k vis l J C = 0 := fun l h => by rw [RBlk.addW, dif_neg h]
  have hC : C.val < 256 := C.isLt
  unfold RBlk.addY
  by_cases hJ : a ≤ J.val ∧ J.val < a + w
  · by_cases hc : C.val < 128
    · simp only [hJ, hc, hC, and_self, if_true]; ring
    · simp only [hJ, hc, hC, and_self, and_false, if_true, if_false, hW _ hc]; ring
  · have hJ' : ∀ x : Prop, ¬ (a ≤ J.val ∧ J.val < a + w ∧ x) := fun x h => hJ ⟨h.1, h.2.1⟩
    simp only [hJ, hJ', if_false, add_zero]

end Cert.Val

end
-- ==== Proof.Val.Diag0.lean ====
/-
  What the diagonal key block of width 128 computes, in real numbers.
-/
module

public import proofs.«01_k».proof.Proof.Val.Rows

@[expose] public section

noncomputable section

namespace Cert.Val

open Idealize.ShloMosaic Cert.KernelIdeal Cert.KernelIdeal.Gen Cert.KernelIdeal.Body Cert.Held

namespace W128

/-! The words of the mask: the number of a row's query, and of a key. -/

theorem row_lo (t : ℕ) (r : Fin 1024) (j : Fin 128) : k0_pay29 (BitVec.ofNat 32 t) (ix2 r j) = BitVec.ofNat 32 (128 * t + r.val % 128) := by
  pointwise [k0_pay29]
  simp only [row_word]
  exact mul_add_word t 128 _

theorem row_hi (t : ℕ) (r : Fin 1024) (j : Fin 128) : k0_pay41 (BitVec.ofNat 32 t) (ix2 r j) = BitVec.ofNat 32 (128 * t + (1024 + r.val) % 128) := by
  pointwise [k0_pay41]
  simp only [row_word]
  rw [show (1024 + r.val) % 128 = r.val % 128 by omega]
  exact mul_add_word t 128 _

theorem key_word (n : ℕ) (j : ℕ) : IntOp.addi (Scalar.muli (BitVec.ofNat 32 n) 512#32) (BitVec.ofNat 32 j) = BitVec.ofNat 32 (512 * n + j) :=
  mul_add_word n 512 j

variable {B : Blk Ideal} {b : RBlk} (hB : IsBlk B b)
variable {kb : Vec Ideal S128x256 .bf16} {k : Fin 128 → Fin 256 → ℝ} (hk : ∀ j c, kb (ix2 j c) = (k j c : EReal))
variable {t n : ℕ} (ht : t < 32) (hn : n < 8)

/-! The operands. -/

include hk in
theorem kb_at (j : Fin 128) (c : Fin 256) : k0_pay25 kb (ix2 j c) = (k j c : EReal) := by pointwise [k0_pay25]; exact hk j c

include hB in
theorem qlo_at (r : Fin 1024) (c : Fin 256) : k0_pay26 B.q (ix2 r c) = (b.q (lo r) c : EReal) := by pointwise [k0_pay26]; exact hB.q _ c
include hB in
theorem qhi_at (r : Fin 1024) (c : Fin 256) : k0_pay38 B.q (ix2 r c) = (b.q (hi r) c : EReal) := by pointwise [k0_pay38]; exact hB.q _ c
include hB in
theorem dlo_at (r : Fin 1024) (c : Fin 128) : k0_pay27 B.dO (ix2 r c) = (b.dO (lo r) c : EReal) := by pointwise [k0_pay27]; exact hB.dO _ c
include hB in
theorem dhi_at (r : Fin 1024) (c : Fin 128) : k0_pay39 B.dO (ix2 r c) = (b.dO (hi r) c : EReal) := by pointwise [k0_pay39]; exact hB.dO _ c

include hB hk ht hn

theorem pA_at (r : Fin 1024) (j : Fin 128) :
    pA0 (BitVec.ofNat 32 t) (Scalar.muli (BitVec.ofNat 32 n) 512#32) B kb (ix2 r j) = ((b.p k (visAt t (512 * n)) (lo r) j : ℝ) : EReal) := by
  unfold pA0
  pointwise [k0_pay33, k0_pay30, k0_pay31, k0_pay32, k0_pay28]
  simp only [row_lo, key_word, qlo_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (lo r) j)

theorem dsA_at (r : Fin 1024) (j : Fin 128) :
    dsA0 (BitVec.ofNat 32 t) (Scalar.muli (BitVec.ofNat 32 n) 512#32) B kb (ix2 r j) = ((b.ds k (visAt t (512 * n)) (lo r) j : ℝ) : EReal) := by
  have hp := pA_at hB hk ht hn
  unfold pA0 at hp
  unfold dsA0
  pointwise [k0_pay34]
  simp only [hp, dlo_at hB, kb_at hk, delta_at hB, ← EReal.coe_mul, ← coe_sum, ← EReal.coe_sub]
  rfl

theorem pB_at (r : Fin 1024) (j : Fin 128) :
    k0_pay47 B.lse (k0_pay40 B.q (k0_pay25 kb)) (k0_pay42 (k0_pay41 (BitVec.ofNat 32 t))) (k0_pay44 (Scalar.muli (BitVec.ofNat 32 n) 512#32))
      (k0_pay45 (Scalar.muli (BitVec.ofNat 32 n) 512#32)) (k0_pay46 (Scalar.muli (BitVec.ofNat 32 n) 512#32)) (ix2 r j)
      = ((b.p k (visAt t (512 * n)) (hi r) j : ℝ) : EReal) := by
  pointwise [k0_pay47, k0_pay40, k0_pay42, k0_pay43, k0_pay44, k0_pay45, k0_pay46]
  simp only [row_hi, key_word, qhi_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (hi r) j)

theorem dsB_at (r : Fin 1024) (j : Fin 128) :
    k0_pay48 B.lse B.delta (k0_pay25 kb) (k0_pay39 B.dO) (k0_pay40 B.q (k0_pay25 kb)) (k0_pay42 (k0_pay41 (BitVec.ofNat 32 t))) (k0_pay44 (Scalar.muli (BitVec.ofNat 32 n) 512#32))
      (k0_pay45 (Scalar.muli (BitVec.ofNat 32 n) 512#32)) (k0_pay46 (Scalar.muli (BitVec.ofNat 32 n) 512#32)) (ix2 r j)
      = ((b.ds k (visAt t (512 * n)) (hi r) j : ℝ) : EReal) := by
  pointwise [k0_pay48]
  simp only [pB_at hB hk ht hn, dhi_at hB, kb_at hk, delta_at hB, ← EReal.coe_mul, ← coe_sum, ← EReal.coe_sub]
  rfl

/-! The four sums into the gradient of keys and values. -/

theorem y1_at (y : Vec Ideal S128x256 .f32) (yr : Fin 128 → Fin 256 → ℝ) (hy : ∀ j c, y (ix2 j c) = (yr j c : EReal)) (j : Fin 128) (c : Fin 256) :
    k0_pay35 (k0_pay26 B.q) (dsA0 (BitVec.ofNat 32 t) (Scalar.muli (BitVec.ofNat 32 n) 512#32) B kb) y (ix2 j c)
      = ((yr j c + b.addS k (visAt t (512 * n)) lo j c : ℝ) : EReal) := by
  pointwise [k0_pay35]
  simp only [dsA_at hB hk ht hn, qlo_at hB, hy, ln2_named, ← EReal.coe_mul, ← coe_sum, ← EReal.coe_add]
  rfl

theorem y2_at (y : Vec Ideal S128x128 .f32) (yr : Fin 128 → Fin 128 → ℝ) (hy : ∀ j c, y (ix2 j c) = (yr j c : EReal)) (j : Fin 128) (c : Fin 128) :
    k0_pay36 (k0_pay27 B.dO) (pA0 (BitVec.ofNat 32 t) (Scalar.muli (BitVec.ofNat 32 n) 512#32) B kb) y (ix2 j c)
      = ((yr j c + b.addV k (visAt t (512 * n)) lo j c : ℝ) : EReal) := by
  pointwise [k0_pay36]
  simp only [pA_at hB hk ht hn, dlo_at hB, hy, ← EReal.coe_mul, ← coe_sum, ← EReal.coe_add]
  rfl

theorem y3_at (y : Vec Ideal S128x256 .f32) (yr : Fin 128 → Fin 256 → ℝ) (hy : ∀ j c, y (ix2 j c) = (yr j c : EReal)) (j : Fin 128) (c : Fin 256) :
    k0_pay49 B.lse B.delta (k0_pay25 kb) (k0_pay38 B.q) (k0_pay39 B.dO) (k0_pay40 B.q (k0_pay25 kb)) (k0_pay42 (k0_pay41 (BitVec.ofNat 32 t))) (k0_pay44 (Scalar.muli (BitVec.ofNat 32 n) 512#32))
      (k0_pay45 (Scalar.muli (BitVec.ofNat 32 n) 512#32)) (k0_pay46 (Scalar.muli (BitVec.ofNat 32 n) 512#32)) y (ix2 j c)
      = ((yr j c + b.addS k (visAt t (512 * n)) hi j c : ℝ) : EReal) := by
  pointwise [k0_pay49]
  simp only [dsB_at hB hk ht hn, qhi_at hB, hy, ln2_named, ← EReal.coe_mul, ← coe_sum, ← EReal.coe_add]
  rfl

theorem y4_at (y : Vec Ideal S128x128 .f32) (yr : Fin 128 → Fin 128 → ℝ) (hy : ∀ j c, y (ix2 j c) = (yr j c : EReal)) (j : Fin 128) (c : Fin 128) :
    k0_pay50 B.lse (k0_pay39 B.dO) (k0_pay40 B.q (k0_pay25 kb)) (k0_pay42 (k0_pay41 (BitVec.ofNat 32 t))) (k0_pay44 (Scalar.muli (BitVec.ofNat 32 n) 512#32))
      (k0_pay45 (Scalar.muli (BitVec.ofNat 32 n) 512#32)) (k0_pay46 (Scalar.muli (BitVec.ofNat 32 n) 512#32)) y (ix2 j c)
      = ((yr j c + b.addV k (visAt t (512 * n)) hi j c : ℝ) : EReal) := by
  pointwise [k0_pay50]
  simp only [pB_at hB hk ht hn, dhi_at hB, hy, ← EReal.coe_mul, ← coe_sum, ← EReal.coe_add]
  rfl

/-! The gradient of the queries. -/

theorem qA_at (acc : FVec Ideal S2048x256 .f32) (ar : Fin 2048 → Fin 256 → ℝ) (ha : ∀ r c, acc (ix2 r c) = (ar r c : EReal)) (r : Fin 1024) (c : Fin 256) :
    k0_pay37 acc (k0_pay25 kb) (dsA0 (BitVec.ofNat 32 t) (Scalar.muli (BitVec.ofNat 32 n) 512#32) B kb) (ix2 r c)
      = ((ar (lo r) c + b.addQ k (visAt t (512 * n)) (lo r) c : ℝ) : EReal) := by
  pointwise [k0_pay37]
  simp only [dsA_at hB hk ht hn, kb_at hk, ha, ← EReal.coe_mul, ← coe_sum, ← EReal.coe_add]
  rfl

theorem q_at (acc : FVec Ideal S2048x256 .f32) (ar : Fin 2048 → Fin 256 → ℝ) (ha : ∀ r c, acc (ix2 r c) = (ar r c : EReal)) (h : Fin 16) (i : Fin 128) (c : Fin 256) :
    k0_pay51 B.lse B.delta acc (k0_pay25 kb) (k0_pay37 acc (k0_pay25 kb) (dsA0 (BitVec.ofNat 32 t) (Scalar.muli (BitVec.ofNat 32 n) 512#32) B kb)) (k0_pay39 B.dO) (k0_pay40 B.q (k0_pay25 kb))
      (k0_pay42 (k0_pay41 (BitVec.ofNat 32 t))) (k0_pay44 (Scalar.muli (BitVec.ofNat 32 n) 512#32)) (k0_pay45 (Scalar.muli (BitVec.ofNat 32 n) 512#32)) (k0_pay46 (Scalar.muli (BitVec.ofNat 32 n) 512#32)) (ix3 h i c)
      = (((ar (rowOf h i) c + b.addQ k (visAt t (512 * n)) (rowOf h i) c) * sigma : ℝ) : EReal) := by
  pointwise [k0_pay51]
  have e : rowOf h i = ⟨h.val * 128 + i.val, by omega⟩ := by apply Fin.ext; show 128 * h.val + i.val = h.val * 128 + i.val; omega
  split
  · next hlt =>
    have e' : rowOf h i = lo ⟨h.val * 128 + i.val, hlt⟩ := e
    rw [qA_at hB hk ht hn acc ar ha, sigma_eq, ← EReal.coe_mul, e']
  · next hge =>
    have e' : rowOf h i = hi ⟨h.val * 128 + i.val - 1024, by omega⟩ := by rw [e]; apply Fin.ext; show h.val * 128 + i.val = 1024 + (h.val * 128 + i.val - 1024); omega
    simp only [dsB_at hB hk ht hn, kb_at hk, ha, sigma_eq, ← EReal.coe_mul, ← coe_sum, ← EReal.coe_add]
    rw [e']
    rfl

end W128

/-! The whole block, at its place among the rows. -/

section
variable {B : Blk Ideal} {b : RBlk} (hB : IsBlk B b) {K : Vec Ideal S4096x256 .bf16} {k : Fin 4096 → Fin 256 → ℝ} (hK : ∀ j c, K (ix2 j c) = (k j c : EReal))
  (i : grid0.Coords) (h : k0_cond2 i = 1#1)

theorem off0_eq : ∀ i : grid0.Coords, k0_off5 i = ![512 * ((i 0).val / 4), 0] := by decide +kernel
theorem off0'_eq : ∀ i : grid0.Coords, k0_off6 i = ![512 * ((i 0).val / 4), 0] := by decide +kernel

theorem room0 (i : grid0.Coords) : 512 * ((i 0).val / 4) + 128 ≤ 4096 := by have : (i 0).val < 32 := (i 0).isLt; omega

include hK in
theorem keys0 (j : Fin 128) (c : Fin 256) :
    Cert.Held.get (D01 i h) K (ix2 j c) = ((k (sh (512 * ((i 0).val / 4)) (room0 i) j) c : ℝ) : EReal) :=
  (get_rows (w := 128) (m := 256) (off0_eq i) (k0_off5_inb i h) (room0 i) (by omega) K j c).trans (hK _ _)

theorem vis0 (r : Fin 2048) (j : Fin 128) :
    visAt (i 0).val (512 * ((i 0).val / 4)) r j ↔ visAll (i 0).val r (sh (512 * ((i 0).val / 4)) (room0 i) j) := Iff.rfl

include hB hK in
theorem diagY0_at (Y : Vec Ideal S4096x256 .f32) (yr : Fin 4096 → Fin 256 → ℝ) (hY : ∀ J C, Y (ix2 J C) = (yr J C : EReal)) (J : Fin 4096) (C : Fin 256) :
    diagY0 i h (BitVec.ofNat 32 (i 0).val) (Scalar.muli (BitVec.ofNat 32 ((i 0).val / 4)) 512#32) B K Y (ix2 J C)
      = ((yr J C + (if 512 * ((i 0).val / 4) ≤ J.val ∧ J.val < 512 * ((i 0).val / 4) + 128 then b.addY k (visAll (i 0).val) J C else 0) : ℝ) : EReal) := by
  have ht : (i 0).val < 32 := (i 0).isLt
  have hn : (i 0).val / 4 < 8 := by omega
  have hk := keys0 hK i h
  exact four_rows (w := 128) (off0_eq i) (off0'_eq i) (k0_off5_inb i h) (k0_off6_inb i h) (room0 i) _ _ _ _ b k
    (visAt (i 0).val (512 * ((i 0).val / 4))) (visAll (i 0).val) (vis0 i)
    (fun y yr hy => W128.y1_at hB hk ht hn y yr hy) (fun y yr hy => W128.y2_at hB hk ht hn y yr hy)
    (fun y yr hy => W128.y3_at hB hk ht hn y yr hy) (fun y yr hy => W128.y4_at hB hk ht hn y yr hy) Y yr hY J C _ _ _ _ rfl rfl rfl rfl

include hB hK in
theorem diagQ0_at (acc : FVec Ideal S2048x256 .f32) (ar : Fin 2048 → Fin 256 → ℝ) (ha : ∀ r c, acc (ix2 r c) = (ar r c : EReal)) (hd : Fin 16) (q : Fin 128) (c : Fin 256) :
    diagQ0 i h (BitVec.ofNat 32 (i 0).val) (Scalar.muli (BitVec.ofNat 32 ((i 0).val / 4)) 512#32) B K acc (ix3 hd q c)
      = (((ar (rowOf hd q) c + ∑ j : Fin 128, b.ds k (visAll (i 0).val) (rowOf hd q) (sh (512 * ((i 0).val / 4)) (room0 i) j)
          * k (sh (512 * ((i 0).val / 4)) (room0 i) j) c) * sigma : ℝ) : EReal) := by
  have ht : (i 0).val < 32 := (i 0).isLt
  have hn : (i 0).val / 4 < 8 := by omega
  rw [← addQ_block b k _ (room0 i) _ _ (vis0 i)]
  exact W128.q_at hB (keys0 hK i h) ht hn acc ar ha hd q c

end

end Cert.Val

end
-- ==== Proof.Val.Diag1.lean ====
/-
  What the diagonal key block of width 256 computes, in real numbers.
-/
module

public import proofs.«01_k».proof.Proof.Val.Rows

@[expose] public section

noncomputable section

namespace Cert.Val

open Idealize.ShloMosaic Cert.KernelIdeal Cert.KernelIdeal.Gen Cert.KernelIdeal.Body Cert.Held

namespace W256

/-! The words of the mask: the number of a row's query, and of a key. -/

theorem row_lo (t : ℕ) (r : Fin 1024) (j : Fin 256) : k0_pay56 (BitVec.ofNat 32 t) (ix2 r j) = BitVec.ofNat 32 (128 * t + r.val % 128) := by
  pointwise [k0_pay56]
  simp only [row_word]
  exact mul_add_word t 128 _

theorem row_hi (t : ℕ) (r : Fin 1024) (j : Fin 256) : k0_pay68 (BitVec.ofNat 32 t) (ix2 r j) = BitVec.ofNat 32 (128 * t + (1024 + r.val) % 128) := by
  pointwise [k0_pay68]
  simp only [row_word]
  rw [show (1024 + r.val) % 128 = r.val % 128 by omega]
  exact mul_add_word t 128 _

theorem key_word (n : ℕ) (j : ℕ) : IntOp.addi (Scalar.muli (BitVec.ofNat 32 n) 512#32) (BitVec.ofNat 32 j) = BitVec.ofNat 32 (512 * n + j) :=
  mul_add_word n 512 j

variable {B : Blk Ideal} {b : RBlk} (hB : IsBlk B b)
variable {kb : Vec Ideal S256x256 .bf16} {k : Fin 256 → Fin 256 → ℝ} (hk : ∀ j c, kb (ix2 j c) = (k j c : EReal))
variable {t n : ℕ} (ht : t < 32) (hn : n < 8)

/-! The operands. -/

include hk in
theorem kb_at (j : Fin 256) (c : Fin 256) : k0_pay52 kb (ix2 j c) = (k j c : EReal) := by pointwise [k0_pay52]; exact hk j c

include hB in
theorem qlo_at (r : Fin 1024) (c : Fin 256) : k0_pay53 B.q (ix2 r c) = (b.q (lo r) c : EReal) := by pointwise [k0_pay53]; exact hB.q _ c
include hB in
theorem qhi_at (r : Fin 1024) (c : Fin 256) : k0_pay65 B.q (ix2 r c) = (b.q (hi r) c : EReal) := by pointwise [k0_pay65]; exact hB.q _ c
include hB in
theorem dlo_at (r : Fin 1024) (c : Fin 128) : k0_pay54 B.dO (ix2 r c) = (b.dO (lo r) c : EReal) := by pointwise [k0_pay54]; exact hB.dO _ c
include hB in
theorem dhi_at (r : Fin 1024) (c : Fin 128) : k0_pay66 B.dO (ix2 r c) = (b.dO (hi r) c : EReal) := by pointwise [k0_pay66]; exact hB.dO _ c

include hB hk ht hn

theorem pA_at (r : Fin 1024) (j : Fin 256) :
    pA1 (BitVec.ofNat 32 t) (Scalar.muli (BitVec.ofNat 32 n) 512#32) B kb (ix2 r j) = ((b.p k (visAt t (512 * n)) (lo r) j : ℝ) : EReal) := by
  unfold pA1
  pointwise [k0_pay60, k0_pay57, k0_pay58, k0_pay59, k0_pay55]
  simp only [row_lo, key_word, qlo_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (lo r) j)

theorem dsA_at (r : Fin 1024) (j : Fin 256) :
    dsA1 (BitVec.ofNat 32 t) (Scalar.muli (BitVec.ofNat 32 n) 512#32) B kb (ix2 r j) = ((b.ds k (visAt t (512 * n)) (lo r) j : ℝ) : EReal) := by
  have hp := pA_at hB hk ht hn
  unfold pA1 at hp
  unfold dsA1
  pointwise [k0_pay61]
  simp only [hp, dlo_at hB, kb_at hk, delta_at hB, ← EReal.coe_mul, ← coe_sum, ← EReal.coe_sub]
  rfl

theorem pB_at (r : Fin 1024) (j : Fin 256) :
    k0_pay74 B.lse (k0_pay67 B.q (k0_pay52 kb)) (k0_pay69 (k0_pay68 (BitVec.ofNat 32 t))) (k0_pay71 (Scalar.muli (BitVec.ofNat 32 n) 512#32))
      (k0_pay72 (Scalar.muli (BitVec.ofNat 32 n) 512#32)) (k0_pay73 (Scalar.muli (BitVec.ofNat 32 n) 512#32)) (ix2 r j)
      = ((b.p k (visAt t (512 * n)) (hi r) j : ℝ) : EReal) := by
  pointwise [k0_pay74, k0_pay67, k0_pay69, k0_pay70, k0_pay71, k0_pay72, k0_pay73]
  simp only [row_hi, key_word, qhi_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (hi r) j)

theorem dsB_at (r : Fin 1024) (j : Fin 256) :
    k0_pay75 B.lse B.delta (k0_pay52 kb) (k0_pay66 B.dO) (k0_pay67 B.q (k0_pay52 kb)) (k0_pay69 (k0_pay68 (BitVec.ofNat 32 t))) (k0_pay71 (Scalar.muli (BitVec.ofNat 32 n) 512#32))
      (k0_pay72 (Scalar.muli (BitVec.ofNat 32 n) 512#32)) (k0_pay73 (Scalar.muli (BitVec.ofNat 32 n) 512#32)) (ix2 r j)
      = ((b.ds k (visAt t (512 * n)) (hi r) j : ℝ) : EReal) := by
  pointwise [k0_pay75]
  simp only [pB_at hB hk ht hn, dhi_at hB, kb_at hk, delta_at hB, ← EReal.coe_mul, ← coe_sum, ← EReal.coe_sub]
  rfl

/-! The four sums into the gradient of keys and values. -/

theorem y1_at (y : Vec Ideal S256x256 .f32) (yr : Fin 256 → Fin 256 → ℝ) (hy : ∀ j c, y (ix2 j c) = (yr j c : EReal)) (j : Fin 256) (c : Fin 256) :
    k0_pay62 (k0_pay53 B.q) (dsA1 (BitVec.ofNat 32 t) (Scalar.muli (BitVec.ofNat 32 n) 512#32) B kb) y (ix2 j c)
      = ((yr j c + b.addS k (visAt t (512 * n)) lo j c : ℝ) : EReal) := by
  pointwise [k0_pay62]
  simp only [dsA_at hB hk ht hn, qlo_at hB, hy, ln2_named, ← EReal.coe_mul, ← coe_sum, ← EReal.coe_add]
  rfl

theorem y2_at (y : Vec Ideal S256x128 .f32) (yr : Fin 256 → Fin 128 → ℝ) (hy : ∀ j c, y (ix2 j c) = (yr j c : EReal)) (j : Fin 256) (c : Fin 128) :
    k0_pay63 (k0_pay54 B.dO) (pA1 (BitVec.ofNat 32 t) (Scalar.muli (BitVec.ofNat 32 n) 512#32) B kb) y (ix2 j c)
      = ((yr j c + b.addV k (visAt t (512 * n)) lo j c : ℝ) : EReal) := by
  pointwise [k0_pay63]
  simp only [pA_at hB hk ht hn, dlo_at hB, hy, ← EReal.coe_mul, ← coe_sum, ← EReal.coe_add]
  rfl

theorem y3_at (y : Vec Ideal S256x256 .f32) (yr : Fin 256 → Fin 256 → ℝ) (hy : ∀ j c, y (ix2 j c) = (yr j c : EReal)) (j : Fin 256) (c : Fin 256) :
    k0_pay76 B.lse B.delta (k0_pay52 kb) (k0_pay65 B.q) (k0_pay66 B.dO) (k0_pay67 B.q (k0_pay52 kb)) (k0_pay69 (k0_pay68 (BitVec.ofNat 32 t))) (k0_pay71 (Scalar.muli (BitVec.ofNat 32 n) 512#32))
      (k0_pay72 (Scalar.muli (BitVec.ofNat 32 n) 512#32)) (k0_pay73 (Scalar.muli (BitVec.ofNat 32 n) 512#32)) y (ix2 j c)
      = ((yr j c + b.addS k (visAt t (512 * n)) hi j c : ℝ) : EReal) := by
  pointwise [k0_pay76]
  simp only [dsB_at hB hk ht hn, qhi_at hB, hy, ln2_named, ← EReal.coe_mul, ← coe_sum, ← EReal.coe_add]
  rfl

theorem y4_at (y : Vec Ideal S256x128 .f32) (yr : Fin 256 → Fin 128 → ℝ) (hy : ∀ j c, y (ix2 j c) = (yr j c : EReal)) (j : Fin 256) (c : Fin 128) :
    k0_pay77 B.lse (k0_pay66 B.dO) (k0_pay67 B.q (k0_pay52 kb)) (k0_pay69 (k0_pay68 (BitVec.ofNat 32 t))) (k0_pay71 (Scalar.muli (BitVec.ofNat 32 n) 512#32))
      (k0_pay72 (Scalar.muli (BitVec.ofNat 32 n) 512#32)) (k0_pay73 (Scalar.muli (BitVec.ofNat 32 n) 512#32)) y (ix2 j c)
      = ((yr j c + b.addV k (visAt t (512 * n)) hi j c : ℝ) : EReal) := by
  pointwise [k0_pay77]
  simp only [pB_at hB hk ht hn, dhi_at hB, hy, ← EReal.coe_mul, ← coe_sum, ← EReal.coe_add]
  rfl

/-! The gradient of the queries. -/

theorem qA_at (acc : FVec Ideal S2048x256 .f32) (ar : Fin 2048 → Fin 256 → ℝ) (ha : ∀ r c, acc (ix2 r c) = (ar r c : EReal)) (r : Fin 1024) (c : Fin 256) :
    k0_pay64 acc (k0_pay52 kb) (dsA1 (BitVec.ofNat 32 t) (Scalar.muli (BitVec.ofNat 32 n) 512#32) B kb) (ix2 r c)
      = ((ar (lo r) c + b.addQ k (visAt t (512 * n)) (lo r) c : ℝ) : EReal) := by
  pointwise [k0_pay64]
  simp only [dsA_at hB hk ht hn, kb_at hk, ha, ← EReal.coe_mul, ← coe_sum, ← EReal.coe_add]
  rfl

theorem q_at (acc : FVec Ideal S2048x256 .f32) (ar : Fin 2048 → Fin 256 → ℝ) (ha : ∀ r c, acc (ix2 r c) = (ar r c : EReal)) (h : Fin 16) (i : Fin 128) (c : Fin 256) :
    k0_pay78 B.lse B.delta acc (k0_pay52 kb) (k0_pay64 acc (k0_pay52 kb) (dsA1 (BitVec.ofNat 32 t) (Scalar.muli (BitVec.ofNat 32 n) 512#32) B kb)) (k0_pay66 B.dO) (k0_pay67 B.q (k0_pay52 kb))
      (k0_pay69 (k0_pay68 (BitVec.ofNat 32 t))) (k0_pay71 (Scalar.muli (BitVec.ofNat 32 n) 512#32)) (k0_pay72 (Scalar.muli (BitVec.ofNat 32 n) 512#32)) (k0_pay73 (Scalar.muli (BitVec.ofNat 32 n) 512#32)) (ix3 h i c)
      = (((ar (rowOf h i) c + b.addQ k (visAt t (512 * n)) (rowOf h i) c) * sigma : ℝ) : EReal) := by
  pointwise [k0_pay78]
  have e : rowOf h i = ⟨h.val * 128 + i.val, by omega⟩ := by apply Fin.ext; show 128 * h.val + i.val = h.val * 128 + i.val; omega
  split
  · next hlt =>
    have e' : rowOf h i = lo ⟨h.val * 128 + i.val, hlt⟩ := e
    rw [qA_at hB hk ht hn acc ar ha, sigma_eq, ← EReal.coe_mul, e']
  · next hge =>
    have e' : rowOf h i = hi ⟨h.val * 128 + i.val - 1024, by omega⟩ := by rw [e]; apply Fin.ext; show h.val * 128 + i.val = 1024 + (h.val * 128 + i.val - 1024); omega
    simp only [dsB_at hB hk ht hn, kb_at hk, ha, sigma_eq, ← EReal.coe_mul, ← coe_sum, ← EReal.coe_add]
    rw [e']
    rfl

end W256

/-! The whole block, at its place among the rows. -/

section
variable {B : Blk Ideal} {b : RBlk} (hB : IsBlk B b) {K : Vec Ideal S4096x256 .bf16} {k : Fin 4096 → Fin 256 → ℝ} (hK : ∀ j c, K (ix2 j c) = (k j c : EReal))
  (i : grid0.Coords) (h : k0_cond3 i = 1#1)

theorem off1_eq : ∀ i : grid0.Coords, k0_off7 i = ![512 * ((i 0).val / 4), 0] := by decide +kernel
theorem off1'_eq : ∀ i : grid0.Coords, k0_off8 i = ![512 * ((i 0).val / 4), 0] := by decide +kernel

theorem room1 (i : grid0.Coords) : 512 * ((i 0).val / 4) + 256 ≤ 4096 := by have : (i 0).val < 32 := (i 0).isLt; omega

include hK in
theorem keys1 (j : Fin 256) (c : Fin 256) :
    Cert.Held.get (D11 i h) K (ix2 j c) = ((k (sh (512 * ((i 0).val / 4)) (room1 i) j) c : ℝ) : EReal) :=
  (get_rows (w := 256) (m := 256) (off1_eq i) (k0_off7_inb i h) (room1 i) (by omega) K j c).trans (hK _ _)

theorem vis1 (r : Fin 2048) (j : Fin 256) :
    visAt (i 0).val (512 * ((i 0).val / 4)) r j ↔ visAll (i 0).val r (sh (512 * ((i 0).val / 4)) (room1 i) j) := Iff.rfl

include hB hK in
theorem diagY1_at (Y : Vec Ideal S4096x256 .f32) (yr : Fin 4096 → Fin 256 → ℝ) (hY : ∀ J C, Y (ix2 J C) = (yr J C : EReal)) (J : Fin 4096) (C : Fin 256) :
    diagY1 i h (BitVec.ofNat 32 (i 0).val) (Scalar.muli (BitVec.ofNat 32 ((i 0).val / 4)) 512#32) B K Y (ix2 J C)
      = ((yr J C + (if 512 * ((i 0).val / 4) ≤ J.val ∧ J.val < 512 * ((i 0).val / 4) + 256 then b.addY k (visAll (i 0).val) J C else 0) : ℝ) : EReal) := by
  have ht : (i 0).val < 32 := (i 0).isLt
  have hn : (i 0).val / 4 < 8 := by omega
  have hk := keys1 hK i h
  exact four_rows (w := 256) (off1_eq i) (off1'_eq i) (k0_off7_inb i h) (k0_off8_inb i h) (room1 i) _ _ _ _ b k
    (visAt (i 0).val (512 * ((i 0).val / 4))) (visAll (i 0).val) (vis1 i)
    (fun y yr hy => W256.y1_at hB hk ht hn y yr hy) (fun y yr hy => W256.y2_at hB hk ht hn y yr hy)
    (fun y yr hy => W256.y3_at hB hk ht hn y yr hy) (fun y yr hy => W256.y4_at hB hk ht hn y yr hy) Y yr hY J C _ _ _ _ rfl rfl rfl rfl

include hB hK in
theorem diagQ1_at (acc : FVec Ideal S2048x256 .f32) (ar : Fin 2048 → Fin 256 → ℝ) (ha : ∀ r c, acc (ix2 r c) = (ar r c : EReal)) (hd : Fin 16) (q : Fin 128) (c : Fin 256) :
    diagQ1 i h (BitVec.ofNat 32 (i 0).val) (Scalar.muli (BitVec.ofNat 32 ((i 0).val / 4)) 512#32) B K acc (ix3 hd q c)
      = (((ar (rowOf hd q) c + ∑ j : Fin 256, b.ds k (visAll (i 0).val) (rowOf hd q) (sh (512 * ((i 0).val / 4)) (room1 i) j)
          * k (sh (512 * ((i 0).val / 4)) (room1 i) j) c) * sigma : ℝ) : EReal) := by
  have ht : (i 0).val < 32 := (i 0).isLt
  have hn : (i 0).val / 4 < 8 := by omega
  rw [← addQ_block b k _ (room1 i) _ _ (vis1 i)]
  exact W256.q_at hB (keys1 hK i h) ht hn acc ar ha hd q c

end

end Cert.Val

end
-- ==== Proof.Val.Diag2.lean ====
/-
  What the diagonal key block of width 384 computes, in real numbers.
-/
module

public import proofs.«01_k».proof.Proof.Val.Rows

@[expose] public section

noncomputable section

namespace Cert.Val

open Idealize.ShloMosaic Cert.KernelIdeal Cert.KernelIdeal.Gen Cert.KernelIdeal.Body Cert.Held

namespace W384

/-! The words of the mask: the number of a row's query, and of a key. -/

theorem row_lo (t : ℕ) (r : Fin 1024) (j : Fin 384) : k0_pay83 (BitVec.ofNat 32 t) (ix2 r j) = BitVec.ofNat 32 (128 * t + r.val % 128) := by
  pointwise [k0_pay83]
  simp only [row_word]
  exact mul_add_word t 128 _

theorem row_hi (t : ℕ) (r : Fin 1024) (j : Fin 384) : k0_pay95 (BitVec.ofNat 32 t) (ix2 r j) = BitVec.ofNat 32 (128 * t + (1024 + r.val) % 128) := by
  pointwise [k0_pay95]
  simp only [row_word]
  rw [show (1024 + r.val) % 128 = r.val % 128 by omega]
  exact mul_add_word t 128 _

theorem key_word (n : ℕ) (j : ℕ) : IntOp.addi (Scalar.muli (BitVec.ofNat 32 n) 512#32) (BitVec.ofNat 32 j) = BitVec.ofNat 32 (512 * n + j) :=
  mul_add_word n 512 j

variable {B : Blk Ideal} {b : RBlk} (hB : IsBlk B b)
variable {kb : Vec Ideal S384x256 .bf16} {k : Fin 384 → Fin 256 → ℝ} (hk : ∀ j c, kb (ix2 j c) = (k j c : EReal))
variable {t n : ℕ} (ht : t < 32) (hn : n < 8)

/-! The operands. -/

include hk in
theorem kb_at (j : Fin 384) (c : Fin 256) : k0_pay79 kb (ix2 j c) = (k j c : EReal) := by pointwise [k0_pay79]; exact hk j c

include hB in
theorem qlo_at (r : Fin 1024) (c : Fin 256) : k0_pay80 B.q (ix2 r c) = (b.q (lo r) c : EReal) := by pointwise [k0_pay80]; exact hB.q _ c
include hB in
theorem qhi_at (r : Fin 1024) (c : Fin 256) : k0_pay92 B.q (ix2 r c) = (b.q (hi r) c : EReal) := by pointwise [k0_pay92]; exact hB.q _ c
include hB in
theorem dlo_at (r : Fin 1024) (c : Fin 128) : k0_pay81 B.dO (ix2 r c) = (b.dO (lo r) c : EReal) := by pointwise [k0_pay81]; exact hB.dO _ c
include hB in
theorem dhi_at (r : Fin 1024) (c : Fin 128) : k0_pay93 B.dO (ix2 r c) = (b.dO (hi r) c : EReal) := by pointwise [k0_pay93]; exact hB.dO _ c

include hB hk ht hn

theorem pA_at (r : Fin 1024) (j : Fin 384) :
    pA2 (BitVec.ofNat 32 t) (Scalar.muli (BitVec.ofNat 32 n) 512#32) B kb (ix2 r j) = ((b.p k (visAt t (512 * n)) (lo r) j : ℝ) : EReal) := by
  unfold pA2
  pointwise [k0_pay87, k0_pay84, k0_pay85, k0_pay86, k0_pay82]
  simp only [row_lo, key_word, qlo_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (lo r) j)

theorem dsA_at (r : Fin 1024) (j : Fin 384) :
    dsA2 (BitVec.ofNat 32 t) (Scalar.muli (BitVec.ofNat 32 n) 512#32) B kb (ix2 r j) = ((b.ds k (visAt t (512 * n)) (lo r) j : ℝ) : EReal) := by
  have hp := pA_at hB hk ht hn
  unfold pA2 at hp
  unfold dsA2
  pointwise [k0_pay88]
  simp only [hp, dlo_at hB, kb_at hk, delta_at hB, ← EReal.coe_mul, ← coe_sum, ← EReal.coe_sub]
  rfl

theorem pB_at (r : Fin 1024) (j : Fin 384) :
    k0_pay101 B.lse (k0_pay94 B.q (k0_pay79 kb)) (k0_pay96 (k0_pay95 (BitVec.ofNat 32 t))) (k0_pay98 (Scalar.muli (BitVec.ofNat 32 n) 512#32))
      (k0_pay99 (Scalar.muli (BitVec.ofNat 32 n) 512#32)) (k0_pay100 (Scalar.muli (BitVec.ofNat 32 n) 512#32)) (ix2 r j)
      = ((b.p k (visAt t (512 * n)) (hi r) j : ℝ) : EReal) := by
  pointwise [k0_pay101, k0_pay94, k0_pay96, k0_pay97, k0_pay98, k0_pay99, k0_pay100]
  simp only [row_hi, key_word, qhi_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (hi r) j)

theorem dsB_at (r : Fin 1024) (j : Fin 384) :
    k0_pay102 B.lse B.delta (k0_pay79 kb) (k0_pay93 B.dO) (k0_pay94 B.q (k0_pay79 kb)) (k0_pay96 (k0_pay95 (BitVec.ofNat 32 t))) (k0_pay98 (Scalar.muli (BitVec.ofNat 32 n) 512#32))
      (k0_pay99 (Scalar.muli (BitVec.ofNat 32 n) 512#32)) (k0_pay100 (Scalar.muli (BitVec.ofNat 32 n) 512#32)) (ix2 r j)
      = ((b.ds k (visAt t (512 * n)) (hi r) j : ℝ) : EReal) := by
  pointwise [k0_pay102]
  simp only [pB_at hB hk ht hn, dhi_at hB, kb_at hk, delta_at hB, ← EReal.coe_mul, ← coe_sum, ← EReal.coe_sub]
  rfl

/-! The four sums into the gradient of keys and values. -/

theorem y1_at (y : Vec Ideal S384x256 .f32) (yr : Fin 384 → Fin 256 → ℝ) (hy : ∀ j c, y (ix2 j c) = (yr j c : EReal)) (j : Fin 384) (c : Fin 256) :
    k0_pay89 (k0_pay80 B.q) (dsA2 (BitVec.ofNat 32 t) (Scalar.muli (BitVec.ofNat 32 n) 512#32) B kb) y (ix2 j c)
      = ((yr j c + b.addS k (visAt t (512 * n)) lo j c : ℝ) : EReal) := by
  pointwise [k0_pay89]
  simp only [dsA_at hB hk ht hn, qlo_at hB, hy, ln2_named, ← EReal.coe_mul, ← coe_sum, ← EReal.coe_add]
  rfl

theorem y2_at (y : Vec Ideal S384x128 .f32) (yr : Fin 384 → Fin 128 → ℝ) (hy : ∀ j c, y (ix2 j c) = (yr j c : EReal)) (j : Fin 384) (c : Fin 128) :
    k0_pay90 (k0_pay81 B.dO) (pA2 (BitVec.ofNat 32 t) (Scalar.muli (BitVec.ofNat 32 n) 512#32) B kb) y (ix2 j c)
      = ((yr j c + b.addV k (visAt t (512 * n)) lo j c : ℝ) : EReal) := by
  pointwise [k0_pay90]
  simp only [pA_at hB hk ht hn, dlo_at hB, hy, ← EReal.coe_mul, ← coe_sum, ← EReal.coe_add]
  rfl

theorem y3_at (y : Vec Ideal S384x256 .f32) (yr : Fin 384 → Fin 256 → ℝ) (hy : ∀ j c, y (ix2 j c) = (yr j c : EReal)) (j : Fin 384) (c : Fin 256) :
    k0_pay103 B.lse B.delta (k0_pay79 kb) (k0_pay92 B.q) (k0_pay93 B.dO) (k0_pay94 B.q (k0_pay79 kb)) (k0_pay96 (k0_pay95 (BitVec.ofNat 32 t))) (k0_pay98 (Scalar.muli (BitVec.ofNat 32 n) 512#32))
      (k0_pay99 (Scalar.muli (BitVec.ofNat 32 n) 512#32)) (k0_pay100 (Scalar.muli (BitVec.ofNat 32 n) 512#32)) y (ix2 j c)
      = ((yr j c + b.addS k (visAt t (512 * n)) hi j c : ℝ) : EReal) := by
  pointwise [k0_pay103]
  simp only [dsB_at hB hk ht hn, qhi_at hB, hy, ln2_named, ← EReal.coe_mul, ← coe_sum, ← EReal.coe_add]
  rfl

theorem y4_at (y : Vec Ideal S384x128 .f32) (yr : Fin 384 → Fin 128 → ℝ) (hy : ∀ j c, y (ix2 j c) = (yr j c : EReal)) (j : Fin 384) (c : Fin 128) :
    k0_pay104 B.lse (k0_pay93 B.dO) (k0_pay94 B.q (k0_pay79 kb)) (k0_pay96 (k0_pay95 (BitVec.ofNat 32 t))) (k0_pay98 (Scalar.muli (BitVec.ofNat 32 n) 512#32))
      (k0_pay99 (Scalar.muli (BitVec.ofNat 32 n) 512#32)) (k0_pay100 (Scalar.muli (BitVec.ofNat 32 n) 512#32)) y (ix2 j c)
      = ((yr j c + b.addV k (visAt t (512 * n)) hi j c : ℝ) : EReal) := by
  pointwise [k0_pay104]
  simp only [pB_at hB hk ht hn, dhi_at hB, hy, ← EReal.coe_mul, ← coe_sum, ← EReal.coe_add]
  rfl

/-! The gradient of the queries. -/

theorem qA_at (acc : FVec Ideal S2048x256 .f32) (ar : Fin 2048 → Fin 256 → ℝ) (ha : ∀ r c, acc (ix2 r c) = (ar r c : EReal)) (r : Fin 1024) (c : Fin 256) :
    k0_pay91 acc (k0_pay79 kb) (dsA2 (BitVec.ofNat 32 t) (Scalar.muli (BitVec.ofNat 32 n) 512#32) B kb) (ix2 r c)
      = ((ar (lo r) c + b.addQ k (visAt t (512 * n)) (lo r) c : ℝ) : EReal) := by
  pointwise [k0_pay91]
  simp only [dsA_at hB hk ht hn, kb_at hk, ha, ← EReal.coe_mul, ← coe_sum, ← EReal.coe_add]
  rfl

theorem q_at (acc : FVec Ideal S2048x256 .f32) (ar : Fin 2048 → Fin 256 → ℝ) (ha : ∀ r c, acc (ix2 r c) = (ar r c : EReal)) (h : Fin 16) (i : Fin 128) (c : Fin 256) :
    k0_pay105 B.lse B.delta acc (k0_pay79 kb) (k0_pay91 acc (k0_pay79 kb) (dsA2 (BitVec.ofNat 32 t) (Scalar.muli (BitVec.ofNat 32 n) 512#32) B kb)) (k0_pay93 B.dO) (k0_pay94 B.q (k0_pay79 kb))
      (k0_pay96 (k0_pay95 (BitVec.ofNat 32 t))) (k0_pay98 (Scalar.muli (BitVec.ofNat 32 n) 512#32)) (k0_pay99 (Scalar.muli (BitVec.ofNat 32 n) 512#32)) (k0_pay100 (Scalar.muli (BitVec.ofNat 32 n) 512#32)) (ix3 h i c)
      = (((ar (rowOf h i) c + b.addQ k (visAt t (512 * n)) (rowOf h i) c) * sigma : ℝ) : EReal) := by
  pointwise [k0_pay105]
  have e : rowOf h i = ⟨h.val * 128 + i.val, by omega⟩ := by apply Fin.ext; show 128 * h.val + i.val = h.val * 128 + i.val; omega
  split
  · next hlt =>
    have e' : rowOf h i = lo ⟨h.val * 128 + i.val, hlt⟩ := e
    rw [qA_at hB hk ht hn acc ar ha, sigma_eq, ← EReal.coe_mul, e']
  · next hge =>
    have e' : rowOf h i = hi ⟨h.val * 128 + i.val - 1024, by omega⟩ := by rw [e]; apply Fin.ext; show h.val * 128 + i.val = 1024 + (h.val * 128 + i.val - 1024); omega
    simp only [dsB_at hB hk ht hn, kb_at hk, ha, sigma_eq, ← EReal.coe_mul, ← coe_sum, ← EReal.coe_add]
    rw [e']
    rfl

end W384

/-! The whole block, at its place among the rows. -/

section
variable {B : Blk Ideal} {b : RBlk} (hB : IsBlk B b) {K : Vec Ideal S4096x256 .bf16} {k : Fin 4096 → Fin 256 → ℝ} (hK : ∀ j c, K (ix2 j c) = (k j c : EReal))
  (i : grid0.Coords) (h : k0_cond4 i = 1#1)

theorem off2_eq : ∀ i : grid0.Coords, k0_off9 i = ![512 * ((i 0).val / 4), 0] := by decide +kernel
theorem off2'_eq : ∀ i : grid0.Coords, k0_off10 i = ![512 * ((i 0).val / 4), 0] := by decide +kernel

theorem room2 (i : grid0.Coords) : 512 * ((i 0).val / 4) + 384 ≤ 4096 := by have : (i 0).val < 32 := (i 0).isLt; omega

include hK in
theorem keys2 (j : Fin 384) (c : Fin 256) :
    Cert.Held.get (D21 i h) K (ix2 j c) = ((k (sh (512 * ((i 0).val / 4)) (room2 i) j) c : ℝ) : EReal) :=
  (get_rows (w := 384) (m := 256) (off2_eq i) (k0_off9_inb i h) (room2 i) (by omega) K j c).trans (hK _ _)

theorem vis2 (r : Fin 2048) (j : Fin 384) :
    visAt (i 0).val (512 * ((i 0).val / 4)) r j ↔ visAll (i 0).val r (sh (512 * ((i 0).val / 4)) (room2 i) j) := Iff.rfl

include hB hK in
theorem diagY2_at (Y : Vec Ideal S4096x256 .f32) (yr : Fin 4096 → Fin 256 → ℝ) (hY : ∀ J C, Y (ix2 J C) = (yr J C : EReal)) (J : Fin 4096) (C : Fin 256) :
    diagY2 i h (BitVec.ofNat 32 (i 0).val) (Scalar.muli (BitVec.ofNat 32 ((i 0).val / 4)) 512#32) B K Y (ix2 J C)
      = ((yr J C + (if 512 * ((i 0).val / 4) ≤ J.val ∧ J.val < 512 * ((i 0).val / 4) + 384 then b.addY k (visAll (i 0).val) J C else 0) : ℝ) : EReal) := by
  have ht : (i 0).val < 32 := (i 0).isLt
  have hn : (i 0).val / 4 < 8 := by omega
  have hk := keys2 hK i h
  exact four_rows (w := 384) (off2_eq i) (off2'_eq i) (k0_off9_inb i h) (k0_off10_inb i h) (room2 i) _ _ _ _ b k
    (visAt (i 0).val (512 * ((i 0).val / 4))) (visAll (i 0).val) (vis2 i)
    (fun y yr hy => W384.y1_at hB hk ht hn y yr hy) (fun y yr hy => W384.y2_at hB hk ht hn y yr hy)
    (fun y yr hy => W384.y3_at hB hk ht hn y yr hy) (fun y yr hy => W384.y4_at hB hk ht hn y yr hy) Y yr hY J C _ _ _ _ rfl rfl rfl rfl

include hB hK in
theorem diagQ2_at (acc : FVec Ideal S2048x256 .f32) (ar : Fin 2048 → Fin 256 → ℝ) (ha : ∀ r c, acc (ix2 r c) = (ar r c : EReal)) (hd : Fin 16) (q : Fin 128) (c : Fin 256) :
    diagQ2 i h (BitVec.ofNat 32 (i 0).val) (Scalar.muli (BitVec.ofNat 32 ((i 0).val / 4)) 512#32) B K acc (ix3 hd q c)
      = (((ar (rowOf hd q) c + ∑ j : Fin 384, b.ds k (visAll (i 0).val) (rowOf hd q) (sh (512 * ((i 0).val / 4)) (room2 i) j)
          * k (sh (512 * ((i 0).val / 4)) (room2 i) j) c) * sigma : ℝ) : EReal) := by
  have ht : (i 0).val < 32 := (i 0).isLt
  have hn : (i 0).val / 4 < 8 := by omega
  rw [← addQ_block b k _ (room2 i) _ _ (vis2 i)]
  exact W384.q_at hB (keys2 hK i h) ht hn acc ar ha hd q c

end

end Cert.Val

end
-- ==== Proof.Val.Diag3.lean ====
/-
  What the diagonal key block of width 512 computes, in real numbers.
-/
module

public import proofs.«01_k».proof.Proof.Val.Rows

@[expose] public section

noncomputable section

namespace Cert.Val

open Idealize.ShloMosaic Cert.KernelIdeal Cert.KernelIdeal.Gen Cert.KernelIdeal.Body Cert.Held

namespace W512

/-! The words of the mask: the number of a row's query, and of a key. -/

theorem row_lo (t : ℕ) (r : Fin 1024) (j : Fin 512) : k0_pay110 (BitVec.ofNat 32 t) (ix2 r j) = BitVec.ofNat 32 (128 * t + r.val % 128) := by
  pointwise [k0_pay110]
  simp only [row_word]
  exact mul_add_word t 128 _

theorem row_hi (t : ℕ) (r : Fin 1024) (j : Fin 512) : k0_pay122 (BitVec.ofNat 32 t) (ix2 r j) = BitVec.ofNat 32 (128 * t + (1024 + r.val) % 128) := by
  pointwise [k0_pay122]
  simp only [row_word]
  rw [show (1024 + r.val) % 128 = r.val % 128 by omega]
  exact mul_add_word t 128 _

theorem key_word (n : ℕ) (j : ℕ) : IntOp.addi (Scalar.muli (BitVec.ofNat 32 n) 512#32) (BitVec.ofNat 32 j) = BitVec.ofNat 32 (512 * n + j) :=
  mul_add_word n 512 j

variable {B : Blk Ideal} {b : RBlk} (hB : IsBlk B b)
variable {kb : Vec Ideal S512x256 .bf16} {k : Fin 512 → Fin 256 → ℝ} (hk : ∀ j c, kb (ix2 j c) = (k j c : EReal))
variable {t n : ℕ} (ht : t < 32) (hn : n < 8)

/-! The operands. -/

include hk in
theorem kb_at (j : Fin 512) (c : Fin 256) : k0_pay106 kb (ix2 j c) = (k j c : EReal) := by pointwise [k0_pay106]; exact hk j c

include hB in
theorem qlo_at (r : Fin 1024) (c : Fin 256) : k0_pay107 B.q (ix2 r c) = (b.q (lo r) c : EReal) := by pointwise [k0_pay107]; exact hB.q _ c
include hB in
theorem qhi_at (r : Fin 1024) (c : Fin 256) : k0_pay119 B.q (ix2 r c) = (b.q (hi r) c : EReal) := by pointwise [k0_pay119]; exact hB.q _ c
include hB in
theorem dlo_at (r : Fin 1024) (c : Fin 128) : k0_pay108 B.dO (ix2 r c) = (b.dO (lo r) c : EReal) := by pointwise [k0_pay108]; exact hB.dO _ c
include hB in
theorem dhi_at (r : Fin 1024) (c : Fin 128) : k0_pay120 B.dO (ix2 r c) = (b.dO (hi r) c : EReal) := by pointwise [k0_pay120]; exact hB.dO _ c

include hB hk ht hn

theorem pA_at (r : Fin 1024) (j : Fin 512) :
    pA3 (BitVec.ofNat 32 t) (Scalar.muli (BitVec.ofNat 32 n) 512#32) B kb (ix2 r j) = ((b.p k (visAt t (512 * n)) (lo r) j : ℝ) : EReal) := by
  unfold pA3
  pointwise [k0_pay114, k0_pay111, k0_pay112, k0_pay113, k0_pay109]
  simp only [row_lo, key_word, qlo_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (lo r) j)

theorem dsA_at (r : Fin 1024) (j : Fin 512) :
    dsA3 (BitVec.ofNat 32 t) (Scalar.muli (BitVec.ofNat 32 n) 512#32) B kb (ix2 r j) = ((b.ds k (visAt t (512 * n)) (lo r) j : ℝ) : EReal) := by
  have hp := pA_at hB hk ht hn
  unfold pA3 at hp
  unfold dsA3
  pointwise [k0_pay115]
  simp only [hp, dlo_at hB, kb_at hk, delta_at hB, ← EReal.coe_mul, ← coe_sum, ← EReal.coe_sub]
  rfl

theorem pB_at (r : Fin 1024) (j : Fin 512) :
    k0_pay128 B.lse (k0_pay121 B.q (k0_pay106 kb)) (k0_pay123 (k0_pay122 (BitVec.ofNat 32 t))) (k0_pay125 (Scalar.muli (BitVec.ofNat 32 n) 512#32))
      (k0_pay126 (Scalar.muli (BitVec.ofNat 32 n) 512#32)) (k0_pay127 (Scalar.muli (BitVec.ofNat 32 n) 512#32)) (ix2 r j)
      = ((b.p k (visAt t (512 * n)) (hi r) j : ℝ) : EReal) := by
  pointwise [k0_pay128, k0_pay121, k0_pay123, k0_pay124, k0_pay125, k0_pay126, k0_pay127]
  simp only [row_hi, key_word, qhi_at hB, kb_at hk, hB.lse, mask_named, exp2_at, ← EReal.coe_mul, ← coe_sum]
  rw [chunk_word _ (by omega), chunk_word _ (by omega), exp2_masked _ _ _ _ (by omega) (by omega)]
  exact congrArg _ (b.p_visAt k t (512 * n) (hi r) j)

theorem dsB_at (r : Fin 1024) (j : Fin 512) :
    k0_pay129 B.lse B.delta (k0_pay106 kb) (k0_pay120 B.dO) (k0_pay121 B.q (k0_pay106 kb)) (k0_pay123 (k0_pay122 (BitVec.ofNat 32 t))) (k0_pay125 (Scalar.muli (BitVec.ofNat 32 n) 512#32))
      (k0_pay126 (Scalar.muli (BitVec.ofNat 32 n) 512#32)) (k0_pay127 (Scalar.muli (BitVec.ofNat 32 n) 512#32)) (ix2 r j)
      = ((b.ds k (visAt t (512 * n)) (hi r) j : ℝ) : EReal) := by
  pointwise [k0_pay129]
  simp only [pB_at hB hk ht hn, dhi_at hB, kb_at hk, delta_at hB, ← EReal.coe_mul, ← coe_sum, ← EReal.coe_sub]
  rfl

/-! The four sums into the gradient of keys and values. -/

theorem y1_at (y : Vec Ideal S512x256 .f32) (yr : Fin 512 → Fin 256 → ℝ) (hy : ∀ j c, y (ix2 j c) = (yr j c : EReal)) (j : Fin 512) (c : Fin 256) :
    k0_pay116 (k0_pay107 B.q) (dsA3 (BitVec.ofNat 32 t) (Scalar.muli (BitVec.ofNat 32 n) 512#32) B kb) y (ix2 j c)
      = ((yr j c + b.addS k (visAt t (512 * n)) lo j c : ℝ) : EReal) := by
  pointwise [k0_pay116]
  simp only [dsA_at hB hk ht hn, qlo_at hB, hy, ln2_named, ← EReal.coe_mul, ← coe_sum, ← EReal.coe_add]
  rfl

theorem y2_at (y : Vec Ideal S512x128 .f32) (yr : Fin 512 → Fin 128 → ℝ) (hy : ∀ j c, y (ix2 j c) = (yr j c : EReal)) (j : Fin 512) (c : Fin 128) :
    k0_pay117 (k0_pay108 B.dO) (pA3 (BitVec.ofNat 32 t) (Scalar.muli (BitVec.ofNat 32 n) 512#32) B kb) y (ix2 j c)
      = ((yr j c + b.addV k (visAt t (512 * n)) lo j c : ℝ) : EReal) := by
  pointwise [k0_pay117]
  simp only [pA_at hB hk ht hn, dlo_at hB, hy, ← EReal.coe_mul, ← coe_sum, ← EReal.coe_add]
  rfl

theorem y3_at (y : Vec Ideal S512x256 .f32) (yr : Fin 512 → Fin 256 → ℝ) (hy : ∀ j c, y (ix2 j c) = (yr j c : EReal)) (j : Fin 512) (c : Fin 256) :
    k0_pay130 B.lse B.delta (k0_pay106 kb) (k0_pay119 B.q) (k0_pay120 B.dO) (k0_pay121 B.q (k0_pay106 kb)) (k0_pay123 (k0_pay122 (BitVec.ofNat 32 t))) (k0_pay125 (Scalar.muli (BitVec.ofNat 32 n) 512#32))
      (k0_pay126 (Scalar.muli (BitVec.ofNat 32 n) 512#32)) (k0_pay127 (Scalar.muli (BitVec.ofNat 32 n) 512#32)) y (ix2 j c)
      = ((yr j c + b.addS k (visAt t (512 * n)) hi j c : ℝ) : EReal) := by
  pointwise [k0_pay130]
  simp only [dsB_at hB hk ht hn, qhi_at hB, hy, ln2_named, ← EReal.coe_mul, ← coe_sum, ← EReal.coe_add]
  rfl

theorem y4_at (y : Vec Ideal S512x128 .f32) (yr : Fin 512 → Fin 128 → ℝ) (hy : ∀ j c, y (ix2 j c) = (yr j c : EReal)) (j : Fin 512) (c : Fin 128) :
    k0_pay131 B.lse (k0_pay120 B.dO) (k0_pay121 B.q (k0_pay106 kb)) (k0_pay123 (k0_pay122 (BitVec.ofNat 32 t))) (k0_pay125 (Scalar.muli (BitVec.ofNat 32 n) 512#32))
      (k0_pay126 (Scalar.muli (BitVec.ofNat 32 n) 512#32)) (k0_pay127 (Scalar.muli (BitVec.ofNat 32 n) 512#32)) y (ix2 j c)
      = ((yr j c + b.addV k (visAt t (512 * n)) hi j c : ℝ) : EReal) := by
  pointwise [k0_pay131]
  simp only [pB_at hB hk ht hn, dhi_at hB, hy, ← EReal.coe_mul, ← coe_sum, ← EReal.coe_add]
  rfl

/-! The gradient of the queries. -/

theorem qA_at (acc : FVec Ideal S2048x256 .f32) (ar : Fin 2048 → Fin 256 → ℝ) (ha : ∀ r c, acc (ix2 r c) = (ar r c : EReal)) (r : Fin 1024) (c : Fin 256) :
    k0_pay118 acc (k0_pay106 kb) (dsA3 (BitVec.ofNat 32 t) (Scalar.muli (BitVec.ofNat 32 n) 512#32) B kb) (ix2 r c)
      = ((ar (lo r) c + b.addQ k (visAt t (512 * n)) (lo r) c : ℝ) : EReal) := by
  pointwise [k0_pay118]
  simp only [dsA_at hB hk ht hn, kb_at hk, ha, ← EReal.coe_mul, ← coe_sum, ← EReal.coe_add]
  rfl

theorem q_at (acc : FVec Ideal S2048x256 .f32) (ar : Fin 2048 → Fin 256 → ℝ) (ha : ∀ r c, acc (ix2 r c) = (ar r c : EReal)) (h : Fin 16) (i : Fin 128) (c : Fin 256) :
    k0_pay132 B.lse B.delta acc (k0_pay106 kb) (k0_pay118 acc (k0_pay106 kb) (dsA3 (BitVec.ofNat 32 t) (Scalar.muli (BitVec.ofNat 32 n) 512#32) B kb)) (k0_pay120 B.dO) (k0_pay121 B.q (k0_pay106 kb))
      (k0_pay123 (k0_pay122 (BitVec.ofNat 32 t))) (k0_pay125 (Scalar.muli (BitVec.ofNat 32 n) 512#32)) (k0_pay126 (Scalar.muli (BitVec.ofNat 32 n) 512#32)) (k0_pay127 (Scalar.muli (BitVec.ofNat 32 n) 512#32)) (ix3 h i c)
      = (((ar (rowOf h i) c + b.addQ k (visAt t (512 * n)) (rowOf h i) c) * sigma : ℝ) : EReal) := by
  pointwise [k0_pay132]
  have e : rowOf h i = ⟨h.val * 128 + i.val, by omega⟩ := by apply Fin.ext; show 128 * h.val + i.val = h.val * 128 + i.val; omega
  split
  · next hlt =>
    have e' : rowOf h i = lo ⟨h.val * 128 + i.val, hlt⟩ := e
    rw [qA_at hB hk ht hn acc ar ha, sigma_eq, ← EReal.coe_mul, e']
  · next hge =>
    have e' : rowOf h i = hi ⟨h.val * 128 + i.val - 1024, by omega⟩ := by rw [e]; apply Fin.ext; show h.val * 128 + i.val = 1024 + (h.val * 128 + i.val - 1024); omega
    simp only [dsB_at hB hk ht hn, kb_at hk, ha, sigma_eq, ← EReal.coe_mul, ← coe_sum, ← EReal.coe_add]
    rw [e']
    rfl

end W512

/-! The whole block, at its place among the rows. -/

section
variable {B : Blk Ideal} {b : RBlk} (hB : IsBlk B b) {K : Vec Ideal S4096x256 .bf16} {k : Fin 4096 → Fin 256 → ℝ} (hK : ∀ j c, K (ix2 j c) = (k j c : EReal))
  (i : grid0.Coords) (h : k0_cond5 i = 1#1)

theorem off3_eq : ∀ i : grid0.Coords, k0_off11 i = ![512 * ((i 0).val / 4), 0] := by decide +kernel
theorem off3'_eq : ∀ i : grid0.Coords, k0_off12 i = ![512 * ((i 0).val / 4), 0] := by decide +kernel

theorem room3 (i : grid0.Coords) : 512 * ((i 0).val / 4) + 512 ≤ 4096 := by have : (i 0).val < 32 := (i 0).isLt; omega

include hK in
theorem keys3 (j : Fin 512) (c : Fin 256) :
    Cert.Held.get (D31 i h) K (ix2 j c) = ((k (sh (512 * ((i 0).val / 4)) (room3 i) j) c : ℝ) : EReal) :=
  (get_rows (w := 512) (m := 256) (off3_eq i) (k0_off11_inb i h) (room3 i) (by omega) K j c).trans (hK _ _)

theorem vis3 (r : Fin 2048) (j : Fin 512) :
    visAt (i 0).val (512 * ((i 0).val / 4)) r j ↔ visAll (i 0).val r (sh (512 * ((i 0).val / 4)) (room3 i) j) := Iff.rfl

include hB hK in
theorem diagY3_at (Y : Vec Ideal S4096x256 .f32) (yr : Fin 4096 → Fin 256 → ℝ) (hY : ∀ J C, Y (ix2 J C) = (yr J C : EReal)) (J : Fin 4096) (C : Fin 256) :
    diagY3 i h (BitVec.ofNat 32 (i 0).val) (Scalar.muli (BitVec.ofNat 32 ((i 0).val / 4)) 512#32) B K Y (ix2 J C)
      = ((yr J C + (if 512 * ((i 0).val / 4) ≤ J.val ∧ J.val < 512 * ((i 0).val / 4) + 512 then b.addY k (visAll (i 0).val) J C else 0) : ℝ) : EReal) := by
  have ht : (i 0).val < 32 := (i 0).isLt
  have hn : (i 0).val / 4 < 8 := by omega
  have hk := keys3 hK i h
  exact four_rows (w := 512) (off3_eq i) (off3'_eq i) (k0_off11_inb i h) (k0_off12_inb i h) (room3 i) _ _ _ _ b k
    (visAt (i 0).val (512 * ((i 0).val / 4))) (visAll (i 0).val) (vis3 i)
    (fun y yr hy => W512.y1_at hB hk ht hn y yr hy) (fun y yr hy => W512.y2_at hB hk ht hn y yr hy)
    (fun y yr hy => W512.y3_at hB hk ht hn y yr hy) (fun y yr hy => W512.y4_at hB hk ht hn y yr hy) Y yr hY J C _ _ _ _ rfl rfl rfl rfl

include hB hK in
theorem diagQ3_at (acc : FVec Ideal S2048x256 .f32) (ar : Fin 2048 → Fin 256 → ℝ) (ha : ∀ r c, acc (ix2 r c) = (ar r c : EReal)) (hd : Fin 16) (q : Fin 128) (c : Fin 256) :
    diagQ3 i h (BitVec.ofNat 32 (i 0).val) (Scalar.muli (BitVec.ofNat 32 ((i 0).val / 4)) 512#32) B K acc (ix3 hd q c)
      = (((ar (rowOf hd q) c + ∑ j : Fin 512, b.ds k (visAll (i 0).val) (rowOf hd q) (sh (512 * ((i 0).val / 4)) (room3 i) j)
          * k (sh (512 * ((i 0).val / 4)) (room3 i) j) c) * sigma : ℝ) : EReal) := by
  have ht : (i 0).val < 32 := (i 0).isLt
  have hn : (i 0).val / 4 < 8 := by omega
  rw [← addQ_block b k _ (room3 i) _ _ (vis3 i)]
  exact W512.q_at hB (keys3 hK i h) ht hn acc ar ha hd q c

end

end Cert.Val

end
-- ==== Proof.Val.Point.lean ====
/-
  One grid point in real numbers: its query block adds to every row of the gradient of keys and values, and its block of
  the gradient of the queries sums over all keys; a key that the block does not see counts with probability zero.
-/
module

public import proofs.«01_k».proof.Proof.Val.Diag0
public import proofs.«01_k».proof.Proof.Val.Diag1
public import proofs.«01_k».proof.Proof.Val.Diag2
public import proofs.«01_k».proof.Proof.Val.Diag3
public import proofs.«01_k».proof.Proof.KI.Body

@[expose] public section

noncomputable section

namespace Cert.Val

open Idealize.ShloMosaic Cert.KernelIdeal Cert.KernelIdeal.Gen Cert.KernelIdeal.Body Cert.Held

theorem toff1 : ∀ (i : grid0.Coords) (k : Fin (k0_t1_loop i).trips), k0_off1 i k = ![512 * k.val, 0] := by decide +kernel
theorem toff2 : ∀ (i : grid0.Coords) (k : Fin (k0_t1_loop i).trips), k0_off2 i k = ![512 * k.val, 0] := by decide +kernel

theorem trip_lt (i : grid0.Coords) (n : Fin (k0_t1_loop i).trips) : n.val < (i 0).val / 4 := t1_trips i ▸ n.isLt

theorem troom (i : grid0.Coords) (n : Fin (k0_t1_loop i).trips) : 512 * n.val + 512 ≤ 4096 := by
  have := trip_lt i n
  have : (i 0).val < 32 := (i 0).isLt
  omega

/-- Every row of the query block sees the keys of a trip. -/
theorem tvis (i : grid0.Coords) (n : Fin (k0_t1_loop i).trips) (r : Fin 2048) (j : Fin 512) :
    vtrue r j ↔ visAll (i 0).val r (sh (512 * n.val) (troom i n) j) := by
  have := trip_lt i n
  refine ⟨fun _ => ?_, fun _ => trivial⟩
  show (512 * n.val + j.val) / 64 ≤ (128 * (i 0).val + r.val % 128) / 64
  have := j.isLt
  omega

variable {B : Blk Ideal} {b : RBlk} (hB : IsBlk B b) {K : Vec Ideal S4096x256 .bf16} {k : Fin 4096 → Fin 256 → ℝ} (hK : ∀ j c, K (ix2 j c) = (k j c : EReal))
  (i : grid0.Coords)

section
variable (n : Fin (k0_t1_loop i).trips)

include hK in
theorem tkeys (j : Fin 512) (c : Fin 256) : Cert.Held.get (R1 i n) K (ix2 j c) = ((k (sh (512 * n.val) (troom i n) j) c : ℝ) : EReal) :=
  (get_rows (w := 512) (m := 256) (toff1 i n) (k0_off1_inb i n) (troom i n) (by omega) K j c).trans (hK _ _)

include hB hK in
theorem tripY_at (Y : Vec Ideal S4096x256 .f32) (yr : Fin 4096 → Fin 256 → ℝ) (hY : ∀ J C, Y (ix2 J C) = (yr J C : EReal)) (J : Fin 4096) (C : Fin 256) :
    tripY i B K n Y (ix2 J C)
      = ((yr J C + (if 512 * n.val ≤ J.val ∧ J.val < 512 * n.val + 512 then b.addY k (visAll (i 0).val) J C else 0) : ℝ) : EReal) := by
  have hk := tkeys hK i n
  exact four_rows (w := 512) (toff1 i n) (toff2 i n) (k0_off1_inb i n) (k0_off2_inb i n) (troom i n) _ _ _ _ b k vtrue (visAll (i 0).val) (tvis i n)
    (fun y yr hy => pay6_at hB hk y yr hy) (fun y yr hy => pay7_at hB hk y yr hy)
    (fun y yr hy => pay143_at hB hk y yr hy) (fun y yr hy => pay144_at hB hk y yr hy) Y yr hY J C _ _ _ _ rfl rfl rfl rfl

include hB hK in
theorem tripA_at (acc : FVec Ideal S2048x256 .f32) (ar : Fin 2048 → Fin 256 → ℝ) (ha : ∀ r c, acc (ix2 r c) = (ar r c : EReal)) (r : Fin 2048) (c : Fin 256) :
    tripA i B K n acc (ix2 r c)
      = ((ar r c + ∑ j : Fin 512, b.ds k (visAll (i 0).val) r (sh (512 * n.val) (troom i n) j) * k (sh (512 * n.val) (troom i n) j) c : ℝ) : EReal) := by
  rw [← addQ_block b k _ (troom i n) _ _ (tvis i n)]
  exact pay145_at hB (tkeys hK i n) acc ar ha r c

end

/-! ## Sums over the first keys -/

/-- What key `J` adds to the gradient of row `r`'s query. -/
def RBlk.term (b : RBlk) (k : Fin 4096 → Fin 256 → ℝ) (vis : Fin 2048 → Fin 4096 → Prop) (r : Fin 2048) (c : Fin 256) (J : ℕ) : ℝ :=
  if h : J < 4096 then b.ds k vis r ⟨J, h⟩ * k ⟨J, h⟩ c else 0

theorem block_sum (vis : Fin 2048 → Fin 4096 → Prop) (r : Fin 2048) (c : Fin 256) {w : ℕ} (a : ℕ) (ha : a + w ≤ 4096) :
    ∑ j : Fin w, b.ds k vis r (sh a ha j) * k (sh a ha j) c = ∑ J ∈ Finset.range w, b.term k vis r c (a + J) := by
  rw [Finset.sum_range]
  refine Finset.sum_congr rfl fun j _ => ?_
  rw [RBlk.term, dif_pos (by omega)]
  rfl

theorem all_sum (vis : Fin 2048 → Fin 4096 → Prop) (r : Fin 2048) (c : Fin 256) :
    b.addQ k vis r c = ∑ J ∈ Finset.range 4096, b.term k vis r c J := by
  rw [Finset.sum_range]
  refine Finset.sum_congr rfl fun j _ => ?_
  rw [RBlk.term, dif_pos j.isLt]

/-- Beyond the block nothing is seen. -/
theorem p_beyond (t : ℕ) (r : Fin 2048) (J : Fin 4096) (h : 128 * (t + 1) ≤ J.val) : b.p k (visAll t) r J = 0 := by
  unfold RBlk.p
  refine if_neg ?_
  show ¬ J.val / 64 ≤ (128 * t + r.val % 128) / 64
  omega

theorem ds_beyond (t : ℕ) (r : Fin 2048) (J : Fin 4096) (h : 128 * (t + 1) ≤ J.val) : b.ds k (visAll t) r J = 0 := by
  unfold RBlk.ds
  rw [p_beyond t r J h, zero_mul]

theorem addY_beyond (t : ℕ) (J : Fin 4096) (C : Fin 256) (h : 128 * (t + 1) ≤ J.val) : b.addY k (visAll t) J C = 0 := by
  unfold RBlk.addY RBlk.addW RBlk.addS RBlk.addV
  simp only [ds_beyond t _ J h, p_beyond t _ J h, zero_mul, Finset.sum_const_zero, dite_eq_ite, ite_self, add_zero]

theorem sum_beyond (t : ℕ) (r : Fin 2048) (c : Fin 256) (m : ℕ) (h : 128 * (t + 1) ≤ m) (hm : m ≤ 4096) :
    ∑ J ∈ Finset.range m, b.term k (visAll t) r c J = b.addQ k (visAll t) r c := by
  rw [all_sum]
  refine Finset.sum_subset (fun x hx => Finset.mem_range.mpr (lt_of_lt_of_le (Finset.mem_range.mp hx) hm)) fun J hJ hJ' => ?_
  rw [Finset.mem_range] at hJ hJ'
  rw [RBlk.term, dif_pos hJ, ds_beyond t r ⟨J, hJ⟩ (by show _ ≤ J; omega), zero_mul]

/-! ## The trips together -/

include hB hK in
theorem stY_at (Y : Vec Ideal S4096x256 .f32) (yr : Fin 4096 → Fin 256 → ℝ) (hY : ∀ J C, Y (ix2 J C) = (yr J C : EReal)) (n : ℕ) (hn : n ≤ (k0_t1_loop i).trips) :
    ∀ J C, stY i B K Y n (ix2 J C) = ((yr J C + (if J.val < 512 * n then b.addY k (visAll (i 0).val) J C else 0) : ℝ) : EReal) := by
  induction n with
  | zero => intro J C; simp only [stY, Nat.mul_zero, Nat.not_lt_zero, if_false, add_zero]; exact hY J C
  | succ n ih =>
    intro J C
    rw [stY_succ i B K Y ⟨n, hn⟩, tripY_at hB hK i ⟨n, hn⟩ _ _ (ih (by omega)) J C]
    congr 1
    show (_ + if J.val < 512 * n then _ else _) + (if 512 * n ≤ J.val ∧ J.val < 512 * n + 512 then _ else _) = _
    by_cases h1 : J.val < 512 * n
    · rw [if_pos h1, if_neg (by omega), if_pos (by omega), add_zero]
    · by_cases h2 : J.val < 512 * (n + 1)
      · rw [if_neg h1, if_pos (by omega), if_pos h2, add_zero]
      · rw [if_neg h1, if_neg (by omega), if_neg h2, add_zero, add_zero]

include hB hK in
theorem stA_at (n : ℕ) (hn : n ≤ (k0_t1_loop i).trips) :
    ∀ r c, stA i B K n (ix2 r c) = ((∑ J ∈ Finset.range (512 * n), b.term k (visAll (i 0).val) r c J : ℝ) : EReal) := by
  induction n with
  | zero =>
    intro r c
    simp only [stA, Nat.mul_zero, Finset.range_zero, Finset.sum_empty]
    pointwise [k0_pay140]
    simp [Ideal.ofBits, Ideal.ieee]
  | succ n ih =>
    intro r c
    rw [stA_succ i B K ⟨n, hn⟩, tripA_at hB hK i ⟨n, hn⟩ _ _ (ih (by omega)) r c, block_sum]
    congr 1
    rw [show 512 * (n + 1) = 512 * n + 512 by omega, Finset.sum_range_add]

/-! ## The point -/

theorem join (t W : ℕ) (hW : 512 * (t / 4) + W = 128 * (t + 1)) (y : ℝ) (J : Fin 4096) (C : Fin 256) :
    (y + (if J.val < 512 * (t / 4) then b.addY k (visAll t) J C else 0)) + (if 512 * (t / 4) ≤ J.val ∧ J.val < 512 * (t / 4) + W then b.addY k (visAll t) J C else 0)
      = y + b.addY k (visAll t) J C := by
  by_cases h1 : J.val < 512 * (t / 4)
  · rw [if_pos h1, if_neg (by omega), add_zero]
  · by_cases h2 : J.val < 128 * (t + 1)
    · rw [if_neg h1, if_pos (by omega), add_zero]
    · rw [if_neg h1, if_neg (by omega), addY_beyond t J C (by omega), add_zero, add_zero]

include hB hK in
/-- The point adds its block's share to every row. -/
theorem ptY_at (Y : Vec Ideal S4096x256 .f32) (yr : Fin 4096 → Fin 256 → ℝ) (hY : ∀ J C, initY i Y (ix2 J C) = (yr J C : EReal)) (J : Fin 4096) (C : Fin 256) :
    ptY i B K Y (ix2 J C) = ((yr J C + b.addY k (visAll (i 0).val) J C : ℝ) : EReal) := by
  have hs := stY_at hB hK i (initY i Y) yr hY (k0_t1_loop i).trips le_rfl
  simp only [t1_trips] at hs
  have ht : (i 0).val < 32 := (i 0).isLt
  unfold ptY
  simp only [t1_trips]
  split
  · rename_i h
    rw [diagY0_at hB hK i h _ _ hs J C, join _ _ (by have := (cond2_iff i).mp h; omega)]
  · split
    · rename_i h
      rw [diagY1_at hB hK i h _ _ hs J C, join _ _ (by have := (cond3_iff i).mp h; omega)]
    · split
      · rename_i h
        rw [diagY2_at hB hK i h _ _ hs J C, join _ _ (by have := (cond4_iff i).mp h; omega)]
      · rename_i h2 h3 h4
        rw [diagY3_at hB hK i (cond5_of i h2 h3 h4) _ _ hs J C, join _ _ (by have := (cond5_iff i).mp (cond5_of i h2 h3 h4); omega)]

theorem joinQ (t W : ℕ) (ht : t < 32) (hW : 512 * (t / 4) + W = 128 * (t + 1)) (ha : 512 * (t / 4) + W ≤ 4096) (r : Fin 2048) (c : Fin 256) :
    (∑ J ∈ Finset.range (512 * (t / 4)), b.term k (visAll t) r c J) + ∑ j : Fin W, b.ds k (visAll t) r (sh (512 * (t / 4)) ha j) * k (sh (512 * (t / 4)) ha j) c
      = b.addQ k (visAll t) r c := by
  rw [block_sum, ← Finset.sum_range_add, hW, sum_beyond t r c _ le_rfl (by omega)]

include hB hK in
/-- The point's block of the gradient of the queries. -/
theorem ptQ_at (hd : Fin 16) (q : Fin 128) (c : Fin 256) :
    ptQ i B K (ix3 hd q c) = ((b.addQ k (visAll (i 0).val) (rowOf hd q) c * sigma : ℝ) : EReal) := by
  have hs := stA_at hB hK i (k0_t1_loop i).trips le_rfl
  simp only [t1_trips] at hs
  have ht : (i 0).val < 32 := (i 0).isLt
  unfold ptQ
  simp only [t1_trips]
  split
  · rename_i h
    rw [diagQ0_at hB hK i h _ _ hs, joinQ _ _ ht (by have := (cond2_iff i).mp h; omega)]
  · split
    · rename_i h
      rw [diagQ1_at hB hK i h _ _ hs, joinQ _ _ ht (by have := (cond3_iff i).mp h; omega)]
    · split
      · rename_i h
        rw [diagQ2_at hB hK i h _ _ hs, joinQ _ _ ht (by have := (cond4_iff i).mp h; omega)]
      · rename_i h2 h3 h4
        rw [diagQ3_at hB hK i (cond5_of i h2 h3 h4) _ _ hs, joinQ _ _ ht (by have := (cond5_iff i).mp (cond5_of i h2 h3 h4); omega)]

end Cert.Val

end
-- ==== Proof.Val.Math.lean ====
/-
  The attention's forward pass and its gradient in real numbers, and what the query blocks compute of it.
-/
module

public import proofs.«01_k».proof.Proof.Val.Point

@[expose] public section

noncomputable section

namespace Cert.Val

/-- The five arguments in real numbers. -/
structure Args where
  ql : Fin 16 → Fin 4096 → Fin 128 → ℝ
  qr : Fin 16 → Fin 4096 → Fin 128 → ℝ
  kv : Fin 4096 → Fin 128 → ℝ
  kr : Fin 4096 → Fin 128 → ℝ
  g : Fin 16 → Fin 4096 → Fin 128 → ℝ

variable (a : Args) (M : Fin 16 → Fin 4096 → ℝ)

/-- Two arrays of 128 columns side by side. -/
def beside (x y : Fin 128 → ℝ) (c : Fin 256) : ℝ := if h : c.val < 128 then x ⟨c.val, h⟩ else y ⟨c.val - 128, by omega⟩

def Args.qq (h : Fin 16) (i : Fin 4096) (c : Fin 256) : ℝ := beside (a.ql h i) (a.qr h i) c
def Args.kk (j : Fin 4096) (c : Fin 256) : ℝ := beside (a.kv j) (a.kr j) c

/-- The scaled scores, and which keys a query sees. -/
def Args.S (h : Fin 16) (i j : Fin 4096) : ℝ := (∑ c, a.ql h i c * a.kv j c + ∑ c, a.qr h i c * a.kr j c) * sigma
def sees (i j : Fin 4096) : Prop := j.val / 64 ≤ i.val / 64

open Classical in
/-- Exponentials of the scores over the rows' shift `M`, -/
def Args.ex (h : Fin 16) (i j : Fin 4096) : ℝ := if sees i j then Real.exp (a.S h i j - M h i) else 0
/-- their sum, -/
def Args.Z (h : Fin 16) (i : Fin 4096) : ℝ := ∑ j, a.ex M h i j
/-- the probabilities, -/
def Args.P (h : Fin 16) (i j : Fin 4096) : ℝ := a.ex M h i j / a.Z M h i
/-- the output, -/
def Args.o (h : Fin 16) (i : Fin 4096) (c : Fin 128) : ℝ := ∑ j, a.P M h i j * a.kv j c
/-- the gradient of the probabilities, -/
def Args.dp (h : Fin 16) (i j : Fin 4096) : ℝ := ∑ c, a.g h i c * a.kv j c
/-- and of the scores. -/
def Args.ds (h : Fin 16) (i j : Fin 4096) : ℝ := a.P M h i j * (a.dp h i j - ∑ j', a.P M h i j' * a.dp h i j') * sigma

/-- The gradients of the queries, and of keys and values. -/
def Args.dq (h : Fin 16) (i : Fin 4096) (c : Fin 256) : ℝ := ∑ j, a.ds M h i j * a.kk j c
def Args.dk (j : Fin 4096) (c : Fin 256) : ℝ :=
  (∑ h, ∑ i, a.ds M h i j * a.qq h i c) + (if hc : c.val < 128 then ∑ h, ∑ i, a.P M h i j * a.g h i ⟨c.val, hc⟩ else 0)

theorem Args.ex_nonneg (h : Fin 16) (i j : Fin 4096) : 0 ≤ a.ex M h i j := by
  unfold Args.ex; split
  · exact (Real.exp_pos _).le
  · exact le_rfl

theorem Args.Z_pos (h : Fin 16) (i : Fin 4096) : 0 < a.Z M h i := by
  refine Finset.sum_pos' (fun j _ => a.ex_nonneg M h i j) ⟨i, Finset.mem_univ i, ?_⟩
  unfold Args.ex
  rw [if_pos (show sees i i from le_rfl)]
  exact Real.exp_pos _

theorem Args.P_unseen (h : Fin 16) (i j : Fin 4096) (hn : ¬ sees i j) : a.P M h i j = 0 := by
  unfold Args.P Args.ex; rw [if_neg hn, zero_div]

/-- The power of two over the log-sum in base 2 is the probability. -/
theorem Args.pow_eq (h : Fin 16) (i j : Fin 4096) (hs : sees i j) :
    Real.rpow 2 (a.S h i j / Real.log 2 - (M h i + Real.log (a.Z M h i)) / Real.log 2) = a.P M h i j := by
  have hl : Real.log 2 ≠ 0 := (Real.log_pos (by norm_num)).ne'
  rw [show ∀ x, Real.rpow 2 x = (2 : ℝ) ^ x from fun _ => rfl, Real.rpow_def_of_pos (by norm_num), show Real.log 2 * (a.S h i j / Real.log 2 - (M h i + Real.log (a.Z M h i)) / Real.log 2)
      = (a.S h i j - M h i) - Real.log (a.Z M h i) by field_simp; ring, Real.exp_sub, Real.exp_log (a.Z_pos M h i)]
  unfold Args.P Args.ex
  rw [if_pos hs]

open Classical in
/-- The gradient of the scores as differentiation of the quotient states it. -/
theorem Args.ds_eq (h : Fin 16) (i j : Fin 4096) :
    (if sees i j then (a.dp h i j * (1 / a.Z M h i) + -∑ j', a.dp h i j' * (1 / (a.Z M h i * a.Z M h i)) * a.ex M h i j') * a.ex M h i j else 0) * sigma
      = a.ds M h i j := by
  have hz := (a.Z_pos M h i).ne'
  unfold Args.ds
  by_cases hs : sees i j
  · rw [if_pos hs]
    congr 1
    have e : ∑ j', a.dp h i j' * (1 / (a.Z M h i * a.Z M h i)) * a.ex M h i j' = (∑ j', a.P M h i j' * a.dp h i j') * (1 / a.Z M h i) := by
      rw [Finset.sum_mul]
      refine Finset.sum_congr rfl fun j' _ => ?_
      unfold Args.P
      field_simp
    rw [e]
    unfold Args.P
    ring
  · rw [if_neg hs, a.P_unseen M h i j hs, zero_mul, zero_mul, zero_mul]

/-! ## Rows of the query blocks -/

/-- The head of a row, and its query. -/
def hd (r : Fin 2048) : Fin 16 := ⟨r.val / 128, by omega⟩
def qi (t : Fin 32) (r : Fin 2048) : Fin 4096 := ⟨128 * t.val + r.val % 128, by omega⟩

/-- The query block `t`. -/
def Args.blk (t : Fin 32) : RBlk where
  q r c := a.qq (hd r) (qi t r) c * (sigma / Real.log 2)
  dO r c := a.g (hd r) (qi t r) c
  lse r := (M (hd r) (qi t r) + Real.log (a.Z M (hd r) (qi t r))) / Real.log 2
  o r c := a.o M (hd r) (qi t r) c

theorem sum_beside (x y x' y' : Fin 128 → ℝ) : ∑ c, beside x y c * beside x' y' c = ∑ c, x c * x' c + ∑ c, y c * y' c := by
  rw [show (∑ c : Fin 256, beside x y c * beside x' y' c) = _ from Fin.sum_univ_add (a := 128) (b := 128) (fun c => beside x y c * beside x' y' c)]
  congr 1

theorem Args.blk_p (t : Fin 32) (r : Fin 2048) (j : Fin 4096) : (a.blk M t).p a.kk (visAll t.val) r j = a.P M (hd r) (qi t r) j := by
  unfold RBlk.p
  by_cases h : visAll t.val r j
  · rw [if_pos h, ← a.pow_eq M _ _ _ (show sees (qi t r) j from h)]
    congr 2
    show ∑ c, a.qq (hd r) (qi t r) c * (sigma / Real.log 2) * a.kk j c = _
    unfold Args.S
    rw [← sum_beside, mul_div_assoc, Finset.sum_mul]
    refine Finset.sum_congr rfl fun c _ => ?_
    unfold Args.qq Args.kk
    ring
  · rw [if_neg h, a.P_unseen M _ _ _ (show ¬ sees (qi t r) j from h)]

theorem Args.blk_delta (t : Fin 32) (r : Fin 2048) : (a.blk M t).delta r = ∑ j, a.P M (hd r) (qi t r) j * a.dp (hd r) (qi t r) j := by
  show ∑ c, a.g (hd r) (qi t r) c * (∑ j, a.P M (hd r) (qi t r) j * a.kv j c) = ∑ j, a.P M (hd r) (qi t r) j * ∑ c, a.g (hd r) (qi t r) c * a.kv j c
  simp only [Finset.mul_sum]
  rw [Finset.sum_comm]
  refine Finset.sum_congr rfl fun j _ => Finset.sum_congr rfl fun c _ => ?_
  ring

theorem Args.kk_col (j : Fin 4096) (c : Fin 128) : a.kk j (col c) = a.kv j c := by
  unfold Args.kk beside
  exact dif_pos c.isLt

theorem Args.blk_ds (t : Fin 32) (r : Fin 2048) (j : Fin 4096) : (a.blk M t).ds a.kk (visAll t.val) r j * sigma = a.ds M (hd r) (qi t r) j := by
  unfold RBlk.ds Args.ds
  rw [a.blk_p, a.blk_delta]
  simp only [a.kk_col]
  rfl

/-- The block's gradient of the queries. -/
theorem Args.blk_q (t : Fin 32) (r : Fin 2048) (c : Fin 256) : (a.blk M t).addQ a.kk (visAll t.val) r c * sigma = a.dq M (hd r) (qi t r) c := by
  unfold RBlk.addQ Args.dq
  rw [Finset.sum_mul]
  refine Finset.sum_congr rfl fun j _ => ?_
  rw [← a.blk_ds]
  ring

theorem halves (f : Fin 2048 → ℝ) : ∑ r, f (lo r) + ∑ r, f (hi r) = ∑ r, f r :=
  (Fin.sum_univ_add (a := 1024) (b := 1024) f).symm

theorem Args.blk_addS (t : Fin 32) (l : Fin 1024 → Fin 2048) (J : Fin 4096) (C : Fin 256) :
    (a.blk M t).addS a.kk (visAll t.val) l J C = ∑ r, a.ds M (hd (l r)) (qi t (l r)) J * a.qq (hd (l r)) (qi t (l r)) C := by
  have hl : Real.log 2 ≠ 0 := (Real.log_pos (by norm_num)).ne'
  unfold RBlk.addS
  rw [Finset.sum_mul]
  refine Finset.sum_congr rfl fun r _ => ?_
  rw [← a.blk_ds]
  show _ * (a.qq (hd (l r)) (qi t (l r)) C * (sigma / Real.log 2)) * Real.log 2 = _
  field_simp

/-- The block's share of the gradient of keys and values. -/
theorem Args.blk_Y (t : Fin 32) (J : Fin 4096) (C : Fin 256) :
    (a.blk M t).addY a.kk (visAll t.val) J C
      = (∑ r, a.ds M (hd r) (qi t r) J * a.qq (hd r) (qi t r) C)
        + (if hc : C.val < 128 then ∑ r, a.P M (hd r) (qi t r) J * a.g (hd r) (qi t r) ⟨C.val, hc⟩ else 0) := by
  unfold RBlk.addY
  rw [a.blk_addS, a.blk_addS, ← halves (fun r => a.ds M (hd r) (qi t r) J * a.qq (hd r) (qi t r) C)]
  unfold RBlk.addW
  by_cases hc : C.val < 128
  · simp only [hc, dif_pos]
    rw [← halves (fun r => a.P M (hd r) (qi t r) J * a.g (hd r) (qi t r) ⟨C.val, hc⟩)]
    unfold RBlk.addV
    simp only [a.blk_p]
    show _ + (∑ r, _ * a.g (hd (lo r)) (qi t (lo r)) ⟨C.val, hc⟩) + _ + (∑ r, _ * a.g (hd (hi r)) (qi t (hi r)) ⟨C.val, hc⟩) = _
    ring
  · simp only [hc, dif_neg, not_false_eq_true, add_zero]

theorem sum_rows (f : Fin 2048 → ℝ) : ∑ r, f r = ∑ h, ∑ q, f (rowOf h q) := by
  rw [← Fintype.sum_prod_type']
  refine (Fintype.sum_equiv (finProdFinEquiv (m := 16) (n := 128)) _ f fun x => ?_).symm
  congr 1
  apply Fin.ext
  show 128 * x.1.val + x.2.val = x.2.val + 128 * x.1.val
  omega

theorem sum_queries (f : Fin 4096 → ℝ) : ∑ i, f i = ∑ t : Fin 32, ∑ q : Fin 128, f ⟨128 * t.val + q.val, by omega⟩ := by
  rw [← Fintype.sum_prod_type']
  refine (Fintype.sum_equiv (finProdFinEquiv (m := 32) (n := 128)) _ f fun x => ?_).symm
  congr 1
  apply Fin.ext
  show 128 * x.1.val + x.2.val = x.2.val + 128 * x.1.val
  omega

/-- The rows of all query blocks are the heads' queries. -/
theorem sum_blocks (f : Fin 16 → Fin 4096 → ℝ) : ∑ t : Fin 32, ∑ r, f (hd r) (qi t r) = ∑ h, ∑ i, f h i := by
  simp only [sum_rows, sum_queries]
  rw [Finset.sum_comm]
  refine Finset.sum_congr rfl fun h _ => Finset.sum_congr rfl fun t _ => Finset.sum_congr rfl fun q _ => ?_
  congr 1
  · apply Fin.ext; show (128 * h.val + q.val) / 128 = h.val; omega
  · apply Fin.ext; show 128 * t.val + (128 * h.val + q.val) % 128 = 128 * t.val + q.val; omega

/-- All blocks' shares together. -/
theorem Args.sum_Y (J : Fin 4096) (C : Fin 256) : ∑ t : Fin 32, (a.blk M t).addY a.kk (visAll t.val) J C = a.dk M J C := by
  simp only [a.blk_Y]
  rw [Finset.sum_add_distrib, sum_blocks (fun h i => a.ds M h i J * a.qq h i C)]
  unfold Args.dk
  congr 1
  by_cases hc : C.val < 128
  · simp only [hc, dif_pos]
    exact sum_blocks (fun h i => a.P M h i J * a.g h i ⟨C.val, hc⟩)
  · simp only [hc, dif_neg, not_false_eq_true, Finset.sum_const_zero]

end Cert.Val

end
-- ==== Proof.Val.HostVals.lean ====
/-
  The host operations at an index, in real numbers.
-/
module

public import proofs.«01_k».proof.Proof.Val.Stage
public import proofs.«01_k».proof.Proof.Val.Math

@[expose] public section

noncomputable section

namespace Cert.Val.Stage

open Cert.ReferenceIdeal Cert.ReferenceIdeal.Gen Idealize.ShloMosaic Idealize.ShloMosaic.StableHlo

/-! The words of the mask. -/

theorem host_chunk : ∀ i : Fin 4096,
    Scalar.select
      (IntOp.andi
        (IntOp.cmpi .ne (if BitVec.ofNat 32 i.val = 0 then 0 else if (BitVec.ofNat 32 i.val).msb = true then -1 else 1)
          (if (64#32 : BitVec 32) = 0 then (0 : BitVec 32) else if (64#32 : BitVec 32).msb = true then -1 else 1))
        (IntOp.cmpi .ne (IntOp.remsi .host (BitVec.ofNat 32 i.val) 64#32) 0#32))
      (IntOp.subi (IntOp.divsi .host (BitVec.ofNat 32 i.val) 64#32) 1#32)
      (IntOp.divsi .host (BitVec.ofNat 32 i.val) 64#32) = BitVec.ofNat 32 (i.val / 64) := by decide +kernel

theorem chunk_at (i : Fin 4096) : chunk (ix1 i) = BitVec.ofNat 32 (i.val / 64) := by
  pointwise [chunk]
  exact host_chunk i

theorem mask_at (h : Fin 16) (i j : Fin 4096) : mask (ix3 h i j) = 1 ↔ sees i j := by
  pointwise [mask]
  rw [chunk_at, chunk_at]
  exact sle_word ⟨j.val / 64, by omega⟩ ⟨i.val / 64, by omega⟩

/-! The operations on any values. -/

theorem bot_word : Ideal.ofBits .f32 0xFF800000#32 = (⊥ : EReal) := by simp [Ideal.ofBits, Ideal.ieee]
theorem zero_word : Ideal.ofBits .f32 0x00000000#32 = (0 : EReal) := by simp [Ideal.ofBits, Ideal.ieee]

theorem above_at (x : T2 Ideal) (h : Fin 16) (i : Fin 4096) : above x (ix2 h i) = x (ix2 h i) := by
  pointwise [above]
  rw [bot_word]
  exact max_eq_right bot_le

theorem col_at (x : T2 Ideal) (h : Fin 16) (i : Fin 4096) (u : Fin 1) : col x (ix3 h i u) = x (ix2 h i) := by pointwise [col]
theorem wide_at (x : T1 Ideal) (h : Fin 16) (i j : Fin 4096) : wide x (ix3 h i j) = x (ix3 h i 0) := by pointwise [wide]
theorem sum_at (x : T3 Ideal) (h : Fin 16) (i : Fin 4096) : sum x (ix2 h i) = ∑ j : Fin 4096, (x (ix3 h i j) : EReal) := by pointwise [sum]
theorem logsum_at (m z : T2 Ideal) (h : Fin 16) (i : Fin 4096) (u : Fin 1) : logsum m z (ix3 h i u) = m (ix2 h i) + Ideal.log (z (ix2 h i)) := by
  pointwise [logsum, col]

/-! The operations on real arguments. -/

/-- The arrays hold the real numbers `a`. -/
structure IsArgs (ql qr : TQ Ideal) (kv kr : TK Ideal) (g : TQ Ideal) (a : Args) : Prop where
  ql : ∀ h i c, ql (ix3 h i c) = (a.ql h i c : EReal)
  qr : ∀ h i c, qr (ix3 h i c) = (a.qr h i c : EReal)
  kv : ∀ j c, kv (ix2 j c) = (a.kv j c : EReal)
  kr : ∀ j c, kr (ix2 j c) = (a.kr j c : EReal)
  g : ∀ h i c, g (ix3 h i c) = (a.g h i c : EReal)

variable {ql qr g : TQ Ideal} {kv kr : TK Ideal} {a : Args} (ha : IsArgs ql qr kv kr g a)

/-- The rows' maxima as real numbers. -/
def shift (ql qr : TQ Ideal) (kv kr : TK Ideal) (h : Fin 16) (i : Fin 4096) : ℝ := EReal.toReal (mx ql qr kv kr (ix2 h i))

include ha

theorem s_at (h : Fin 16) (i j : Fin 4096) : s ql qr kv kr (ix3 h i j) = ((a.S h i j : ℝ) : EReal) := by
  pointwise [s]
  simp only [ha.ql, ha.qr, ha.kv, ha.kr, sigma_eq, ← EReal.coe_mul, ← coe_sum, ← EReal.coe_add]
  rfl

theorem sm_seen (h : Fin 16) (i j : Fin 4096) (hs : sees i j) : sm ql qr kv kr (ix3 h i j) = ((a.S h i j : ℝ) : EReal) := by
  pointwise [sm]
  rw [Scalar.select, if_pos ((mask_at h i j).mpr hs)]
  exact s_at ha h i j

omit ha in
theorem sm_unseen (h : Fin 16) (i j : Fin 4096) (hs : ¬ sees i j) : sm ql qr kv kr (ix3 h i j) = (⊥ : EReal) := by
  pointwise [sm]
  rw [Scalar.select, if_neg (fun e => hs ((mask_at h i j).mp e))]
  exact bot_word

theorem mx_at (h : Fin 16) (i : Fin 4096) : mx ql qr kv kr (ix2 h i) = ((shift ql qr kv kr h i : ℝ) : EReal) := by
  refine (EReal.coe_toReal ?_ ?_).symm
  · pointwise [mx]
    rw [bot_word]
    refine ne_of_lt ((Finset.sup_lt_iff (f := fun x => (sm ql qr kv kr (ix3 h i x) : EReal)) bot_lt_top).mpr fun j _ => ?_)
    by_cases hs : sees i j
    · rw [sm_seen ha h i j hs]; exact EReal.coe_lt_top _
    · rw [sm_unseen h i j hs]; exact bot_lt_top
  · pointwise [mx]
    rw [bot_word]
    have h1 := Finset.le_sup (f := fun x => (sm ql qr kv kr (ix3 h i x) : EReal)) (Finset.mem_univ i)
    rw [sm_seen ha h i i le_rfl] at h1
    exact ne_of_gt (lt_of_lt_of_le (EReal.bot_lt_coe _) h1)

theorem ex_at (x : T2 Ideal) (M : Fin 16 → Fin 4096 → ℝ) (hx : ∀ h i, x (ix2 h i) = (M h i : EReal)) (h : Fin 16) (i j : Fin 4096) :
    ex ql qr kv kr x (ix3 h i j) = ((a.ex M h i j : ℝ) : EReal) := by
  pointwise [ex, wide, col]
  rw [hx]
  unfold Args.ex
  by_cases hs : sees i j
  · rw [sm_seen ha h i j hs, if_pos hs, ← EReal.coe_sub, Ideal.exp_coe]
  · rw [sm_unseen h i j hs, if_neg hs, EReal.bot_sub, Ideal.exp_bot]; rfl

theorem sum_ex_at (x : T2 Ideal) (M : Fin 16 → Fin 4096 → ℝ) (hx : ∀ h i, x (ix2 h i) = (M h i : EReal)) (h : Fin 16) (i : Fin 4096) :
    sum (ex ql qr kv kr x) (ix2 h i) = ((a.Z M h i : ℝ) : EReal) := by
  rw [sum_at]
  simp only [ex_at ha x M hx, ← coe_sum]
  rfl

theorem above_mx (h : Fin 16) (i : Fin 4096) : above (mx ql qr kv kr) (ix2 h i) = ((shift ql qr kv kr h i : ℝ) : EReal) :=
  (above_at _ h i).trans (mx_at ha h i)

theorem e_at (h : Fin 16) (i j : Fin 4096) : e ql qr kv kr (ix3 h i j) = ((a.ex (shift ql qr kv kr) h i j : ℝ) : EReal) :=
  ex_at ha _ _ (above_mx ha) h i j

theorem L_at (h : Fin 16) (i : Fin 4096) (u : Fin 1) : L ql qr kv kr (ix3 h i u) = ((a.Z (shift ql qr kv kr) h i : ℝ) : EReal) :=
  (col_at _ h i u).trans (sum_ex_at ha _ _ (above_mx ha) h i)

theorem lse_at (h : Fin 16) (i : Fin 4096) (u : Fin 1) :
    lse ql qr kv kr (ix3 h i u) = ((shift ql qr kv kr h i + Real.log (a.Z (shift ql qr kv kr) h i) : ℝ) : EReal) := by
  show logsum _ _ (ix3 h i u) = _
  rw [logsum_at, mx_at ha, sum_ex_at ha _ _ (mx_at ha), Ideal.log_coe, if_neg (not_le.mpr (a.Z_pos _ h i)), ← EReal.coe_add]

theorem p_at (h : Fin 16) (i j : Fin 4096) : p ql qr kv kr (ix3 h i j) = ((a.P (shift ql qr kv kr) h i j : ℝ) : EReal) := by
  pointwise [p]
  rw [wide_at, e_at ha, L_at ha, Ideal.div_coe (a.Z_pos _ h i).ne', ← EReal.coe_mul]
  unfold Args.P
  rw [mul_one_div]

theorem o_at (h : Fin 16) (i : Fin 4096) (c : Fin 128) : o ql qr kv kr (ix3 h i c) = ((a.o (shift ql qr kv kr) h i c : ℝ) : EReal) := by
  pointwise [o]
  simp only [p_at ha, ha.kv, ← EReal.coe_mul, ← coe_sum]
  rfl

theorem dp_at (h : Fin 16) (i j : Fin 4096) : dp kv g (ix3 h i j) = ((a.dp h i j : ℝ) : EReal) := by
  pointwise [dp]
  simp only [ha.g, ha.kv, ← EReal.coe_mul, ← coe_sum]
  rfl

theorem twide_at (h : Fin 16) (i j : Fin 4096) :
    twide ql qr kv kr g (ix3 h i j)
      = ((-∑ j', a.dp h i j' * (1 / (a.Z (shift ql qr kv kr) h i * a.Z (shift ql qr kv kr) h i)) * a.ex (shift ql qr kv kr) h i j' : ℝ) : EReal) := by
  have hz := (a.Z_pos (shift ql qr kv kr) h i).ne'
  pointwise [twide, tneg]
  rw [sum_at]
  pointwise []
  simp only [wide_at]
  pointwise []
  simp only [L_at ha, e_at ha, dp_at ha, ← EReal.coe_mul]
  simp only [Ideal.div_coe (mul_ne_zero hz hz)]
  simp only [one_mul, ← EReal.coe_mul, ← coe_sum, ← EReal.coe_neg, Fin.sum_univ_one]

theorem ds_at (h : Fin 16) (i j : Fin 4096) : ds ql qr kv kr g (ix3 h i j) = ((a.ds (shift ql qr kv kr) h i j : ℝ) : EReal) := by
  have hz := (a.Z_pos (shift ql qr kv kr) h i).ne'
  pointwise [ds]
  rw [wide_at, L_at ha, e_at ha, dp_at ha, twide_at ha, Ideal.div_coe hz, sigma_eq, ← a.ds_eq]
  by_cases hs : sees i j
  · rw [Scalar.select, if_pos ((mask_at h i j).mpr hs), if_pos hs]
    simp only [← EReal.coe_mul, ← EReal.coe_add]
  · rw [Scalar.select, if_neg (fun e => hs ((mask_at h i j).mp e)), if_neg hs]
    simp

/-- The gradient of the queries. -/
theorem dq_at (h : Fin 16) (i : Fin 4096) (c : Fin 256) : dq ql qr kv kr g (ix3 h i c) = ((a.dq (shift ql qr kv kr) h i c : ℝ) : EReal) := by
  pointwise [dq]
  simp only [ds_at ha, ha.kv, ha.kr, ← EReal.coe_mul, ← coe_sum]
  unfold Args.dq Args.kk beside
  split
  · rfl
  · rfl

/-- The gradient of keys and values. -/
theorem dk_at (j : Fin 4096) (c : Fin 256) : dk ql qr kv kr g (ix2 j c) = ((a.dk (shift ql qr kv kr) j c : ℝ) : EReal) := by
  pointwise [dk]
  simp only [ds_at ha, p_at ha, ha.ql, ha.qr, ha.g, ← EReal.coe_mul, ← coe_sum, ← EReal.coe_add]
  unfold Args.dk Args.qq beside
  split
  · congr 1
    rw [add_comm]
    congr 1
    refine Finset.sum_congr rfl fun h _ => Finset.sum_congr rfl fun i _ => ?_
    ring
  · rw [add_zero]

end Cert.Val.Stage

end
-- ==== Proof.Val.Pre.lean ====
/-
  The precondition: arrays whose elements are all finite hold real numbers.
-/
module

public import proofs.«01_k».proof.Pre_finite
public import proofs.«01_k».proof.Proof.Val.HostVals

@[expose] public section

noncomputable section

namespace Cert.Val

open Cert.Pre_finite Idealize.ShloMosaic

/-- The shapes' side conditions. -/
theorem pre_facts : Cert.Pre_finite.Facts where
  bcast_S_S16x4096x128 := by constructor <;> decide
  bcast_S_S4096x128 := by constructor <;> decide

theorem top_word : Ideal.ofBits .f32 0x7F800000#32 = (⊤ : EReal) := by simp [Ideal.ofBits, Ideal.ieee]

/-- An extended real above −∞ and below +∞ is real. -/
theorem real_of (x : EReal) (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : x = (x.toReal : EReal) := by
  rw [Stage.bot_word, top_word] at h
  refine (EReal.coe_toReal ?_ ?_).symm
  · rintro rfl
    exact absurd (show IntOp.andi (Ideal.cmp .ogt ⊤ ⊥) (Ideal.cmp .olt ⊤ ⊤) = 1#1 from h) (by simp [Ideal.cmp, IntOp.andi])
  · rintro rfl
    exact absurd (show IntOp.andi (Ideal.cmp .ogt ⊥ ⊥) (Ideal.cmp .olt ⊥ ⊤) = 1#1 from h) (by simp [Ideal.cmp, IntOp.andi])

variable [Cert.Pre_finite.Facts] (x0 x1 : FVec Ideal S16x4096x128 .f32) (x2 x3 : FVec Ideal S4096x128 .f32) (x4 : FVec Ideal S16x4096x128 .f32)

theorem args_of (h0 : ∀ i, (fn x0 x1 x2 x3 x4).1 i = 1#1) (h1 : ∀ i, (fn x0 x1 x2 x3 x4).2.1 i = 1#1) (h2 : ∀ i, (fn x0 x1 x2 x3 x4).2.2.1 i = 1#1)
    (h3 : ∀ i, (fn x0 x1 x2 x3 x4).2.2.2.1 i = 1#1) (h4 : ∀ i, (fn x0 x1 x2 x3 x4).2.2.2.2 i = 1#1) :
    Stage.IsArgs x0 x1 x2 x3 x4 ⟨fun h i c => (x0 (ix3 h i c) : EReal).toReal, fun h i c => (x1 (ix3 h i c) : EReal).toReal,
      fun j c => (x2 (ix2 j c) : EReal).toReal, fun j c => (x3 (ix2 j c) : EReal).toReal, fun h i c => (x4 (ix3 h i c) : EReal).toReal⟩ where
  ql h i c := real_of _ (h0 (ix3 h i c))
  qr h i c := real_of _ (h1 (ix3 h i c))
  kv j c := real_of _ (h2 (ix2 j c))
  kr j c := real_of _ (h3 (ix2 j c))
  g h i c := real_of _ (h4 (ix3 h i c))

end Cert.Val

end
-- ==== Proof.Val.Prefix.lean ====
/-
  What the backward program's host operations leave in the arrays that its call reads, in the terms of `Stage`: queries beside
  their rope parts at the kernel's scale, keys beside theirs, the output's gradient, the output, and the log-sums over log 2.
-/
module

public import proofs.«01_k».proof.Proof.Val.Stage
public import proofs.«01_k».proof.Proof.Gen.KernelIdeal.Frame

@[expose] public section

set_option maxRecDepth 16384

noncomputable section

namespace Cert.Val

open Cert.KernelIdeal Cert.KernelIdeal.Gen Idealize.ShloMosaic Idealize.ShloMosaic.TcCoe Idealize.ShloMosaic.StableHlo

namespace Stage

variable {F : FTy → Type} [FloatOps F]

/-- The logarithm of two, -/
def two : FVec F S1x1x1 .f32 := Host.log (broadcastInDim S1x1x1 ![] bcast_S_S1x1x1 (constant S_ .f32 0x40000000#32))

/-- the scale of the scores over it, -/
def scale : FVec F S1x1x1 .f32 := Host.divf (broadcastInDim S1x1x1 ![] bcast_S_S1x1x1 (constant S_ .f32 0x3D93CD3A#32)) two

/-- the queries, -/
def inQ (ql qr : TQ F) : FVec F S16x4096x256 .bf16 :=
  truncf .bf16 (mulf (concatenate S16x4096x256 2 [⟨S16x4096x128, ql⟩, ⟨S16x4096x128, qr⟩]
      concatenates_S16x4096x128_S16x4096x128_S16x4096x256_d2)
    (broadcastInDim S16x4096x256 ![0, 1, 2] bcast_S1x1x1_S16x4096x256_0_1_2 scale)) bitsLt_bf16_f32

/-- the keys, -/
def inK (kv kr : TK F) : FVec F S4096x256 .bf16 :=
  truncf .bf16 (concatenate S4096x256 1 [⟨S4096x128, kv⟩, ⟨S4096x128, kr⟩] concatenates_S4096x128_S4096x128_S4096x256_d1)
    bitsLt_bf16_f32

/-- the gradient of the output, or the output, -/
def inO (x : TQ F) : FVec F S16x4096x128 .bf16 := truncf .bf16 x bitsLt_bf16_f32

/-- and the log-sums, in every lane. -/
def inL (x : T1 F) : FVec F S16x4096x128 .f32 :=
  broadcastInDim S16x4096x128 ![0, 1, 2] bcast_S16x4096x1_S16x4096x128_0_1_2
    (Host.divf x (broadcastInDim S16x4096x1 ![0, 1, 2] bcast_S1x1x1_S16x4096x1_0_1_2 two))

end Stage

variable {F : FTy → Type} [FloatOps F] [Named F] (m : (ℓ : Loc nD τ sig) → Buf (Elt F) ℓ) (c : Dev nD)

theorem read_q : V m c main_v57
    = Stage.inQ (m ((c : Thread nD τ).loc main_arg0)) (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.binary, TRef.nullary,
    TRef.ternary, TRef.unary, TRef.toBuf, TRef.ofBuf, cast_eq]
  after_results_simp <;> rfl

theorem read_k : V m c main_v58
    = Stage.inK (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.binary, TRef.nullary,
    TRef.ternary, TRef.unary, TRef.toBuf, TRef.ofBuf, cast_eq]
  after_results_simp <;> rfl

theorem read_g : V m c main_v59 = Stage.inO (m ((c : Thread nD τ).loc main_arg4)) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.binary, TRef.nullary,
    TRef.ternary, TRef.unary, TRef.toBuf, TRef.ofBuf, cast_eq]
  after_results_simp <;> rfl

theorem read_o : V m c main_v60 = Stage.inO (Stage.o (m ((c : Thread nD τ).loc main_arg0)) (m ((c : Thread nD τ).loc main_arg1))
    (m ((c : Thread nD τ).loc main_arg2)) (m ((c : Thread nD τ).loc main_arg3))) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.binary, TRef.nullary,
    TRef.ternary, TRef.unary, TRef.toBuf, TRef.ofBuf, cast_eq]
  after_results_simp <;> rfl

theorem read_l : V m c main_v61 = Stage.inL (Stage.lse (m ((c : Thread nD τ).loc main_arg0)) (m ((c : Thread nD τ).loc main_arg1))
    (m ((c : Thread nD τ).loc main_arg2)) (m ((c : Thread nD τ).loc main_arg3))) := by
  simp only [V, hostOps0, hostOps0_1, hostOps0_2, hostOps0_3, hostOps0_4, hostOps0_5, hostOps0_6, hostOps0_7, hostOps0_8,
    List.flatten_cons, List.flatten_nil, List.append_nil, List.cons_append, List.nil_append, TRef.binary, TRef.nullary,
    TRef.ternary, TRef.unary, TRef.toBuf, TRef.ofBuf, cast_eq]
  after_results_simp <;> rfl

end Cert.Val

end
-- ==== Proof.Val.Inputs.lean ====
/-
  The arrays that the backward call reads, at an index, in real numbers.
-/
module

public import proofs.«01_k».proof.Proof.Val.HostVals
public import proofs.«01_k».proof.Proof.Val.Prefix

@[expose] public section

noncomputable section

namespace Cert.Val.Stage

open Cert.KernelIdeal Cert.KernelIdeal.Gen Idealize.ShloMosaic Idealize.ShloMosaic.StableHlo

theorem two_word : Ideal.ofBits .f32 0x40000000#32 = ((2 : ℝ) : EReal) := by
  simp [Ideal.ofBits, Ideal.ieee, -EReal.coe_mul]
  norm_num

theorem two_at (a b c : Fin 1) : (two (F := Ideal)) (ix3 a b c) = ((Real.log 2 : ℝ) : EReal) := by
  pointwise [two]
  rw [two_word, Ideal.log_coe, if_neg (by norm_num)]

theorem scale_at (a b c : Fin 1) : (scale (F := Ideal)) (ix3 a b c) = ((sigma / Real.log 2 : ℝ) : EReal) := by
  pointwise [scale]
  rw [two_at, sigma_eq, Ideal.div_coe (Real.log_pos (by norm_num)).ne', ← EReal.coe_mul, mul_one_div]

theorem inO_at (x : TQ Ideal) (h : Fin 16) (i : Fin 4096) (c : Fin 128) : inO x (ix3 h i c) = x (ix3 h i c) := by pointwise [inO]

variable {ql qr g : TQ Ideal} {kv kr : TK Ideal} {a : Args} (ha : IsArgs ql qr kv kr g a)
include ha

theorem inQ_at (h : Fin 16) (i : Fin 4096) (c : Fin 256) : inQ ql qr (ix3 h i c) = ((a.qq h i c * (sigma / Real.log 2) : ℝ) : EReal) := by
  pointwise [inQ]
  simp only [scale_at, ha.ql, ha.qr]
  unfold Args.qq beside
  split <;> rw [← EReal.coe_mul]

theorem inK_at (j : Fin 4096) (c : Fin 256) : inK kv kr (ix2 j c) = ((a.kk j c : ℝ) : EReal) := by
  pointwise [inK]
  simp only [ha.kv, ha.kr]
  unfold Args.kk beside
  split <;> rfl

theorem inL_at (h : Fin 16) (i : Fin 4096) (c : Fin 128) :
    inL (lse ql qr kv kr) (ix3 h i c)
      = (((shift ql qr kv kr h i + Real.log (a.Z (shift ql qr kv kr) h i)) / Real.log 2 : ℝ) : EReal) := by
  have e := lse_at ha h i 0
  generalize lse ql qr kv kr = x at e ⊢
  pointwise [inL]
  rw [two_at, e, Ideal.div_coe (Real.log_pos (by norm_num)).ne', ← EReal.coe_mul, mul_one_div]

end Cert.Val.Stage

end
-- ==== Proof.Val.Windows.lean ====
/-
  The blocks of the backward call's windows at an index of their arrays.
-/
module

public import proofs.«01_k».proof.Proof.KI.Run
public import proofs.«01_k».proof.Proof.Val.Math
public import Idealize.ShloMosaic.Lib.Pipeline.ValueKit

@[expose] public section

set_option maxRecDepth 16384

noncomputable section

namespace Cert.Val

open Cert.KernelIdeal Cert.KernelIdeal.Gen Cert.KernelIdeal.Run Idealize.ShloMosaic Idealize.ShloMosaic.TcCoe

variable {F : FTy → Type} [FloatOps F] [Named F] (m : (ℓ : Loc nD τ sig) → Buf (Elt F) ℓ) (c : Dev nD)

/-- Query `q` of block `t` among all queries. -/
def query (t : Fin cfg0.N) (q : Fin 128) : Fin 4096 := ⟨128 * t.val + q.val, by have := lt_of_lt_of_eq t.isLt N_32; omega⟩

theorem index0 : ∀ t : Fin grid0.N, win0_0.index t = ![0, t.val, 0] := by decide +kernel
theorem index1 : ∀ t : Fin grid0.N, win0_1.index t = ![0, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, t.val, 0] := by decide +kernel
theorem index5 : ∀ t : Fin grid0.N, win0_5.index t = ![0, t.val, 0] := by decide +kernel

theorem iblk0 (t : Fin cfg0.N) (h : Fin 16) (q : Fin 128) (d : Fin 256) :
    iblk m c 0 t (ix3 h q d) = V m c main_v57 (ix3 h (query t q) d) := by
  blk_simp [iblk]
  congr 1
  blk_ext [index0, query]

theorem iblk1 (t : Fin cfg0.N) (j : Fin 4096) (d : Fin 256) : iblk m c 1 t (ix2 j d) = V m c main_v58 (ix2 j d) := by
  blk_simp [iblk]
  congr 1
  blk_ext [index1]

theorem iblk2 (t : Fin cfg0.N) (h : Fin 16) (q : Fin 128) (d : Fin 128) :
    iblk m c 2 t (ix3 h q d) = V m c main_v59 (ix3 h (query t q) d) := by
  blk_simp [iblk]
  congr 1
  blk_ext [index2, query]

theorem iblk3 (t : Fin cfg0.N) (h : Fin 16) (q : Fin 128) (d : Fin 128) :
    iblk m c 3 t (ix3 h q d) = V m c main_v60 (ix3 h (query t q) d) := by
  blk_simp [iblk]
  congr 1
  blk_ext [index3, query]

theorem iblk4 (t : Fin cfg0.N) (h : Fin 16) (q : Fin 128) (d : Fin 128) :
    iblk m c 4 t (ix3 h q d) = V m c main_v61 (ix3 h (query t q) d) := by
  blk_simp [iblk]
  congr 1
  blk_ext [index4, query]

/-- The gradient of the queries, where every point's block is known. -/
theorem arr5 (G : Vec F S16x4096x256 .bf16)
    (hG : ∀ (t : Fin cfg0.N) (h : Fin 16) (q : Fin 128) (d : Fin 256), queryAt m c t (ix3 h q d) = G (ix3 h (query t q) d)) :
    (dats m 0 c).arrAt 5 cfg0.N = G := by
  refine (dats m 0 c).arrAt_eq_of_covers 5 G (by decide +kernel) fun t hf y => ?_
  blk_simp
  rw [after0_5]
  rw [eq_ix3 y]
  refine (hG t _ _ _).trans ?_
  congr 1
  blk_ext [index5, query]

/-- The last point. -/
def lastPoint : Fin cfg0.N := ⟨31, by rw [N_32]; omega⟩

/-- The gradient of keys and values: what the last point leaves. -/
theorem arr6 : (dats m 0 c).arrAt 6 cfg0.N = gradAt m c 32 := by
  refine (dats m 0 c).arrAt_eq_of_after_last 6 lastPoint (by decide +kernel) (gradAt m c 32) fun j => ?_
  exact congrFun (after0_6 m c lastPoint) j

end Cert.Val

end
-- ==== Proof.Val.Call.lean ====
/-
  The two arrays that the backward call leaves, in real numbers.
-/
module

public import proofs.«01_k».proof.Proof.Val.Inputs
public import proofs.«01_k».proof.Proof.Val.Windows

@[expose] public section

set_option maxRecDepth 16384

noncomputable section

namespace Cert.Val

open Cert.KernelIdeal Cert.KernelIdeal.Gen Cert.KernelIdeal.Body Cert.KernelIdeal.Run Idealize.ShloMosaic Idealize.ShloMosaic.TcCoe

/-! The reshapes of a point's blocks: row `r` is query `r % 128` of head `r / 128`. -/

/-- A row's query within its block. -/
def inBlock (r : Fin 2048) : Fin 128 := ⟨r.val % 128, by omega⟩

theorem pay134_at (x : Vec Ideal S16x128x256 .bf16) (r : Fin 2048) (c : Fin 256) : k0_pay134 x (ix2 r c) = x (ix3 (hd r) (inBlock r) c) := by
  pointwise [k0_pay134]
  rfl
theorem pay135_at (x : Vec Ideal S16x128x128 .bf16) (r : Fin 2048) (c : Fin 128) : k0_pay135 x (ix2 r c) = x (ix3 (hd r) (inBlock r) c) := by
  pointwise [k0_pay135]
  rfl
theorem pay136_at (x : Vec Ideal S16x128x128 .f32) (r : Fin 2048) (u : Fin 1) : k0_pay136 x (ix2 r u) = x (ix3 (hd r) (inBlock r) 0) := by
  pointwise [k0_pay136]
  rfl
theorem pay137_at (x : Vec Ideal S16x128x128 .bf16) (r : Fin 2048) (c : Fin 128) : k0_pay137 x (ix2 r c) = x (ix3 (hd r) (inBlock r) c) := by
  pointwise [k0_pay137]
  exact pay135_at x r c
theorem pay138_at (x : Vec Ideal S16x128x128 .bf16) (r : Fin 2048) (c : Fin 128) : k0_pay138 x (ix2 r c) = x (ix3 (hd r) (inBlock r) c) := by
  pointwise [k0_pay138]
  rfl

theorem pay133_at (J : Fin 4096) (C : Fin 256) : k0_pay133 (F := Ideal) (ix2 J C) = ((0 : ℝ) : EReal) := by
  pointwise [k0_pay133]
  rfl

/-- A point's blocks are the rows `b`. -/
theorem blk_is (x0 : Vec Ideal S16x128x256 .bf16) (x2 x3 : Vec Ideal S16x128x128 .bf16) (x4 : Vec Ideal S16x128x128 .f32) (b : RBlk)
    (h0 : ∀ r d, x0 (ix3 (hd r) (inBlock r) d) = (b.q r d : EReal)) (h2 : ∀ r d, x2 (ix3 (hd r) (inBlock r) d) = (b.dO r d : EReal))
    (h3 : ∀ r d, x3 (ix3 (hd r) (inBlock r) d) = (b.o r d : EReal)) (h4 : ∀ r, x4 (ix3 (hd r) (inBlock r) 0) = (b.lse r : EReal)) :
    IsBlk (blk x0 x2 x3 x4) b where
  q r d := (pay134_at x0 r d).trans (h0 r d)
  dO r d := (pay135_at x2 r d).trans (h2 r d)
  lse r u := (pay136_at x4 r u).trans (h4 r)
  dOw r d := (pay137_at x2 r d).trans (h2 r d)
  ow r d := (pay138_at x3 r d).trans (h3 r d)

/-! The points. -/

variable (m : (ℓ : Loc nD τ sig) → Buf (Elt Ideal) ℓ) (c : Dev nD)

/-- The arguments on a device. -/
abbrev argL : Stage.TQ Ideal := m ((c : Thread nD τ).loc main_arg0)
abbrev argR : Stage.TQ Ideal := m ((c : Thread nD τ).loc main_arg1)
abbrev argV : Stage.TK Ideal := m ((c : Thread nD τ).loc main_arg2)
abbrev argK : Stage.TK Ideal := m ((c : Thread nD τ).loc main_arg3)
abbrev argG : Stage.TQ Ideal := m ((c : Thread nD τ).loc main_arg4)

/-- The rows' maxima there. -/
abbrev sft : Fin 16 → Fin 4096 → ℝ := Stage.shift (argL m c) (argR m c) (argV m c) (argK m c)

/-- A point's number. -/
def num (t : Fin cfg0.N) : Fin 32 := ⟨t.val, lt_of_lt_of_eq t.isLt N_32⟩

variable {a : Args} (ha : Stage.IsArgs (argL m c) (argR m c) (argV m c) (argK m c) (argG m c) a)
include ha

theorem blkAt_is (t : Fin cfg0.N) : IsBlk (blkAt m c t) (a.blk (sft m c) (num t)) := by
  unfold blkAt
  refine blk_is _ _ _ _ _ ?_ ?_ ?_ ?_
  · intro r d
    rw [iblk0, read_q]
    exact Stage.inQ_at ha _ _ _
  · intro r d
    rw [iblk2, read_g, Stage.inO_at]
    exact ha.g _ _ _
  · intro r d
    rw [iblk3, read_o, Stage.inO_at]
    exact Stage.o_at ha _ _ _
  · intro r
    rw [iblk4, read_l]
    exact Stage.inL_at ha _ _ _

theorem keys_at (t : Fin cfg0.N) (j : Fin 4096) (d : Fin 256) : iblk m c 1 t (ix2 j d) = ((a.kk j d : ℝ) : EReal) := by
  rw [iblk1, read_k]
  exact Stage.inK_at ha j d

omit ha in
theorem hd_rowOf (h : Fin 16) (q : Fin 128) : hd (rowOf h q) = h := by
  apply Fin.ext
  show (128 * h.val + q.val) / 128 = h.val
  omega

omit ha in
theorem qi_rowOf (t : Fin cfg0.N) (h : Fin 16) (q : Fin 128) : qi (num t) (rowOf h q) = query t q := by
  apply Fin.ext
  show 128 * t.val + (128 * h.val + q.val) % 128 = 128 * t.val + q.val
  omega

/-- The block of the gradient of the queries that a point stores. -/
theorem queryAt_at (t : Fin cfg0.N) (h : Fin 16) (q : Fin 128) (d : Fin 256) :
    queryAt m c t (ix3 h q d) = ((a.dq (sft m c) h (query t q) d : ℝ) : EReal) := by
  have e := ptQ_at (i := grid0.coords t) (blkAt_is m c ha t) (keys_at m c ha t) h q d
  rw [coords_val t] at e
  refine e.trans ?_
  rw [show t.val = (num t).val from rfl, a.blk_q, hd_rowOf, qi_rowOf]

/-- The gradient of keys and values after `n` points. -/
theorem gradAt_at (n : ℕ) (hn : n ≤ 32) (J : Fin 4096) (C : Fin 256) :
    gradAt m c n (ix2 J C)
      = ((∑ t ∈ Finset.univ.filter (fun t : Fin 32 => t.val < n), (a.blk (sft m c) t).addY a.kk (visAll t.val) J C : ℝ) : EReal) := by
  induction n generalizing J C with
  | zero =>
    refine (pay133_at J C).trans ?_
    simp
  | succ n ih =>
    have hN : n < cfg0.N := by rw [N_32]; omega
    have e := gradAt_succ m c ⟨n, hN⟩
    dsimp only at e
    rw [e]
    have hY : ∀ J C, initY (grid0.coords ⟨n, hN⟩) (gradAt m c n) (ix2 J C)
        = ((∑ t ∈ Finset.univ.filter (fun t : Fin 32 => t.val < n), (a.blk (sft m c) t).addY a.kk (visAll t.val) J C : ℝ) : EReal) := by
      intro J C
      unfold initY
      split
      next h =>
        have h0 : n = 0 := (coords_val ⟨n, hN⟩).symm.trans h
        subst h0
        exact ih (by omega) J C
      next => exact ih (by omega) J C
    have e := ptY_at (i := grid0.coords ⟨n, hN⟩) (blkAt_is m c ha ⟨n, hN⟩) (keys_at m c ha ⟨n, hN⟩) (gradAt m c n) _ hY J C
    rw [coords_val ⟨n, hN⟩] at e
    refine e.trans ?_
    congr 1
    rw [show Finset.univ.filter (fun t : Fin 32 => t.val < n + 1) = insert (num ⟨n, hN⟩) (Finset.univ.filter (fun t : Fin 32 => t.val < n)) from by
      ext t
      simp only [Finset.mem_filter, Finset.mem_univ, true_and, Finset.mem_insert, Fin.ext_iff, num]
      omega, Finset.sum_insert (by simp [num]), add_comm]
    rfl

/-- The array of the gradient of the queries, -/
theorem final_q : (dats m 0 c).arrAt 5 cfg0.N = Stage.dq (argL m c) (argR m c) (argV m c) (argK m c) (argG m c) :=
  arr5 m c _ fun t h q d => (queryAt_at m c ha t h q d).trans (Stage.dq_at ha h (query t q) d).symm

/-- and of keys and values. -/
theorem final_k : (dats m 0 c).arrAt 6 cfg0.N = Stage.dk (argL m c) (argR m c) (argV m c) (argK m c) (argG m c) := by
  rw [arr6]
  funext y
  obtain ⟨J, C, rfl⟩ : ∃ J C, y = ix2 J C := ⟨y 0, y 1, eq_ix2 y⟩
  rw [gradAt_at m c ha 32 le_rfl, Stage.dk_at ha, ← a.sum_Y]
  refine congrArg _ ?_
  exact Finset.sum_congr (Finset.filter_true_of_mem fun t _ => t.isLt) fun _ _ => rfl

end Cert.Val

end
-- ==== Proof.Fwd.Ref.lean ====
/-
  The forward reference's two results as the terms of `Stage`, and what its precondition says of the arguments.
-/
module

public import proofs.«01_k».proof.Pre_finite2
public import proofs.«01_k».proof.Proof.Val.Pre
public import proofs.«01_k».proof.Proof.Val.Prefix
public import proofs.«01_k».proof.Proof.Gen.Reference2Ideal.Run

@[expose] public section

set_option maxRecDepth 16384

noncomputable section

namespace Cert.Fwd

open Idealize.ShloMosaic Idealize.ShloMosaic.TcCoe Idealize.ShloMosaic.StableHlo Cert.Val

section Results

open Cert.Reference2Ideal Cert.Reference2Ideal.Gen

variable {F : FTy → Type} [FloatOps F] (m : (ℓ : Loc nD τ sig) → Buf (Elt F) ℓ) (c : Dev nD)

theorem ref_o : Value.res_main_v51 m c
    = Stage.inO (Stage.o (F := F) (m ((c.tc : Thread nD τ).loc main_arg0)) (m ((c.tc : Thread nD τ).loc main_arg1))
      (m ((c.tc : Thread nD τ).loc main_arg2)) (m ((c.tc : Thread nD τ).loc main_arg3))) := by
  unfold Value.res_main_v51
  rfl

theorem ref_l : Value.res_main_v52 m c
    = Stage.inL (Stage.lse (F := F) (m ((c.tc : Thread nD τ).loc main_arg0)) (m ((c.tc : Thread nD τ).loc main_arg1))
      (m ((c.tc : Thread nD τ).loc main_arg2)) (m ((c.tc : Thread nD τ).loc main_arg3))) := by
  unfold Value.res_main_v52
  rfl

end Results

open Cert.Pre_finite2

/-- The shapes' side conditions. -/
theorem pre_facts : Cert.Pre_finite2.Facts where
  bcast_S_S16x4096x128 := by constructor <;> decide
  bcast_S_S4096x128 := by constructor <;> decide

variable [Cert.Pre_finite2.Facts] (x0 x1 : FVec Ideal S16x4096x128 .f32) (x2 x3 : FVec Ideal S4096x128 .f32)

/-- Finite arguments hold real numbers; the forward pass has no cotangent, so zeros stand in its place. -/
theorem args_of (h0 : ∀ i, (fn x0 x1 x2 x3).1 i = 1#1) (h1 : ∀ i, (fn x0 x1 x2 x3).2.1 i = 1#1) (h2 : ∀ i, (fn x0 x1 x2 x3).2.2.1 i = 1#1)
    (h3 : ∀ i, (fn x0 x1 x2 x3).2.2.2 i = 1#1) :
    Stage.IsArgs x0 x1 x2 x3 (fun _ => ((0 : ℝ) : EReal)) ⟨fun h i c => (x0 (ix3 h i c) : EReal).toReal,
      fun h i c => (x1 (ix3 h i c) : EReal).toReal, fun j c => (x2 (ix2 j c) : EReal).toReal, fun j c => (x3 (ix2 j c) : EReal).toReal,
      fun _ _ _ => 0⟩ where
  ql h i c := real_of _ (h0 (ix3 h i c))
  qr h i c := real_of _ (h1 (ix3 h i c))
  kv j c := real_of _ (h2 (ix2 j c))
  kr j c := real_of _ (h3 (ix2 j c))
  g _ _ _ := rfl

end Cert.Fwd

end
-- ==== Proof.Fwd.Step.lean ====
/-
  One step of the forward kernel over a block of `w` key rows, for any width: the scores, the mask, the new maximum, and
  the running sum and accumulator rescaled to it. The kernel's loop takes it at width 1024 without the mask, its last
  block at one of eight widths with the mask.
-/
module

public import proofs.«01_k».proof.Proof.Gen.Kernel2Ideal.Skeleton
public import Idealize.ShloMosaic.Lib.Pointwise
public import Idealize.ShloMosaic.PureOps.IdealRules

@[expose] public section

noncomputable section

namespace Cert.Fwd

open Idealize.ShloMosaic Cert.Kernel2Ideal Cert.Kernel2Ideal.Gen

/-- An array of `a` rows and `b` columns. -/
abbrev Sh (a b : ℕ) : Shape := ⟨2, ![a, b]⟩

/-- The shapes' side conditions at width `w`. -/
structure Wide (w : ℕ) : Prop where
  nt : DotDims.WF S2048x256 (Sh w 256) (Sh 2048 w) [1] [1] [0] [0] [] []
  nn : DotDims.WF (Sh 2048 w) (Sh w 128) S2048x128 [1] [0] [0] [1] [] []
  same : (Sh w 256).ShapeCasts (Sh w 256)
  red : (Sh 2048 w).Reduces [1] S2048
  bc : S2048x1.Broadcasts (Sh 2048 w)
  self : (Sh 2048 w).Broadcasts (Sh 2048 w)
  sl : (Sh w 256).Slices ![0, 0] (Sh w 128)
  rows : (Sh 2048 w).Iotas .tc 32 [0]
  cols : (Sh 2048 w).Iotas .tc 32 [1]

variable {w : ℕ} (W : Wide w)

/-- The two products: rows by keys, and probabilities by values. -/
def dotNT : DotDims S2048x256 (Sh w 256) (Sh 2048 w) where
  lhsContracting := [1]
  rhsContracting := [1]
  lhsNonContracting := [0]
  rhsNonContracting := [0]
  lhsBatch := []
  rhsBatch := []
  wf := W.nt
def dotNN : DotDims (Sh 2048 w) (Sh w 128) S2048x128 where
  lhsContracting := [1]
  rhsContracting := [0]
  lhsNonContracting := [0]
  rhsNonContracting := [1]
  lhsBatch := []
  rhsBatch := []
  wf := W.nn

variable {F : FTy → Type} [FloatOps F] [Named F]

def keys (kb : Vec F (Sh w 256) .bf16) : FVec F (Sh w 256) .bf16 := shapeCast (Sh w 256) kb W.same

/-- The scores, -/
def scores (q : FVec F S2048x256 .bf16) (kb : Vec F (Sh w 256) .bf16) : FVec F (Sh 2048 w) .f32 :=
  matmul (dotNT W) none q (keys W kb) (constant (Sh 2048 w) .f32 0x00000000#32)

/-- the rows' new maxima, -/
def newMax (m : FVec F S2048x1 .f32) (s : FVec F (Sh 2048 w) .f32) : FVec F S2048x1 .f32 :=
  maximumf m (shapeCast S2048x1 (multiReduction .maximumf [1] S2048 s 0xFF800000#32 W.red (.inl rfl) rfl) shapeCasts_S2048_S2048x1)

/-- powers of two over them, -/
def probs (m : FVec F S2048x1 .f32) (s : FVec F (Sh 2048 w) .f32) : FVec F (Sh 2048 w) .f32 :=
  exp2 (subf s (broadcastTo (Sh 2048 w) (newMax W m s) W.bc))

/-- the factor of what was summed before, -/
def shrink (m : FVec F S2048x1 .f32) (s : FVec F (Sh 2048 w) .f32) : FVec F S2048x1 .f32 := exp2 (subf m (newMax W m s))

/-- the running sum, -/
def newSum (m l : FVec F S2048x1 .f32) (s : FVec F (Sh 2048 w) .f32) : FVec F S2048x1 .f32 :=
  addf (mulf (shrink W m s) l)
    (shapeCast S2048x1 (multiReduction .add [1] S2048 (probs W m s) 0x00000000#32 W.red (.inl rfl) rfl) shapeCasts_S2048_S2048x1)

/-- and the accumulator. -/
def newAcc (m : FVec F S2048x1 .f32) (acc : FVec F S2048x128 .f32) (s : FVec F (Sh 2048 w) .f32) (kb : Vec F (Sh w 256) .bf16) : FVec F S2048x128 .f32 :=
  addf (mulf (broadcastTo S2048x128 (shrink W m s) broadcasts_S2048x1_S2048x128) acc)
    (matmul (dotNN W) none (truncf .bf16 (probs W m s) bitsLt_bf16_f32) (extractStridedSlice (Sh w 128) ![0, 0] (keys W kb) W.sl)
      (constant S2048x128 .f32 0x00000000#32))

/-- The carried maximum, sum and accumulator after the step. -/
def step (s : FVec F (Sh 2048 w) .f32) (kb : Vec F (Sh w 256) .bf16) (x : FVec F S2048x1 .f32 × FVec F S2048x1 .f32 × FVec F S2048x128 .f32) :
    FVec F S2048x1 .f32 × FVec F S2048x1 .f32 × FVec F S2048x128 .f32 :=
  (newMax W x.1 s, newSum W x.1 x.2.1 s, newAcc W x.1 x.2.2 s kb)

/-! The mask. -/

/-- The floor division by 64, as it is computed. -/
def chunks {s : Shape} (x : IVec s 32) : IVec s 32 :=
  select
    (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32)) (divsi x (broadcast s 64#32))

abbrev modulus : BitVec 32 := Scalar.select (Scalar.cmpi .eq 128#32 0#32) 1#32 128#32

/-- The number of a row's query within its head: the remainder by 128, as it is computed; -/
def within : IVec (Sh 2048 w) 32 :=
  let r : IVec (Sh 2048 w) 32 := remsi (iota .tc (Sh 2048 w) 32 [0] W.rows) (broadcast (Sh 2048 w) modulus)
  select
    (andi (xori (cmpi .slt r (broadcast (Sh 2048 w) 0#32)) (broadcastTo (Sh 2048 w) (broadcast (Sh 2048 w) (Scalar.cmpi .slt modulus 0#32)) W.self))
      (cmpi .ne r (broadcast (Sh 2048 w) 0#32)))
    (addi r (broadcast (Sh 2048 w) modulus)) r

/-- of its query, and of a key. -/
def queryNo (t : BitVec 32) : IVec (Sh 2048 w) 32 := addi (broadcast (Sh 2048 w) (Scalar.muli t 128#32)) (within W)
def keyNo (n : BitVec 32) : IVec (Sh 2048 w) 32 := addi (broadcast (Sh 2048 w) n) (iota .tc (Sh 2048 w) 32 [1] W.cols)

/-- The scores where the key's chunk is not after the query's, the mask's constant elsewhere. -/
def masked (t n : BitVec 32) (s : FVec F (Sh 2048 w) .f32) : FVec F (Sh 2048 w) .f32 :=
  select (cmpi .sle (chunks (keyNo W n)) (chunks (queryNo W t))) s (broadcast (Sh 2048 w) (Named.named κ "mask" 0xF149F2CA#32))

/-! What the kernel writes: the accumulator over the sum, and the log-sum in base 2. -/

def outO (x : FVec F S2048x1 .f32 × FVec F S2048x1 .f32 × FVec F S2048x128 .f32) : FVec F S16x128x128 .bf16 :=
  shapeCast S16x128x128 (truncf .bf16 (divf x.2.2 (broadcastTo S2048x128 x.2.1 broadcasts_S2048x1_S2048x128)) bitsLt_bf16_f32) shapeCasts_S2048x128_S16x128x128
def outLse (x : FVec F S2048x1 .f32 × FVec F S2048x1 .f32 × FVec F S2048x128 .f32) : FVec F S16x128x128 .f32 := k0_pay122 x.1 x.2.1

/-- The last block, at width `w`, and what it writes. -/
def last (t n : BitVec 32) (q : FVec F S2048x256 .bf16) (kb : Vec F (Sh w 256) .bf16) (x : FVec F S2048x1 .f32 × FVec F S2048x1 .f32 × FVec F S2048x128 .f32) :
    FVec F S2048x1 .f32 × FVec F S2048x1 .f32 × FVec F S2048x128 .f32 := step W (masked W t n (scores W q kb)) kb x

/-! The eight widths. -/

theorem W128 : Wide 128 := ⟨dot_S2048x256_S128x256_S2048x128_1_1_0_0_n_n_wf, dot_S2048x128_S128x128_S2048x128_1_0_0_1_n_n_wf, shapeCasts_S128x256_S128x256,
  reduces_S2048x128_S2048, broadcasts_S2048x1_S2048x128, broadcasts_S2048x128_S2048x128, slices_S128x256_o0_0_S128x128, iota_S2048x128_d0_w32, iota_S2048x128_d1_w32⟩
theorem W256 : Wide 256 := ⟨dot_S2048x256_S256x256_S2048x256_1_1_0_0_n_n_wf, dot_S2048x256_S256x128_S2048x128_1_0_0_1_n_n_wf, shapeCasts_S256x256_S256x256,
  reduces_S2048x256_S2048, broadcasts_S2048x1_S2048x256, broadcasts_S2048x256_S2048x256, slices_S256x256_o0_0_S256x128, iota_S2048x256_d0_w32, iota_S2048x256_d1_w32⟩
theorem W384 : Wide 384 := ⟨dot_S2048x256_S384x256_S2048x384_1_1_0_0_n_n_wf, dot_S2048x384_S384x128_S2048x128_1_0_0_1_n_n_wf, shapeCasts_S384x256_S384x256,
  reduces_S2048x384_S2048, broadcasts_S2048x1_S2048x384, broadcasts_S2048x384_S2048x384, slices_S384x256_o0_0_S384x128, iota_S2048x384_d0_w32, iota_S2048x384_d1_w32⟩
theorem W512 : Wide 512 := ⟨dot_S2048x256_S512x256_S2048x512_1_1_0_0_n_n_wf, dot_S2048x512_S512x128_S2048x128_1_0_0_1_n_n_wf, shapeCasts_S512x256_S512x256,
  reduces_S2048x512_S2048, broadcasts_S2048x1_S2048x512, broadcasts_S2048x512_S2048x512, slices_S512x256_o0_0_S512x128, iota_S2048x512_d0_w32, iota_S2048x512_d1_w32⟩
theorem W640 : Wide 640 := ⟨dot_S2048x256_S640x256_S2048x640_1_1_0_0_n_n_wf, dot_S2048x640_S640x128_S2048x128_1_0_0_1_n_n_wf, shapeCasts_S640x256_S640x256,
  reduces_S2048x640_S2048, broadcasts_S2048x1_S2048x640, broadcasts_S2048x640_S2048x640, slices_S640x256_o0_0_S640x128, iota_S2048x640_d0_w32, iota_S2048x640_d1_w32⟩
theorem W768 : Wide 768 := ⟨dot_S2048x256_S768x256_S2048x768_1_1_0_0_n_n_wf, dot_S2048x768_S768x128_S2048x128_1_0_0_1_n_n_wf, shapeCasts_S768x256_S768x256,
  reduces_S2048x768_S2048, broadcasts_S2048x1_S2048x768, broadcasts_S2048x768_S2048x768, slices_S768x256_o0_0_S768x128, iota_S2048x768_d0_w32, iota_S2048x768_d1_w32⟩
theorem W896 : Wide 896 := ⟨dot_S2048x256_S896x256_S2048x896_1_1_0_0_n_n_wf, dot_S2048x896_S896x128_S2048x128_1_0_0_1_n_n_wf, shapeCasts_S896x256_S896x256,
  reduces_S2048x896_S2048, broadcasts_S2048x1_S2048x896, broadcasts_S2048x896_S2048x896, slices_S896x256_o0_0_S896x128, iota_S2048x896_d0_w32, iota_S2048x896_d1_w32⟩
theorem W1024 : Wide 1024 := ⟨dot_S2048x256_S1024x256_S2048x1024_1_1_0_0_n_n_wf, dot_S2048x1024_S1024x128_S2048x128_1_0_0_1_n_n_wf, shapeCasts_S1024x256_S1024x256,
  reduces_S2048x1024_S2048, broadcasts_S2048x1_S2048x1024, broadcasts_S2048x1024_S2048x1024, slices_S1024x256_o0_0_S1024x128, iota_S2048x1024_d0_w32, iota_S2048x1024_d1_w32⟩

section
variable (x : FVec F S2048x1 .f32 × FVec F S2048x1 .f32 × FVec F S2048x128 .f32)

/-- The loop's step over a block of 1024 keys before the query block. -/
theorem trip_eq (v0 : Vec F S16x128x256 .bf16) (kb : Vec F S1024x256 .bf16) :
    (k0_pay109 v0 x.1 kb, k0_pay112 v0 x.1 x.2.1 kb, k0_pay113 v0 x.1 x.2.2 kb) = step W1024 (scores W1024 (k0_pay103 v0) kb) kb x := rfl
end

end Cert.Fwd

end
-- ==== Proof.Fwd.StepAt.lean ====
/-
  The step of the forward kernel at an index.
-/
module

public import proofs.«01_k».proof.Proof.Fwd.Step
public import proofs.«01_k».proof.Proof.Val.Words
public import proofs.«01_k».proof.Proof.Val.Block
public import Idealize.ShloMosaic.Lib.MatmulPlain

@[expose] public section

noncomputable section

namespace Cert.Fwd

open Idealize.ShloMosaic Cert.Kernel2Ideal Cert.Kernel2Ideal.Gen Cert.Val

theorem mask_named : Named.named (F := Ideal) (φ := .f32) κ "mask" 0xF149F2CA#32 = (⊥ : EReal) :=
  IdealRules.named_const.ideal_named_scalar _ _ _ _ rfl
theorem log2e_named : Named.named (F := Ideal) (φ := .f32) κ "log2e" 0x3FB8AA3B#32 = (((Real.log 2)⁻¹ : ℝ) : EReal) :=
  IdealRules.named_const.ideal_named_scalar _ _ _ _ rfl

variable {w : ℕ} (W : Wide w)

theorem keys_at (kb : Vec Ideal (Sh w 256) .bf16) (j : Fin w) (c : Fin 256) : keys W kb (ix2 j c) = kb (ix2 j c) := by
  pointwise [keys]

theorem scores_at (q : FVec Ideal S2048x256 .bf16) (kb : Vec Ideal (Sh w 256) .bf16) (qr : Fin 256 → ℝ) (kr : Fin w → Fin 256 → ℝ) (r : Fin 2048)
    (hq : ∀ c, q (ix2 r c) = (qr c : EReal)) (hk : ∀ j c, kb (ix2 j c) = (kr j c : EReal)) (j : Fin w) :
    scores W q kb (ix2 r j) = ((∑ c, qr c * kr j c : ℝ) : EReal) := by
  have e := Ideal.matmul_transposedRhs_apply (M := 2048) (K := 256) (N := w) none q (keys W kb) (constant (Sh 2048 w) .f32 0x00000000#32) r j
  have e0 : (constant (F := Ideal) (Sh 2048 w) .f32 0x00000000#32) (ix2 r j) = (0 : EReal) := by pointwise []
  have e' : scores W q kb (ix2 r j) = constant (F := Ideal) (Sh 2048 w) .f32 0x00000000#32 (ix2 r j) + ∑ k : Fin 256, q (ix2 r k) * keys W kb (ix2 j k) := e
  rw [e', e0]
  simp only [hq, keys_at, hk, ← EReal.coe_mul, ← coe_sum, zero_add]

theorem newMax_at (m : FVec Ideal S2048x1 .f32) (s : FVec Ideal (Sh 2048 w) .f32) (r : Fin 2048) :
    newMax W m s (ix2 r 0) = max (m (ix2 r 0) : EReal) (Finset.univ.sup fun j : Fin w => (s (ix2 r j) : EReal)) := by
  pointwise [newMax]
  rfl

theorem probs_at (m : FVec Ideal S2048x1 .f32) (s : FVec Ideal (Sh 2048 w) .f32) (r : Fin 2048) (j : Fin w) :
    probs W m s (ix2 r j) = Ideal.exp2 ((s (ix2 r j) : EReal) - newMax W m s (ix2 r 0)) := by
  pointwise [probs]
  rfl

theorem shrink_at (m : FVec Ideal S2048x1 .f32) (s : FVec Ideal (Sh 2048 w) .f32) (r : Fin 2048) :
    shrink W m s (ix2 r 0) = Ideal.exp2 ((m (ix2 r 0) : EReal) - newMax W m s (ix2 r 0)) := by
  pointwise [shrink]
  rfl

theorem newSum_at (m l : FVec Ideal S2048x1 .f32) (s : FVec Ideal (Sh 2048 w) .f32) (r : Fin 2048) :
    newSum W m l s (ix2 r 0) = (shrink W m s (ix2 r 0) : EReal) * l (ix2 r 0) + ∑ j : Fin w, (probs W m s (ix2 r j) : EReal) := by
  pointwise [newSum]

theorem newAcc_at (m : FVec Ideal S2048x1 .f32) (acc : FVec Ideal S2048x128 .f32) (s : FVec Ideal (Sh 2048 w) .f32) (kb : Vec Ideal (Sh w 256) .bf16)
    (r : Fin 2048) (c : Fin 128) :
    newAcc W m acc s kb (ix2 r c)
      = (shrink W m s (ix2 r 0) : EReal) * acc (ix2 r c) + ∑ j : Fin w, (probs W m s (ix2 r j) : EReal) * kb (ix2 j (col c)) := by
  have e := Ideal.matmul_plain_apply (M := 2048) (K := w) (N := 128) none (truncf .bf16 (probs W m s) bitsLt_bf16_f32)
    (extractStridedSlice (Sh w 128) ![0, 0] (keys W kb) W.sl) (constant S2048x128 .f32 0x00000000#32) r c
  have e' : newAcc W m acc s kb (ix2 r c) = (mulf (broadcastTo S2048x128 (shrink W m s) broadcasts_S2048x1_S2048x128) acc) (ix2 r c)
      + (constant (F := Ideal) S2048x128 .f32 0x00000000#32 (ix2 r c) + ∑ k : Fin w, (truncf .bf16 (probs W m s) bitsLt_bf16_f32) (ix2 r k) * (extractStridedSlice (Sh w 128) ![0, 0] (keys W kb) W.sl) (ix2 k c)) :=
    congrArg _ e
  rw [e']
  have e0 : (constant (F := Ideal) S2048x128 .f32 0x00000000#32) (ix2 r c) = (0 : EReal) := by pointwise []
  have e1 : (mulf (broadcastTo S2048x128 (shrink W m s) broadcasts_S2048x1_S2048x128) acc) (ix2 r c) = (shrink W m s (ix2 r 0) : EReal) * acc (ix2 r c) := by
    pointwise []
  have e2 : ∀ k : Fin w, (extractStridedSlice (Sh w 128) ![0, 0] (keys W kb) W.sl) (ix2 k c) = (kb (ix2 k (col c)) : EReal) := fun k => by
    rw [← keys_at W kb k (col c)]
    refine congrArg (keys W kb) (funext fun a => Fin.ext ?_)
    match a with
    | ⟨0, _⟩ => exact Nat.zero_add _
    | ⟨1, _⟩ => exact Nat.zero_add _
  rw [e0, e1, zero_add]
  simp only [e2]
  rfl

/-- The kernel's remainder of a row's number by 128, as it is computed. -/
theorem row_word : ∀ r : Fin 2048,
    Scalar.select
      (IntOp.andi
        (IntOp.xori (IntOp.cmpi .slt (IntOp.remsi .vector (BitVec.ofNat 32 r.val) modulus) 0#32) (Scalar.cmpi .slt modulus 0#32))
        (IntOp.cmpi .ne (IntOp.remsi .vector (BitVec.ofNat 32 r.val) modulus) 0#32))
      (IntOp.addi (IntOp.remsi .vector (BitVec.ofNat 32 r.val) modulus) modulus)
      (IntOp.remsi .vector (BitVec.ofNat 32 r.val) modulus)
      = BitVec.ofNat 32 (r.val % 128) := by decide +kernel

theorem queryNo_at (t : ℕ) (r : Fin 2048) (j : Fin w) : queryNo W (BitVec.ofNat 32 t) (ix2 r j) = BitVec.ofNat 32 (128 * t + r.val % 128) := by
  pointwise [queryNo, within]
  rw [row_word]
  exact mul_add_word t 128 _

theorem keyNo_at (n : ℕ) (r : Fin 2048) (j : Fin w) : keyNo W (BitVec.ofNat 32 n) (ix2 r j) = BitVec.ofNat 32 (n + j.val) := by
  pointwise [keyNo]
  exact (BitVec.ofNat_add n j.val).symm

theorem chunks_at (x : IVec (Sh 2048 w) 32) (r : Fin 2048) (j : Fin w) (n : ℕ) (hn : n < 4096) (hx : x (ix2 r j) = BitVec.ofNat 32 n) :
    chunks x (ix2 r j) = BitVec.ofNat 32 (n / 64) := by
  pointwise [chunks]
  rw [hx]
  exact chunk_word n hn

theorem masked_at (t n : ℕ) (s : FVec Ideal (Sh 2048 w) .f32) (r : Fin 2048) (j : Fin w) (ht : t < 32) (hj : n + j.val < 4096) :
    masked W (BitVec.ofNat 32 t) (BitVec.ofNat 32 n) s (ix2 r j)
      = if (n + j.val) / 64 ≤ (128 * t + r.val % 128) / 64 then (s (ix2 r j) : EReal) else ⊥ := by
  pointwise [masked]
  rw [chunks_at _ r j _ hj (keyNo_at W n r j), chunks_at _ r j _ (by omega) (queryNo_at W t r j), mask_named]
  have h : IntOp.cmpi .sle (BitVec.ofNat 32 ((n + j.val) / 64)) (BitVec.ofNat 32 ((128 * t + r.val % 128) / 64)) = 1
      ↔ (n + j.val) / 64 ≤ (128 * t + r.val % 128) / 64 := sle_word ⟨_, by omega⟩ ⟨_, by omega⟩
  by_cases hc : (n + j.val) / 64 ≤ (128 * t + r.val % 128) / 64
  · rw [if_pos hc, Scalar.select, if_pos (h.mpr hc)]
  · rw [if_neg hc, Scalar.select, if_neg (fun e => hc (h.mp e))]

/-! What is written. -/

theorem outO_at (x : FVec Ideal S2048x1 .f32 × FVec Ideal S2048x1 .f32 × FVec Ideal S2048x128 .f32) (h : Fin 16) (i c : Fin 128) :
    outO x (ix3 h i c) = Ideal.div (x.2.2 (ix2 (rowOf h i) c)) (x.2.1 (ix2 (rowOf h i) 0)) := by
  have e : rowOf h i = ⟨h.val * 128 + i.val, by omega⟩ := by apply Fin.ext; show 128 * h.val + i.val = h.val * 128 + i.val; omega
  rw [e]
  pointwise [outO]

theorem outLse_at (x : FVec Ideal S2048x1 .f32 × FVec Ideal S2048x1 .f32 × FVec Ideal S2048x128 .f32) (h : Fin 16) (i c : Fin 128) :
    outLse x (ix3 h i c)
      = (x.1 (ix2 (rowOf h i) 0) : EReal) + Ideal.log (x.2.1 (ix2 (rowOf h i) 0)) * (((Real.log 2)⁻¹ : ℝ) : EReal) := by
  have e : rowOf h i = ⟨h.val * 128 + i.val, by omega⟩ := by apply Fin.ext; show 128 * h.val + i.val = h.val * 128 + i.val; omega
  rw [e]
  unfold outLse
  pointwise [k0_pay122]
  rw [log2e_named]

/-- The rows of a query block. -/
theorem pay103_at (v0 : Vec Ideal S16x128x256 .bf16) (r : Fin 2048) (c : Fin 256) :
    k0_pay103 v0 (ix2 r c) = v0 (ix3 ⟨r.val / 128, by omega⟩ ⟨r.val % 128, by omega⟩ c) := by
  pointwise [k0_pay103]

/-- The carried values at the loop's start. -/
theorem start_max (r : Fin 2048) : (k0_pay104 (F := Ideal)) (ix2 r 0) = (⊥ : EReal) := by
  pointwise [k0_pay104]
  exact mask_named
theorem start_sum (r : Fin 2048) : (k0_pay105 (F := Ideal)) (ix2 r 0) = (0 : EReal) := by
  pointwise [k0_pay105]
theorem start_acc (r : Fin 2048) (c : Fin 128) : (k0_pay106 (F := Ideal)) (ix2 r c) = (0 : EReal) := by
  pointwise [k0_pay106]

end Cert.Fwd

end
-- ==== Proof.Fwd.Open.lean ====
/-
  What a grid point of the forward kernel leaves in its two output blocks: the loop's steps over the whole key blocks,
  then the last step at the point's width.
-/
module

public import proofs.«01_k».proof.Proof.Fwd.Step
public import proofs.«01_k».proof.Proof.Gen.Kernel2Ideal.Frame
public import Idealize.ShloMosaic.Lib.Pipeline.Value

@[expose] public section

set_option maxRecDepth 16384

noncomputable section

namespace Cert.Fwd

open Idealize.ShloMosaic Idealize.ShloMosaic.Tactic Cert.Kernel2Ideal Cert.Kernel2Ideal.Gen

variable {F : FTy → Type} [FloatOps F] [Named F]

/-- `w` rows of the keys, from row `n` on. -/
def rowsFrom (x1 : Vec F S4096x256 .bf16) (w n : ℕ) : Vec F (Sh w 256) .bf16 :=
  fun y => x1 (ix2 ⟨(n + (y 0).val) % 4096, Nat.mod_lt _ (by norm_num)⟩ (y 1))

theorem rows_eq (x1 : Vec F S4096x256 .bf16) (w n : ℕ) (off : Fin 2 → ℕ) (inb : ∀ a, off a + (Sh w 256).size a ≤ S4096x256.size a) (h : off = ![n, 0]) :
    View.ld x1 (Rect.unit (s := S4096x256) off (Sh w 256).size inb) = rowsFrom x1 w n := by
  subst h
  funext y
  refine congrArg x1 (funext fun a => Fin.ext ?_)
  have h0 : n + w ≤ 4096 := inb 0
  have hy : (y 0).val < w := (y 0).isLt
  match a with
  | ⟨0, _⟩ => show n + 1 * (y 0).val = (n + (y 0).val) % 4096; omega
  | ⟨1, _⟩ => show 0 + 1 * (y 1).val = (y 1).val; omega

/-- What is carried after the first `k` blocks of 1024 keys. -/
def sweep (q : FVec F S2048x256 .bf16) (x1 : Vec F S4096x256 .bf16) : ℕ → FVec F S2048x1 .f32 × FVec F S2048x1 .f32 × FVec F S2048x128 .f32
  | 0 => (k0_pay104, k0_pay105, k0_pay106)
  | k + 1 => step W1024 (scores W1024 q (rowsFrom x1 1024 (1024 * k))) (rowsFrom x1 1024 (1024 * k)) (sweep q x1 k)

/-! The words of the offsets and of the trip counts. -/

theorem off1_eq : ∀ (i : grid0.Coords) (k : Fin (k0_t1_loop i).trips), k0_off1 i k = ![1024 * k.val, 0] := by decide +kernel
theorem trips1 : ∀ i : grid0.Coords, (k0_t1_loop i).trips = (i 0).val / 8 := by decide +kernel
theorem trips2 : ∀ i : grid0.Coords, (k0_t2_loop i).trips = 0 := by decide +kernel
theorem off_eq : ∀ i : grid0.Coords, k0_off3 i = ![1024 * ((i 0).val / 8), 0] := by decide +kernel
theorem base_eq : ∀ i : grid0.Coords, kernelRun0_A.sl.v135 i = BitVec.ofNat 32 (1024 * ((i 0).val / 8)) := by decide +kernel

variable (c : Dev nD) (i : grid0.Coords) (arg1 : Memref sig .tc .vmem S16x128x256 .bf16) (harg1 : arg1.IsWhole) (arg2 : Memref sig .tc .vmem S4096x256 .bf16)
  (harg2 : arg2.IsWhole) (arg3 : Memref sig .tc .vmem S16x128x128 .bf16) (harg3 : arg3.IsWhole) (arg4 : Memref sig .tc .vmem S16x128x128 .f32) (harg4 : arg4.IsWhole)
  (x0 : Vec F S16x128x256 .bf16) (x1 : Vec F S4096x256 .bf16)

theorem trip1 (v0 : Vec F S16x128x256 .bf16) (k : Fin (k0_t1_loop i).trips) (x : FVec F S2048x1 .f32 × FVec F S2048x1 .f32 × FVec F S2048x128 .f32) :
    tripR_k0_t1 (F := F) Variants.none c none i arg1 harg1 arg2 harg2 arg3 harg3 arg4 harg4 v0 (harg2.unread x1) k x
      = step W1024 (scores W1024 (k0_pay103 v0) (rowsFrom x1 1024 (1024 * k.val))) (rowsFrom x1 1024 (1024 * k.val)) x := by
  have e : View.readAt (Elt F) arg2.view (Rect.unit (s := S4096x256) (k0_off1 i k) S1024x256.size (k0_off1_inb i k)).toLoadRect (harg2.unread x1)
      = rowsFrom x1 1024 (1024 * k.val) := by
    rw [View.readAt_eq_ld, harg2.read_unread]
    exact rows_eq x1 1024 _ _ _ (off1_eq i k)
  rw [← e]
  unfold tripR_k0_t1 trip_k0_t1
  exact trip_eq x v0 _

theorem loop1 (v0 : Vec F S16x128x256 .bf16) (k : ℕ) (hk : k ≤ (k0_t1_loop i).trips) :
    st_k0_t1 (F := F) Variants.none c none i arg1 harg1 arg2 harg2 arg3 harg3 arg4 harg4 v0 (harg2.unread x1) (k0_pay104, k0_pay105, k0_pay106) k
      = sweep (k0_pay103 v0) x1 k := by
  induction k with
  | zero => rfl
  | succ k ih =>
    rw [st_k0_t1_succ (F := F) Variants.none c none i arg1 harg1 arg2 harg2 arg3 harg3 arg4 harg4 v0 (harg2.unread x1) (k0_pay104, k0_pay105, k0_pay106) ⟨k, hk⟩,
      trip1, ih (by omega)]
    rfl

/-- A block loaded whole. -/
def whole0 : Vec F S16x128x256 .bf16 :=
  View.readAt (Elt F) arg1.view (Rect.unit ![0, 0, 0] S16x128x256.size inb_S16x128x256_S16x128x256_0_0_0).toLoadRect (harg1.unread x0)

theorem whole0_eq : whole0 arg1 harg1 x0 = x0 := by
  unfold whole0
  rw [View.readAt_eq_ld, harg1.read_unread]
  exact View.ld_unit_zero (S := S16x128x256) (show (![0, 0, 0] : Fin 3 → ℕ) = fun _ => 0 by decide) _ _

/-- What both loops leave, as the run states it. -/
def carried : FVec F S2048x1 .f32 × FVec F S2048x1 .f32 × FVec F S2048x128 .f32 :=
  let x := st_k0_t1 (F := F) Variants.none c none i arg1 harg1 arg2 harg2 arg3 harg3 arg4 harg4 (whole0 arg1 harg1 x0) (harg2.unread x1)
    (k0_pay104, k0_pay105, k0_pay106) (k0_t1_loop i).trips
  st_k0_t2 (F := F) Variants.none c none i arg1 harg1 arg2 harg2 arg3 harg3 arg4 harg4 (whole0 arg1 harg1 x0) (harg2.unread x1) (x.1, x.2.1, x.2.2) (k0_t2_loop i).trips

theorem carried_eq : carried c i arg1 harg1 arg2 harg2 arg3 harg3 arg4 harg4 x0 x1 = sweep (k0_pay103 x0) x1 ((i 0).val / 8) := by
  unfold carried
  rw [trips2 i, loop1 c i arg1 harg1 arg2 harg2 arg3 harg3 arg4 harg4 x1 _ _ le_rfl, trips1 i, whole0_eq]
  rfl

/-- The last block of keys, as it is loaded. -/
theorem lastRows (w : ℕ) (off : Fin 2 → ℕ) (inb : ∀ a, off a + (Sh w 256).size a ≤ S4096x256.size a) (h : off = k0_off3 i) :
    View.readAt (Elt F) arg2.view (Rect.unit (s := S4096x256) off (Sh w 256).size inb).toLoadRect (harg2.unread x1) = rowsFrom x1 w (1024 * ((i 0).val / 8)) := by
  rw [View.readAt_eq_ld, harg2.read_unread]
  exact rows_eq x1 w _ _ _ (h.trans (off_eq i))

/-- What a point of width `w` leaves. -/
def result {w : ℕ} (W : Wide w) : FVec F S2048x1 .f32 × FVec F S2048x1 .f32 × FVec F S2048x128 .f32 :=
  last W (BitVec.ofNat 32 (i 0).val) (BitVec.ofNat 32 (1024 * ((i 0).val / 8))) (k0_pay103 x0) (rowsFrom x1 w (1024 * ((i 0).val / 8)))
    (sweep (k0_pay103 x0) x1 ((i 0).val / 8))

/-- The result over the loaded blocks, as the run states it. -/
theorem result_eq {w : ℕ} (W : Wide w) (off : Fin 2 → ℕ) (inb : ∀ a, off a + (Sh w 256).size a ≤ S4096x256.size a) (h : off = k0_off3 i) :
    last W (BitVec.ofNat 32 (i 0).val) (kernelRun0_A.sl.v135 i) (k0_pay103 (whole0 arg1 harg1 x0))
      (View.readAt (Elt F) arg2.view (Rect.unit (s := S4096x256) off (Sh w 256).size inb).toLoadRect (harg2.unread x1))
      (carried c i arg1 harg1 arg2 harg2 arg3 harg3 arg4 harg4 x0 x1) = result i x0 x1 W := by
  rw [lastRows i arg2 harg2 x1 w off inb h, carried_eq, whole0_eq, base_eq]
  rfl

theorem zero3 : (![0, 0, 0] : Fin 3 → ℕ) = fun _ => 0 := by decide

/-! The eight kinds of points. -/

variable (m : (ℓ : Loc nD τ sig) → Buf (Elt F) ℓ) (t : Fin cfg0.N)

/-- Both outputs at a point of width `w`. -/
def left {w : ℕ} (W : Wide w) : Vec F S16x128x128 .bf16 × Vec F S16x128x128 .f32 :=
  (outO (result (grid0.coords t) (iblk m c 0 t) (iblk m c 1 t) W), outLse (result (grid0.coords t) (iblk m c 0 t) (iblk m c 1 t) W))

theorem leftA (h : t.val % 8 = 0) : outsAt0 m c t.val t.isLt = left c m t W128 := by
  rw [outsAt0_A m c t h (by omega) (by omega) (by omega) (by omega) (by omega) (by omega) (by omega)]
  unfold out0_A_2 out0_A_3 left
  rw [View.read_writes_eq_canon _ _ _ (fun _ => cover0_A_2 ..), View.read_writes_eq_canon _ _ _ (fun _ => cover0_A_3 ..),
    ← result_eq c (grid0.coords t) (ms0_0 t) (hs0_0 t) (ms0_1 t) (hs0_1 t) (ms0_2 t) (hs0_2 t) (ms0_3 t) (hs0_3 t) _ _ W128 (k0_off3 _)
      (k0_off3_inb _ ((hcond0_0 t).mpr h)) rfl]
  unfold kernelRun0_A
  dsimp only
  rw [View.canon_unit_zero (S := S16x128x128) zero3, View.canon_unit_zero (S := S16x128x128) zero3]
  rfl
theorem leftB (h : t.val % 8 = 1) : outsAt0 m c t.val t.isLt = left c m t W256 := by
  rw [outsAt0_B m c t (by omega) h (by omega) (by omega) (by omega) (by omega) (by omega) (by omega)]
  unfold out0_B_2 out0_B_3 left
  rw [View.read_writes_eq_canon _ _ _ (fun _ => cover0_B_2 ..), View.read_writes_eq_canon _ _ _ (fun _ => cover0_B_3 ..),
    ← result_eq c (grid0.coords t) (ms0_0 t) (hs0_0 t) (ms0_1 t) (hs0_1 t) (ms0_2 t) (hs0_2 t) (ms0_3 t) (hs0_3 t) _ _ W256 (k0_off4 _)
      (k0_off4_inb _ ((hcond0_1 t).mpr h)) rfl]
  unfold kernelRun0_B
  dsimp only
  rw [View.canon_unit_zero (S := S16x128x128) zero3, View.canon_unit_zero (S := S16x128x128) zero3]
  rfl
theorem leftC (h : t.val % 8 = 2) : outsAt0 m c t.val t.isLt = left c m t W384 := by
  rw [outsAt0_C m c t (by omega) (by omega) h (by omega) (by omega) (by omega) (by omega) (by omega)]
  unfold out0_C_2 out0_C_3 left
  rw [View.read_writes_eq_canon _ _ _ (fun _ => cover0_C_2 ..), View.read_writes_eq_canon _ _ _ (fun _ => cover0_C_3 ..),
    ← result_eq c (grid0.coords t) (ms0_0 t) (hs0_0 t) (ms0_1 t) (hs0_1 t) (ms0_2 t) (hs0_2 t) (ms0_3 t) (hs0_3 t) _ _ W384 (k0_off5 _)
      (k0_off5_inb _ ((hcond0_2 t).mpr h)) rfl]
  unfold kernelRun0_C
  dsimp only
  rw [View.canon_unit_zero (S := S16x128x128) zero3, View.canon_unit_zero (S := S16x128x128) zero3]
  rfl
theorem leftD (h : t.val % 8 = 3) : outsAt0 m c t.val t.isLt = left c m t W512 := by
  rw [outsAt0_D m c t (by omega) (by omega) (by omega) h (by omega) (by omega) (by omega) (by omega)]
  unfold out0_D_2 out0_D_3 left
  rw [View.read_writes_eq_canon _ _ _ (fun _ => cover0_D_2 ..), View.read_writes_eq_canon _ _ _ (fun _ => cover0_D_3 ..),
    ← result_eq c (grid0.coords t) (ms0_0 t) (hs0_0 t) (ms0_1 t) (hs0_1 t) (ms0_2 t) (hs0_2 t) (ms0_3 t) (hs0_3 t) _ _ W512 (k0_off6 _)
      (k0_off6_inb _ ((hcond0_3 t).mpr h)) rfl]
  unfold kernelRun0_D
  dsimp only
  rw [View.canon_unit_zero (S := S16x128x128) zero3, View.canon_unit_zero (S := S16x128x128) zero3]
  rfl
theorem leftE (h : t.val % 8 = 4) : outsAt0 m c t.val t.isLt = left c m t W640 := by
  rw [outsAt0_E m c t (by omega) (by omega) (by omega) (by omega) h (by omega) (by omega) (by omega)]
  unfold out0_E_2 out0_E_3 left
  rw [View.read_writes_eq_canon _ _ _ (fun _ => cover0_E_2 ..), View.read_writes_eq_canon _ _ _ (fun _ => cover0_E_3 ..),
    ← result_eq c (grid0.coords t) (ms0_0 t) (hs0_0 t) (ms0_1 t) (hs0_1 t) (ms0_2 t) (hs0_2 t) (ms0_3 t) (hs0_3 t) _ _ W640 (k0_off7 _)
      (k0_off7_inb _ ((hcond0_4 t).mpr h)) rfl]
  unfold kernelRun0_E
  dsimp only
  rw [View.canon_unit_zero (S := S16x128x128) zero3, View.canon_unit_zero (S := S16x128x128) zero3]
  rfl
theorem leftF (h : t.val % 8 = 5) : outsAt0 m c t.val t.isLt = left c m t W768 := by
  rw [outsAt0_F m c t (by omega) (by omega) (by omega) (by omega) (by omega) h (by omega) (by omega)]
  unfold out0_F_2 out0_F_3 left
  rw [View.read_writes_eq_canon _ _ _ (fun _ => cover0_F_2 ..), View.read_writes_eq_canon _ _ _ (fun _ => cover0_F_3 ..),
    ← result_eq c (grid0.coords t) (ms0_0 t) (hs0_0 t) (ms0_1 t) (hs0_1 t) (ms0_2 t) (hs0_2 t) (ms0_3 t) (hs0_3 t) _ _ W768 (k0_off8 _)
      (k0_off8_inb _ ((hcond0_5 t).mpr h)) rfl]
  unfold kernelRun0_F
  dsimp only
  rw [View.canon_unit_zero (S := S16x128x128) zero3, View.canon_unit_zero (S := S16x128x128) zero3]
  rfl
theorem leftG (h : t.val % 8 = 6) : outsAt0 m c t.val t.isLt = left c m t W896 := by
  rw [outsAt0_G m c t (by omega) (by omega) (by omega) (by omega) (by omega) (by omega) h (by omega)]
  unfold out0_G_2 out0_G_3 left
  rw [View.read_writes_eq_canon _ _ _ (fun _ => cover0_G_2 ..), View.read_writes_eq_canon _ _ _ (fun _ => cover0_G_3 ..),
    ← result_eq c (grid0.coords t) (ms0_0 t) (hs0_0 t) (ms0_1 t) (hs0_1 t) (ms0_2 t) (hs0_2 t) (ms0_3 t) (hs0_3 t) _ _ W896 (k0_off9 _)
      (k0_off9_inb _ ((hcond0_6 t).mpr h)) rfl]
  unfold kernelRun0_G
  dsimp only
  rw [View.canon_unit_zero (S := S16x128x128) zero3, View.canon_unit_zero (S := S16x128x128) zero3]
  rfl
theorem leftH (h : t.val % 8 = 7) : outsAt0 m c t.val t.isLt = left c m t W1024 := by
  rw [outsAt0_H m c t (by omega) (by omega) (by omega) (by omega) (by omega) (by omega) (by omega) h]
  unfold out0_H_2 out0_H_3 left
  rw [View.read_writes_eq_canon _ _ _ (fun _ => cover0_H_2 ..), View.read_writes_eq_canon _ _ _ (fun _ => cover0_H_3 ..),
    ← result_eq c (grid0.coords t) (ms0_0 t) (hs0_0 t) (ms0_1 t) (hs0_1 t) (ms0_2 t) (hs0_2 t) (ms0_3 t) (hs0_3 t) _ _ W1024 (k0_off10 _)
      (k0_off10_inb _ ((hcond0_7 t).mpr h)) rfl]
  unfold kernelRun0_H
  dsimp only
  rw [View.canon_unit_zero (S := S16x128x128) zero3, View.canon_unit_zero (S := S16x128x128) zero3]
  rfl

end Cert.Fwd

end
-- ==== Proof.Fwd.Row.lean ====
/-
  One row of the forward kernel: a maximum, a sum of powers of two and an accumulator over the keys seen so far, and what a
  further block of keys makes of them.
-/
module

public import proofs.«01_k».proof.Proof.Val.Math

@[expose] public section

noncomputable section

namespace Cert.Fwd

open Idealize.ShloMosaic Cert.Val

variable (s : Fin 4096 → ℝ) (v : Fin 4096 → Fin 128 → ℝ)

/-- The carried values over the keys `V`: nothing yet, or the sums over some real `M`. -/
def Row (V : Finset (Fin 4096)) (m l : EReal) (acc : Fin 128 → EReal) : Prop :=
  (V = ∅ ∧ m = ⊥ ∧ l = 0 ∧ ∀ c, acc c = 0) ∨
  ∃ M : ℝ, m = (M : EReal) ∧ l = ((∑ j ∈ V, Real.rpow 2 (s j - M) : ℝ) : EReal) ∧ ∀ c, acc c = ((∑ j ∈ V, Real.rpow 2 (s j - M) * v j c : ℝ) : EReal)

/-- The maximum of some reals and of minus infinities is a real number. -/
theorem sup_real {w : ℕ} (S : Fin w → EReal) (x : Fin w → ℝ) (vis : Fin w → Prop) (hv : ∀ j, vis j → S j = (x j : EReal)) (hn : ∀ j, ¬ vis j → S j = ⊥)
    (j₀ : Fin w) (h₀ : vis j₀) : ∃ M : ℝ, Finset.univ.sup S = (M : EReal) := by
  have hb : Finset.univ.sup S ≠ ⊥ := fun e => by
    have := Finset.le_sup (f := S) (Finset.mem_univ j₀)
    rw [e, hv j₀ h₀] at this
    exact EReal.coe_ne_bot _ (le_bot_iff.mp this)
  have ht : Finset.univ.sup S ≠ ⊤ := ne_of_lt ((Finset.sup_lt_iff (bot_lt_top)).mpr fun j _ => by
    by_cases h : vis j
    · rw [hv j h]; exact EReal.coe_lt_top _
    · rw [hn j h]; exact bot_lt_top)
  exact ⟨_, (EReal.coe_toReal ht hb).symm⟩

open Classical in
/-- A block's sum is the sum over the keys it adds. -/
theorem block_sum {w : ℕ} (e : Fin w → Fin 4096) (he : Function.Injective e) (vis : Fin w → Prop) (V V' : Finset (Fin 4096))
    (hV : ∀ J, J ∈ V' ↔ J ∈ V ∨ ∃ j, vis j ∧ e j = J) (hd : ∀ j, vis j → e j ∉ V) (f : Fin 4096 → ℝ) :
    ∑ J ∈ V', f J = ∑ J ∈ V, f J + ∑ j : Fin w, if vis j then f (e j) else 0 := by
  have hW : V' = V ∪ (Finset.univ.filter vis).image e := by
    ext J
    simp only [hV, Finset.mem_union, Finset.mem_image, Finset.mem_filter, Finset.mem_univ, true_and]
  have hdis : Disjoint V ((Finset.univ.filter vis).image e) := by
    rw [Finset.disjoint_right]
    intro J hJ
    simp only [Finset.mem_image, Finset.mem_filter, Finset.mem_univ, true_and] at hJ
    obtain ⟨j, hj, rfl⟩ := hJ
    exact hd j hj
  rw [hW, Finset.sum_union hdis, Finset.sum_image (fun a _ b _ h => he h), Finset.sum_filter]

theorem pow_factor (a M M' : ℝ) : Real.rpow 2 (M - M') * Real.rpow 2 (a - M) = Real.rpow 2 (a - M') := by
  have := (Real.rpow_add (show (0 : ℝ) < 2 by norm_num) (M - M') (a - M)).symm
  rw [show M - M' + (a - M) = a - M' by ring] at this
  exact this

/-- A further block of keys, at least one of them visible. -/
theorem Row.next {V : Finset (Fin 4096)} {m l : EReal} {acc : Fin 128 → EReal} (h : Row s v V m l acc) {w : ℕ} (S : Fin w → EReal) (K : Fin w → Fin 128 → EReal)
    (e : Fin w → Fin 4096) (he : Function.Injective e) (vis : Fin w → Prop) (V' : Finset (Fin 4096))
    (hV : ∀ J, J ∈ V' ↔ J ∈ V ∨ ∃ j, vis j ∧ e j = J) (hd : ∀ j, vis j → e j ∉ V)
    (hv : ∀ j, vis j → S j = (s (e j) : EReal)) (hn : ∀ j, ¬ vis j → S j = ⊥) (hK : ∀ j c, K j c = (v (e j) c : EReal)) (j₀ : Fin w) (h₀ : vis j₀) :
    Row s v V' (max m (Finset.univ.sup S)) (Ideal.exp2 (m - max m (Finset.univ.sup S)) * l + ∑ j, Ideal.exp2 (S j - max m (Finset.univ.sup S)))
      (fun c => Ideal.exp2 (m - max m (Finset.univ.sup S)) * acc c + ∑ j, Ideal.exp2 (S j - max m (Finset.univ.sup S)) * K j c) := by
  classical
  obtain ⟨B, hB⟩ := sup_real S (fun j => s (e j)) vis hv hn j₀ h₀
  have hmax : ∃ M' : ℝ, max m (Finset.univ.sup S) = (M' : EReal) := by
    rcases h with ⟨-, rfl, -⟩ | ⟨M, rfl, -⟩
    · exact ⟨B, by rw [hB]; exact max_eq_right bot_le⟩
    · exact ⟨max M B, by rw [hB]; exact (EReal.coe_strictMono.monotone.map_max).symm⟩
  obtain ⟨M', hM'⟩ := hmax
  rw [hM']
  have hp : ∀ j, Ideal.exp2 (S j - (M' : EReal)) = ((if vis j then Real.rpow 2 (s (e j) - M') else 0 : ℝ) : EReal) := fun j => by
    by_cases hj : vis j
    · rw [if_pos hj, hv j hj, ← EReal.coe_sub, Ideal.exp2_coe]
    · rw [if_neg hj, hn j hj, EReal.bot_sub, Ideal.exp2_bot, EReal.coe_zero]
  have hsum : ∑ j, Ideal.exp2 (S j - (M' : EReal)) = ((∑ j, if vis j then Real.rpow 2 (s (e j) - M') else 0 : ℝ) : EReal) := by
    rw [coe_sum]; exact Finset.sum_congr rfl fun j _ => hp j
  have hacc : ∀ c, ∑ j, Ideal.exp2 (S j - (M' : EReal)) * K j c = ((∑ j, if vis j then Real.rpow 2 (s (e j) - M') * v (e j) c else 0 : ℝ) : EReal) := fun c => by
    rw [coe_sum]
    refine Finset.sum_congr rfl fun j _ => ?_
    rw [hp, hK, ← EReal.coe_mul]
    split
    · rfl
    · rw [zero_mul]
  refine Or.inr ⟨M', rfl, ?_, fun c => ?_⟩
  · rw [hsum, block_sum e he vis V V' hV hd (fun J => Real.rpow 2 (s J - M'))]
    rcases h with ⟨rfl, rfl, rfl, -⟩ | ⟨M, rfl, rfl, -⟩
    · rw [mul_zero, zero_add, Finset.sum_empty, zero_add]
    · rw [← EReal.coe_sub, Ideal.exp2_coe, ← EReal.coe_mul, ← EReal.coe_add, Finset.mul_sum]
      simp only [pow_factor]
  · dsimp only
    rw [hacc, block_sum e he vis V V' hV hd (fun J => Real.rpow 2 (s J - M') * v J c)]
    rcases h with ⟨rfl, rfl, -, ha⟩ | ⟨M, rfl, -, ha⟩
    · rw [ha, mul_zero, zero_add, Finset.sum_empty, zero_add]
    · rw [ha, ← EReal.coe_sub, Ideal.exp2_coe, ← EReal.coe_mul, ← EReal.coe_add, Finset.mul_sum]
      simp only [← mul_assoc, pow_factor]

/-! What the sums say of the softmax. -/

variable (a : Args) (M M' : Fin 16 → Fin 4096 → ℝ) (h : Fin 16) (i : Fin 4096)

theorem ex_shift (j : Fin 4096) : a.ex M h i j = a.ex M' h i j * Real.exp (M' h i - M h i) := by
  unfold Args.ex
  split
  · rw [← Real.exp_add]; congr 1; ring
  · rw [zero_mul]

theorem Z_shift : a.Z M h i = a.Z M' h i * Real.exp (M' h i - M h i) := by
  unfold Args.Z
  rw [Finset.sum_mul]
  exact Finset.sum_congr rfl fun j _ => ex_shift a M M' h i j

/-- The output and the log-sum are the same over any shift. -/
theorem o_shift (c : Fin 128) : a.o M h i c = a.o M' h i c := by
  unfold Args.o Args.P
  refine Finset.sum_congr rfl fun j _ => ?_
  rw [ex_shift a M M', Z_shift a M M', mul_div_mul_right _ _ (Real.exp_pos _).ne']

theorem lse_shift : M h i + Real.log (a.Z M h i) = M' h i + Real.log (a.Z M' h i) := by
  rw [Z_shift a M M', Real.log_mul (a.Z_pos M' h i).ne' (Real.exp_pos _).ne', Real.log_exp]
  ring

open Classical in
/-- What is written of a row whose keys are all those that its query sees. -/
theorem Row.done {m l : EReal} {acc : Fin 128 → EReal} (hr : Row (fun j => a.S h i j / Real.log 2) a.kv (Finset.univ.filter (sees i)) m l acc) :
    (∀ c, Ideal.div (acc c) l = ((a.o M h i c : ℝ) : EReal))
      ∧ m + Ideal.log l * (((Real.log 2)⁻¹ : ℝ) : EReal) = (((M h i + Real.log (a.Z M h i)) / Real.log 2 : ℝ) : EReal) := by
  have hl : Real.log 2 ≠ 0 := (Real.log_pos (by norm_num)).ne'
  rcases hr with ⟨h0, -⟩ | ⟨M₀, rfl, rfl, ha⟩
  · exact absurd (h0 ▸ Finset.mem_filter.mpr ⟨Finset.mem_univ i, le_rfl⟩ : i ∈ (∅ : Finset (Fin 4096))) (Finset.notMem_empty _)
  · have hp : ∀ j, Real.rpow 2 (a.S h i j / Real.log 2 - M₀) = Real.exp (a.S h i j - M₀ * Real.log 2) := fun j => by
      rw [show ∀ x, Real.rpow 2 x = (2 : ℝ) ^ x from fun _ => rfl, Real.rpow_def_of_pos (by norm_num)]
      congr 1; field_simp
    have hZ : ∑ j ∈ Finset.univ.filter (sees i), Real.rpow 2 (a.S h i j / Real.log 2 - M₀) = a.Z (fun _ _ => M₀ * Real.log 2) h i := by
      unfold Args.Z Args.ex
      rw [Finset.sum_filter]
      simp only [hp]
    have hz := a.Z_pos (fun _ _ => M₀ * Real.log 2) h i
    rw [hZ]
    refine ⟨fun c => ?_, ?_⟩
    · rw [ha, Ideal.div_coe hz.ne', ← EReal.coe_mul, o_shift a M (fun _ _ => M₀ * Real.log 2)]
      congr 1
      unfold Args.o Args.P Args.ex
      rw [Finset.sum_filter, Finset.sum_mul]
      refine Finset.sum_congr rfl fun j _ => ?_
      rw [hp]
      split
      · ring
      · rw [zero_mul, zero_div, zero_mul]
    · rw [lse_shift a M (fun _ _ => M₀ * Real.log 2), Ideal.log_coe, if_neg hz.not_ge, ← EReal.coe_mul, ← EReal.coe_add]
      congr 1
      field_simp

end Cert.Fwd

end
-- ==== Proof.Fwd.Point.lean ====
/-
  A grid point of the forward kernel in real numbers: each row's output and log-sum over the keys that its query sees.
-/
module

public import proofs.«01_k».proof.Proof.Fwd.StepAt
public import proofs.«01_k».proof.Proof.Fwd.Open
public import proofs.«01_k».proof.Proof.Fwd.Row

@[expose] public section

noncomputable section

namespace Cert.Fwd

open Idealize.ShloMosaic Cert.Kernel2Ideal Cert.Kernel2Ideal.Gen Cert.Val

/-- The carried values of row `r` are those over the keys `V`. -/
def RowAt (s : Fin 4096 → ℝ) (v : Fin 4096 → Fin 128 → ℝ) (V : Finset (Fin 4096)) (r : Fin 2048)
    (x : FVec Ideal S2048x1 .f32 × FVec Ideal S2048x1 .f32 × FVec Ideal S2048x128 .f32) : Prop :=
  Row s v V (x.1 (ix2 r 0)) (x.2.1 (ix2 r 0)) (fun c => x.2.2 (ix2 r c))

/-- One step over a block of keys. -/
theorem step_row {s : Fin 4096 → ℝ} {v : Fin 4096 → Fin 128 → ℝ} {V : Finset (Fin 4096)} {r : Fin 2048}
    {x : FVec Ideal S2048x1 .f32 × FVec Ideal S2048x1 .f32 × FVec Ideal S2048x128 .f32} (h : RowAt s v V r x) {w : ℕ} (W : Wide w)
    (S : FVec Ideal (Sh 2048 w) .f32) (kb : Vec Ideal (Sh w 256) .bf16)
    (e : Fin w → Fin 4096) (he : Function.Injective e) (vis : Fin w → Prop) (V' : Finset (Fin 4096))
    (hV : ∀ J, J ∈ V' ↔ J ∈ V ∨ ∃ j, vis j ∧ e j = J) (hd : ∀ j, vis j → e j ∉ V)
    (hv : ∀ j, vis j → S (ix2 r j) = (s (e j) : EReal)) (hn : ∀ j, ¬ vis j → S (ix2 r j) = (⊥ : EReal))
    (hK : ∀ j c, kb (ix2 j (col c)) = (v (e j) c : EReal)) (j₀ : Fin w) (h₀ : vis j₀) : RowAt s v V' r (step W S kb x) := by
  have key := Row.next s v h (fun j => S (ix2 r j)) (fun j c => kb (ix2 j (col c))) e he vis V' hV hd hv hn hK j₀ h₀
  unfold RowAt step
  dsimp only
  simp only [newSum_at, newAcc_at, probs_at, shrink_at, newMax_at]
  exact key

variable (a : Args) (t : Fin 32)

/-- Query `q` of block `t` among all queries. -/
def place (q : Fin 128) : Fin 4096 := ⟨128 * t.val + q.val, by omega⟩

/-- The scores in base 2. -/
def score2 (r : Fin 2048) (j : Fin 4096) : ℝ := a.S (hd r) (qi t r) j / Real.log 2

theorem score_sum (h : Fin 16) (i j : Fin 4096) : ∑ c, a.qq h i c * (sigma / Real.log 2) * a.kk j c = a.S h i j / Real.log 2 := by
  unfold Args.S
  rw [← sum_beside, mul_div_assoc, Finset.sum_mul]
  refine Finset.sum_congr rfl fun c _ => ?_
  unfold Args.qq Args.kk
  ring

/-- The key that is row `j` of a block from `n` on. -/
def keyAt (n : ℕ) {w : ℕ} (j : Fin w) : Fin 4096 := ⟨(n + j.val) % 4096, Nat.mod_lt _ (by norm_num)⟩

theorem keyAt_inj (n w : ℕ) (h : n + w ≤ 4096) : Function.Injective (keyAt n (w := w)) := fun x y e => by
  have := congrArg Fin.val e
  simp only [keyAt] at this
  apply Fin.ext
  have := x.isLt
  have := y.isLt
  omega

variable (x0 : Vec Ideal S16x128x256 .bf16) (x1 : Vec Ideal S4096x256 .bf16)
  (h0 : ∀ (h : Fin 16) (q : Fin 128) (d : Fin 256), x0 (ix3 h q d) = ((a.qq h (place t q) d * (sigma / Real.log 2) : ℝ) : EReal))
  (h1 : ∀ (j : Fin 4096) (d : Fin 256), x1 (ix2 j d) = (a.kk j d : EReal))
include h0 h1

theorem scores_row {w : ℕ} (W : Wide w) (n : ℕ) (r : Fin 2048) (j : Fin w) :
    scores W (k0_pay103 x0) (rowsFrom x1 w n) (ix2 r j) = (score2 a t r (keyAt n j) : EReal) := by
  refine (scores_at W (k0_pay103 x0) (rowsFrom x1 w n) (fun c => a.qq (hd r) (qi t r) c * (sigma / Real.log 2)) (fun j c => a.kk (keyAt n j) c) r
    (fun c => ?_) (fun j c => ?_) j).trans ?_
  · rw [pay103_at, h0]; rfl
  · exact h1 _ c
  · rw [score_sum]; rfl

omit h0 in
theorem rows_col {w : ℕ} (n : ℕ) (j : Fin w) (c : Fin 128) : rowsFrom x1 w n (ix2 j (col c)) = (a.kv (keyAt n j) c : EReal) := by
  rw [← a.kk_col]
  exact h1 _ _

/-- What the loop carries. -/
theorem sweep_row (r : Fin 2048) (k : ℕ) (hk : k ≤ 4) :
    RowAt (score2 a t r) a.kv (Finset.univ.filter fun J => J.val < 1024 * k) r (sweep (k0_pay103 x0) x1 k) := by
  induction k with
  | zero =>
    refine Or.inl ⟨?_, start_max r, start_sum r, fun c => start_acc r c⟩
    exact Finset.filter_false_of_mem fun J _ => by omega
  | succ k ih =>
    refine step_row (ih (by omega)) W1024 _ _ (keyAt (1024 * k)) (keyAt_inj _ _ (by omega)) (fun _ => True) _ (fun J => ?_) (fun j _ hj => ?_)
      (fun j _ => scores_row a t x0 x1 h0 h1 W1024 _ r j) (fun j hn => absurd trivial hn) (fun j c => rows_col a x1 h1 _ j c) ⟨0, by norm_num⟩ trivial
    · simp only [Finset.mem_filter, Finset.mem_univ, true_and]
      constructor
      · intro hJ
        by_cases hl : J.val < 1024 * k
        · exact Or.inl hl
        · exact Or.inr ⟨⟨J.val - 1024 * k, by omega⟩, Fin.ext (show (1024 * k + (J.val - 1024 * k)) % 4096 = J.val by have := J.isLt; omega)⟩
      · rintro (hl | ⟨j, rfl⟩)
        · omega
        · show (1024 * k + j.val) % 4096 < _
          have := j.isLt
          omega
    · have hj' : (1024 * k + j.val) % 4096 < 1024 * k := (Finset.mem_filter.mp hj).2
      have := j.isLt
      omega

open Classical in
/-- What a point of its width leaves of a row. -/
theorem result_row (i : grid0.Coords) (hi : (i 0).val = t.val) {w : ℕ} (W : Wide w) (hw : w = 128 * (t.val % 8 + 1)) (r : Fin 2048) :
    RowAt (score2 a t r) a.kv (Finset.univ.filter (sees (qi t r))) r (result i x0 x1 W) := by
  have ht := t.isLt
  unfold result last
  rw [hi]
  refine step_row (sweep_row a t x0 x1 h0 h1 r (t.val / 8) (by omega)) W _ _ (keyAt (1024 * (t.val / 8))) (keyAt_inj _ _ (by omega))
    (fun j => (1024 * (t.val / 8) + j.val) / 64 ≤ (128 * t.val + r.val % 128) / 64) _ (fun J => ?_) (fun j _ hj => ?_)
    (fun j hj => ?_) (fun j hn => ?_) (fun j c => rows_col a x1 h1 _ j c) ⟨0, by omega⟩ (by show (_ + 0) / 64 ≤ _; omega)
  · simp only [Finset.mem_filter, Finset.mem_univ, true_and]
    show J.val / 64 ≤ (128 * t.val + r.val % 128) / 64 ↔ _
    have hJ := J.isLt
    constructor
    · intro hs
      by_cases hl : J.val < 1024 * (t.val / 8)
      · exact Or.inl hl
      · refine Or.inr ⟨⟨J.val - 1024 * (t.val / 8), by omega⟩, ?_, Fin.ext ?_⟩
        · show (1024 * (t.val / 8) + (J.val - 1024 * (t.val / 8))) / 64 ≤ _
          omega
        · show (1024 * (t.val / 8) + (J.val - 1024 * (t.val / 8))) % 4096 = J.val
          omega
    · rintro (hl | ⟨j, hj, rfl⟩)
      · omega
      · show (1024 * (t.val / 8) + j.val) % 4096 / 64 ≤ _
        have := j.isLt
        omega
  · have hj' : (1024 * (t.val / 8) + j.val) % 4096 < 1024 * (t.val / 8) := (Finset.mem_filter.mp hj).2
    have := j.isLt
    omega
  · have := j.isLt
    rw [masked_at W _ _ _ _ _ ht (by omega), if_pos hj]
    exact scores_row a t x0 x1 h0 h1 W _ r j
  · have := j.isLt
    rw [masked_at W _ _ _ _ _ ht (by omega), if_neg hn]

/-- The output block, -/
theorem result_o (M : Fin 16 → Fin 4096 → ℝ) (i : grid0.Coords) (hi : (i 0).val = t.val) {w : ℕ} (W : Wide w) (hw : w = 128 * (t.val % 8 + 1))
    (h : Fin 16) (q c : Fin 128) : outO (result i x0 x1 W) (ix3 h q c) = ((a.o M (hd (rowOf h q)) (qi t (rowOf h q)) c : ℝ) : EReal) := by
  rw [outO_at]
  exact (Row.done a M _ _ (result_row a t x0 x1 h0 h1 i hi W hw (rowOf h q))).1 c

/-- and the log-sums. -/
theorem result_lse (M : Fin 16 → Fin 4096 → ℝ) (i : grid0.Coords) (hi : (i 0).val = t.val) {w : ℕ} (W : Wide w) (hw : w = 128 * (t.val % 8 + 1))
    (h : Fin 16) (q c : Fin 128) : outLse (result i x0 x1 W) (ix3 h q c)
      = (((M (hd (rowOf h q)) (qi t (rowOf h q)) + Real.log (a.Z M (hd (rowOf h q)) (qi t (rowOf h q)))) / Real.log 2 : ℝ) : EReal) := by
  rw [outLse_at]
  exact (Row.done a M _ _ (result_row a t x0 x1 h0 h1 i hi W hw (rowOf h q))).2

end Cert.Fwd

end
-- ==== Proof.Fwd.Call.lean ====
/-
  The two arrays that the forward call leaves, in the terms of `Stage`.
-/
module

public import proofs.«01_k».proof.Proof.Fwd.Point
public import proofs.«01_k».proof.Proof.Val.Inputs
public import Idealize.ShloMosaic.Lib.Pipeline.ValueKit

@[expose] public section

set_option maxRecDepth 16384

noncomputable section

namespace Cert.Fwd

open Cert.Kernel2Ideal Cert.Kernel2Ideal.Gen Cert.Val Idealize.ShloMosaic Idealize.ShloMosaic.TcCoe Idealize.ShloMosaic.StableHlo

section Windows

variable {F : FTy → Type} [FloatOps F] [Named F] (m : (ℓ : Loc nD τ sig) → Buf (Elt F) ℓ) (c : Dev nD)

theorem points : cfg0.N = 32 := by decide +kernel
theorem point_no : ∀ t : Fin grid0.N, ((grid0.coords t) 0).val = t.val := by decide +kernel

/-- A point's number. -/
def num (t : Fin cfg0.N) : Fin 32 := ⟨t.val, lt_of_lt_of_eq t.isLt points⟩

/-- Query `q` of block `t` among all queries. -/
def query (t : Fin cfg0.N) (q : Fin 128) : Fin 4096 := ⟨128 * t.val + q.val, by have := lt_of_lt_of_eq t.isLt points; omega⟩

theorem index0 : ∀ t : Fin grid0.N, win0_0.index t = ![0, t.val, 0] := by decide +kernel
theorem index1 : ∀ t : Fin grid0.N, win0_1.index t = ![0, 0] := by decide +kernel
theorem index2 : ∀ t : Fin grid0.N, win0_2.index t = ![0, t.val, 0] := by decide +kernel
theorem index3 : ∀ t : Fin grid0.N, win0_3.index t = ![0, t.val, 0] := by decide +kernel

theorem iblk0 (t : Fin cfg0.N) (h : Fin 16) (q : Fin 128) (d : Fin 256) :
    iblk m c 0 t (ix3 h q d) = V m c main_v8 (ix3 h (query t q) d) := by
  blk_simp [iblk]
  congr 1
  blk_ext [index0, query]

theorem iblk1 (t : Fin cfg0.N) (j : Fin 4096) (d : Fin 256) : iblk m c 1 t (ix2 j d) = V m c main_v9 (ix2 j d) := by
  blk_simp [iblk]
  congr 1
  blk_ext [index1]

/-- The output, where every point's block is known; -/
theorem arr2 (G : Vec F S16x4096x128 .bf16)
    (hG : ∀ (t : Fin cfg0.N) (h : Fin 16) (q d : Fin 128), (outsAt0 m c t.val t.isLt).1 (ix3 h q d) = G (ix3 h (query t q) d)) :
    (dats m 0 c).arrAt 2 cfg0.N = G := by
  refine (dats m 0 c).arrAt_eq_of_covers 2 G (by decide +kernel) fun t hf y => ?_
  blk_simp
  rw [after0_2]
  rw [eq_ix3 y]
  refine (hG t _ _ _).trans ?_
  congr 1
  blk_ext [index2, query]

/-- the log-sums. -/
theorem arr3 (G : Vec F S16x4096x128 .f32)
    (hG : ∀ (t : Fin cfg0.N) (h : Fin 16) (q d : Fin 128), (outsAt0 m c t.val t.isLt).2 (ix3 h q d) = G (ix3 h (query t q) d)) :
    (dats m 0 c).arrAt 3 cfg0.N = G := by
  refine (dats m 0 c).arrAt_eq_of_covers 3 G (by decide +kernel) fun t hf y => ?_
  blk_simp
  rw [after0_3]
  rw [eq_ix3 y]
  refine (hG t _ _ _).trans ?_
  congr 1
  blk_ext [index3, query]

theorem read_q : V m c main_v8 = Stage.inQ (m ((c : Thread nD τ).loc main_arg0)) (m ((c : Thread nD τ).loc main_arg1)) := by
  simp only [V, hostOps0, TRef.binary, TRef.nullary, TRef.ternary, TRef.unary, TRef.toBuf, TRef.ofBuf, cast_eq]
  after_results_simp <;> rfl

theorem read_k : V m c main_v9 = Stage.inK (m ((c : Thread nD τ).loc main_arg2)) (m ((c : Thread nD τ).loc main_arg3)) := by
  simp only [V, hostOps0, TRef.binary, TRef.nullary, TRef.ternary, TRef.unary, TRef.toBuf, TRef.ofBuf, cast_eq]
  after_results_simp <;> rfl

end Windows

variable (m : (ℓ : Loc nD τ sig) → Buf (Elt Ideal) ℓ) (c : Dev nD)

/-- The arguments on a device. -/
abbrev argL : Stage.TQ Ideal := m ((c : Thread nD τ).loc main_arg0)
abbrev argR : Stage.TQ Ideal := m ((c : Thread nD τ).loc main_arg1)
abbrev argV : Stage.TK Ideal := m ((c : Thread nD τ).loc main_arg2)
abbrev argK : Stage.TK Ideal := m ((c : Thread nD τ).loc main_arg3)

/-- The rows' maxima there. -/
abbrev sft : Fin 16 → Fin 4096 → ℝ := Stage.shift (argL m c) (argR m c) (argV m c) (argK m c)

theorem hd_rowOf (h : Fin 16) (q : Fin 128) : hd (rowOf h q) = h := by
  apply Fin.ext
  show (128 * h.val + q.val) / 128 = h.val
  omega

theorem qi_rowOf (t : Fin cfg0.N) (h : Fin 16) (q : Fin 128) : qi (num t) (rowOf h q) = query t q := by
  apply Fin.ext
  show 128 * t.val + (128 * h.val + q.val) % 128 = 128 * t.val + q.val
  omega

variable {a : Args} {g : Stage.TQ Ideal} (ha : Stage.IsArgs (argL m c) (argR m c) (argV m c) (argK m c) g a)
include ha

/-- A point of its width leaves the output's and the log-sums' block. -/
theorem left_at (t : Fin cfg0.N) {w : ℕ} (W : Wide w) (hw : w = 128 * (t.val % 8 + 1)) (h : Fin 16) (q d : Fin 128) :
    (left c m t W).1 (ix3 h q d) = ((a.o (sft m c) h (query t q) d : ℝ) : EReal)
      ∧ (left c m t W).2 (ix3 h q d)
        = (((sft m c h (query t q) + Real.log (a.Z (sft m c) h (query t q))) / Real.log 2 : ℝ) : EReal) := by
  have h0 : ∀ (h : Fin 16) (q : Fin 128) (d : Fin 256), iblk m c 0 t (ix3 h q d)
      = ((a.qq h (place (num t) q) d * (sigma / Real.log 2) : ℝ) : EReal) := fun h q d => by
    rw [iblk0, read_q]
    exact Stage.inQ_at ha h (query t q) d
  have h1 : ∀ (j : Fin 4096) (d : Fin 256), iblk m c 1 t (ix2 j d) = (a.kk j d : EReal) := fun j d => by
    rw [iblk1, read_k]
    exact Stage.inK_at ha j d
  refine ⟨?_, ?_⟩
  · have e := result_o a (num t) (iblk m c 0 t) (iblk m c 1 t) h0 h1 (sft m c) (grid0.coords t) (point_no t) W hw h q d
    rw [hd_rowOf, qi_rowOf] at e
    exact e
  · have e := result_lse a (num t) (iblk m c 0 t) (iblk m c 1 t) h0 h1 (sft m c) (grid0.coords t) (point_no t) W hw h q d
    rw [hd_rowOf, qi_rowOf] at e
    exact e

/-- So does every point. -/
theorem outs_at (t : Fin cfg0.N) (h : Fin 16) (q d : Fin 128) :
    (outsAt0 m c t.val t.isLt).1 (ix3 h q d) = ((a.o (sft m c) h (query t q) d : ℝ) : EReal)
      ∧ (outsAt0 m c t.val t.isLt).2 (ix3 h q d)
        = (((sft m c h (query t q) + Real.log (a.Z (sft m c) h (query t q))) / Real.log 2 : ℝ) : EReal) := by
  have cases8 : t.val % 8 = 0 ∨ t.val % 8 = 1 ∨ t.val % 8 = 2 ∨ t.val % 8 = 3 ∨ t.val % 8 = 4 ∨ t.val % 8 = 5 ∨ t.val % 8 = 6 ∨ t.val % 8 = 7 := by
    omega
  rcases cases8 with e | e | e | e | e | e | e | e
  · rw [leftA c m t e]; exact left_at m c ha t W128 (by omega) h q d
  · rw [leftB c m t e]; exact left_at m c ha t W256 (by omega) h q d
  · rw [leftC c m t e]; exact left_at m c ha t W384 (by omega) h q d
  · rw [leftD c m t e]; exact left_at m c ha t W512 (by omega) h q d
  · rw [leftE c m t e]; exact left_at m c ha t W640 (by omega) h q d
  · rw [leftF c m t e]; exact left_at m c ha t W768 (by omega) h q d
  · rw [leftG c m t e]; exact left_at m c ha t W896 (by omega) h q d
  · rw [leftH c m t e]; exact left_at m c ha t W1024 (by omega) h q d

/-- The array of the output, -/
theorem final_o : (dats m 0 c).arrAt 2 cfg0.N = Stage.inO (Stage.o (argL m c) (argR m c) (argV m c) (argK m c)) :=
  arr2 m c _ fun t h q d => (outs_at m c ha t h q d).1.trans ((Stage.inO_at _ h (query t q) d).trans (Stage.o_at ha h (query t q) d)).symm

/-- and of the log-sums. -/
theorem final_l : (dats m 0 c).arrAt 3 cfg0.N = Stage.inL (Stage.lse (argL m c) (argR m c) (argV m c) (argK m c)) :=
  arr3 m c _ fun t h q d => (outs_at m c ha t h q d).2.trans (Stage.inL_at ha h (query t q) d).symm

end Cert.Fwd

end
-- ==== Proof.Inp.Open.lean ====
/-
  What a grid point of the input gradient's call leaves in its three output blocks, as functions of its input blocks and
  of what the two accumulators held.
-/
module

public import proofs.«01_k».proof.Proof.Gen.Kernel3Ideal.Frame
public import Idealize.ShloMosaic.Lib.Pipeline.Value

@[expose] public section

set_option maxRecDepth 16384

noncomputable section

namespace Cert.Inp

open Idealize.ShloMosaic Idealize.ShloMosaic.Tactic Cert.Kernel3Ideal Cert.Kernel3Ideal.Gen

variable {F : FTy → Type} [FloatOps F]

/-- The block of the modulated input's gradient: the four partial products over the weight's shards, added up. -/
def dh (x0 : Vec F S512x5120 .bf16) (x1 : Vec F S4x1024x1280 .bf16) : FVec F S512x1024 .f32 :=
  k0_pay4 (View.ld x0 (Rect.unit (s := S512x5120) ![0, 0] S512x1280.size inb_S512x5120_S512x1280_0_0))
    (View.ld x1 (Rect.unit (s := S4x1024x1280) ![0, 0, 0] S1x1024x1280.size inb_S4x1024x1280_S1x1024x1280_0_0_0))
    (View.ld x0 (Rect.unit (s := S512x5120) ![0, 1280] S512x1280.size inb_S512x5120_S512x1280_0_1280))
    (View.ld x1 (Rect.unit (s := S4x1024x1280) ![1, 0, 0] S1x1024x1280.size inb_S4x1024x1280_S1x1024x1280_1_0_0))
    (View.ld x0 (Rect.unit (s := S512x5120) ![0, 2560] S512x1280.size inb_S512x5120_S512x1280_0_2560))
    (View.ld x1 (Rect.unit (s := S4x1024x1280) ![2, 0, 0] S1x1024x1280.size inb_S4x1024x1280_S1x1024x1280_2_0_0))
    (View.ld x0 (Rect.unit (s := S512x5120) ![0, 3840] S512x1280.size inb_S512x5120_S512x1280_0_3840))
    (View.ld x1 (Rect.unit (s := S4x1024x1280) ![3, 0, 0] S1x1024x1280.size inb_S4x1024x1280_S1x1024x1280_3_0_0))

/-- The three blocks after a point, from the two accumulators before it. -/
def left (x0 : Vec F S512x5120 .bf16) (x1 : Vec F S4x1024x1280 .bf16) (x2 x3 : Vec F S512x1024 .f32) (x4 a b : Vec F S1x1024 .f32) :
    Vec F S512x1024 .f32 × Vec F S1x1024 .f32 × Vec F S1x1024 .f32 :=
  (k0_pay1 (dh x0 x1) x3 x4, k0_pay2 (dh x0 x1) a x2, k0_pay3 (dh x0 x1) b)

theorem zero2 : (![0, 0] : Fin 2 → ℕ) = fun _ => 0 := by decide

variable (m : (ℓ : Loc nD τ sig) → Buf (Elt F) ℓ) (c : Dev nD) (t : Fin cfg0.N)

/-- A point's three blocks, over its input blocks. -/
def leftAt (a b : Vec F S1x1024 .f32) : Vec F S512x1024 .f32 × Vec F S1x1024 .f32 × Vec F S1x1024 .f32 :=
  left (iblk m c 0 t) (iblk m c 1 t) (iblk m c 2 t) (iblk m c 3 t) (iblk m c 4 t) a b

/-- The first point starts both accumulators at zero; -/
theorem left_first (h : t.val % 8 = 0) : outsAt0 m c t.val t.isLt = leftAt m c t k0_pay5 k0_pay6 := by
  rw [outsAt0_A m c t h]
  unfold out0_A_5 out0_A_6 out0_A_7 leftAt left dh
  rw [View.read_writes_eq_canon _ _ _ (fun _ => cover0_A_5 ..), View.read_writes_eq_canon _ _ _ (fun _ => cover0_A_6 ..),
    View.read_writes_eq_canon _ _ _ (fun _ => cover0_A_7 ..)]
  unfold kernelRun0_A
  dsimp only
  sl_unfold_words
  rw [View.canon_cons_unit_zero (S := S1x1024) zero2, View.canon_cons_unit_zero (S := S1x1024) zero2, View.canon_unit_zero (S := S512x1024) zero2,
    View.readCov_unit_zero (S := S1x1024) _ zero2, View.readCov_unit_zero (S := S1x1024) _ zero2]
  simp only [View.readAt_eq_ld, (hs0_0 t).read_unread, (hs0_1 t).read_unread, (hs0_2 t).read_unread, (hs0_3 t).read_unread, (hs0_4 t).read_unread,
    View.ld_unit_zero (S := S512x1024) zero2, View.ld_unit_zero (S := S1x1024) zero2]

/-- every other point goes on from the point before. -/
theorem left_next (h : ¬t.val % 8 = 0) :
    outsAt0 m c t.val t.isLt
      = leftAt m c t (outsAt0 m c (t.val - 1) (Nat.lt_of_le_of_lt (Nat.sub_le _ _) t.isLt)).2.1
          (outsAt0 m c (t.val - 1) (Nat.lt_of_le_of_lt (Nat.sub_le _ _) t.isLt)).2.2 := by
  rw [outsAt0_B m c t h]
  unfold out0_B_5 out0_B_6 out0_B_7 leftAt left dh
  rw [View.read_writes_eq_canon _ _ _ (fun _ => cover0_B_5 ..), View.read_writes_eq_canon _ _ _ (fun _ => cover0_B_6 ..),
    View.read_writes_eq_canon _ _ _ (fun _ => cover0_B_7 ..)]
  unfold kernelRun0_B
  dsimp only
  sl_unfold_words
  rw [View.canon_unit_zero (S := S1x1024) zero2, View.canon_unit_zero (S := S1x1024) zero2, View.canon_unit_zero (S := S512x1024) zero2]
  simp only [View.readAt_eq_ld, (hs0_0 t).read_unread, (hs0_1 t).read_unread, (hs0_2 t).read_unread, (hs0_3 t).read_unread, (hs0_4 t).read_unread,
    (hs0_6 t).read_unread, (hs0_7 t).read_unread, View.ld_unit_zero (S := S512x1024) zero2, View.ld_unit_zero (S := S1x1024) zero2]

end Cert.Inp

end
-- ==== Proof.Inp.Call.lean ====
/-
  The three arrays that the input gradient's call leaves: the residual's gradient, and the column sums that are the
  gradients of scale and shift.
-/
module

public import proofs.«01_k».proof.Proof.Inp.Open
public import proofs.«01_k».proof.Proof.Gen.Kernel3Ideal.Value
public import proofs.«01_k».proof.Proof.Gen.Reference3Ideal.Run
public import Idealize.ShloMosaic.Lib.Pointwise
public import Idealize.ShloMosaic.Lib.MatmulPlain
public import Idealize.ShloMosaic.Lib.Pipeline.ValueKit

@[expose] public section

set_option maxRecDepth 16384

noncomputable section

namespace Cert.Inp

open Idealize.ShloMosaic Idealize.ShloMosaic.TcCoe

/-! The sums. -/

/-- Column `k` of the weight's shard `s`. -/
def col (s : Fin 4) (k : Fin 1280) : Fin 5120 := ⟨s.val * 1280 + k.val, by omega⟩

/-- Row `q` of block `t`. -/
def row (t : Fin 8) (q : Fin 512) : Fin 4096 := ⟨512 * t.val + q.val, by omega⟩

/-- A sum over all the columns, shard by shard. -/
theorem sum_cols (f : Fin 5120 → EReal) : ∑ k, f k = ∑ s, ∑ k, f (col s k) := by
  rw [← Fintype.sum_prod_type']
  refine (Fintype.sum_equiv (finProdFinEquiv (m := 4) (n := 1280)) _ _ fun x => ?_).symm
  refine congrArg f (Fin.ext ?_)
  show x.1.val * 1280 + x.2.val = x.2.val + 1280 * x.1.val
  omega

/-- A sum over all the rows, block by block. -/
theorem sum_rows (f : Fin 4096 → EReal) : ∑ i, f i = ∑ t, ∑ q, f (row t q) := by
  rw [← Fintype.sum_prod_type']
  refine (Fintype.sum_equiv (finProdFinEquiv (m := 8) (n := 512)) _ _ fun x => ?_).symm
  refine congrArg f (Fin.ext ?_)
  show 512 * x.1.val + x.2.val = x.2.val + 512 * x.1.val
  omega

/-! The reference's three results. -/

section Reference

open Cert.Reference3Ideal Cert.Reference3Ideal.Gen

/-- The gradient of the modulated input, -/
def gradH (g : FVec Ideal S4096x5120 .f32) (w : FVec Ideal S1024x5120 .f32) : FVec Ideal S4096x1024 .f32 :=
  Host.dotGeneral dot_S4096x5120_S1024x5120_S4096x1024_1_1_0_0_n_n none g w

/-- of the residual, -/
def gradX (h r : FVec Ideal S4096x1024 .f32) (s : FVec Ideal S1x1024 .f32) : FVec Ideal S4096x1024 .f32 :=
  addf r (mulf h (broadcastInDim S4096x1024 ![0, 1] bcast_S1x1024_S4096x1024_0_1
    (addf (broadcastInDim S1x1024 ![] bcast_S_S1x1024 (constant S_ .f32 0x3F800000#32)) s)))

/-- and a column sum. -/
def colSum (x : FVec Ideal S4096x1024 .f32) : FVec Ideal S1x1024 .f32 :=
  shapeCast _ (Host.reduceAdd x (constant S_ .f32 0x00000000#32) reducesTo_S4096x1024_S1024_d0 h_S_) shapeCasts_S1024_S1x1024

theorem gradH_at (g : FVec Ideal S4096x5120 .f32) (w : FVec Ideal S1024x5120 .f32) (i : Fin 4096) (j : Fin 1024) :
    gradH g w (ix2 i j) = ∑ k, g (ix2 i k) * w (ix2 j k) := by
  pointwise [gradH]

theorem gradX_at (h r : FVec Ideal S4096x1024 .f32) (s : FVec Ideal S1x1024 .f32) (i : Fin 4096) (j : Fin 1024) :
    gradX h r s (ix2 i j) = r (ix2 i j) + h (ix2 i j) * (1 + s (ix2 0 j)) := by
  pointwise [gradX]

theorem colSum_at (x : FVec Ideal S4096x1024 .f32) (j : Fin 1024) : colSum x (ix2 0 j) = ∑ i, x (ix2 i j) := by
  pointwise [colSum]

end Reference

open Cert.Kernel3Ideal Cert.Kernel3Ideal.Gen

/-! The payloads at an index. -/

theorem pay1_at (h r : FVec Ideal S512x1024 .f32) (s : FVec Ideal S1x1024 .f32) (q : Fin 512) (j : Fin 1024) :
    k0_pay1 (F := Ideal) h r s (ix2 q j) = r (ix2 q j) + h (ix2 q j) * (1 + s (ix2 0 j)) := by
  pointwise [k0_pay1]

theorem pay2_at (h x : FVec Ideal S512x1024 .f32) (a : FVec Ideal S1x1024 .f32) (j : Fin 1024) :
    k0_pay2 (F := Ideal) h a x (ix2 0 j) = a (ix2 0 j) + ∑ q : Fin 512, h (ix2 q j) * x (ix2 q j) := by
  pointwise [k0_pay2]

theorem pay3_at (h : FVec Ideal S512x1024 .f32) (b : FVec Ideal S1x1024 .f32) (j : Fin 1024) :
    k0_pay3 (F := Ideal) h b (ix2 0 j) = b (ix2 0 j) + ∑ q : Fin 512, h (ix2 q j) := by
  pointwise [k0_pay3]

theorem pay5_at (j : Fin 1024) : k0_pay5 (F := Ideal) (ix2 0 j) = 0 := by
  pointwise [k0_pay5]

theorem pay6_at (j : Fin 1024) : k0_pay6 (F := Ideal) (ix2 0 j) = 0 := by
  pointwise [k0_pay6]

theorem pay4_at (a0 a1 a2 a3 : Vec Ideal S512x1280 .bf16) (b0 b1 b2 b3 : Vec Ideal S1x1024x1280 .bf16) (q : Fin 512) (j : Fin 1024) :
    k0_pay4 (F := Ideal) a0 b0 a1 b1 a2 b2 a3 b3 (ix2 q j)
      = ∑ k, a0 (ix2 q k) * b0 (ix3 0 j k) + ∑ k, a1 (ix2 q k) * b1 (ix3 0 j k) + ∑ k, a2 (ix2 q k) * b2 (ix3 0 j k)
        + ∑ k, a3 (ix2 q k) * b3 (ix3 0 j k) := by
  pointwise [k0_pay4]

/-- The columns of a shard, as they are loaded, -/
theorem ld_cols (x : Vec Ideal S512x5120 .bf16) (s : Fin 4) (n : ℕ) (hn : n = s.val * 1280) (inb : ∀ a, (![0, n] : Fin 2 → ℕ) a + S512x1280.size a ≤ S512x5120.size a)
    (q : Fin 512) (k : Fin 1280) : View.ld x (Rect.unit (s := S512x5120) ![0, n] S512x1280.size inb) (ix2 q k) = x (ix2 q (col s k)) := by
  subst hn
  refine congrArg x (funext fun a => Fin.ext ?_)
  match a with
  | ⟨0, _⟩ => show 0 + 1 * q.val = q.val; omega
  | ⟨1, _⟩ => show s.val * 1280 + 1 * k.val = s.val * 1280 + k.val; omega

/-- and the shard. -/
theorem ld_shard (x : Vec Ideal S4x1024x1280 .bf16) (s : Fin 4) (n : ℕ) (hn : n = s.val)
    (inb : ∀ a, (![n, 0, 0] : Fin 3 → ℕ) a + S1x1024x1280.size a ≤ S4x1024x1280.size a) (j : Fin 1024) (k : Fin 1280) :
    View.ld x (Rect.unit (s := S4x1024x1280) ![n, 0, 0] S1x1024x1280.size inb) (ix3 0 j k) = x (ix3 s j k) := by
  subst hn
  refine congrArg x (funext fun a => Fin.ext ?_)
  match a with
  | ⟨0, _⟩ => show s.val + 1 * 0 = s.val; omega
  | ⟨1, _⟩ => show 0 + 1 * j.val = j.val; omega
  | ⟨2, _⟩ => show 0 + 1 * k.val = k.val; omega

/-- The block of the modulated input's gradient is one sum over all the columns. -/
theorem dh_at (x0 : Vec Ideal S512x5120 .bf16) (x1 : Vec Ideal S4x1024x1280 .bf16) (g : Fin 5120 → EReal) (w : Fin 5120 → EReal)
    (q : Fin 512) (j : Fin 1024) (h0 : ∀ k, x0 (ix2 q k) = g k) (h1 : ∀ s k, x1 (ix3 s j k) = w (col s k)) :
    dh (F := Ideal) x0 x1 (ix2 q j) = ∑ k, g k * w k := by
  unfold dh
  rw [pay4_at, sum_cols, Fin.sum_univ_four]
  simp only [ld_cols x0 0 0 rfl, ld_cols x0 1 1280 rfl, ld_cols x0 2 2560 rfl, ld_cols x0 3 3840 rfl, ld_shard x1 0 0 rfl,
    ld_shard x1 1 1 rfl, ld_shard x1 2 2 rfl, ld_shard x1 3 3 rfl, h0, h1]

/-! The windows' blocks. -/

section Windows

open Idealize.ShloMosaic.StableHlo

variable {F : FTy → Type} [FloatOps F] (m : (ℓ : Loc nD τ sig) → Buf (Elt F) ℓ) (c : Dev nD)

theorem points : cfg0.N = 8 := by decide +kernel

/-- A point's number. -/
def num (t : Fin cfg0.N) : Fin 8 := ⟨t.val, lt_of_lt_of_eq t.isLt points⟩

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![t.val, 0] := by decide +kernel

theorem iblk0 (t : Fin cfg0.N) (q : Fin 512) (k : Fin 5120) : iblk m c 0 t (ix2 q k) = V m c main_v2 (ix2 (row (num t) q) k) := by
  blk_simp [iblk]
  congr 1
  blk_ext [index0, row, num]

theorem iblk1 (t : Fin cfg0.N) (s : Fin 4) (j : Fin 1024) (k : Fin 1280) : iblk m c 1 t (ix3 s j k) = V m c main_v3 (ix3 s j k) := by
  blk_simp [iblk]
  congr 1
  blk_ext [index1]

theorem iblk2 (t : Fin cfg0.N) (q : Fin 512) (j : Fin 1024) : iblk m c 2 t (ix2 q j) = V m c main_arg2 (ix2 (row (num t) q) j) := by
  blk_simp [iblk]
  congr 1
  blk_ext [index2, row, num]

theorem iblk3 (t : Fin cfg0.N) (q : Fin 512) (j : Fin 1024) : iblk m c 3 t (ix2 q j) = V m c main_arg4 (ix2 (row (num t) q) j) := by
  blk_simp [iblk]
  congr 1
  blk_ext [index3, row, num]

theorem iblk4 (t : Fin cfg0.N) (u : Fin 1) (j : Fin 1024) : iblk m c 4 t (ix2 u j) = V m c main_arg3 (ix2 u j) := by
  blk_simp [iblk]
  congr 1
  blk_ext [index4]

/-- The cotangent and the weight's shards, as the host prepares them. -/
def inG (g : FVec F S4096x5120 .f32) : FVec F S4096x5120 .bf16 := truncf .bf16 g bitsLt_bf16_f32
def inW (w : FVec F S1024x5120 .f32) : FVec F S4x1024x1280 .bf16 :=
  truncf .bf16 (transpose S4x1024x1280 [1, 0, 2] (shapeCast S1024x4x1280 w shapeCasts_S1024x5120_S1024x4x1280) transposes_S1024x4x1280_S4x1024x1280_1_0_2)
    bitsLt_bf16_f32

theorem read_g : V m c main_v2 = inG (m ((c : Thread nD τ).loc main_arg0)) := by
  simp only [V, hostOps0, TRef.binary, TRef.nullary, TRef.ternary, TRef.unary, TRef.toBuf, TRef.ofBuf, cast_eq]
  after_results_simp <;> rfl

theorem read_w : V m c main_v3 = inW (m ((c : Thread nD τ).loc main_arg1)) := by
  simp only [V, hostOps0, TRef.binary, TRef.nullary, TRef.ternary, TRef.unary, TRef.toBuf, TRef.ofBuf, cast_eq]
  after_results_simp <;> rfl

/-- The residual's gradient, where every point's block is known; -/
theorem arr5 (G : Vec F S4096x1024 .f32)
    (hG : ∀ (t : Fin cfg0.N) (q : Fin 512) (j : Fin 1024), (outsAt0 m c t.val t.isLt).1 (ix2 q j) = G (ix2 (row (num t) q) j)) :
    (dats m 0 c).arrAt 5 cfg0.N = G := by
  refine (dats m 0 c).arrAt_eq_of_covers 5 G (by decide +kernel) fun t hf y => ?_
  blk_simp
  rw [after0_5]
  rw [eq_ix2 y]
  refine (hG t _ _).trans ?_
  congr 1
  blk_ext [index5, row, num]

/-- The last point. -/
def lastPoint : Fin cfg0.N := ⟨7, by rw [points]; omega⟩

/-- the two accumulators, from the last point. -/
theorem arr6 : (dats m 0 c).arrAt 6 cfg0.N = (outsAt0 m c lastPoint.val lastPoint.isLt).2.1 := by
  refine (dats m 0 c).arrAt_eq_of_after_last 6 lastPoint (by decide +kernel) _ fun j => ?_
  exact congrFun (after0_6 m c lastPoint) j

theorem arr7 : (dats m 0 c).arrAt 7 cfg0.N = (outsAt0 m c lastPoint.val lastPoint.isLt).2.2 := by
  refine (dats m 0 c).arrAt_eq_of_after_last 7 lastPoint (by decide +kernel) _ fun j => ?_
  exact congrFun (after0_7 m c lastPoint) j

end Windows

theorem inG_at (g : FVec Ideal S4096x5120 .f32) (i : Fin 4096) (k : Fin 5120) : inG g (ix2 i k) = g (ix2 i k) := by
  pointwise [inG]

theorem inW_at (w : FVec Ideal S1024x5120 .f32) (s : Fin 4) (j : Fin 1024) (k : Fin 1280) : inW w (ix3 s j k) = w (ix2 j (col s k)) := by
  pointwise [inW, col]

/-! The points. -/

variable (m : (ℓ : Loc nD τ sig) → Buf (Elt Ideal) ℓ) (c : Dev nD)

/-- The arguments on a device: the projection's cotangent, the weight, the residual, the scale, the residual's cotangent. -/
abbrev argG : FVec Ideal S4096x5120 .f32 := m ((c : Thread nD τ).loc main_arg0)
abbrev argW : FVec Ideal S1024x5120 .f32 := m ((c : Thread nD τ).loc main_arg1)
abbrev argX : FVec Ideal S4096x1024 .f32 := m ((c : Thread nD τ).loc main_arg2)
abbrev argS : FVec Ideal S1x1024 .f32 := m ((c : Thread nD τ).loc main_arg3)
abbrev argR : FVec Ideal S4096x1024 .f32 := m ((c : Thread nD τ).loc main_arg4)

/-- The modulated input's gradient there. -/
abbrev H : FVec Ideal S4096x1024 .f32 := gradH (argG m c) (argW m c)

theorem dh_block (t : Fin cfg0.N) (q : Fin 512) (j : Fin 1024) : dh (F := Ideal) (iblk m c 0 t) (iblk m c 1 t) (ix2 q j) = H m c (ix2 (row (num t) q) j) := by
  refine Eq.trans (dh_at _ _ (fun k => argG m c (ix2 (row (num t) q) k)) (fun k => argW m c (ix2 j k)) q j (fun k => ?_) (fun s k => ?_)) (gradH_at ..).symm
  · rw [iblk0, read_g, inG_at]
  · rw [iblk1, read_w, inW_at]

/-- A point's three blocks at an index. -/
theorem leftAt_1 (t : Fin cfg0.N) (a b : FVec Ideal S1x1024 .f32) (q : Fin 512) (j : Fin 1024) :
    (leftAt m c t a b).1 (ix2 q j) = gradX (H m c) (argR m c) (argS m c) (ix2 (row (num t) q) j) := by
  refine (pay1_at _ _ _ q j).trans ?_
  rw [dh_block, gradX_at, iblk3, iblk4, V_main_arg4, V_main_arg3]

theorem leftAt_2 (t : Fin cfg0.N) (a b : FVec Ideal S1x1024 .f32) (j : Fin 1024) :
    (leftAt m c t a b).2.1 (ix2 0 j) = a (ix2 0 j) + ∑ q, mulf (argX m c) (H m c) (ix2 (row (num t) q) j) := by
  refine (pay2_at _ _ _ j).trans ?_
  congr 1
  refine Finset.sum_congr rfl fun q _ => ?_
  rw [dh_block, iblk2, V_main_arg2]
  exact mul_comm _ _

theorem leftAt_3 (t : Fin cfg0.N) (a b : FVec Ideal S1x1024 .f32) (j : Fin 1024) :
    (leftAt m c t a b).2.2 (ix2 0 j) = b (ix2 0 j) + ∑ q, H m c (ix2 (row (num t) q) j) := by
  refine (pay3_at _ _ j).trans ?_
  congr 1
  exact Finset.sum_congr rfl fun q _ => dh_block m c t q j

theorem outs_1 (t : Fin cfg0.N) (q : Fin 512) (j : Fin 1024) :
    (outsAt0 m c t.val t.isLt).1 (ix2 q j) = gradX (H m c) (argR m c) (argS m c) (ix2 (row (num t) q) j) := by
  by_cases h : t.val % 8 = 0
  · rw [left_first m c t h]
    exact leftAt_1 m c t _ _ q j
  · rw [left_next m c t h]
    exact leftAt_1 m c t _ _ q j

/-- The accumulators after point `n`: the sums over the blocks up to it. -/
theorem outs_23 (j : Fin 1024) : ∀ (n : ℕ) (h : n < cfg0.N),
    (outsAt0 m c n h).2.1 (ix2 0 j) = ∑ t ∈ Finset.univ.filter (fun t : Fin 8 => t.val < n + 1), ∑ q, mulf (argX m c) (H m c) (ix2 (row t q) j)
    ∧ (outsAt0 m c n h).2.2 (ix2 0 j) = ∑ t ∈ Finset.univ.filter (fun t : Fin 8 => t.val < n + 1), ∑ q, H m c (ix2 (row t q) j)
  | 0, h => by
    have e : Finset.univ.filter (fun t : Fin 8 => t.val < 0 + 1) = {num ⟨0, h⟩} := by
      ext t
      simp only [Finset.mem_filter, Finset.mem_univ, true_and, Finset.mem_singleton, Fin.ext_iff, num]
      omega
    rw [e, Finset.sum_singleton, Finset.sum_singleton, left_first m c ⟨0, h⟩ rfl, leftAt_2, leftAt_3, pay5_at, pay6_at, zero_add, zero_add]
    exact ⟨rfl, rfl⟩
  | n + 1, h => by
    have hN : n + 1 < 8 := lt_of_lt_of_eq h points
    have e : Finset.univ.filter (fun t : Fin 8 => t.val < n + 1 + 1) = insert (num ⟨n + 1, h⟩) (Finset.univ.filter (fun t : Fin 8 => t.val < n + 1)) := by
      ext t
      simp only [Finset.mem_filter, Finset.mem_univ, true_and, Finset.mem_insert, Fin.ext_iff, num]
      omega
    have hn : num ⟨n + 1, h⟩ ∉ Finset.univ.filter (fun t : Fin 8 => t.val < n + 1) := by simp [num]
    have hm : ¬(⟨n + 1, h⟩ : Fin cfg0.N).val % 8 = 0 := by dsimp only; omega
    rw [e, Finset.sum_insert hn, Finset.sum_insert hn, left_next m c ⟨n + 1, h⟩ hm, leftAt_2, leftAt_3]
    obtain ⟨i2, i3⟩ := outs_23 j n (Nat.lt_of_succ_lt h)
    exact ⟨(congrArg (· + _) i2).trans (add_comm _ _), (congrArg (· + _) i3).trans (add_comm _ _)⟩

/-- The array of the residual's gradient, -/
theorem final_x : (dats m 0 c).arrAt 5 cfg0.N = gradX (H m c) (argR m c) (argS m c) :=
  arr5 m c _ (outs_1 m c)

theorem all_blocks : Finset.univ.filter (fun t : Fin 8 => t.val < 7 + 1) = Finset.univ :=
  Finset.filter_true_of_mem fun t _ => t.isLt

/-- of the scale's, -/
theorem final_scale : (dats m 0 c).arrAt 6 cfg0.N = colSum (mulf (argX m c) (H m c)) := by
  rw [arr6]
  funext y
  obtain ⟨u, j, rfl⟩ : ∃ u j, y = ix2 u j := ⟨y 0, y 1, eq_ix2 y⟩
  obtain rfl : u = 0 := Subsingleton.elim _ _
  refine ((outs_23 m c j lastPoint.val lastPoint.isLt).1).trans ?_
  rw [colSum_at, sum_rows]
  exact Finset.sum_congr all_blocks fun _ _ => rfl

/-- and of the shift's. -/
theorem final_shift : (dats m 0 c).arrAt 7 cfg0.N = colSum (H m c) := by
  rw [arr7]
  funext y
  obtain ⟨u, j, rfl⟩ : ∃ u j, y = ix2 u j := ⟨y 0, y 1, eq_ix2 y⟩
  obtain rfl : u = 0 := Subsingleton.elim _ _
  refine ((outs_23 m c j lastPoint.val lastPoint.isLt).2).trans ?_
  rw [colSum_at, sum_rows]
  exact Finset.sum_congr all_blocks fun _ _ => rfl

end Cert.Inp

end
-- ==== Proof.Adam.Large.lean ====
/- The AdamW step of the large weights, one call each: the weights whose array is blocked as it is. -/
module

public import proofs.«01_k».proof.Defs
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run

@[expose] public section

noncomputable section

namespace Cert.Adam

open Idealize.ShloMosaic Idealize.SL.Sem

/-- The step of `ada_w`: the two programs end with equal updates, first moments and second moments. -/
theorem equal_ada_w : Cert.algebraic_Kernel5Ideal_Reference5Ideal (hKernel5Ideal := Cert.Kernel5Ideal.Gen.facts)
    (hReference5Ideal := Cert.Reference5Ideal.Gen.facts) := by
  intro m ρ m' ρ' _ hagree
  refine ⟨_, _, _, Cert.Kernel5Ideal.Value.run (F := Ideal) m ρ, ?_⟩
  refine (θ_run Cert.Reference5Ideal.defs _ _).mono (fun r h c => ?_) (Cert.Reference5Ideal.Value.run (F := Ideal) m' ρ')
  obtain ⟨e0, e1, e2, e3⟩ := hagree c
  obtain ⟨h0, h1, h2, kept⟩ := h c
  refine ⟨h0.trans ?_, h1.trans ?_, h2.trans ?_, kept⟩ <;> (simp only [e0, e1, e2, e3]; rfl)

/-- The step of `e_w_in`: the two programs end with equal updates, first moments and second moments. -/
theorem equal_e_w_in : Cert.algebraic_Kernel6Ideal_Reference6Ideal (hKernel6Ideal := Cert.Kernel6Ideal.Gen.facts)
    (hReference6Ideal := Cert.Reference6Ideal.Gen.facts) := by
  intro m ρ m' ρ' _ hagree
  refine ⟨_, _, _, Cert.Kernel6Ideal.Value.run (F := Ideal) m ρ, ?_⟩
  refine (θ_run Cert.Reference6Ideal.defs _ _).mono (fun r h c => ?_) (Cert.Reference6Ideal.Value.run (F := Ideal) m' ρ')
  obtain ⟨e0, e1, e2, e3⟩ := hagree c
  obtain ⟨h0, h1, h2, kept⟩ := h c
  refine ⟨h0.trans ?_, h1.trans ?_, h2.trans ?_, kept⟩ <;> (simp only [e0, e1, e2, e3]; rfl)

/-- The step of `e_w_out`: the two programs end with equal updates, first moments and second moments. -/
theorem equal_e_w_out : Cert.algebraic_Kernel9Ideal_Reference9Ideal (hKernel9Ideal := Cert.Kernel9Ideal.Gen.facts)
    (hReference9Ideal := Cert.Reference9Ideal.Gen.facts) := by
  intro m ρ m' ρ' _ hagree
  refine ⟨_, _, _, Cert.Kernel9Ideal.Value.run (F := Ideal) m ρ, ?_⟩
  refine (θ_run Cert.Reference9Ideal.defs _ _).mono (fun r h c => ?_) (Cert.Reference9Ideal.Value.run (F := Ideal) m' ρ')
  obtain ⟨e0, e1, e2, e3⟩ := hagree c
  obtain ⟨h0, h1, h2, kept⟩ := h c
  refine ⟨h0.trans ?_, h1.trans ?_, h2.trans ?_, kept⟩ <;> (simp only [e0, e1, e2, e3]; rfl)

/-- The step of `o_w_in`: the two programs end with equal updates, first moments and second moments. -/
theorem equal_o_w_in : Cert.algebraic_Kernel10Ideal_Reference10Ideal (hKernel10Ideal := Cert.Kernel10Ideal.Gen.facts)
    (hReference10Ideal := Cert.Reference10Ideal.Gen.facts) := by
  intro m ρ m' ρ' _ hagree
  refine ⟨_, _, _, Cert.Kernel10Ideal.Value.run (F := Ideal) m ρ, ?_⟩
  refine (θ_run Cert.Reference10Ideal.defs _ _).mono (fun r h c => ?_) (Cert.Reference10Ideal.Value.run (F := Ideal) m' ρ')
  obtain ⟨e0, e1, e2, e3⟩ := hagree c
  obtain ⟨h0, h1, h2, kept⟩ := h c
  refine ⟨h0.trans ?_, h1.trans ?_, h2.trans ?_, kept⟩ <;> (simp only [e0, e1, e2, e3]; rfl)

end Cert.Adam

end
-- ==== Proof.Adam.Blocks.lean ====
/- The AdamW step of the weights that their calls take as one block, the one layer's axis left out: `gmlp_ws`, `pool_w`,
   `mla_w_uq` and `mla_w_uk`. -/
module

public import proofs.«01_k».proof.Defs
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import Idealize.ShloMosaic.Lib.Pointwise
public import Idealize.ShloMosaic.Lib.Pipeline.ValueKit

@[expose] public section

set_option maxRecDepth 16384

noncomputable section

namespace Cert.Adam

open Idealize.ShloMosaic Idealize.ShloMosaic.TcCoe Idealize.SL.Sem Idealize.ShloMosaic.StableHlo

/-- A block's load and store start at the block's origin. -/
theorem origin : (![0, 0, 0] : Fin 3 → ℕ) = fun _ => 0 := funext fun a => by fin_cases a <;> rfl

namespace GmlpWs

open Cert.Kernel7Ideal Cert.Kernel7Ideal.Gen

section Windows

variable {F : FTy → Type} [FloatOps F] (m : (ℓ : Loc nD τ sig) → Buf (Elt F) ℓ) (c : Dev nD)

/-- The one point. -/
def point : Fin cfg0.N := ⟨0, by decide +kernel⟩

/-- An argument without its first axis, which has one index. -/
def flat (x : FVec F S1x4x128x128 .f32) : FVec F S4x128x128 .f32 := shapeCast S4x128x128 x shapeCasts_S1x4x128x128_S4x128x128

/-- The region finds the arguments in its four arrays, flat, -/
theorem entry : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;>
    (simp only [V, hostOps0, TRef.unary, TRef.toBuf, TRef.ofBuf, cast_eq]
     after_results_simp <;> rfl)

/-- and its four blocks are the whole arrays. -/
theorem whole : iblk m c 0 point = V m c main_v0 ∧ iblk m c 1 point = V m c main_v1 ∧ iblk m c 2 point = V m c main_v2
    ∧ iblk m c 3 point = V m c main_v3 := by
  have index : ∀ t : Fin grid0.N, win0_0.index t = ![0, 0, 0] ∧ win0_1.index t = ![0, 0, 0] ∧ win0_2.index t = ![0, 0, 0]
    ∧ win0_3.index t = ![0, 0, 0] := by decide +kernel
  refine ⟨?_, ?_, ?_, ?_⟩ <;>
    (funext y
     blk_simp [iblk]
     congr 1
     blk_ext [(index _).1, (index _).2.1, (index _).2.2.1, (index _).2.2.2])

/-- The three arrays that the call leaves are its body's results of the arguments, flat. -/
theorem final : let w := flat (m ((c : Thread nD τ).loc main_arg0)); let g := flat (m ((c : Thread nD τ).loc main_arg1))
    let μ := flat (m ((c : Thread nD τ).loc main_arg2)); let ν := flat (m ((c : Thread nD τ).loc main_arg3))
    (dats m 0 c).arrAt 4 cfg0.N = k0_pay4 w g μ ν ∧ (dats m 0 c).arrAt 5 cfg0.N = k0_pay2 g μ ∧ (dats m 0 c).arrAt 6 cfg0.N = k0_pay3 g ν := by
  obtain ⟨v0, v1, v2, v3⟩ := entry m c
  obtain ⟨b0, b1, b2, b3⟩ := whole m c
  refine ⟨(dats m 0 c).arrAt_eq_of_after_last 4 point (by decide +kernel) _ (congrFun ((after0_4 m c point).trans ?_)),
    (dats m 0 c).arrAt_eq_of_after_last 5 point (by decide +kernel) _ (congrFun ((after0_5 m c point).trans ?_)),
    (dats m 0 c).arrAt_eq_of_after_last 6 point (by decide +kernel) _ (congrFun ((after0_6 m c point).trans ?_))⟩ <;>
    (rw [b0, b1, b2, b3, v0, v1, v2, v3]
     simp only [out0_4, out0_5, out0_6, View.canon_unit_zero (S := S4x128x128) origin, View.ld_unit_zero (S := S4x128x128) origin] <;> rfl)

end Windows

/-- The step of `gmlp_ws`: the two programs end with equal updates, first moments and second moments. -/
theorem equal_results : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (dats m 0 c).arrAt 4 cfg0.N, fun c => (dats m 0 c).arrAt 5 cfg0.N, fun c => (dats m 0 c).arrAt 6 cfg0.N,
    Cert.Kernel7Ideal.Value.run_blocks (F := Ideal) m ρ, ?_⟩
  refine (θ_run Cert.Reference7Ideal.defs _ _).mono (fun r h c => ?_) (Cert.Reference7Ideal.Value.run (F := Ideal) m' ρ')
  obtain ⟨e0, e1, e2, e3⟩ := hagree c
  obtain ⟨h0, h1, h2, kept⟩ := h c
  obtain ⟨f0, f1, f2⟩ := final m c
  refine ⟨h0.trans (Eq.trans ?_ f0.symm), h1.trans (Eq.trans ?_ f1.symm), h2.trans (Eq.trans ?_ f2.symm), kept⟩ <;>
    (simp only [e0, e1, e2, e3, k0_pay4, k0_pay3, k0_pay2, k0_pay1, shapeCast_self]
     rfl)

end GmlpWs

namespace PoolW

open Cert.Kernel8Ideal Cert.Kernel8Ideal.Gen

section Windows

variable {F : FTy → Type} [FloatOps F] (m : (ℓ : Loc nD τ sig) → Buf (Elt F) ℓ) (c : Dev nD)

/-- The one point. -/
def point : Fin cfg0.N := ⟨0, by decide +kernel⟩

/-- An argument without its first axis, which has one index. -/
def flat (x : FVec F S1x4x64x256 .f32) : FVec F S4x64x256 .f32 := shapeCast S4x64x256 x shapeCasts_S1x4x64x256_S4x64x256

/-- The region finds the arguments in its four arrays, flat, -/
theorem entry : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;>
    (simp only [V, hostOps0, TRef.unary, TRef.toBuf, TRef.ofBuf, cast_eq]
     after_results_simp <;> rfl)

/-- and its four blocks are the whole arrays. -/
theorem whole : iblk m c 0 point = V m c main_v0 ∧ iblk m c 1 point = V m c main_v1 ∧ iblk m c 2 point = V m c main_v2
    ∧ iblk m c 3 point = V m c main_v3 := by
  have index : ∀ t : Fin grid0.N, win0_0.index t = ![0, 0, 0] ∧ win0_1.index t = ![0, 0, 0] ∧ win0_2.index t = ![0, 0, 0]
    ∧ win0_3.index t = ![0, 0, 0] := by decide +kernel
  refine ⟨?_, ?_, ?_, ?_⟩ <;>
    (funext y
     blk_simp [iblk]
     congr 1
     blk_ext [(index _).1, (index _).2.1, (index _).2.2.1, (index _).2.2.2])

/-- The three arrays that the call leaves are its body's results of the arguments, flat. -/
theorem final : let w := flat (m ((c : Thread nD τ).loc main_arg0)); let g := flat (m ((c : Thread nD τ).loc main_arg1))
    let μ := flat (m ((c : Thread nD τ).loc main_arg2)); let ν := flat (m ((c : Thread nD τ).loc main_arg3))
    (dats m 0 c).arrAt 4 cfg0.N = k0_pay4 w g μ ν ∧ (dats m 0 c).arrAt 5 cfg0.N = k0_pay2 g μ ∧ (dats m 0 c).arrAt 6 cfg0.N = k0_pay3 g ν := by
  obtain ⟨v0, v1, v2, v3⟩ := entry m c
  obtain ⟨b0, b1, b2, b3⟩ := whole m c
  refine ⟨(dats m 0 c).arrAt_eq_of_after_last 4 point (by decide +kernel) _ (congrFun ((after0_4 m c point).trans ?_)),
    (dats m 0 c).arrAt_eq_of_after_last 5 point (by decide +kernel) _ (congrFun ((after0_5 m c point).trans ?_)),
    (dats m 0 c).arrAt_eq_of_after_last 6 point (by decide +kernel) _ (congrFun ((after0_6 m c point).trans ?_))⟩ <;>
    (rw [b0, b1, b2, b3, v0, v1, v2, v3]
     simp only [out0_4, out0_5, out0_6, View.canon_unit_zero (S := S4x64x256) origin, View.ld_unit_zero (S := S4x64x256) origin] <;> rfl)

end Windows

/-- The step of `pool_w`: the two programs end with equal updates, first moments and second moments. -/
theorem equal_results : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => (dats m 0 c).arrAt 4 cfg0.N, fun c => (dats m 0 c).arrAt 5 cfg0.N, fun c => (dats m 0 c).arrAt 6 cfg0.N,
    Cert.Kernel8Ideal.Value.run_blocks (F := Ideal) m ρ, ?_⟩
  refine (θ_run Cert.Reference8Ideal.defs _ _).mono (fun r h c => ?_) (Cert.Reference8Ideal.Value.run (F := Ideal) m' ρ')
  obtain ⟨e0, e1, e2, e3⟩ := hagree c
  obtain ⟨h0, h1, h2, kept⟩ := h c
  obtain ⟨f0, f1, f2⟩ := final m c
  refine ⟨h0.trans (Eq.trans ?_ f0.symm), h1.trans (Eq.trans ?_ f1.symm), h2.trans (Eq.trans ?_ f2.symm), kept⟩ <;>
    (simp only [e0, e1, e2, e3, k0_pay4, k0_pay3, k0_pay2, k0_pay1, shapeCast_self]
     rfl)

end PoolW

namespace Uq

open Cert.Kernel11Ideal Cert.Kernel11Ideal.Gen

section Windows

variable {F : FTy → Type} [FloatOps F] (m : (ℓ : Loc nD τ sig) → Buf (Elt F) ℓ) (c : Dev nD)

/-- The one point. -/
def point : Fin cfg0.N := ⟨0, by decide +kernel⟩

/-- An argument without its first axis, which has one index. -/
def flat (x : FVec F S1x64x16x192 .f32) : FVec F S64x16x192 .f32 := shapeCast S64x16x192 x shapeCasts_S1x64x16x192_S64x16x192

/-- The region finds the arguments in its four arrays, flat, -/
theorem entry : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;>
    (simp only [V, hostOps0, TRef.unary, TRef.toBuf, TRef.ofBuf, cast_eq]
     after_results_simp <;> rfl)

/-- and its four blocks are the whole arrays. -/
theorem whole : iblk m c 0 point = V m c main_v0 ∧ iblk m c 1 point = V m c main_v1 ∧ iblk m c 2 point = V m c main_v2
    ∧ iblk m c 3 point = V m c main_v3 := by
  have index : ∀ t : Fin grid0.N, win0_0.index t = ![0, 0, 0] ∧ win0_1.index t = ![0, 0, 0] ∧ win0_2.index t = ![0, 0, 0]
    ∧ win0_3.index t = ![0, 0, 0] := by decide +kernel
  refine ⟨?_, ?_, ?_, ?_⟩ <;>
    (funext y
     blk_simp [iblk]
     congr 1
     blk_ext [(index _).1, (index _).2.1, (index _).2.2.1, (index _).2.2.2])

/-- The three arrays that the call leaves are its body's results of the arguments, flat. -/
theorem final : let w := flat (m ((c : Thread nD τ).loc main_arg0)); let g := flat (m ((c : Thread nD τ).loc main_arg1))
    let μ := flat (m ((c : Thread nD τ).loc main_arg2)); let ν := flat (m ((c : Thread nD τ).loc main_arg3))
    (dats m 0 c).arrAt 4 cfg0.N = k0_pay4 w g μ ν ∧ (dats m 0 c).arrAt 5 cfg0.N = k0_pay2 g μ ∧ (dats m 0 c).arrAt 6 cfg0.N = k0_pay3 g ν := by
  obtain ⟨v0, v1, v2, v3⟩ := entry m c
  obtain ⟨b0, b1, b2, b3⟩ := whole m c
  refine ⟨(dats m 0 c).arrAt_eq_of_after_last 4 point (by decide +kernel) _ (congrFun ((after0_4 m c point).trans ?_)),
    (dats m 0 c).arrAt_eq_of_after_last 5 point (by decide +kernel) _ (congrFun ((after0_5 m c point).trans ?_)),
    (dats m 0 c).arrAt_eq_of_after_last 6 point (by decide +kernel) _ (congrFun ((after0_6 m c point).trans ?_))⟩ <;>
    (rw [b0, b1, b2, b3, v0, v1, v2, v3]
     simp only [out0_4, out0_5, out0_6, View.canon_unit_zero (S := S64x16x192) origin, View.ld_unit_zero (S := S64x16x192) origin] <;> rfl)

end Windows

/-- The step of `mla_w_uq`: the two programs end with equal updates, first moments and second moments. -/
theorem equal_results : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => (dats m 0 c).arrAt 4 cfg0.N, fun c => (dats m 0 c).arrAt 5 cfg0.N, fun c => (dats m 0 c).arrAt 6 cfg0.N,
    Cert.Kernel11Ideal.Value.run_blocks (F := Ideal) m ρ, ?_⟩
  refine (θ_run Cert.Reference11Ideal.defs _ _).mono (fun r h c => ?_) (Cert.Reference11Ideal.Value.run (F := Ideal) m' ρ')
  obtain ⟨e0, e1, e2, e3⟩ := hagree c
  obtain ⟨h0, h1, h2, kept⟩ := h c
  obtain ⟨f0, f1, f2⟩ := final m c
  refine ⟨h0.trans (Eq.trans ?_ f0.symm), h1.trans (Eq.trans ?_ f1.symm), h2.trans (Eq.trans ?_ f2.symm), kept⟩ <;>
    (simp only [e0, e1, e2, e3, k0_pay4, k0_pay3, k0_pay2, k0_pay1, shapeCast_self]
     rfl)

end Uq

namespace Uk

open Cert.Kernel12Ideal Cert.Kernel12Ideal.Gen

section Windows

variable {F : FTy → Type} [FloatOps F] (m : (ℓ : Loc nD τ sig) → Buf (Elt F) ℓ) (c : Dev nD)

/-- The one point. -/
def point : Fin cfg0.N := ⟨0, by decide +kernel⟩

/-- An argument without its first axis, which has one index. -/
def flat (x : FVec F S1x128x16x128 .f32) : FVec F S128x16x128 .f32 := shapeCast S128x16x128 x shapeCasts_S1x128x16x128_S128x16x128

/-- The region finds the arguments in its four arrays, flat, -/
theorem entry : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;>
    (simp only [V, hostOps0, TRef.unary, TRef.toBuf, TRef.ofBuf, cast_eq]
     after_results_simp <;> rfl)

/-- and its four blocks are the whole arrays. -/
theorem whole : iblk m c 0 point = V m c main_v0 ∧ iblk m c 1 point = V m c main_v1 ∧ iblk m c 2 point = V m c main_v2
    ∧ iblk m c 3 point = V m c main_v3 := by
  have index : ∀ t : Fin grid0.N, win0_0.index t = ![0, 0, 0] ∧ win0_1.index t = ![0, 0, 0] ∧ win0_2.index t = ![0, 0, 0]
    ∧ win0_3.index t = ![0, 0, 0] := by decide +kernel
  refine ⟨?_, ?_, ?_, ?_⟩ <;>
    (funext y
     blk_simp [iblk]
     congr 1
     blk_ext [(index _).1, (index _).2.1, (index _).2.2.1, (index _).2.2.2])

/-- The three arrays that the call leaves are its body's results of the arguments, flat. -/
theorem final : let w := flat (m ((c : Thread nD τ).loc main_arg0)); let g := flat (m ((c : Thread nD τ).loc main_arg1))
    let μ := flat (m ((c : Thread nD τ).loc main_arg2)); let ν := flat (m ((c : Thread nD τ).loc main_arg3))
    (dats m 0 c).arrAt 4 cfg0.N = k0_pay4 w g μ ν ∧ (dats m 0 c).arrAt 5 cfg0.N = k0_pay2 g μ ∧ (dats m 0 c).arrAt 6 cfg0.N = k0_pay3 g ν := by
  obtain ⟨v0, v1, v2, v3⟩ := entry m c
  obtain ⟨b0, b1, b2, b3⟩ := whole m c
  refine ⟨(dats m 0 c).arrAt_eq_of_after_last 4 point (by decide +kernel) _ (congrFun ((after0_4 m c point).trans ?_)),
    (dats m 0 c).arrAt_eq_of_after_last 5 point (by decide +kernel) _ (congrFun ((after0_5 m c point).trans ?_)),
    (dats m 0 c).arrAt_eq_of_after_last 6 point (by decide +kernel) _ (congrFun ((after0_6 m c point).trans ?_))⟩ <;>
    (rw [b0, b1, b2, b3, v0, v1, v2, v3]
     simp only [out0_4, out0_5, out0_6, View.canon_unit_zero (S := S128x16x128) origin, View.ld_unit_zero (S := S128x16x128) origin] <;> rfl)

end Windows

/-- The step of `mla_w_uk`: the two programs end with equal updates, first moments and second moments. -/
theorem equal_results : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => (dats m 0 c).arrAt 4 cfg0.N, fun c => (dats m 0 c).arrAt 5 cfg0.N, fun c => (dats m 0 c).arrAt 6 cfg0.N,
    Cert.Kernel12Ideal.Value.run_blocks (F := Ideal) m ρ, ?_⟩
  refine (θ_run Cert.Reference12Ideal.defs _ _).mono (fun r h c => ?_) (Cert.Reference12Ideal.Value.run (F := Ideal) m' ρ')
  obtain ⟨e0, e1, e2, e3⟩ := hagree c
  obtain ⟨h0, h1, h2, kept⟩ := h c
  obtain ⟨f0, f1, f2⟩ := final m c
  refine ⟨h0.trans (Eq.trans ?_ f0.symm), h1.trans (Eq.trans ?_ f1.symm), h2.trans (Eq.trans ?_ f2.symm), kept⟩ <;>
    (simp only [e0, e1, e2, e3, k0_pay4, k0_pay3, k0_pay2, k0_pay1, shapeCast_self]
     rfl)

end Uk

end Cert.Adam

end
-- ==== Proof.Adam.Small.Step.lean ====
/- The AdamW step that the small weights' call takes for each of its ten weights. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The step -/

/-- A number in every place. -/
def all (S : Shape) (n : BitVec 32) : FVec F S .f32 := broadcast S (Scalar.ofBits .f32 n)

/-- The new first moment, of the gradient and the old one, -/
def first {S : Shape} (g μ : FVec F S .f32) : FVec F S .f32 :=
  addf (mulf (all S 0x3F666666#32) μ) (mulf (all S 0x3DCCCCCD#32) g)

/-- the new second moment, -/
def second {S : Shape} (g ν : FVec F S .f32) : FVec F S .f32 :=
  addf (mulf (all S 0x3F7FBE77#32) ν) (mulf (all S 0x3A83126F#32) (mulf g g))

/-- and the update. -/
def update {S : Shape} (w g μ ν : FVec F S .f32) : FVec F S .f32 :=
  mulf (all S 0xBA83126F#32) (addf (divf (divf (first g μ) (all S 0x3F26BD02#32))
    (addf (sqrt (divf (second g ν) (all S 0x3C231ACC#32))) (all S 0x322BCC77#32))) (mulf (all S 0x3C23D70A#32) w))

/-! ## Whole arrays -/

/-- A store over a whole array leaves what it stores. -/
theorem stored {κ : Kind} {sp : Space} {S : Shape} (v : View sig κ sp S .f32) (f : v.ty.Contents (Elt F)) {off : Fin S.rank → Nat}
    (h : off = fun _ => 0) (inb : ∀ a, off a + S.size a ≤ S.size a) (x y : Vec F S .f32) (e : x = y) :
    v.read (Elt F) (v.writes (Elt F) f [(⟨Rect.unit off S.size inb, x⟩ : View.Piece (Elt F) S .f32)]) = y := by
  rw [View.read_writes_eq_canon v f _ fun y => ⟨_, List.mem_singleton_self _, View.mem_set_unit_zero h inb y⟩,
    View.canon_unit_zero (S := S) h inb x, e]

theorem origin2 : (![0, 0] : Fin 2 → ℕ) = fun _ => 0 := funext fun a => by fin_cases a <;> rfl
theorem origin3 : (![0, 0, 0] : Fin 3 → ℕ) = fun _ => 0 := funext fun a => by fin_cases a <;> rfl

/-! The whole array of each shape. -/

abbrev r0 : Rect S2x3072 := Rect.unit (s := S2x3072) ![0, 0] S2x3072.size inb_S2x3072_S2x3072_0_0
abbrev r1 : Rect S2x1024 := Rect.unit (s := S2x1024) ![0, 0] S2x1024.size inb_S2x1024_S2x1024_0_0
abbrev r2 : Rect S1x256 := Rect.unit (s := S1x256) ![0, 0] S1x256.size inb_S1x256_S1x256_0_0
abbrev r3 : Rect S1x4x128 := Rect.unit (s := S1x4x128) ![0, 0, 0] S1x4x128.size inb_S1x4x128_S1x4x128_0_0_0
abbrev r4 : Rect S1x1024 := Rect.unit (s := S1x1024) ![0, 0] S1x1024.size inb_S1x1024_S1x1024_0_0
abbrev r5 : Rect S1x64 := Rect.unit (s := S1x64) ![0, 0] S1x64.size inb_S1x64_S1x64_0_0
abbrev r6 : Rect S1x128 := Rect.unit (s := S1x128) ![0, 0] S1x128.size inb_S1x128_S1x128_0_0

end Cert.Adam.Small

end
-- ==== Proof.Adam.Small.Body.lean ====
/- What the body of the small weights' call leaves in its buffers. -/
module

public import proofs.«01_k».proof.Proof.Adam.Small.Step

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body -/

set_option maxHeartbeats 4000000 in
/-- From the forty inputs' buffers the body fills the other thirty: the updates, the first and the second moments. -/
theorem sound_kernel (c : Dev nD) (E : Set ℕ)
    {a0 a10 a20 a30 a40 a50 a60 : Memref sig .tc .vmem S2x3072 .f32} (h0 : a0.IsWhole) (h10 : a10.IsWhole) (h20 : a20.IsWhole) (h30 : a30.IsWhole) (h40 : a40.IsWhole) (h50 : a50.IsWhole) (h60 : a60.IsWhole)
    (x0 x10 x20 x30 : Vec F S2x3072 .f32)
    {a1 a11 a21 a31 a41 a51 a61 : Memref sig .tc .vmem S2x1024 .f32} (h1 : a1.IsWhole) (h11 : a11.IsWhole) (h21 : a21.IsWhole) (h31 : a31.IsWhole) (h41 : a41.IsWhole) (h51 : a51.IsWhole) (h61 : a61.IsWhole)
    (x1 x11 x21 x31 : Vec F S2x1024 .f32)
    {a2 a12 a22 a32 a42 a52 a62 : Memref sig .tc .vmem S2x1024 .f32} (h2 : a2.IsWhole) (h12 : a12.IsWhole) (h22 : a22.IsWhole) (h32 : a32.IsWhole) (h42 : a42.IsWhole) (h52 : a52.IsWhole) (h62 : a62.IsWhole)
    (x2 x12 x22 x32 : Vec F S2x1024 .f32)
    {a3 a13 a23 a33 a43 a53 a63 : Memref sig .tc .vmem S1x256 .f32} (h3 : a3.IsWhole) (h13 : a13.IsWhole) (h23 : a23.IsWhole) (h33 : a33.IsWhole) (h43 : a43.IsWhole) (h53 : a53.IsWhole) (h63 : a63.IsWhole)
    (x3 x13 x23 x33 : Vec F S1x256 .f32)
    {a4 a14 a24 a34 a44 a54 a64 : Memref sig .tc .vmem S1x256 .f32} (h4 : a4.IsWhole) (h14 : a14.IsWhole) (h24 : a24.IsWhole) (h34 : a34.IsWhole) (h44 : a44.IsWhole) (h54 : a54.IsWhole) (h64 : a64.IsWhole)
    (x4 x14 x24 x34 : Vec F S1x256 .f32)
    {a5 a15 a25 a35 a45 a55 a65 : Memref sig .tc .vmem S1x4x128 .f32} (h5 : a5.IsWhole) (h15 : a15.IsWhole) (h25 : a25.IsWhole) (h35 : a35.IsWhole) (h45 : a45.IsWhole) (h55 : a55.IsWhole) (h65 : a65.IsWhole)
    (x5 x15 x25 x35 : Vec F S1x4x128 .f32)
    {a6 a16 a26 a36 a46 a56 a66 : Memref sig .tc .vmem S1x1024 .f32} (h6 : a6.IsWhole) (h16 : a16.IsWhole) (h26 : a26.IsWhole) (h36 : a36.IsWhole) (h46 : a46.IsWhole) (h56 : a56.IsWhole) (h66 : a66.IsWhole)
    (x6 x16 x26 x36 : Vec F S1x1024 .f32)
    {a7 a17 a27 a37 a47 a57 a67 : Memref sig .tc .vmem S1x1024 .f32} (h7 : a7.IsWhole) (h17 : a17.IsWhole) (h27 : a27.IsWhole) (h37 : a37.IsWhole) (h47 : a47.IsWhole) (h57 : a57.IsWhole) (h67 : a67.IsWhole)
    (x7 x17 x27 x37 : Vec F S1x1024 .f32)
    {a8 a18 a28 a38 a48 a58 a68 : Memref sig .tc .vmem S1x64 .f32} (h8 : a8.IsWhole) (h18 : a18.IsWhole) (h28 : a28.IsWhole) (h38 : a38.IsWhole) (h48 : a48.IsWhole) (h58 : a58.IsWhole) (h68 : a68.IsWhole)
    (x8 x18 x28 x38 : Vec F S1x64 .f32)
    {a9 a19 a29 a39 a49 a59 a69 : Memref sig .tc .vmem S1x128 .f32} (h9 : a9.IsWhole) (h19 : a19.IsWhole) (h29 : a29.IsWhole) (h39 : a39.IsWhole) (h49 : a49.IsWhole) (h59 : a59.IsWhole) (h69 : a69.IsWhole)
    (x9 x19 x29 x39 : Vec F S1x128 .f32)
    (K : PUnit → sProp 𝕄) :
    iprop(owns (c : Thread nD τ) a0 fullShare x0 ∗ owns (c : Thread nD τ) a1 fullShare x1 ∗ owns (c : Thread nD τ) a2 fullShare x2 ∗
      owns (c : Thread nD τ) a3 fullShare x3 ∗ owns (c : Thread nD τ) a4 fullShare x4 ∗ owns (c : Thread nD τ) a5 fullShare x5 ∗
      owns (c : Thread nD τ) a6 fullShare x6 ∗ owns (c : Thread nD τ) a7 fullShare x7 ∗ owns (c : Thread nD τ) a8 fullShare x8 ∗
      owns (c : Thread nD τ) a9 fullShare x9 ∗ owns (c : Thread nD τ) a10 fullShare x10 ∗ owns (c : Thread nD τ) a11 fullShare x11 ∗
      owns (c : Thread nD τ) a12 fullShare x12 ∗ owns (c : Thread nD τ) a13 fullShare x13 ∗ owns (c : Thread nD τ) a14 fullShare x14 ∗
      owns (c : Thread nD τ) a15 fullShare x15 ∗ owns (c : Thread nD τ) a16 fullShare x16 ∗ owns (c : Thread nD τ) a17 fullShare x17 ∗
      owns (c : Thread nD τ) a18 fullShare x18 ∗ owns (c : Thread nD τ) a19 fullShare x19 ∗ owns (c : Thread nD τ) a20 fullShare x20 ∗
      owns (c : Thread nD τ) a21 fullShare x21 ∗ owns (c : Thread nD τ) a22 fullShare x22 ∗ owns (c : Thread nD τ) a23 fullShare x23 ∗
      owns (c : Thread nD τ) a24 fullShare x24 ∗ owns (c : Thread nD τ) a25 fullShare x25 ∗ owns (c : Thread nD τ) a26 fullShare x26 ∗
      owns (c : Thread nD τ) a27 fullShare x27 ∗ owns (c : Thread nD τ) a28 fullShare x28 ∗ owns (c : Thread nD τ) a29 fullShare x29 ∗
      owns (c : Thread nD τ) a30 fullShare x30 ∗ owns (c : Thread nD τ) a31 fullShare x31 ∗ owns (c : Thread nD τ) a32 fullShare x32 ∗
      owns (c : Thread nD τ) a33 fullShare x33 ∗ owns (c : Thread nD τ) a34 fullShare x34 ∗ owns (c : Thread nD τ) a35 fullShare x35 ∗
      owns (c : Thread nD τ) a36 fullShare x36 ∗ owns (c : Thread nD τ) a37 fullShare x37 ∗ owns (c : Thread nD τ) a38 fullShare x38 ∗
      owns (c : Thread nD τ) a39 fullShare x39 ∗ (∃ d, owns (c : Thread nD τ) a40 fullShare d) ∗ (∃ d, owns (c : Thread nD τ) a41 fullShare d) ∗
      (∃ d, owns (c : Thread nD τ) a42 fullShare d) ∗ (∃ d, owns (c : Thread nD τ) a43 fullShare d) ∗ (∃ d, owns (c : Thread nD τ) a44 fullShare d) ∗
      (∃ d, owns (c : Thread nD τ) a45 fullShare d) ∗ (∃ d, owns (c : Thread nD τ) a46 fullShare d) ∗ (∃ d, owns (c : Thread nD τ) a47 fullShare d) ∗
      (∃ d, owns (c : Thread nD τ) a48 fullShare d) ∗ (∃ d, owns (c : Thread nD τ) a49 fullShare d) ∗ (∃ d, owns (c : Thread nD τ) a50 fullShare d) ∗
      (∃ d, owns (c : Thread nD τ) a51 fullShare d) ∗ (∃ d, owns (c : Thread nD τ) a52 fullShare d) ∗ (∃ d, owns (c : Thread nD τ) a53 fullShare d) ∗
      (∃ d, owns (c : Thread nD τ) a54 fullShare d) ∗ (∃ d, owns (c : Thread nD τ) a55 fullShare d) ∗ (∃ d, owns (c : Thread nD τ) a56 fullShare d) ∗
      (∃ d, owns (c : Thread nD τ) a57 fullShare d) ∗ (∃ d, owns (c : Thread nD τ) a58 fullShare d) ∗ (∃ d, owns (c : Thread nD τ) a59 fullShare d) ∗
      (∃ d, owns (c : Thread nD τ) a60 fullShare d) ∗ (∃ d, owns (c : Thread nD τ) a61 fullShare d) ∗ (∃ d, owns (c : Thread nD τ) a62 fullShare d) ∗
      (∃ d, owns (c : Thread nD τ) a63 fullShare d) ∗ (∃ d, owns (c : Thread nD τ) a64 fullShare d) ∗ (∃ d, owns (c : Thread nD τ) a65 fullShare d) ∗
      (∃ d, owns (c : Thread nD τ) a66 fullShare d) ∗ (∃ d, owns (c : Thread nD τ) a67 fullShare d) ∗ (∃ d, owns (c : Thread nD τ) a68 fullShare d) ∗
      (∃ d, owns (c : Thread nD τ) a69 fullShare d)
        ∗ (iprop(owns (c : Thread nD τ) a0 fullShare x0 ∗ owns (c : Thread nD τ) a1 fullShare x1 ∗ owns (c : Thread nD τ) a2 fullShare x2 ∗
          owns (c : Thread nD τ) a3 fullShare x3 ∗ owns (c : Thread nD τ) a4 fullShare x4 ∗ owns (c : Thread nD τ) a5 fullShare x5 ∗
          owns (c : Thread nD τ) a6 fullShare x6 ∗ owns (c : Thread nD τ) a7 fullShare x7 ∗ owns (c : Thread nD τ) a8 fullShare x8 ∗
          owns (c : Thread nD τ) a9 fullShare x9 ∗ owns (c : Thread nD τ) a10 fullShare x10 ∗ owns (c : Thread nD τ) a11 fullShare x11 ∗
          owns (c : Thread nD τ) a12 fullShare x12 ∗ owns (c : Thread nD τ) a13 fullShare x13 ∗ owns (c : Thread nD τ) a14 fullShare x14 ∗
          owns (c : Thread nD τ) a15 fullShare x15 ∗ owns (c : Thread nD τ) a16 fullShare x16 ∗ owns (c : Thread nD τ) a17 fullShare x17 ∗
          owns (c : Thread nD τ) a18 fullShare x18 ∗ owns (c : Thread nD τ) a19 fullShare x19 ∗ owns (c : Thread nD τ) a20 fullShare x20 ∗
          owns (c : Thread nD τ) a21 fullShare x21 ∗ owns (c : Thread nD τ) a22 fullShare x22 ∗ owns (c : Thread nD τ) a23 fullShare x23 ∗
          owns (c : Thread nD τ) a24 fullShare x24 ∗ owns (c : Thread nD τ) a25 fullShare x25 ∗ owns (c : Thread nD τ) a26 fullShare x26 ∗
          owns (c : Thread nD τ) a27 fullShare x27 ∗ owns (c : Thread nD τ) a28 fullShare x28 ∗ owns (c : Thread nD τ) a29 fullShare x29 ∗
          owns (c : Thread nD τ) a30 fullShare x30 ∗ owns (c : Thread nD τ) a31 fullShare x31 ∗ owns (c : Thread nD τ) a32 fullShare x32 ∗
          owns (c : Thread nD τ) a33 fullShare x33 ∗ owns (c : Thread nD τ) a34 fullShare x34 ∗ owns (c : Thread nD τ) a35 fullShare x35 ∗
          owns (c : Thread nD τ) a36 fullShare x36 ∗ owns (c : Thread nD τ) a37 fullShare x37 ∗ owns (c : Thread nD τ) a38 fullShare x38 ∗
          owns (c : Thread nD τ) a39 fullShare x39 ∗
          owns (c : Thread nD τ) a40 fullShare (update (View.ld x0 r0) (View.ld x10 r0) (View.ld x20 r0) (View.ld x30 r0)) ∗
          owns (c : Thread nD τ) a41 fullShare (update (View.ld x1 r1) (View.ld x11 r1) (View.ld x21 r1) (View.ld x31 r1)) ∗
          owns (c : Thread nD τ) a42 fullShare (update (View.ld x2 r1) (View.ld x12 r1) (View.ld x22 r1) (View.ld x32 r1)) ∗
          owns (c : Thread nD τ) a43 fullShare (update (View.ld x3 r2) (View.ld x13 r2) (View.ld x23 r2) (View.ld x33 r2)) ∗
          owns (c : Thread nD τ) a44 fullShare (update (View.ld x4 r2) (View.ld x14 r2) (View.ld x24 r2) (View.ld x34 r2)) ∗
          owns (c : Thread nD τ) a45 fullShare (update (View.ld x5 r3) (View.ld x15 r3) (View.ld x25 r3) (View.ld x35 r3)) ∗
          owns (c : Thread nD τ) a46 fullShare (update (View.ld x6 r4) (View.ld x16 r4) (View.ld x26 r4) (View.ld x36 r4)) ∗
          owns (c : Thread nD τ) a47 fullShare (update (View.ld x7 r4) (View.ld x17 r4) (View.ld x27 r4) (View.ld x37 r4)) ∗
          owns (c : Thread nD τ) a48 fullShare (update (View.ld x8 r5) (View.ld x18 r5) (View.ld x28 r5) (View.ld x38 r5)) ∗
          owns (c : Thread nD τ) a49 fullShare (update (View.ld x9 r6) (View.ld x19 r6) (View.ld x29 r6) (View.ld x39 r6)) ∗
          owns (c : Thread nD τ) a50 fullShare (first (View.ld x10 r0) (View.ld x20 r0)) ∗
          owns (c : Thread nD τ) a51 fullShare (first (View.ld x11 r1) (View.ld x21 r1)) ∗
          owns (c : Thread nD τ) a52 fullShare (first (View.ld x12 r1) (View.ld x22 r1)) ∗
          owns (c : Thread nD τ) a53 fullShare (first (View.ld x13 r2) (View.ld x23 r2)) ∗
          owns (c : Thread nD τ) a54 fullShare (first (View.ld x14 r2) (View.ld x24 r2)) ∗
          owns (c : Thread nD τ) a55 fullShare (first (View.ld x15 r3) (View.ld x25 r3)) ∗
          owns (c : Thread nD τ) a56 fullShare (first (View.ld x16 r4) (View.ld x26 r4)) ∗
          owns (c : Thread nD τ) a57 fullShare (first (View.ld x17 r4) (View.ld x27 r4)) ∗
          owns (c : Thread nD τ) a58 fullShare (first (View.ld x18 r5) (View.ld x28 r5)) ∗
          owns (c : Thread nD τ) a59 fullShare (first (View.ld x19 r6) (View.ld x29 r6)) ∗
          owns (c : Thread nD τ) a60 fullShare (second (View.ld x10 r0) (View.ld x30 r0)) ∗
          owns (c : Thread nD τ) a61 fullShare (second (View.ld x11 r1) (View.ld x31 r1)) ∗
          owns (c : Thread nD τ) a62 fullShare (second (View.ld x12 r1) (View.ld x32 r1)) ∗
          owns (c : Thread nD τ) a63 fullShare (second (View.ld x13 r2) (View.ld x33 r2)) ∗
          owns (c : Thread nD τ) a64 fullShare (second (View.ld x14 r2) (View.ld x34 r2)) ∗
          owns (c : Thread nD τ) a65 fullShare (second (View.ld x15 r3) (View.ld x35 r3)) ∗
          owns (c : Thread nD τ) a66 fullShare (second (View.ld x16 r4) (View.ld x36 r4)) ∗
          owns (c : Thread nD τ) a67 fullShare (second (View.ld x17 r4) (View.ld x37 r4)) ∗
          owns (c : Thread nD τ) a68 fullShare (second (View.ld x18 r5) (View.ld x38 r5)) ∗
          owns (c : Thread nD τ) a69 fullShare (second (View.ld x19 r6) (View.ld x39 r6))) -∗ K ⟨⟩))
      ⊢ wp frame (wpE (defs₀ (F := F)) Variants.none c none) E (cc0_adamw_small a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20
        a21 h21 a22 h22 a23 h23 a24 h24 a25 h25 a26 h26 a27 h27 a28 h28 a29 h29 a30 h30 a31 h31 a32 h32 a33 h33 a34 h34 a35 h35 a36 h36 a37 h37 a38 h38
        a39 h39 a40 h40 a41 h41 a42 h42 a43 h43 a44 h44 a45 h45 a46 h46 a47 h47 a48 h48 a49 h49 a50 h50 a51 h51 a52 h52 a53 h53 a54 h54 a55 h55 a56 h56
        a57 h57 a58 h58 a59 h59 a60 h60 a61 h61 a62 h62 a63 h63 a64 h64 a65 h65 a66 h66 a67 h67 a68 h68 a69 h69) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩,
    ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩,
    ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩,
    ⟨%f31, %e31, H31⟩, ⟨%f32, %e32, H32⟩, ⟨%f33, %e33, H33⟩, ⟨%f34, %e34, H34⟩, ⟨%f35, %e35, H35⟩, ⟨%f36, %e36, H36⟩, ⟨%f37, %e37, H37⟩,
    ⟨%f38, %e38, H38⟩, ⟨%f39, %e39, H39⟩, ⟨%d40, %f40, -, H40⟩, ⟨%d41, %f41, -, H41⟩, ⟨%d42, %f42, -, H42⟩, ⟨%d43, %f43, -, H43⟩, ⟨%d44, %f44, -, H44⟩,
    ⟨%d45, %f45, -, H45⟩, ⟨%d46, %f46, -, H46⟩, ⟨%d47, %f47, -, H47⟩, ⟨%d48, %f48, -, H48⟩, ⟨%d49, %f49, -, H49⟩, ⟨%d50, %f50, -, H50⟩,
    ⟨%d51, %f51, -, H51⟩, ⟨%d52, %f52, -, H52⟩, ⟨%d53, %f53, -, H53⟩, ⟨%d54, %f54, -, H54⟩, ⟨%d55, %f55, -, H55⟩, ⟨%d56, %f56, -, H56⟩,
    ⟨%d57, %f57, -, H57⟩, ⟨%d58, %f58, -, H58⟩, ⟨%d59, %f59, -, H59⟩, ⟨%d60, %f60, -, H60⟩, ⟨%d61, %f61, -, H61⟩, ⟨%d62, %f62, -, H62⟩,
    ⟨%d63, %f63, -, H63⟩, ⟨%d64, %f64, -, H64⟩, ⟨%d65, %f65, -, H65⟩, ⟨%d66, %f66, -, H66⟩, ⟨%d67, %f67, -, H67⟩, ⟨%d68, %f68, -, H68⟩,
    ⟨%d69, %f69, -, H69⟩, Hk⟩
  subst e0 e1 e2 e3 e4 e5 e6 e7 e8 e9 e10 e11 e12 e13 e14 e15 e16 e17 e18 e19 e20 e21 e22 e23 e24 e25 e26 e27 e28 e29 e30 e31 e32 e33 e34 e35 e36 e37 e38 e39
  sl_exec
  sl_step
  iapply Hk
  isplitl [H0]; · iexists f0; isplitr; (ipureintro; rfl); iexact H0
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists f11; isplitr; (ipureintro; rfl); iexact H11
  isplitl [H12]; · iexists f12; isplitr; (ipureintro; rfl); iexact H12
  isplitl [H13]; · iexists f13; isplitr; (ipureintro; rfl); iexact H13
  isplitl [H14]; · iexists f14; isplitr; (ipureintro; rfl); iexact H14
  isplitl [H15]; · iexists f15; isplitr; (ipureintro; rfl); iexact H15
  isplitl [H16]; · iexists f16; isplitr; (ipureintro; rfl); iexact H16
  isplitl [H17]; · iexists f17; isplitr; (ipureintro; rfl); iexact H17
  isplitl [H18]; · iexists f18; isplitr; (ipureintro; rfl); iexact H18
  isplitl [H19]; · iexists f19; isplitr; (ipureintro; rfl); iexact H19
  isplitl [H20]; · iexists f20; isplitr; (ipureintro; rfl); iexact H20
  isplitl [H21]; · iexists f21; isplitr; (ipureintro; rfl); iexact H21
  isplitl [H22]; · iexists f22; isplitr; (ipureintro; rfl); iexact H22
  isplitl [H23]; · iexists f23; isplitr; (ipureintro; rfl); iexact H23
  isplitl [H24]; · iexists f24; isplitr; (ipureintro; rfl); iexact H24
  isplitl [H25]; · iexists f25; isplitr; (ipureintro; rfl); iexact H25
  isplitl [H26]; · iexists f26; isplitr; (ipureintro; rfl); iexact H26
  isplitl [H27]; · iexists f27; isplitr; (ipureintro; rfl); iexact H27
  isplitl [H28]; · iexists f28; isplitr; (ipureintro; rfl); iexact H28
  isplitl [H29]; · iexists f29; isplitr; (ipureintro; rfl); iexact H29
  isplitl [H30]; · iexists f30; isplitr; (ipureintro; rfl); iexact H30
  isplitl [H31]; · iexists f31; isplitr; (ipureintro; rfl); iexact H31
  isplitl [H32]; · iexists f32; isplitr; (ipureintro; rfl); iexact H32
  isplitl [H33]; · iexists f33; isplitr; (ipureintro; rfl); iexact H33
  isplitl [H34]; · iexists f34; isplitr; (ipureintro; rfl); iexact H34
  isplitl [H35]; · iexists f35; isplitr; (ipureintro; rfl); iexact H35
  isplitl [H36]; · iexists f36; isplitr; (ipureintro; rfl); iexact H36
  isplitl [H37]; · iexists f37; isplitr; (ipureintro; rfl); iexact H37
  isplitl [H38]; · iexists f38; isplitr; (ipureintro; rfl); iexact H38
  isplitl [H39]; · iexists f39; isplitr; (ipureintro; rfl); iexact H39
  isplitl [H40]; · iexists _; isplitr; swap; iexact H40; ipureintro; exact stored _ _ origin2 _ _ _ rfl
  isplitl [H41]; · iexists _; isplitr; swap; iexact H41; ipureintro; exact stored _ _ origin2 _ _ _ rfl
  isplitl [H42]; · iexists _; isplitr; swap; iexact H42; ipureintro; exact stored _ _ origin2 _ _ _ rfl
  isplitl [H43]; · iexists _; isplitr; swap; iexact H43; ipureintro; exact stored _ _ origin2 _ _ _ rfl
  isplitl [H44]; · iexists _; isplitr; swap; iexact H44; ipureintro; exact stored _ _ origin2 _ _ _ rfl
  isplitl [H45]; · iexists _; isplitr; swap; iexact H45; ipureintro; exact stored _ _ origin3 _ _ _ rfl
  isplitl [H46]; · iexists _; isplitr; swap; iexact H46; ipureintro; exact stored _ _ origin2 _ _ _ rfl
  isplitl [H47]; · iexists _; isplitr; swap; iexact H47; ipureintro; exact stored _ _ origin2 _ _ _ rfl
  isplitl [H48]; · iexists _; isplitr; swap; iexact H48; ipureintro; exact stored _ _ origin2 _ _ _ rfl
  isplitl [H49]; · iexists _; isplitr; swap; iexact H49; ipureintro; exact stored _ _ origin2 _ _ _ rfl
  isplitl [H50]; · iexists _; isplitr; swap; iexact H50; ipureintro; exact stored _ _ origin2 _ _ _ rfl
  isplitl [H51]; · iexists _; isplitr; swap; iexact H51; ipureintro; exact stored _ _ origin2 _ _ _ rfl
  isplitl [H52]; · iexists _; isplitr; swap; iexact H52; ipureintro; exact stored _ _ origin2 _ _ _ rfl
  isplitl [H53]; · iexists _; isplitr; swap; iexact H53; ipureintro; exact stored _ _ origin2 _ _ _ rfl
  isplitl [H54]; · iexists _; isplitr; swap; iexact H54; ipureintro; exact stored _ _ origin2 _ _ _ rfl
  isplitl [H55]; · iexists _; isplitr; swap; iexact H55; ipureintro; exact stored _ _ origin3 _ _ _ rfl
  isplitl [H56]; · iexists _; isplitr; swap; iexact H56; ipureintro; exact stored _ _ origin2 _ _ _ rfl
  isplitl [H57]; · iexists _; isplitr; swap; iexact H57; ipureintro; exact stored _ _ origin2 _ _ _ rfl
  isplitl [H58]; · iexists _; isplitr; swap; iexact H58; ipureintro; exact stored _ _ origin2 _ _ _ rfl
  isplitl [H59]; · iexists _; isplitr; swap; iexact H59; ipureintro; exact stored _ _ origin2 _ _ _ rfl
  isplitl [H60]; · iexists _; isplitr; swap; iexact H60; ipureintro; exact stored _ _ origin2 _ _ _ rfl
  isplitl [H61]; · iexists _; isplitr; swap; iexact H61; ipureintro; exact stored _ _ origin2 _ _ _ rfl
  isplitl [H62]; · iexists _; isplitr; swap; iexact H62; ipureintro; exact stored _ _ origin2 _ _ _ rfl
  isplitl [H63]; · iexists _; isplitr; swap; iexact H63; ipureintro; exact stored _ _ origin2 _ _ _ rfl
  isplitl [H64]; · iexists _; isplitr; swap; iexact H64; ipureintro; exact stored _ _ origin2 _ _ _ rfl
  isplitl [H65]; · iexists _; isplitr; swap; iexact H65; ipureintro; exact stored _ _ origin3 _ _ _ rfl
  isplitl [H66]; · iexists _; isplitr; swap; iexact H66; ipureintro; exact stored _ _ origin2 _ _ _ rfl
  isplitl [H67]; · iexists _; isplitr; swap; iexact H67; ipureintro; exact stored _ _ origin2 _ _ _ rfl
  isplitl [H68]; · iexists _; isplitr; swap; iexact H68; ipureintro; exact stored _ _ origin2 _ _ _ rfl
  iexists _; isplitr; swap; iexact H69; ipureintro; exact stored _ _ origin2 _ _ _ rfl

end Cert.Adam.Small

end
-- ==== Proof.Adam.Small.Data.lean ====
/- The pipeline of the small weights' call: the arrays that it finds and what each buffer holds. -/
module

public import proofs.«01_k».proof.Proof.Adam.Small.Step

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The pipeline -/

variable (m : (ℓ : Loc nD τ sig) → Buf (Elt F) ℓ) (ρ : Dev nD → PrngReg)

/-- The region finds the memory as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's data: the body leaves the inputs' blocks, and the step's results of them in the others. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => update (View.ld (iblk m c 0 t) r0) (View.ld (iblk m c 10 t) r0) (View.ld (iblk m c 20 t) r0) (View.ld (iblk m c 30 t) r0)
    | ⟨41, _⟩ => update (View.ld (iblk m c 1 t) r1) (View.ld (iblk m c 11 t) r1) (View.ld (iblk m c 21 t) r1) (View.ld (iblk m c 31 t) r1)
    | ⟨42, _⟩ => update (View.ld (iblk m c 2 t) r1) (View.ld (iblk m c 12 t) r1) (View.ld (iblk m c 22 t) r1) (View.ld (iblk m c 32 t) r1)
    | ⟨43, _⟩ => update (View.ld (iblk m c 3 t) r2) (View.ld (iblk m c 13 t) r2) (View.ld (iblk m c 23 t) r2) (View.ld (iblk m c 33 t) r2)
    | ⟨44, _⟩ => update (View.ld (iblk m c 4 t) r2) (View.ld (iblk m c 14 t) r2) (View.ld (iblk m c 24 t) r2) (View.ld (iblk m c 34 t) r2)
    | ⟨45, _⟩ => update (View.ld (iblk m c 5 t) r3) (View.ld (iblk m c 15 t) r3) (View.ld (iblk m c 25 t) r3) (View.ld (iblk m c 35 t) r3)
    | ⟨46, _⟩ => update (View.ld (iblk m c 6 t) r4) (View.ld (iblk m c 16 t) r4) (View.ld (iblk m c 26 t) r4) (View.ld (iblk m c 36 t) r4)
    | ⟨47, _⟩ => update (View.ld (iblk m c 7 t) r4) (View.ld (iblk m c 17 t) r4) (View.ld (iblk m c 27 t) r4) (View.ld (iblk m c 37 t) r4)
    | ⟨48, _⟩ => update (View.ld (iblk m c 8 t) r5) (View.ld (iblk m c 18 t) r5) (View.ld (iblk m c 28 t) r5) (View.ld (iblk m c 38 t) r5)
    | ⟨49, _⟩ => update (View.ld (iblk m c 9 t) r6) (View.ld (iblk m c 19 t) r6) (View.ld (iblk m c 29 t) r6) (View.ld (iblk m c 39 t) r6)
    | ⟨50, _⟩ => first (View.ld (iblk m c 10 t) r0) (View.ld (iblk m c 20 t) r0)
    | ⟨51, _⟩ => first (View.ld (iblk m c 11 t) r1) (View.ld (iblk m c 21 t) r1)
    | ⟨52, _⟩ => first (View.ld (iblk m c 12 t) r1) (View.ld (iblk m c 22 t) r1)
    | ⟨53, _⟩ => first (View.ld (iblk m c 13 t) r2) (View.ld (iblk m c 23 t) r2)
    | ⟨54, _⟩ => first (View.ld (iblk m c 14 t) r2) (View.ld (iblk m c 24 t) r2)
    | ⟨55, _⟩ => first (View.ld (iblk m c 15 t) r3) (View.ld (iblk m c 25 t) r3)
    | ⟨56, _⟩ => first (View.ld (iblk m c 16 t) r4) (View.ld (iblk m c 26 t) r4)
    | ⟨57, _⟩ => first (View.ld (iblk m c 17 t) r4) (View.ld (iblk m c 27 t) r4)
    | ⟨58, _⟩ => first (View.ld (iblk m c 18 t) r5) (View.ld (iblk m c 28 t) r5)
    | ⟨59, _⟩ => first (View.ld (iblk m c 19 t) r6) (View.ld (iblk m c 29 t) r6)
    | ⟨60, _⟩ => second (View.ld (iblk m c 10 t) r0) (View.ld (iblk m c 30 t) r0)
    | ⟨61, _⟩ => second (View.ld (iblk m c 11 t) r1) (View.ld (iblk m c 31 t) r1)
    | ⟨62, _⟩ => second (View.ld (iblk m c 12 t) r1) (View.ld (iblk m c 32 t) r1)
    | ⟨63, _⟩ => second (View.ld (iblk m c 13 t) r2) (View.ld (iblk m c 33 t) r2)
    | ⟨64, _⟩ => second (View.ld (iblk m c 14 t) r2) (View.ld (iblk m c 34 t) r2)
    | ⟨65, _⟩ => second (View.ld (iblk m c 15 t) r3) (View.ld (iblk m c 35 t) r3)
    | ⟨66, _⟩ => second (View.ld (iblk m c 16 t) r4) (View.ld (iblk m c 36 t) r4)
    | ⟨67, _⟩ => second (View.ld (iblk m c 17 t) r4) (View.ld (iblk m c 37 t) r4)
    | ⟨68, _⟩ => second (View.ld (iblk m c 18 t) r5) (View.ld (iblk m c 38 t) r5)
    | ⟨69, _⟩ => second (View.ld (iblk m c 19 t) r6) (View.ld (iblk m c 39 t) r6)
    | ⟨_ + 70, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves in each buffer, -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = iblk m c 35 t := by dsimp only [dats]
theorem after36 (c : Dev nD) (t : Fin cfg0.N) : (dats m 0 c).after 36 t = iblk m c 36 t := by dsimp only [dats]
theorem after37 (c : Dev nD) (t : Fin cfg0.N) : (dats m 0 c).after 37 t = iblk m c 37 t := by dsimp only [dats]
theorem after38 (c : Dev nD) (t : Fin cfg0.N) : (dats m 0 c).after 38 t = iblk m c 38 t := by dsimp only [dats]
theorem after39 (c : Dev nD) (t : Fin cfg0.N) : (dats m 0 c).after 39 t = iblk m c 39 t := by dsimp only [dats]
theorem after40 (c : Dev nD) (t : Fin cfg0.N) : (dats m 0 c).after 40 t = update (View.ld (iblk m c 0 t) r0) (View.ld (iblk m c 10 t) r0) (View.ld (iblk m c 20 t) r0) (View.ld (iblk m c 30 t) r0) := by dsimp only [dats]
theorem after41 (c : Dev nD) (t : Fin cfg0.N) : (dats m 0 c).after 41 t = update (View.ld (iblk m c 1 t) r1) (View.ld (iblk m c 11 t) r1) (View.ld (iblk m c 21 t) r1) (View.ld (iblk m c 31 t) r1) := by dsimp only [dats]
theorem after42 (c : Dev nD) (t : Fin cfg0.N) : (dats m 0 c).after 42 t = update (View.ld (iblk m c 2 t) r1) (View.ld (iblk m c 12 t) r1) (View.ld (iblk m c 22 t) r1) (View.ld (iblk m c 32 t) r1) := by dsimp only [dats]
theorem after43 (c : Dev nD) (t : Fin cfg0.N) : (dats m 0 c).after 43 t = update (View.ld (iblk m c 3 t) r2) (View.ld (iblk m c 13 t) r2) (View.ld (iblk m c 23 t) r2) (View.ld (iblk m c 33 t) r2) := by dsimp only [dats]
theorem after44 (c : Dev nD) (t : Fin cfg0.N) : (dats m 0 c).after 44 t = update (View.ld (iblk m c 4 t) r2) (View.ld (iblk m c 14 t) r2) (View.ld (iblk m c 24 t) r2) (View.ld (iblk m c 34 t) r2) := by dsimp only [dats]
theorem after45 (c : Dev nD) (t : Fin cfg0.N) : (dats m 0 c).after 45 t = update (View.ld (iblk m c 5 t) r3) (View.ld (iblk m c 15 t) r3) (View.ld (iblk m c 25 t) r3) (View.ld (iblk m c 35 t) r3) := by dsimp only [dats]
theorem after46 (c : Dev nD) (t : Fin cfg0.N) : (dats m 0 c).after 46 t = update (View.ld (iblk m c 6 t) r4) (View.ld (iblk m c 16 t) r4) (View.ld (iblk m c 26 t) r4) (View.ld (iblk m c 36 t) r4) := by dsimp only [dats]
theorem after47 (c : Dev nD) (t : Fin cfg0.N) : (dats m 0 c).after 47 t = update (View.ld (iblk m c 7 t) r4) (View.ld (iblk m c 17 t) r4) (View.ld (iblk m c 27 t) r4) (View.ld (iblk m c 37 t) r4) := by dsimp only [dats]
theorem after48 (c : Dev nD) (t : Fin cfg0.N) : (dats m 0 c).after 48 t = update (View.ld (iblk m c 8 t) r5) (View.ld (iblk m c 18 t) r5) (View.ld (iblk m c 28 t) r5) (View.ld (iblk m c 38 t) r5) := by dsimp only [dats]
theorem after49 (c : Dev nD) (t : Fin cfg0.N) : (dats m 0 c).after 49 t = update (View.ld (iblk m c 9 t) r6) (View.ld (iblk m c 19 t) r6) (View.ld (iblk m c 29 t) r6) (View.ld (iblk m c 39 t) r6) := by dsimp only [dats]
theorem after50 (c : Dev nD) (t : Fin cfg0.N) : (dats m 0 c).after 50 t = first (View.ld (iblk m c 10 t) r0) (View.ld (iblk m c 20 t) r0) := by dsimp only [dats]
theorem after51 (c : Dev nD) (t : Fin cfg0.N) : (dats m 0 c).after 51 t = first (View.ld (iblk m c 11 t) r1) (View.ld (iblk m c 21 t) r1) := by dsimp only [dats]
theorem after52 (c : Dev nD) (t : Fin cfg0.N) : (dats m 0 c).after 52 t = first (View.ld (iblk m c 12 t) r1) (View.ld (iblk m c 22 t) r1) := by dsimp only [dats]
theorem after53 (c : Dev nD) (t : Fin cfg0.N) : (dats m 0 c).after 53 t = first (View.ld (iblk m c 13 t) r2) (View.ld (iblk m c 23 t) r2) := by dsimp only [dats]
theorem after54 (c : Dev nD) (t : Fin cfg0.N) : (dats m 0 c).after 54 t = first (View.ld (iblk m c 14 t) r2) (View.ld (iblk m c 24 t) r2) := by dsimp only [dats]
theorem after55 (c : Dev nD) (t : Fin cfg0.N) : (dats m 0 c).after 55 t = first (View.ld (iblk m c 15 t) r3) (View.ld (iblk m c 25 t) r3) := by dsimp only [dats]
theorem after56 (c : Dev nD) (t : Fin cfg0.N) : (dats m 0 c).after 56 t = first (View.ld (iblk m c 16 t) r4) (View.ld (iblk m c 26 t) r4) := by dsimp only [dats]
theorem after57 (c : Dev nD) (t : Fin cfg0.N) : (dats m 0 c).after 57 t = first (View.ld (iblk m c 17 t) r4) (View.ld (iblk m c 27 t) r4) := by dsimp only [dats]
theorem after58 (c : Dev nD) (t : Fin cfg0.N) : (dats m 0 c).after 58 t = first (View.ld (iblk m c 18 t) r5) (View.ld (iblk m c 28 t) r5) := by dsimp only [dats]
theorem after59 (c : Dev nD) (t : Fin cfg0.N) : (dats m 0 c).after 59 t = first (View.ld (iblk m c 19 t) r6) (View.ld (iblk m c 29 t) r6) := by dsimp only [dats]
theorem after60 (c : Dev nD) (t : Fin cfg0.N) : (dats m 0 c).after 60 t = second (View.ld (iblk m c 10 t) r0) (View.ld (iblk m c 30 t) r0) := by dsimp only [dats]
theorem after61 (c : Dev nD) (t : Fin cfg0.N) : (dats m 0 c).after 61 t = second (View.ld (iblk m c 11 t) r1) (View.ld (iblk m c 31 t) r1) := by dsimp only [dats]
theorem after62 (c : Dev nD) (t : Fin cfg0.N) : (dats m 0 c).after 62 t = second (View.ld (iblk m c 12 t) r1) (View.ld (iblk m c 32 t) r1) := by dsimp only [dats]
theorem after63 (c : Dev nD) (t : Fin cfg0.N) : (dats m 0 c).after 63 t = second (View.ld (iblk m c 13 t) r2) (View.ld (iblk m c 33 t) r2) := by dsimp only [dats]
theorem after64 (c : Dev nD) (t : Fin cfg0.N) : (dats m 0 c).after 64 t = second (View.ld (iblk m c 14 t) r2) (View.ld (iblk m c 34 t) r2) := by dsimp only [dats]
theorem after65 (c : Dev nD) (t : Fin cfg0.N) : (dats m 0 c).after 65 t = second (View.ld (iblk m c 15 t) r3) (View.ld (iblk m c 35 t) r3) := by dsimp only [dats]
theorem after66 (c : Dev nD) (t : Fin cfg0.N) : (dats m 0 c).after 66 t = second (View.ld (iblk m c 16 t) r4) (View.ld (iblk m c 36 t) r4) := by dsimp only [dats]
theorem after67 (c : Dev nD) (t : Fin cfg0.N) : (dats m 0 c).after 67 t = second (View.ld (iblk m c 17 t) r4) (View.ld (iblk m c 37 t) r4) := by dsimp only [dats]
theorem after68 (c : Dev nD) (t : Fin cfg0.N) : (dats m 0 c).after 68 t = second (View.ld (iblk m c 18 t) r5) (View.ld (iblk m c 38 t) r5) := by dsimp only [dats]
theorem after69 (c : Dev nD) (t : Fin cfg0.N) : (dats m 0 c).after 69 t = second (View.ld (iblk m c 19 t) r6) (View.ld (iblk m c 39 t) r6) := by dsimp only [dats]

/-! and what it finds in the inputs' buffers. -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl)
    (fun t => by rw [after9]; unfold Dat.blockOf iblk; rw [A_eq]; try rfl) t d).trans (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl)
    (fun t => by rw [after10]; unfold Dat.blockOf iblk; rw [A_eq]; try rfl) t d).trans (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl)
    (fun t => by rw [after11]; unfold Dat.blockOf iblk; rw [A_eq]; try rfl) t d).trans (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl)
    (fun t => by rw [after12]; unfold Dat.blockOf iblk; rw [A_eq]; try rfl) t d).trans (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl)
    (fun t => by rw [after13]; unfold Dat.blockOf iblk; rw [A_eq]; try rfl) t d).trans (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl)
    (fun t => by rw [after14]; unfold Dat.blockOf iblk; rw [A_eq]; try rfl) t d).trans (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl)
    (fun t => by rw [after15]; unfold Dat.blockOf iblk; rw [A_eq]; try rfl) t d).trans (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl)
    (fun t => by rw [after16]; unfold Dat.blockOf iblk; rw [A_eq]; try rfl) t d).trans (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl)
    (fun t => by rw [after17]; unfold Dat.blockOf iblk; rw [A_eq]; try rfl) t d).trans (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl)
    (fun t => by rw [after18]; unfold Dat.blockOf iblk; rw [A_eq]; try rfl) t d).trans (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl)
    (fun t => by rw [after19]; unfold Dat.blockOf iblk; rw [A_eq]; try rfl) t d).trans (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl)
    (fun t => by rw [after20]; unfold Dat.blockOf iblk; rw [A_eq]; try rfl) t d).trans (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl)
    (fun t => by rw [after21]; unfold Dat.blockOf iblk; rw [A_eq]; try rfl) t d).trans (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl)
    (fun t => by rw [after22]; unfold Dat.blockOf iblk; rw [A_eq]; try rfl) t d).trans (by unfold Dat.fetched Dat.blockOf iblk; rw [A_eq]; try rfl)
theorem before23 (c : Dev nD) (t : Fin cfg0.N) (d) : (dats m 0 c).before 23 t d = iblk m c 23 t :=
  ((dats m 0 c).before_in_eq_fetched 23 rfl (fun _ => rfl) (fun _ _ _ => rfl)
    (fun t => by rw [after23]; unfold Dat.blockOf iblk; rw [A_eq]; try rfl) t d).trans (by unfold Dat.fetched Dat.blockOf iblk; rw [A_eq]; try rfl)
theorem before24 (c : Dev nD) (t : Fin cfg0.N) (d) : (dats m 0 c).before 24 t d = iblk m c 24 t :=
  ((dats m 0 c).before_in_eq_fetched 24 rfl (fun _ => rfl) (fun _ _ _ => rfl)
    (fun t => by rw [after24]; unfold Dat.blockOf iblk; rw [A_eq]; try rfl) t d).trans (by unfold Dat.fetched Dat.blockOf iblk; rw [A_eq]; try rfl)
theorem before25 (c : Dev nD) (t : Fin cfg0.N) (d) : (dats m 0 c).before 25 t d = iblk m c 25 t :=
  ((dats m 0 c).before_in_eq_fetched 25 rfl (fun _ => rfl) (fun _ _ _ => rfl)
    (fun t => by rw [after25]; unfold Dat.blockOf iblk; rw [A_eq]; try rfl) t d).trans (by unfold Dat.fetched Dat.blockOf iblk; rw [A_eq]; try rfl)
theorem before26 (c : Dev nD) (t : Fin cfg0.N) (d) : (dats m 0 c).before 26 t d = iblk m c 26 t :=
  ((dats m 0 c).before_in_eq_fetched 26 rfl (fun _ => rfl) (fun _ _ _ => rfl)
    (fun t => by rw [after26]; unfold Dat.blockOf iblk; rw [A_eq]; try rfl) t d).trans (by unfold Dat.fetched Dat.blockOf iblk; rw [A_eq]; try rfl)
theorem before27 (c : Dev nD) (t : Fin cfg0.N) (d) : (dats m 0 c).before 27 t d = iblk m c 27 t :=
  ((dats m 0 c).before_in_eq_fetched 27 rfl (fun _ => rfl) (fun _ _ _ => rfl)
    (fun t => by rw [after27]; unfold Dat.blockOf iblk; rw [A_eq]; try rfl) t d).trans (by unfold Dat.fetched Dat.blockOf iblk; rw [A_eq]; try rfl)
theorem before28 (c : Dev nD) (t : Fin cfg0.N) (d) : (dats m 0 c).before 28 t d = iblk m c 28 t :=
  ((dats m 0 c).before_in_eq_fetched 28 rfl (fun _ => rfl) (fun _ _ _ => rfl)
    (fun t => by rw [after28]; unfold Dat.blockOf iblk; rw [A_eq]; try rfl) t d).trans (by unfold Dat.fetched Dat.blockOf iblk; rw [A_eq]; try rfl)
theorem before29 (c : Dev nD) (t : Fin cfg0.N) (d) : (dats m 0 c).before 29 t d = iblk m c 29 t :=
  ((dats m 0 c).before_in_eq_fetched 29 rfl (fun _ => rfl) (fun _ _ _ => rfl)
    (fun t => by rw [after29]; unfold Dat.blockOf iblk; rw [A_eq]; try rfl) t d).trans (by unfold Dat.fetched Dat.blockOf iblk; rw [A_eq]; try rfl)
theorem before30 (c : Dev nD) (t : Fin cfg0.N) (d) : (dats m 0 c).before 30 t d = iblk m c 30 t :=
  ((dats m 0 c).before_in_eq_fetched 30 rfl (fun _ => rfl) (fun _ _ _ => rfl)
    (fun t => by rw [after30]; unfold Dat.blockOf iblk; rw [A_eq]; try rfl) t d).trans (by unfold Dat.fetched Dat.blockOf iblk; rw [A_eq]; try rfl)
theorem before31 (c : Dev nD) (t : Fin cfg0.N) (d) : (dats m 0 c).before 31 t d = iblk m c 31 t :=
  ((dats m 0 c).before_in_eq_fetched 31 rfl (fun _ => rfl) (fun _ _ _ => rfl)
    (fun t => by rw [after31]; unfold Dat.blockOf iblk; rw [A_eq]; try rfl) t d).trans (by unfold Dat.fetched Dat.blockOf iblk; rw [A_eq]; try rfl)
theorem before32 (c : Dev nD) (t : Fin cfg0.N) (d) : (dats m 0 c).before 32 t d = iblk m c 32 t :=
  ((dats m 0 c).before_in_eq_fetched 32 rfl (fun _ => rfl) (fun _ _ _ => rfl)
    (fun t => by rw [after32]; unfold Dat.blockOf iblk; rw [A_eq]; try rfl) t d).trans (by unfold Dat.fetched Dat.blockOf iblk; rw [A_eq]; try rfl)
theorem before33 (c : Dev nD) (t : Fin cfg0.N) (d) : (dats m 0 c).before 33 t d = iblk m c 33 t :=
  ((dats m 0 c).before_in_eq_fetched 33 rfl (fun _ => rfl) (fun _ _ _ => rfl)
    (fun t => by rw [after33]; unfold Dat.blockOf iblk; rw [A_eq]; try rfl) t d).trans (by unfold Dat.fetched Dat.blockOf iblk; rw [A_eq]; try rfl)
theorem before34 (c : Dev nD) (t : Fin cfg0.N) (d) : (dats m 0 c).before 34 t d = iblk m c 34 t :=
  ((dats m 0 c).before_in_eq_fetched 34 rfl (fun _ => rfl) (fun _ _ _ => rfl)
    (fun t => by rw [after34]; unfold Dat.blockOf iblk; rw [A_eq]; try rfl) t d).trans (by unfold Dat.fetched Dat.blockOf iblk; rw [A_eq]; try rfl)
theorem before35 (c : Dev nD) (t : Fin cfg0.N) (d) : (dats m 0 c).before 35 t d = iblk m c 35 t :=
  ((dats m 0 c).before_in_eq_fetched 35 rfl (fun _ => rfl) (fun _ _ _ => rfl)
    (fun t => by rw [after35]; unfold Dat.blockOf iblk; rw [A_eq]; try rfl) t d).trans (by unfold Dat.fetched Dat.blockOf iblk; rw [A_eq]; try rfl)
theorem before36 (c : Dev nD) (t : Fin cfg0.N) (d) : (dats m 0 c).before 36 t d = iblk m c 36 t :=
  ((dats m 0 c).before_in_eq_fetched 36 rfl (fun _ => rfl) (fun _ _ _ => rfl)
    (fun t => by rw [after36]; unfold Dat.blockOf iblk; rw [A_eq]; try rfl) t d).trans (by unfold Dat.fetched Dat.blockOf iblk; rw [A_eq]; try rfl)
theorem before37 (c : Dev nD) (t : Fin cfg0.N) (d) : (dats m 0 c).before 37 t d = iblk m c 37 t :=
  ((dats m 0 c).before_in_eq_fetched 37 rfl (fun _ => rfl) (fun _ _ _ => rfl)
    (fun t => by rw [after37]; unfold Dat.blockOf iblk; rw [A_eq]; try rfl) t d).trans (by unfold Dat.fetched Dat.blockOf iblk; rw [A_eq]; try rfl)
theorem before38 (c : Dev nD) (t : Fin cfg0.N) (d) : (dats m 0 c).before 38 t d = iblk m c 38 t :=
  ((dats m 0 c).before_in_eq_fetched 38 rfl (fun _ => rfl) (fun _ _ _ => rfl)
    (fun t => by rw [after38]; unfold Dat.blockOf iblk; rw [A_eq]; try rfl) t d).trans (by unfold Dat.fetched Dat.blockOf iblk; rw [A_eq]; try rfl)
theorem before39 (c : Dev nD) (t : Fin cfg0.N) (d) : (dats m 0 c).before 39 t d = iblk m c 39 t :=
  ((dats m 0 c).before_in_eq_fetched 39 rfl (fun _ => rfl) (fun _ _ _ => rfl)
    (fun t => by rw [after39]; unfold Dat.blockOf iblk; rw [A_eq]; try rfl) t d).trans (by unfold Dat.fetched Dat.blockOf iblk; rw [A_eq]; try rfl)

end Cert.Adam.Small

end
-- ==== Proof.Adam.Small.Point.lean ====
/- The body at its point: it takes what the pipeline gives it and returns what the data say. -/
module

public import proofs.«01_k».proof.Proof.Adam.Small.Body
public import proofs.«01_k».proof.Proof.Adam.Small.Data

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)) ∗
    (∃ d, owns (c : Thread nD τ) (st0_8 t) fullShare ((dats m 0 c).before 8 t d)) ∗
    (∃ d, owns (c : Thread nD τ) (st0_9 t) fullShare ((dats m 0 c).before 9 t d)) ∗
    (∃ d, owns (c : Thread nD τ) (st0_10 t) fullShare ((dats m 0 c).before 10 t d)) ∗
    (∃ d, owns (c : Thread nD τ) (st0_11 t) fullShare ((dats m 0 c).before 11 t d)) ∗
    (∃ d, owns (c : Thread nD τ) (st0_12 t) fullShare ((dats m 0 c).before 12 t d)) ∗
    (∃ d, owns (c : Thread nD τ) (st0_13 t) fullShare ((dats m 0 c).before 13 t d)) ∗
    (∃ d, owns (c : Thread nD τ) (st0_14 t) fullShare ((dats m 0 c).before 14 t d)) ∗
    (∃ d, owns (c : Thread nD τ) (st0_15 t) fullShare ((dats m 0 c).before 15 t d)) ∗
    (∃ d, owns (c : Thread nD τ) (st0_16 t) fullShare ((dats m 0 c).before 16 t d)) ∗
    (∃ d, owns (c : Thread nD τ) (st0_17 t) fullShare ((dats m 0 c).before 17 t d)) ∗
    (∃ d, owns (c : Thread nD τ) (st0_18 t) fullShare ((dats m 0 c).before 18 t d)) ∗
    (∃ d, owns (c : Thread nD τ) (st0_19 t) fullShare ((dats m 0 c).before 19 t d)) ∗
    (∃ d, owns (c : Thread nD τ) (st0_20 t) fullShare ((dats m 0 c).before 20 t d)) ∗
    (∃ d, owns (c : Thread nD τ) (st0_21 t) fullShare ((dats m 0 c).before 21 t d)) ∗
    (∃ d, owns (c : Thread nD τ) (st0_22 t) fullShare ((dats m 0 c).before 22 t d)) ∗
    (∃ d, owns (c : Thread nD τ) (st0_23 t) fullShare ((dats m 0 c).before 23 t d)) ∗
    (∃ d, owns (c : Thread nD τ) (st0_24 t) fullShare ((dats m 0 c).before 24 t d)) ∗
    (∃ d, owns (c : Thread nD τ) (st0_25 t) fullShare ((dats m 0 c).before 25 t d)) ∗
    (∃ d, owns (c : Thread nD τ) (st0_26 t) fullShare ((dats m 0 c).before 26 t d)) ∗
    (∃ d, owns (c : Thread nD τ) (st0_27 t) fullShare ((dats m 0 c).before 27 t d)) ∗
    (∃ d, owns (c : Thread nD τ) (st0_28 t) fullShare ((dats m 0 c).before 28 t d)) ∗
    (∃ d, owns (c : Thread nD τ) (st0_29 t) fullShare ((dats m 0 c).before 29 t d)) ∗
    (∃ d, owns (c : Thread nD τ) (st0_30 t) fullShare ((dats m 0 c).before 30 t d)) ∗
    (∃ d, owns (c : Thread nD τ) (st0_31 t) fullShare ((dats m 0 c).before 31 t d)) ∗
    (∃ d, owns (c : Thread nD τ) (st0_32 t) fullShare ((dats m 0 c).before 32 t d)) ∗
    (∃ d, owns (c : Thread nD τ) (st0_33 t) fullShare ((dats m 0 c).before 33 t d)) ∗
    (∃ d, owns (c : Thread nD τ) (st0_34 t) fullShare ((dats m 0 c).before 34 t d)) ∗
    (∃ d, owns (c : Thread nD τ) (st0_35 t) fullShare ((dats m 0 c).before 35 t d)) ∗
    (∃ d, owns (c : Thread nD τ) (st0_36 t) fullShare ((dats m 0 c).before 36 t d)) ∗
    (∃ d, owns (c : Thread nD τ) (st0_37 t) fullShare ((dats m 0 c).before 37 t d)) ∗
    (∃ d, owns (c : Thread nD τ) (st0_38 t) fullShare ((dats m 0 c).before 38 t d)) ∗
    (∃ d, owns (c : Thread nD τ) (st0_39 t) fullShare ((dats m 0 c).before 39 t d)) ∗
    (∃ d, owns (c : Thread nD τ) (st0_40 t) fullShare ((dats m 0 c).before 40 t d)) ∗
    (∃ d, owns (c : Thread nD τ) (st0_41 t) fullShare ((dats m 0 c).before 41 t d)) ∗
    (∃ d, owns (c : Thread nD τ) (st0_42 t) fullShare ((dats m 0 c).before 42 t d)) ∗
    (∃ d, owns (c : Thread nD τ) (st0_43 t) fullShare ((dats m 0 c).before 43 t d)) ∗
    (∃ d, owns (c : Thread nD τ) (st0_44 t) fullShare ((dats m 0 c).before 44 t d)) ∗
    (∃ d, owns (c : Thread nD τ) (st0_45 t) fullShare ((dats m 0 c).before 45 t d)) ∗
    (∃ d, owns (c : Thread nD τ) (st0_46 t) fullShare ((dats m 0 c).before 46 t d)) ∗
    (∃ d, owns (c : Thread nD τ) (st0_47 t) fullShare ((dats m 0 c).before 47 t d)) ∗
    (∃ d, owns (c : Thread nD τ) (st0_48 t) fullShare ((dats m 0 c).before 48 t d)) ∗
    (∃ d, owns (c : Thread nD τ) (st0_49 t) fullShare ((dats m 0 c).before 49 t d)) ∗
    (∃ d, owns (c : Thread nD τ) (st0_50 t) fullShare ((dats m 0 c).before 50 t d)) ∗
    (∃ d, owns (c : Thread nD τ) (st0_51 t) fullShare ((dats m 0 c).before 51 t d)) ∗
    (∃ d, owns (c : Thread nD τ) (st0_52 t) fullShare ((dats m 0 c).before 52 t d)) ∗
    (∃ d, owns (c : Thread nD τ) (st0_53 t) fullShare ((dats m 0 c).before 53 t d)) ∗
    (∃ d, owns (c : Thread nD τ) (st0_54 t) fullShare ((dats m 0 c).before 54 t d)) ∗
    (∃ d, owns (c : Thread nD τ) (st0_55 t) fullShare ((dats m 0 c).before 55 t d)) ∗
    (∃ d, owns (c : Thread nD τ) (st0_56 t) fullShare ((dats m 0 c).before 56 t d)) ∗
    (∃ d, owns (c : Thread nD τ) (st0_57 t) fullShare ((dats m 0 c).before 57 t d)) ∗
    (∃ d, owns (c : Thread nD τ) (st0_58 t) fullShare ((dats m 0 c).before 58 t d)) ∗
    (∃ d, owns (c : Thread nD τ) (st0_59 t) fullShare ((dats m 0 c).before 59 t d)) ∗
    (∃ d, owns (c : Thread nD τ) (st0_60 t) fullShare ((dats m 0 c).before 60 t d)) ∗
    (∃ d, owns (c : Thread nD τ) (st0_61 t) fullShare ((dats m 0 c).before 61 t d)) ∗
    (∃ d, owns (c : Thread nD τ) (st0_62 t) fullShare ((dats m 0 c).before 62 t d)) ∗
    (∃ d, owns (c : Thread nD τ) (st0_63 t) fullShare ((dats m 0 c).before 63 t d)) ∗
    (∃ d, owns (c : Thread nD τ) (st0_64 t) fullShare ((dats m 0 c).before 64 t d)) ∗
    (∃ d, owns (c : Thread nD τ) (st0_65 t) fullShare ((dats m 0 c).before 65 t d)) ∗
    (∃ d, owns (c : Thread nD τ) (st0_66 t) fullShare ((dats m 0 c).before 66 t d)) ∗
    (∃ d, owns (c : Thread nD τ) (st0_67 t) fullShare ((dats m 0 c).before 67 t d)) ∗
    (∃ d, owns (c : Thread nD τ) (st0_68 t) fullShare ((dats m 0 c).before 68 t d)) ∗
    (∃ d, owns (c : Thread nD τ) (st0_69 t) fullShare ((dats m 0 c).before 69 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗
    owns (c : Thread nD τ) (st0_2 t) fullShare ((dats m 0 c).after 2 t) ∗ owns (c : Thread nD τ) (st0_3 t) fullShare ((dats m 0 c).after 3 t) ∗
    owns (c : Thread nD τ) (st0_4 t) fullShare ((dats m 0 c).after 4 t) ∗ owns (c : Thread nD τ) (st0_5 t) fullShare ((dats m 0 c).after 5 t) ∗
    owns (c : Thread nD τ) (st0_6 t) fullShare ((dats m 0 c).after 6 t) ∗ owns (c : Thread nD τ) (st0_7 t) fullShare ((dats m 0 c).after 7 t) ∗
    owns (c : Thread nD τ) (st0_8 t) fullShare ((dats m 0 c).after 8 t) ∗ owns (c : Thread nD τ) (st0_9 t) fullShare ((dats m 0 c).after 9 t) ∗
    owns (c : Thread nD τ) (st0_10 t) fullShare ((dats m 0 c).after 10 t) ∗ owns (c : Thread nD τ) (st0_11 t) fullShare ((dats m 0 c).after 11 t) ∗
    owns (c : Thread nD τ) (st0_12 t) fullShare ((dats m 0 c).after 12 t) ∗ owns (c : Thread nD τ) (st0_13 t) fullShare ((dats m 0 c).after 13 t) ∗
    owns (c : Thread nD τ) (st0_14 t) fullShare ((dats m 0 c).after 14 t) ∗ owns (c : Thread nD τ) (st0_15 t) fullShare ((dats m 0 c).after 15 t) ∗
    owns (c : Thread nD τ) (st0_16 t) fullShare ((dats m 0 c).after 16 t) ∗ owns (c : Thread nD τ) (st0_17 t) fullShare ((dats m 0 c).after 17 t) ∗
    owns (c : Thread nD τ) (st0_18 t) fullShare ((dats m 0 c).after 18 t) ∗ owns (c : Thread nD τ) (st0_19 t) fullShare ((dats m 0 c).after 19 t) ∗
    owns (c : Thread nD τ) (st0_20 t) fullShare ((dats m 0 c).after 20 t) ∗ owns (c : Thread nD τ) (st0_21 t) fullShare ((dats m 0 c).after 21 t) ∗
    owns (c : Thread nD τ) (st0_22 t) fullShare ((dats m 0 c).after 22 t) ∗ owns (c : Thread nD τ) (st0_23 t) fullShare ((dats m 0 c).after 23 t) ∗
    owns (c : Thread nD τ) (st0_24 t) fullShare ((dats m 0 c).after 24 t) ∗ owns (c : Thread nD τ) (st0_25 t) fullShare ((dats m 0 c).after 25 t) ∗
    owns (c : Thread nD τ) (st0_26 t) fullShare ((dats m 0 c).after 26 t) ∗ owns (c : Thread nD τ) (st0_27 t) fullShare ((dats m 0 c).after 27 t) ∗
    owns (c : Thread nD τ) (st0_28 t) fullShare ((dats m 0 c).after 28 t) ∗ owns (c : Thread nD τ) (st0_29 t) fullShare ((dats m 0 c).after 29 t) ∗
    owns (c : Thread nD τ) (st0_30 t) fullShare ((dats m 0 c).after 30 t) ∗ owns (c : Thread nD τ) (st0_31 t) fullShare ((dats m 0 c).after 31 t) ∗
    owns (c : Thread nD τ) (st0_32 t) fullShare ((dats m 0 c).after 32 t) ∗ owns (c : Thread nD τ) (st0_33 t) fullShare ((dats m 0 c).after 33 t) ∗
    owns (c : Thread nD τ) (st0_34 t) fullShare ((dats m 0 c).after 34 t) ∗ owns (c : Thread nD τ) (st0_35 t) fullShare ((dats m 0 c).after 35 t) ∗
    owns (c : Thread nD τ) (st0_36 t) fullShare ((dats m 0 c).after 36 t) ∗ owns (c : Thread nD τ) (st0_37 t) fullShare ((dats m 0 c).after 37 t) ∗
    owns (c : Thread nD τ) (st0_38 t) fullShare ((dats m 0 c).after 38 t) ∗ owns (c : Thread nD τ) (st0_39 t) fullShare ((dats m 0 c).after 39 t) ∗
    owns (c : Thread nD τ) (st0_40 t) fullShare ((dats m 0 c).after 40 t) ∗ owns (c : Thread nD τ) (st0_41 t) fullShare ((dats m 0 c).after 41 t) ∗
    owns (c : Thread nD τ) (st0_42 t) fullShare ((dats m 0 c).after 42 t) ∗ owns (c : Thread nD τ) (st0_43 t) fullShare ((dats m 0 c).after 43 t) ∗
    owns (c : Thread nD τ) (st0_44 t) fullShare ((dats m 0 c).after 44 t) ∗ owns (c : Thread nD τ) (st0_45 t) fullShare ((dats m 0 c).after 45 t) ∗
    owns (c : Thread nD τ) (st0_46 t) fullShare ((dats m 0 c).after 46 t) ∗ owns (c : Thread nD τ) (st0_47 t) fullShare ((dats m 0 c).after 47 t) ∗
    owns (c : Thread nD τ) (st0_48 t) fullShare ((dats m 0 c).after 48 t) ∗ owns (c : Thread nD τ) (st0_49 t) fullShare ((dats m 0 c).after 49 t) ∗
    owns (c : Thread nD τ) (st0_50 t) fullShare ((dats m 0 c).after 50 t) ∗ owns (c : Thread nD τ) (st0_51 t) fullShare ((dats m 0 c).after 51 t) ∗
    owns (c : Thread nD τ) (st0_52 t) fullShare ((dats m 0 c).after 52 t) ∗ owns (c : Thread nD τ) (st0_53 t) fullShare ((dats m 0 c).after 53 t) ∗
    owns (c : Thread nD τ) (st0_54 t) fullShare ((dats m 0 c).after 54 t) ∗ owns (c : Thread nD τ) (st0_55 t) fullShare ((dats m 0 c).after 55 t) ∗
    owns (c : Thread nD τ) (st0_56 t) fullShare ((dats m 0 c).after 56 t) ∗ owns (c : Thread nD τ) (st0_57 t) fullShare ((dats m 0 c).after 57 t) ∗
    owns (c : Thread nD τ) (st0_58 t) fullShare ((dats m 0 c).after 58 t) ∗ owns (c : Thread nD τ) (st0_59 t) fullShare ((dats m 0 c).after 59 t) ∗
    owns (c : Thread nD τ) (st0_60 t) fullShare ((dats m 0 c).after 60 t) ∗ owns (c : Thread nD τ) (st0_61 t) fullShare ((dats m 0 c).after 61 t) ∗
    owns (c : Thread nD τ) (st0_62 t) fullShare ((dats m 0 c).after 62 t) ∗ owns (c : Thread nD τ) (st0_63 t) fullShare ((dats m 0 c).after 63 t) ∗
    owns (c : Thread nD τ) (st0_64 t) fullShare ((dats m 0 c).after 64 t) ∗ owns (c : Thread nD τ) (st0_65 t) fullShare ((dats m 0 c).after 65 t) ∗
    owns (c : Thread nD τ) (st0_66 t) fullShare ((dats m 0 c).after 66 t) ∗ owns (c : Thread nD τ) (st0_67 t) fullShare ((dats m 0 c).after 67 t) ∗
    owns (c : Thread nD τ) (st0_68 t) fullShare ((dats m 0 c).after 68 t) ∗ owns (c : Thread nD τ) (st0_69 t) fullShare ((dats m 0 c).after 69 t))

set_option maxHeartbeats 4000000 in
/-- The body at its point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15,
    before16, before17, before18, before19, before20, before21, before22, before23, before24, before25, before26, before27, before28, before29, before30,
    before31, before32, before33, before34, before35, before36, before37, before38, before39]
  rw [show (dats m 0 c).Φ t.succ = (dats m 0 c).Φ t.castSucc from rfl, show (dats m 0 c).owesAt () t.succ = (dats m 0 c).owesAt () t.castSucc from rfl,
    after0, after1, after2, after3, after4, after5, after6, after7, after8, after9, after10, after11, after12, after13, after14, after15, after16,
    after17, after18, after19, after20, after21, after22, after23, after24, after25, after26, after27, after28, after29, after30, after31, after32,
    after33, after34, after35, after36, after37, after38, after39, after40, after41, after42, after43, after44, after45, after46, after47, after48,
    after49, after50, after51, after52, after53, after54, after55, after56, after57, after58, after59, after60, after61, after62, after63, after64,
    after65, after66, after67, after68, after69]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩,
    ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩,
    ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩,
    ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩,
    ⟨%d67, H67⟩, ⟨%d68, H68⟩, ⟨%d69, H69⟩⟩
  iapply (sound_kernel c Set.univ _ _ _ _ _ _ _ (iblk m c 0 t) (iblk m c 10 t) (iblk m c 20 t) (iblk m c 30 t) _ _ _ _ _ _ _
    (iblk m c 1 t) (iblk m c 11 t) (iblk m c 21 t) (iblk m c 31 t) _ _ _ _ _ _ _ (iblk m c 2 t) (iblk m c 12 t) (iblk m c 22 t) (iblk m c 32 t)
    _ _ _ _ _ _ _ (iblk m c 3 t) (iblk m c 13 t) (iblk m c 23 t) (iblk m c 33 t) _ _ _ _ _ _ _
    (iblk m c 4 t) (iblk m c 14 t) (iblk m c 24 t) (iblk m c 34 t) _ _ _ _ _ _ _ (iblk m c 5 t) (iblk m c 15 t) (iblk m c 25 t) (iblk m c 35 t)
    _ _ _ _ _ _ _ (iblk m c 6 t) (iblk m c 16 t) (iblk m c 26 t) (iblk m c 36 t) _ _ _ _ _ _ _
    (iblk m c 7 t) (iblk m c 17 t) (iblk m c 27 t) (iblk m c 37 t) _ _ _ _ _ _ _ (iblk m c 8 t) (iblk m c 18 t) (iblk m c 28 t) (iblk m c 38 t)
    _ _ _ _ _ _ _ (iblk m c 9 t) (iblk m c 19 t) (iblk m c 29 t) (iblk m c 39 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  iintro ⟨H0, H1, H2, H3, H4, H5, H6, H7, H8, H9, H10, H11, H12, H13, H14, H15, H16, H17, H18, H19, H20, H21, H22, H23, H24, H25, H26, H27, H28, H29, H30, H31,
    H32, H33, H34, H35, H36, H37, H38, H39, H40, H41, H42, H43, H44, H45, H46, H47, H48, H49, H50, H51, H52, H53, H54, H55, H56, H57, H58, H59, H60, H61,
    H62, H63, H64, H65, H66, H67, H68, H69⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  iexact H69

end Cert.Adam.Small

end
-- ==== Proof.Adam.Small.Run.lean ====
/- The run of the small weights' call. -/
module

public import proofs.«01_k».proof.Proof.Adam.Small.Point

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- The call ends with the pipeline's arrays as the data say, everything else as it was, and no semaphore counted. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Adam.Small

end
-- ==== Proof.Adam.Small.Values.lean ====
/- The arrays that the small weights' call leaves, from its arguments. -/
module

public import proofs.«01_k».proof.Proof.Adam.Small.Data

@[expose] public section

set_option maxRecDepth 16384

noncomputable section

namespace Cert.Adam.Small

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The one point. -/
def point : Fin cfg0.N := ⟨0, by decide +kernel⟩

/-! The inputs' blocks are the arguments. -/

theorem block0 (c : Dev nD) : iblk m c 0 point = m ((c : Thread nD τ).loc main_arg0) := by
  have e : win0_0.index point (0 : Fin 2) = 0 ∧ win0_0.index point (1 : Fin 2) = 0 := by decide +kernel
  funext y; blk_simp [iblk]; congr 1; blk_ext [e.1, e.2]
theorem block1 (c : Dev nD) : iblk m c 1 point = m ((c : Thread nD τ).loc main_arg1) := by
  have e : win0_1.index point (0 : Fin 2) = 0 ∧ win0_1.index point (1 : Fin 2) = 0 := by decide +kernel
  funext y; blk_simp [iblk]; congr 1; blk_ext [e.1, e.2]
theorem block2 (c : Dev nD) : iblk m c 2 point = m ((c : Thread nD τ).loc main_arg2) := by
  have e : win0_2.index point (0 : Fin 2) = 0 ∧ win0_2.index point (1 : Fin 2) = 0 := by decide +kernel
  funext y; blk_simp [iblk]; congr 1; blk_ext [e.1, e.2]
theorem block3 (c : Dev nD) : iblk m c 3 point = m ((c : Thread nD τ).loc main_arg3) := by
  have e : win0_3.index point (0 : Fin 2) = 0 ∧ win0_3.index point (1 : Fin 2) = 0 := by decide +kernel
  funext y; blk_simp [iblk]; congr 1; blk_ext [e.1, e.2]
theorem block4 (c : Dev nD) : iblk m c 4 point = m ((c : Thread nD τ).loc main_arg4) := by
  have e : win0_4.index point (0 : Fin 2) = 0 ∧ win0_4.index point (1 : Fin 2) = 0 := by decide +kernel
  funext y; blk_simp [iblk]; congr 1; blk_ext [e.1, e.2]
theorem block5 (c : Dev nD) : iblk m c 5 point = m ((c : Thread nD τ).loc main_arg5) := by
  have e : win0_5.index point (0 : Fin 3) = 0 ∧ win0_5.index point (1 : Fin 3) = 0 ∧ win0_5.index point (2 : Fin 3) = 0 := by decide +kernel
  funext y; blk_simp [iblk]; congr 1; blk_ext [e.1, e.2.1, e.2.2]
theorem block6 (c : Dev nD) : iblk m c 6 point = m ((c : Thread nD τ).loc main_arg6) := by
  have e : win0_6.index point (0 : Fin 2) = 0 ∧ win0_6.index point (1 : Fin 2) = 0 := by decide +kernel
  funext y; blk_simp [iblk]; congr 1; blk_ext [e.1, e.2]
theorem block7 (c : Dev nD) : iblk m c 7 point = m ((c : Thread nD τ).loc main_arg7) := by
  have e : win0_7.index point (0 : Fin 2) = 0 ∧ win0_7.index point (1 : Fin 2) = 0 := by decide +kernel
  funext y; blk_simp [iblk]; congr 1; blk_ext [e.1, e.2]
theorem block8 (c : Dev nD) : iblk m c 8 point = m ((c : Thread nD τ).loc main_arg8) := by
  have e : win0_8.index point (0 : Fin 2) = 0 ∧ win0_8.index point (1 : Fin 2) = 0 := by decide +kernel
  funext y; blk_simp [iblk]; congr 1; blk_ext [e.1, e.2]
theorem block9 (c : Dev nD) : iblk m c 9 point = m ((c : Thread nD τ).loc main_arg9) := by
  have e : win0_9.index point (0 : Fin 2) = 0 ∧ win0_9.index point (1 : Fin 2) = 0 := by decide +kernel
  funext y; blk_simp [iblk]; congr 1; blk_ext [e.1, e.2]
theorem block10 (c : Dev nD) : iblk m c 10 point = m ((c : Thread nD τ).loc main_arg10) := by
  have e : win0_10.index point (0 : Fin 2) = 0 ∧ win0_10.index point (1 : Fin 2) = 0 := by decide +kernel
  funext y; blk_simp [iblk]; congr 1; blk_ext [e.1, e.2]
theorem block11 (c : Dev nD) : iblk m c 11 point = m ((c : Thread nD τ).loc main_arg11) := by
  have e : win0_11.index point (0 : Fin 2) = 0 ∧ win0_11.index point (1 : Fin 2) = 0 := by decide +kernel
  funext y; blk_simp [iblk]; congr 1; blk_ext [e.1, e.2]
theorem block12 (c : Dev nD) : iblk m c 12 point = m ((c : Thread nD τ).loc main_arg12) := by
  have e : win0_12.index point (0 : Fin 2) = 0 ∧ win0_12.index point (1 : Fin 2) = 0 := by decide +kernel
  funext y; blk_simp [iblk]; congr 1; blk_ext [e.1, e.2]
theorem block13 (c : Dev nD) : iblk m c 13 point = m ((c : Thread nD τ).loc main_arg13) := by
  have e : win0_13.index point (0 : Fin 2) = 0 ∧ win0_13.index point (1 : Fin 2) = 0 := by decide +kernel
  funext y; blk_simp [iblk]; congr 1; blk_ext [e.1, e.2]
theorem block14 (c : Dev nD) : iblk m c 14 point = m ((c : Thread nD τ).loc main_arg14) := by
  have e : win0_14.index point (0 : Fin 2) = 0 ∧ win0_14.index point (1 : Fin 2) = 0 := by decide +kernel
  funext y; blk_simp [iblk]; congr 1; blk_ext [e.1, e.2]
theorem block15 (c : Dev nD) : iblk m c 15 point = m ((c : Thread nD τ).loc main_arg15) := by
  have e : win0_15.index point (0 : Fin 3) = 0 ∧ win0_15.index point (1 : Fin 3) = 0 ∧ win0_15.index point (2 : Fin 3) = 0 := by decide +kernel
  funext y; blk_simp [iblk]; congr 1; blk_ext [e.1, e.2.1, e.2.2]
theorem block16 (c : Dev nD) : iblk m c 16 point = m ((c : Thread nD τ).loc main_arg16) := by
  have e : win0_16.index point (0 : Fin 2) = 0 ∧ win0_16.index point (1 : Fin 2) = 0 := by decide +kernel
  funext y; blk_simp [iblk]; congr 1; blk_ext [e.1, e.2]
theorem block17 (c : Dev nD) : iblk m c 17 point = m ((c : Thread nD τ).loc main_arg17) := by
  have e : win0_17.index point (0 : Fin 2) = 0 ∧ win0_17.index point (1 : Fin 2) = 0 := by decide +kernel
  funext y; blk_simp [iblk]; congr 1; blk_ext [e.1, e.2]
theorem block18 (c : Dev nD) : iblk m c 18 point = m ((c : Thread nD τ).loc main_arg18) := by
  have e : win0_18.index point (0 : Fin 2) = 0 ∧ win0_18.index point (1 : Fin 2) = 0 := by decide +kernel
  funext y; blk_simp [iblk]; congr 1; blk_ext [e.1, e.2]
theorem block19 (c : Dev nD) : iblk m c 19 point = m ((c : Thread nD τ).loc main_arg19) := by
  have e : win0_19.index point (0 : Fin 2) = 0 ∧ win0_19.index point (1 : Fin 2) = 0 := by decide +kernel
  funext y; blk_simp [iblk]; congr 1; blk_ext [e.1, e.2]
theorem block20 (c : Dev nD) : iblk m c 20 point = m ((c : Thread nD τ).loc main_arg20) := by
  have e : win0_20.index point (0 : Fin 2) = 0 ∧ win0_20.index point (1 : Fin 2) = 0 := by decide +kernel
  funext y; blk_simp [iblk]; congr 1; blk_ext [e.1, e.2]
theorem block21 (c : Dev nD) : iblk m c 21 point = m ((c : Thread nD τ).loc main_arg21) := by
  have e : win0_21.index point (0 : Fin 2) = 0 ∧ win0_21.index point (1 : Fin 2) = 0 := by decide +kernel
  funext y; blk_simp [iblk]; congr 1; blk_ext [e.1, e.2]
theorem block22 (c : Dev nD) : iblk m c 22 point = m ((c : Thread nD τ).loc main_arg22) := by
  have e : win0_22.index point (0 : Fin 2) = 0 ∧ win0_22.index point (1 : Fin 2) = 0 := by decide +kernel
  funext y; blk_simp [iblk]; congr 1; blk_ext [e.1, e.2]
theorem block23 (c : Dev nD) : iblk m c 23 point = m ((c : Thread nD τ).loc main_arg23) := by
  have e : win0_23.index point (0 : Fin 2) = 0 ∧ win0_23.index point (1 : Fin 2) = 0 := by decide +kernel
  funext y; blk_simp [iblk]; congr 1; blk_ext [e.1, e.2]
theorem block24 (c : Dev nD) : iblk m c 24 point = m ((c : Thread nD τ).loc main_arg24) := by
  have e : win0_24.index point (0 : Fin 2) = 0 ∧ win0_24.index point (1 : Fin 2) = 0 := by decide +kernel
  funext y; blk_simp [iblk]; congr 1; blk_ext [e.1, e.2]
theorem block25 (c : Dev nD) : iblk m c 25 point = m ((c : Thread nD τ).loc main_arg25) := by
  have e : win0_25.index point (0 : Fin 3) = 0 ∧ win0_25.index point (1 : Fin 3) = 0 ∧ win0_25.index point (2 : Fin 3) = 0 := by decide +kernel
  funext y; blk_simp [iblk]; congr 1; blk_ext [e.1, e.2.1, e.2.2]
theorem block26 (c : Dev nD) : iblk m c 26 point = m ((c : Thread nD τ).loc main_arg26) := by
  have e : win0_26.index point (0 : Fin 2) = 0 ∧ win0_26.index point (1 : Fin 2) = 0 := by decide +kernel
  funext y; blk_simp [iblk]; congr 1; blk_ext [e.1, e.2]
theorem block27 (c : Dev nD) : iblk m c 27 point = m ((c : Thread nD τ).loc main_arg27) := by
  have e : win0_27.index point (0 : Fin 2) = 0 ∧ win0_27.index point (1 : Fin 2) = 0 := by decide +kernel
  funext y; blk_simp [iblk]; congr 1; blk_ext [e.1, e.2]
theorem block28 (c : Dev nD) : iblk m c 28 point = m ((c : Thread nD τ).loc main_arg28) := by
  have e : win0_28.index point (0 : Fin 2) = 0 ∧ win0_28.index point (1 : Fin 2) = 0 := by decide +kernel
  funext y; blk_simp [iblk]; congr 1; blk_ext [e.1, e.2]
theorem block29 (c : Dev nD) : iblk m c 29 point = m ((c : Thread nD τ).loc main_arg29) := by
  have e : win0_29.index point (0 : Fin 2) = 0 ∧ win0_29.index point (1 : Fin 2) = 0 := by decide +kernel
  funext y; blk_simp [iblk]; congr 1; blk_ext [e.1, e.2]
theorem block30 (c : Dev nD) : iblk m c 30 point = m ((c : Thread nD τ).loc main_arg30) := by
  have e : win0_30.index point (0 : Fin 2) = 0 ∧ win0_30.index point (1 : Fin 2) = 0 := by decide +kernel
  funext y; blk_simp [iblk]; congr 1; blk_ext [e.1, e.2]
theorem block31 (c : Dev nD) : iblk m c 31 point = m ((c : Thread nD τ).loc main_arg31) := by
  have e : win0_31.index point (0 : Fin 2) = 0 ∧ win0_31.index point (1 : Fin 2) = 0 := by decide +kernel
  funext y; blk_simp [iblk]; congr 1; blk_ext [e.1, e.2]
theorem block32 (c : Dev nD) : iblk m c 32 point = m ((c : Thread nD τ).loc main_arg32) := by
  have e : win0_32.index point (0 : Fin 2) = 0 ∧ win0_32.index point (1 : Fin 2) = 0 := by decide +kernel
  funext y; blk_simp [iblk]; congr 1; blk_ext [e.1, e.2]
theorem block33 (c : Dev nD) : iblk m c 33 point = m ((c : Thread nD τ).loc main_arg33) := by
  have e : win0_33.index point (0 : Fin 2) = 0 ∧ win0_33.index point (1 : Fin 2) = 0 := by decide +kernel
  funext y; blk_simp [iblk]; congr 1; blk_ext [e.1, e.2]
theorem block34 (c : Dev nD) : iblk m c 34 point = m ((c : Thread nD τ).loc main_arg34) := by
  have e : win0_34.index point (0 : Fin 2) = 0 ∧ win0_34.index point (1 : Fin 2) = 0 := by decide +kernel
  funext y; blk_simp [iblk]; congr 1; blk_ext [e.1, e.2]
theorem block35 (c : Dev nD) : iblk m c 35 point = m ((c : Thread nD τ).loc main_arg35) := by
  have e : win0_35.index point (0 : Fin 3) = 0 ∧ win0_35.index point (1 : Fin 3) = 0 ∧ win0_35.index point (2 : Fin 3) = 0 := by decide +kernel
  funext y; blk_simp [iblk]; congr 1; blk_ext [e.1, e.2.1, e.2.2]
theorem block36 (c : Dev nD) : iblk m c 36 point = m ((c : Thread nD τ).loc main_arg36) := by
  have e : win0_36.index point (0 : Fin 2) = 0 ∧ win0_36.index point (1 : Fin 2) = 0 := by decide +kernel
  funext y; blk_simp [iblk]; congr 1; blk_ext [e.1, e.2]
theorem block37 (c : Dev nD) : iblk m c 37 point = m ((c : Thread nD τ).loc main_arg37) := by
  have e : win0_37.index point (0 : Fin 2) = 0 ∧ win0_37.index point (1 : Fin 2) = 0 := by decide +kernel
  funext y; blk_simp [iblk]; congr 1; blk_ext [e.1, e.2]
theorem block38 (c : Dev nD) : iblk m c 38 point = m ((c : Thread nD τ).loc main_arg38) := by
  have e : win0_38.index point (0 : Fin 2) = 0 ∧ win0_38.index point (1 : Fin 2) = 0 := by decide +kernel
  funext y; blk_simp [iblk]; congr 1; blk_ext [e.1, e.2]
theorem block39 (c : Dev nD) : iblk m c 39 point = m ((c : Thread nD τ).loc main_arg39) := by
  have e : win0_39.index point (0 : Fin 2) = 0 ∧ win0_39.index point (1 : Fin 2) = 0 := by decide +kernel
  funext y; blk_simp [iblk]; congr 1; blk_ext [e.1, e.2]

/-! The arrays that the call leaves. -/

theorem final40 (c : Dev nD) : (dats m 0 c).arrAt 40 cfg0.N = update (m ((c : Thread nD τ).loc main_arg0)) (m ((c : Thread nD τ).loc main_arg10)) (m ((c : Thread nD τ).loc main_arg20)) (m ((c : Thread nD τ).loc main_arg30)) :=
  (dats m 0 c).arrAt_eq_of_after_last 40 point (by decide +kernel) _ (congrFun ((after40 m c point).trans
    (by rw [block0, block10, block20, block30]; simp only [View.ld_unit_zero (S := S2x3072) origin2] <;> rfl)))
theorem final41 (c : Dev nD) : (dats m 0 c).arrAt 41 cfg0.N = update (m ((c : Thread nD τ).loc main_arg1)) (m ((c : Thread nD τ).loc main_arg11)) (m ((c : Thread nD τ).loc main_arg21)) (m ((c : Thread nD τ).loc main_arg31)) :=
  (dats m 0 c).arrAt_eq_of_after_last 41 point (by decide +kernel) _ (congrFun ((after41 m c point).trans
    (by rw [block1, block11, block21, block31]; simp only [View.ld_unit_zero (S := S2x1024) origin2] <;> rfl)))
theorem final42 (c : Dev nD) : (dats m 0 c).arrAt 42 cfg0.N = update (m ((c : Thread nD τ).loc main_arg2)) (m ((c : Thread nD τ).loc main_arg12)) (m ((c : Thread nD τ).loc main_arg22)) (m ((c : Thread nD τ).loc main_arg32)) :=
  (dats m 0 c).arrAt_eq_of_after_last 42 point (by decide +kernel) _ (congrFun ((after42 m c point).trans
    (by rw [block2, block12, block22, block32]; simp only [View.ld_unit_zero (S := S2x1024) origin2] <;> rfl)))
theorem final43 (c : Dev nD) : (dats m 0 c).arrAt 43 cfg0.N = update (m ((c : Thread nD τ).loc main_arg3)) (m ((c : Thread nD τ).loc main_arg13)) (m ((c : Thread nD τ).loc main_arg23)) (m ((c : Thread nD τ).loc main_arg33)) :=
  (dats m 0 c).arrAt_eq_of_after_last 43 point (by decide +kernel) _ (congrFun ((after43 m c point).trans
    (by rw [block3, block13, block23, block33]; simp only [View.ld_unit_zero (S := S1x256) origin2] <;> rfl)))
theorem final44 (c : Dev nD) : (dats m 0 c).arrAt 44 cfg0.N = update (m ((c : Thread nD τ).loc main_arg4)) (m ((c : Thread nD τ).loc main_arg14)) (m ((c : Thread nD τ).loc main_arg24)) (m ((c : Thread nD τ).loc main_arg34)) :=
  (dats m 0 c).arrAt_eq_of_after_last 44 point (by decide +kernel) _ (congrFun ((after44 m c point).trans
    (by rw [block4, block14, block24, block34]; simp only [View.ld_unit_zero (S := S1x256) origin2] <;> rfl)))
theorem final45 (c : Dev nD) : (dats m 0 c).arrAt 45 cfg0.N = update (m ((c : Thread nD τ).loc main_arg5)) (m ((c : Thread nD τ).loc main_arg15)) (m ((c : Thread nD τ).loc main_arg25)) (m ((c : Thread nD τ).loc main_arg35)) :=
  (dats m 0 c).arrAt_eq_of_after_last 45 point (by decide +kernel) _ (congrFun ((after45 m c point).trans
    (by rw [block5, block15, block25, block35]; simp only [View.ld_unit_zero (S := S1x4x128) origin3] <;> rfl)))
theorem final46 (c : Dev nD) : (dats m 0 c).arrAt 46 cfg0.N = update (m ((c : Thread nD τ).loc main_arg6)) (m ((c : Thread nD τ).loc main_arg16)) (m ((c : Thread nD τ).loc main_arg26)) (m ((c : Thread nD τ).loc main_arg36)) :=
  (dats m 0 c).arrAt_eq_of_after_last 46 point (by decide +kernel) _ (congrFun ((after46 m c point).trans
    (by rw [block6, block16, block26, block36]; simp only [View.ld_unit_zero (S := S1x1024) origin2] <;> rfl)))
theorem final47 (c : Dev nD) : (dats m 0 c).arrAt 47 cfg0.N = update (m ((c : Thread nD τ).loc main_arg7)) (m ((c : Thread nD τ).loc main_arg17)) (m ((c : Thread nD τ).loc main_arg27)) (m ((c : Thread nD τ).loc main_arg37)) :=
  (dats m 0 c).arrAt_eq_of_after_last 47 point (by decide +kernel) _ (congrFun ((after47 m c point).trans
    (by rw [block7, block17, block27, block37]; simp only [View.ld_unit_zero (S := S1x1024) origin2] <;> rfl)))
theorem final48 (c : Dev nD) : (dats m 0 c).arrAt 48 cfg0.N = update (m ((c : Thread nD τ).loc main_arg8)) (m ((c : Thread nD τ).loc main_arg18)) (m ((c : Thread nD τ).loc main_arg28)) (m ((c : Thread nD τ).loc main_arg38)) :=
  (dats m 0 c).arrAt_eq_of_after_last 48 point (by decide +kernel) _ (congrFun ((after48 m c point).trans
    (by rw [block8, block18, block28, block38]; simp only [View.ld_unit_zero (S := S1x64) origin2] <;> rfl)))
theorem final49 (c : Dev nD) : (dats m 0 c).arrAt 49 cfg0.N = update (m ((c : Thread nD τ).loc main_arg9)) (m ((c : Thread nD τ).loc main_arg19)) (m ((c : Thread nD τ).loc main_arg29)) (m ((c : Thread nD τ).loc main_arg39)) :=
  (dats m 0 c).arrAt_eq_of_after_last 49 point (by decide +kernel) _ (congrFun ((after49 m c point).trans
    (by rw [block9, block19, block29, block39]; simp only [View.ld_unit_zero (S := S1x128) origin2] <;> rfl)))
theorem final50 (c : Dev nD) : (dats m 0 c).arrAt 50 cfg0.N = first (m ((c : Thread nD τ).loc main_arg10)) (m ((c : Thread nD τ).loc main_arg20)) :=
  (dats m 0 c).arrAt_eq_of_after_last 50 point (by decide +kernel) _ (congrFun ((after50 m c point).trans
    (by rw [block10, block20]; simp only [View.ld_unit_zero (S := S2x3072) origin2] <;> rfl)))
theorem final51 (c : Dev nD) : (dats m 0 c).arrAt 51 cfg0.N = first (m ((c : Thread nD τ).loc main_arg11)) (m ((c : Thread nD τ).loc main_arg21)) :=
  (dats m 0 c).arrAt_eq_of_after_last 51 point (by decide +kernel) _ (congrFun ((after51 m c point).trans
    (by rw [block11, block21]; simp only [View.ld_unit_zero (S := S2x1024) origin2] <;> rfl)))
theorem final52 (c : Dev nD) : (dats m 0 c).arrAt 52 cfg0.N = first (m ((c : Thread nD τ).loc main_arg12)) (m ((c : Thread nD τ).loc main_arg22)) :=
  (dats m 0 c).arrAt_eq_of_after_last 52 point (by decide +kernel) _ (congrFun ((after52 m c point).trans
    (by rw [block12, block22]; simp only [View.ld_unit_zero (S := S2x1024) origin2] <;> rfl)))
theorem final53 (c : Dev nD) : (dats m 0 c).arrAt 53 cfg0.N = first (m ((c : Thread nD τ).loc main_arg13)) (m ((c : Thread nD τ).loc main_arg23)) :=
  (dats m 0 c).arrAt_eq_of_after_last 53 point (by decide +kernel) _ (congrFun ((after53 m c point).trans
    (by rw [block13, block23]; simp only [View.ld_unit_zero (S := S1x256) origin2] <;> rfl)))
theorem final54 (c : Dev nD) : (dats m 0 c).arrAt 54 cfg0.N = first (m ((c : Thread nD τ).loc main_arg14)) (m ((c : Thread nD τ).loc main_arg24)) :=
  (dats m 0 c).arrAt_eq_of_after_last 54 point (by decide +kernel) _ (congrFun ((after54 m c point).trans
    (by rw [block14, block24]; simp only [View.ld_unit_zero (S := S1x256) origin2] <;> rfl)))
theorem final55 (c : Dev nD) : (dats m 0 c).arrAt 55 cfg0.N = first (m ((c : Thread nD τ).loc main_arg15)) (m ((c : Thread nD τ).loc main_arg25)) :=
  (dats m 0 c).arrAt_eq_of_after_last 55 point (by decide +kernel) _ (congrFun ((after55 m c point).trans
    (by rw [block15, block25]; simp only [View.ld_unit_zero (S := S1x4x128) origin3] <;> rfl)))
theorem final56 (c : Dev nD) : (dats m 0 c).arrAt 56 cfg0.N = first (m ((c : Thread nD τ).loc main_arg16)) (m ((c : Thread nD τ).loc main_arg26)) :=
  (dats m 0 c).arrAt_eq_of_after_last 56 point (by decide +kernel) _ (congrFun ((after56 m c point).trans
    (by rw [block16, block26]; simp only [View.ld_unit_zero (S := S1x1024) origin2] <;> rfl)))
theorem final57 (c : Dev nD) : (dats m 0 c).arrAt 57 cfg0.N = first (m ((c : Thread nD τ).loc main_arg17)) (m ((c : Thread nD τ).loc main_arg27)) :=
  (dats m 0 c).arrAt_eq_of_after_last 57 point (by decide +kernel) _ (congrFun ((after57 m c point).trans
    (by rw [block17, block27]; simp only [View.ld_unit_zero (S := S1x1024) origin2] <;> rfl)))
theorem final58 (c : Dev nD) : (dats m 0 c).arrAt 58 cfg0.N = first (m ((c : Thread nD τ).loc main_arg18)) (m ((c : Thread nD τ).loc main_arg28)) :=
  (dats m 0 c).arrAt_eq_of_after_last 58 point (by decide +kernel) _ (congrFun ((after58 m c point).trans
    (by rw [block18, block28]; simp only [View.ld_unit_zero (S := S1x64) origin2] <;> rfl)))
theorem final59 (c : Dev nD) : (dats m 0 c).arrAt 59 cfg0.N = first (m ((c : Thread nD τ).loc main_arg19)) (m ((c : Thread nD τ).loc main_arg29)) :=
  (dats m 0 c).arrAt_eq_of_after_last 59 point (by decide +kernel) _ (congrFun ((after59 m c point).trans
    (by rw [block19, block29]; simp only [View.ld_unit_zero (S := S1x128) origin2] <;> rfl)))
theorem final60 (c : Dev nD) : (dats m 0 c).arrAt 60 cfg0.N = second (m ((c : Thread nD τ).loc main_arg10)) (m ((c : Thread nD τ).loc main_arg30)) :=
  (dats m 0 c).arrAt_eq_of_after_last 60 point (by decide +kernel) _ (congrFun ((after60 m c point).trans
    (by rw [block10, block30]; simp only [View.ld_unit_zero (S := S2x3072) origin2] <;> rfl)))
theorem final61 (c : Dev nD) : (dats m 0 c).arrAt 61 cfg0.N = second (m ((c : Thread nD τ).loc main_arg11)) (m ((c : Thread nD τ).loc main_arg31)) :=
  (dats m 0 c).arrAt_eq_of_after_last 61 point (by decide +kernel) _ (congrFun ((after61 m c point).trans
    (by rw [block11, block31]; simp only [View.ld_unit_zero (S := S2x1024) origin2] <;> rfl)))
theorem final62 (c : Dev nD) : (dats m 0 c).arrAt 62 cfg0.N = second (m ((c : Thread nD τ).loc main_arg12)) (m ((c : Thread nD τ).loc main_arg32)) :=
  (dats m 0 c).arrAt_eq_of_after_last 62 point (by decide +kernel) _ (congrFun ((after62 m c point).trans
    (by rw [block12, block32]; simp only [View.ld_unit_zero (S := S2x1024) origin2] <;> rfl)))
theorem final63 (c : Dev nD) : (dats m 0 c).arrAt 63 cfg0.N = second (m ((c : Thread nD τ).loc main_arg13)) (m ((c : Thread nD τ).loc main_arg33)) :=
  (dats m 0 c).arrAt_eq_of_after_last 63 point (by decide +kernel) _ (congrFun ((after63 m c point).trans
    (by rw [block13, block33]; simp only [View.ld_unit_zero (S := S1x256) origin2] <;> rfl)))
theorem final64 (c : Dev nD) : (dats m 0 c).arrAt 64 cfg0.N = second (m ((c : Thread nD τ).loc main_arg14)) (m ((c : Thread nD τ).loc main_arg34)) :=
  (dats m 0 c).arrAt_eq_of_after_last 64 point (by decide +kernel) _ (congrFun ((after64 m c point).trans
    (by rw [block14, block34]; simp only [View.ld_unit_zero (S := S1x256) origin2] <;> rfl)))
theorem final65 (c : Dev nD) : (dats m 0 c).arrAt 65 cfg0.N = second (m ((c : Thread nD τ).loc main_arg15)) (m ((c : Thread nD τ).loc main_arg35)) :=
  (dats m 0 c).arrAt_eq_of_after_last 65 point (by decide +kernel) _ (congrFun ((after65 m c point).trans
    (by rw [block15, block35]; simp only [View.ld_unit_zero (S := S1x4x128) origin3] <;> rfl)))
theorem final66 (c : Dev nD) : (dats m 0 c).arrAt 66 cfg0.N = second (m ((c : Thread nD τ).loc main_arg16)) (m ((c : Thread nD τ).loc main_arg36)) :=
  (dats m 0 c).arrAt_eq_of_after_last 66 point (by decide +kernel) _ (congrFun ((after66 m c point).trans
    (by rw [block16, block36]; simp only [View.ld_unit_zero (S := S1x1024) origin2] <;> rfl)))
theorem final67 (c : Dev nD) : (dats m 0 c).arrAt 67 cfg0.N = second (m ((c : Thread nD τ).loc main_arg17)) (m ((c : Thread nD τ).loc main_arg37)) :=
  (dats m 0 c).arrAt_eq_of_after_last 67 point (by decide +kernel) _ (congrFun ((after67 m c point).trans
    (by rw [block17, block37]; simp only [View.ld_unit_zero (S := S1x1024) origin2] <;> rfl)))
theorem final68 (c : Dev nD) : (dats m 0 c).arrAt 68 cfg0.N = second (m ((c : Thread nD τ).loc main_arg18)) (m ((c : Thread nD τ).loc main_arg38)) :=
  (dats m 0 c).arrAt_eq_of_after_last 68 point (by decide +kernel) _ (congrFun ((after68 m c point).trans
    (by rw [block18, block38]; simp only [View.ld_unit_zero (S := S1x64) origin2] <;> rfl)))
theorem final69 (c : Dev nD) : (dats m 0 c).arrAt 69 cfg0.N = second (m ((c : Thread nD τ).loc main_arg19)) (m ((c : Thread nD τ).loc main_arg39)) :=
  (dats m 0 c).arrAt_eq_of_after_last 69 point (by decide +kernel) _ (congrFun ((after69 m c point).trans
    (by rw [block19, block39]; simp only [View.ld_unit_zero (S := S1x128) origin2] <;> rfl)))

end Cert.Adam.Small

end
-- ==== Proof.Adam.Small.Results.lean ====
/- What the small weights' call returns, and that it keeps its arguments. -/
module

public import proofs.«01_k».proof.Proof.Adam.Small.Run
public import proofs.«01_k».proof.Proof.Adam.Small.Values

@[expose] public section

set_option maxRecDepth 16384

noncomputable section

namespace Cert.Adam.Small

open Cert.Kernel4Ideal Cert.Kernel4Ideal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The arguments are as they were. -/
abbrev Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)
  ∧ s ((c.tc : Thread nD τ).loc main_arg23) = m ((c.tc : Thread nD τ).loc main_arg23)
  ∧ s ((c.tc : Thread nD τ).loc main_arg24) = m ((c.tc : Thread nD τ).loc main_arg24)
  ∧ s ((c.tc : Thread nD τ).loc main_arg25) = m ((c.tc : Thread nD τ).loc main_arg25)
  ∧ s ((c.tc : Thread nD τ).loc main_arg26) = m ((c.tc : Thread nD τ).loc main_arg26)
  ∧ s ((c.tc : Thread nD τ).loc main_arg27) = m ((c.tc : Thread nD τ).loc main_arg27)
  ∧ s ((c.tc : Thread nD τ).loc main_arg28) = m ((c.tc : Thread nD τ).loc main_arg28)
  ∧ s ((c.tc : Thread nD τ).loc main_arg29) = m ((c.tc : Thread nD τ).loc main_arg29)
  ∧ s ((c.tc : Thread nD τ).loc main_arg30) = m ((c.tc : Thread nD τ).loc main_arg30)
  ∧ s ((c.tc : Thread nD τ).loc main_arg31) = m ((c.tc : Thread nD τ).loc main_arg31)
  ∧ s ((c.tc : Thread nD τ).loc main_arg32) = m ((c.tc : Thread nD τ).loc main_arg32)
  ∧ s ((c.tc : Thread nD τ).loc main_arg33) = m ((c.tc : Thread nD τ).loc main_arg33)
  ∧ s ((c.tc : Thread nD τ).loc main_arg34) = m ((c.tc : Thread nD τ).loc main_arg34)
  ∧ s ((c.tc : Thread nD τ).loc main_arg35) = m ((c.tc : Thread nD τ).loc main_arg35)
  ∧ s ((c.tc : Thread nD τ).loc main_arg36) = m ((c.tc : Thread nD τ).loc main_arg36)
  ∧ s ((c.tc : Thread nD τ).loc main_arg37) = m ((c.tc : Thread nD τ).loc main_arg37)
  ∧ s ((c.tc : Thread nD τ).loc main_arg38) = m ((c.tc : Thread nD τ).loc main_arg38)
  ∧ s ((c.tc : Thread nD τ).loc main_arg39) = m ((c.tc : Thread nD τ).loc main_arg39)

/-- An input's array ends as it was. -/
theorem input {r} (h : Pipeline.FramePost cfgs (dats m) 0 (V m) r) (c : Dev nD) (w : Fin cfg0.W) (e : (cfg0.win w).isOut = false) :
    r.2.mem ((c.tc : Thread nD τ).loc (Pipeline.arrRef spec0 w)) = m ((c.tc : Thread nD τ).loc (Pipeline.arrRef spec0 w)) :=
  ((h c).1 w).trans (((dats m 0 c).arrAt_in w e _).trans (A_eq m c w))

set_option maxHeartbeats 8000000 in
/-- The call ends with the thirty arrays: the updates of the ten weights, their first moments and their second moments. The
    arguments end as they were, and no semaphore is counted. -/
theorem run : θ_run defs (onTc (τ := τ) (main (F := F))) ⟨m, fun _ => 0, ρ⟩ fun r => (∀ c : Dev nD,
      r.2.mem ((c.tc : Thread nD τ).loc main_v0_0) = update (m ((c.tc : Thread nD τ).loc main_arg0)) (m ((c.tc : Thread nD τ).loc main_arg10)) (m ((c.tc : Thread nD τ).loc main_arg20)) (m ((c.tc : Thread nD τ).loc main_arg30))
      ∧ r.2.mem ((c.tc : Thread nD τ).loc main_v0_1) = update (m ((c.tc : Thread nD τ).loc main_arg1)) (m ((c.tc : Thread nD τ).loc main_arg11)) (m ((c.tc : Thread nD τ).loc main_arg21)) (m ((c.tc : Thread nD τ).loc main_arg31))
      ∧ r.2.mem ((c.tc : Thread nD τ).loc main_v0_2) = update (m ((c.tc : Thread nD τ).loc main_arg2)) (m ((c.tc : Thread nD τ).loc main_arg12)) (m ((c.tc : Thread nD τ).loc main_arg22)) (m ((c.tc : Thread nD τ).loc main_arg32))
      ∧ r.2.mem ((c.tc : Thread nD τ).loc main_v0_3) = update (m ((c.tc : Thread nD τ).loc main_arg3)) (m ((c.tc : Thread nD τ).loc main_arg13)) (m ((c.tc : Thread nD τ).loc main_arg23)) (m ((c.tc : Thread nD τ).loc main_arg33))
      ∧ r.2.mem ((c.tc : Thread nD τ).loc main_v0_4) = update (m ((c.tc : Thread nD τ).loc main_arg4)) (m ((c.tc : Thread nD τ).loc main_arg14)) (m ((c.tc : Thread nD τ).loc main_arg24)) (m ((c.tc : Thread nD τ).loc main_arg34))
      ∧ r.2.mem ((c.tc : Thread nD τ).loc main_v0_5) = update (m ((c.tc : Thread nD τ).loc main_arg5)) (m ((c.tc : Thread nD τ).loc main_arg15)) (m ((c.tc : Thread nD τ).loc main_arg25)) (m ((c.tc : Thread nD τ).loc main_arg35))
      ∧ r.2.mem ((c.tc : Thread nD τ).loc main_v0_6) = update (m ((c.tc : Thread nD τ).loc main_arg6)) (m ((c.tc : Thread nD τ).loc main_arg16)) (m ((c.tc : Thread nD τ).loc main_arg26)) (m ((c.tc : Thread nD τ).loc main_arg36))
      ∧ r.2.mem ((c.tc : Thread nD τ).loc main_v0_7) = update (m ((c.tc : Thread nD τ).loc main_arg7)) (m ((c.tc : Thread nD τ).loc main_arg17)) (m ((c.tc : Thread nD τ).loc main_arg27)) (m ((c.tc : Thread nD τ).loc main_arg37))
      ∧ r.2.mem ((c.tc : Thread nD τ).loc main_v0_8) = update (m ((c.tc : Thread nD τ).loc main_arg8)) (m ((c.tc : Thread nD τ).loc main_arg18)) (m ((c.tc : Thread nD τ).loc main_arg28)) (m ((c.tc : Thread nD τ).loc main_arg38))
      ∧ r.2.mem ((c.tc : Thread nD τ).loc main_v0_9) = update (m ((c.tc : Thread nD τ).loc main_arg9)) (m ((c.tc : Thread nD τ).loc main_arg19)) (m ((c.tc : Thread nD τ).loc main_arg29)) (m ((c.tc : Thread nD τ).loc main_arg39))
      ∧ r.2.mem ((c.tc : Thread nD τ).loc main_v0_10) = first (m ((c.tc : Thread nD τ).loc main_arg10)) (m ((c.tc : Thread nD τ).loc main_arg20))
      ∧ r.2.mem ((c.tc : Thread nD τ).loc main_v0_11) = first (m ((c.tc : Thread nD τ).loc main_arg11)) (m ((c.tc : Thread nD τ).loc main_arg21))
      ∧ r.2.mem ((c.tc : Thread nD τ).loc main_v0_12) = first (m ((c.tc : Thread nD τ).loc main_arg12)) (m ((c.tc : Thread nD τ).loc main_arg22))
      ∧ r.2.mem ((c.tc : Thread nD τ).loc main_v0_13) = first (m ((c.tc : Thread nD τ).loc main_arg13)) (m ((c.tc : Thread nD τ).loc main_arg23))
      ∧ r.2.mem ((c.tc : Thread nD τ).loc main_v0_14) = first (m ((c.tc : Thread nD τ).loc main_arg14)) (m ((c.tc : Thread nD τ).loc main_arg24))
      ∧ r.2.mem ((c.tc : Thread nD τ).loc main_v0_15) = first (m ((c.tc : Thread nD τ).loc main_arg15)) (m ((c.tc : Thread nD τ).loc main_arg25))
      ∧ r.2.mem ((c.tc : Thread nD τ).loc main_v0_16) = first (m ((c.tc : Thread nD τ).loc main_arg16)) (m ((c.tc : Thread nD τ).loc main_arg26))
      ∧ r.2.mem ((c.tc : Thread nD τ).loc main_v0_17) = first (m ((c.tc : Thread nD τ).loc main_arg17)) (m ((c.tc : Thread nD τ).loc main_arg27))
      ∧ r.2.mem ((c.tc : Thread nD τ).loc main_v0_18) = first (m ((c.tc : Thread nD τ).loc main_arg18)) (m ((c.tc : Thread nD τ).loc main_arg28))
      ∧ r.2.mem ((c.tc : Thread nD τ).loc main_v0_19) = first (m ((c.tc : Thread nD τ).loc main_arg19)) (m ((c.tc : Thread nD τ).loc main_arg29))
      ∧ r.2.mem ((c.tc : Thread nD τ).loc main_v0_20) = second (m ((c.tc : Thread nD τ).loc main_arg10)) (m ((c.tc : Thread nD τ).loc main_arg30))
      ∧ r.2.mem ((c.tc : Thread nD τ).loc main_v0_21) = second (m ((c.tc : Thread nD τ).loc main_arg11)) (m ((c.tc : Thread nD τ).loc main_arg31))
      ∧ r.2.mem ((c.tc : Thread nD τ).loc main_v0_22) = second (m ((c.tc : Thread nD τ).loc main_arg12)) (m ((c.tc : Thread nD τ).loc main_arg32))
      ∧ r.2.mem ((c.tc : Thread nD τ).loc main_v0_23) = second (m ((c.tc : Thread nD τ).loc main_arg13)) (m ((c.tc : Thread nD τ).loc main_arg33))
      ∧ r.2.mem ((c.tc : Thread nD τ).loc main_v0_24) = second (m ((c.tc : Thread nD τ).loc main_arg14)) (m ((c.tc : Thread nD τ).loc main_arg34))
      ∧ r.2.mem ((c.tc : Thread nD τ).loc main_v0_25) = second (m ((c.tc : Thread nD τ).loc main_arg15)) (m ((c.tc : Thread nD τ).loc main_arg35))
      ∧ r.2.mem ((c.tc : Thread nD τ).loc main_v0_26) = second (m ((c.tc : Thread nD τ).loc main_arg16)) (m ((c.tc : Thread nD τ).loc main_arg36))
      ∧ r.2.mem ((c.tc : Thread nD τ).loc main_v0_27) = second (m ((c.tc : Thread nD τ).loc main_arg17)) (m ((c.tc : Thread nD τ).loc main_arg37))
      ∧ r.2.mem ((c.tc : Thread nD τ).loc main_v0_28) = second (m ((c.tc : Thread nD τ).loc main_arg18)) (m ((c.tc : Thread nD τ).loc main_arg38))
      ∧ r.2.mem ((c.tc : Thread nD τ).loc main_v0_29) = second (m ((c.tc : Thread nD τ).loc main_arg19)) (m ((c.tc : Thread nD τ).loc main_arg39))
      ∧ Kept m r.2.mem c) ∧ r.2.sem = fun _ => 0 :=
  (θ_run defs _ _).mono (fun r h => ⟨fun c =>
    ⟨((h.1 c).1 40).trans (final40 m c), ((h.1 c).1 41).trans (final41 m c), ((h.1 c).1 42).trans (final42 m c), ((h.1 c).1 43).trans (final43 m c),
      ((h.1 c).1 44).trans (final44 m c), ((h.1 c).1 45).trans (final45 m c), ((h.1 c).1 46).trans (final46 m c), ((h.1 c).1 47).trans (final47 m c),
      ((h.1 c).1 48).trans (final48 m c), ((h.1 c).1 49).trans (final49 m c), ((h.1 c).1 50).trans (final50 m c), ((h.1 c).1 51).trans (final51 m c),
      ((h.1 c).1 52).trans (final52 m c), ((h.1 c).1 53).trans (final53 m c), ((h.1 c).1 54).trans (final54 m c), ((h.1 c).1 55).trans (final55 m c),
      ((h.1 c).1 56).trans (final56 m c), ((h.1 c).1 57).trans (final57 m c), ((h.1 c).1 58).trans (final58 m c), ((h.1 c).1 59).trans (final59 m c),
      ((h.1 c).1 60).trans (final60 m c), ((h.1 c).1 61).trans (final61 m c), ((h.1 c).1 62).trans (final62 m c), ((h.1 c).1 63).trans (final63 m c),
      ((h.1 c).1 64).trans (final64 m c), ((h.1 c).1 65).trans (final65 m c), ((h.1 c).1 66).trans (final66 m c), ((h.1 c).1 67).trans (final67 m c),
      ((h.1 c).1 68).trans (final68 m c), ((h.1 c).1 69).trans (final69 m c),
      input m h.1 c 0 rfl, input m h.1 c 1 rfl, input m h.1 c 2 rfl, input m h.1 c 3 rfl, input m h.1 c 4 rfl, input m h.1 c 5 rfl, input m h.1 c 6 rfl,
      input m h.1 c 7 rfl, input m h.1 c 8 rfl, input m h.1 c 9 rfl, input m h.1 c 10 rfl, input m h.1 c 11 rfl, input m h.1 c 12 rfl,
      input m h.1 c 13 rfl, input m h.1 c 14 rfl, input m h.1 c 15 rfl, input m h.1 c 16 rfl, input m h.1 c 17 rfl, input m h.1 c 18 rfl,
      input m h.1 c 19 rfl, input m h.1 c 20 rfl, input m h.1 c 21 rfl, input m h.1 c 22 rfl, input m h.1 c 23 rfl, input m h.1 c 24 rfl,
      input m h.1 c 25 rfl, input m h.1 c 26 rfl, input m h.1 c 27 rfl, input m h.1 c 28 rfl, input m h.1 c 29 rfl, input m h.1 c 30 rfl,
      input m h.1 c 31 rfl, input m h.1 c 32 rfl, input m h.1 c 33 rfl, input m h.1 c 34 rfl, input m h.1 c 35 rfl, input m h.1 c 36 rfl,
      input m h.1 c 37 rfl, input m h.1 c 38 rfl, input m h.1 c 39 rfl⟩, h.2⟩) (run_main m ρ)

/-- The arguments end as they were, and no semaphore is counted. -/
theorem frame : θ_run defs (onTc (τ := τ) (main (F := F))) ⟨m, fun _ => 0, ρ⟩ fun r =>
    (∀ c : Dev nD, Kept m r.2.mem c) ∧ r.2.sem = fun _ => 0 :=
  (θ_run defs _ _).mono (fun _ h => ⟨fun c => (h.1 c).2.2.2.2.2.2.2.2.2.2.2.2.2.2.2.2.2.2.2.2.2.2.2.2.2.2.2.2.2.2, h.2⟩) (run m ρ)

end Cert.Adam.Small

end
-- ==== Proof.Adam.Word.Rects.lean ====
/- The whole arrays of the small weights' call as the program has it. -/
module

public import proofs.«01_k».proof.Proof.Gen.Kernel4.Launch
public import proofs.«01_k».proof.Proof.Gen.Kernel4.Skeleton
public import proofs.«01_k».proof.Proof.Gen.Kernel4.Points
public import proofs.«01_k».proof.Proof.Adam.Small.Step

@[expose] public section

set_option maxRecDepth 16384

noncomputable section

namespace Cert.Adam.Small.Word

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The whole array of each shape. -/

abbrev r0 : Rect S2x3072 := Rect.unit (s := S2x3072) ![0, 0] S2x3072.size inb_S2x3072_S2x3072_0_0
abbrev r1 : Rect S2x1024 := Rect.unit (s := S2x1024) ![0, 0] S2x1024.size inb_S2x1024_S2x1024_0_0
abbrev r2 : Rect S1x256 := Rect.unit (s := S1x256) ![0, 0] S1x256.size inb_S1x256_S1x256_0_0
abbrev r3 : Rect S1x4x128 := Rect.unit (s := S1x4x128) ![0, 0, 0] S1x4x128.size inb_S1x4x128_S1x4x128_0_0_0
abbrev r4 : Rect S1x1024 := Rect.unit (s := S1x1024) ![0, 0] S1x1024.size inb_S1x1024_S1x1024_0_0
abbrev r5 : Rect S1x64 := Rect.unit (s := S1x64) ![0, 0] S1x64.size inb_S1x64_S1x64_0_0
abbrev r6 : Rect S1x128 := Rect.unit (s := S1x128) ![0, 0] S1x128.size inb_S1x128_S1x128_0_0

end Cert.Adam.Small.Word

end
-- ==== Proof.Adam.Word.Run.lean ====
/- The run of the small weights' call as the program has it. -/
module

public import proofs.«01_k».proof.Proof.Adam.Word.Point

@[expose] public section

set_option maxRecDepth 16384

noncomputable section

namespace Cert.Adam.Small.Word

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- The call ends with the pipeline's arrays as the data say, everything else as it was, and no semaphore counted. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Adam.Small.Word

end
-- ==== Proof.Adam.Word.Frame.lean ====
/- The small weights' call as the program has it keeps its arguments. -/
module

public import proofs.«01_k».proof.Proof.Adam.Word.Run

@[expose] public section

set_option maxRecDepth 16384

noncomputable section

namespace Cert.Adam.Small.Word

open Cert.Kernel4 Cert.Kernel4.Gen
open Idealize.ShloMosaic Idealize.ShloMosaic.TcCoe Idealize.SL.Sem

variable {F : FTy → Type} [FloatOps F] (m : (ℓ : Loc nD τ sig) → Buf (Elt F) ℓ) (ρ : Dev nD → PrngReg)

/-- The arguments are as they were. -/
abbrev Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)
  ∧ s ((c.tc : Thread nD τ).loc main_arg13) = m ((c.tc : Thread nD τ).loc main_arg13)
  ∧ s ((c.tc : Thread nD τ).loc main_arg14) = m ((c.tc : Thread nD τ).loc main_arg14)
  ∧ s ((c.tc : Thread nD τ).loc main_arg15) = m ((c.tc : Thread nD τ).loc main_arg15)
  ∧ s ((c.tc : Thread nD τ).loc main_arg16) = m ((c.tc : Thread nD τ).loc main_arg16)
  ∧ s ((c.tc : Thread nD τ).loc main_arg17) = m ((c.tc : Thread nD τ).loc main_arg17)
  ∧ s ((c.tc : Thread nD τ).loc main_arg18) = m ((c.tc : Thread nD τ).loc main_arg18)
  ∧ s ((c.tc : Thread nD τ).loc main_arg19) = m ((c.tc : Thread nD τ).loc main_arg19)
  ∧ s ((c.tc : Thread nD τ).loc main_arg20) = m ((c.tc : Thread nD τ).loc main_arg20)
  ∧ s ((c.tc : Thread nD τ).loc main_arg21) = m ((c.tc : Thread nD τ).loc main_arg21)
  ∧ s ((c.tc : Thread nD τ).loc main_arg22) = m ((c.tc : Thread nD τ).loc main_arg22)
  ∧ s ((c.tc : Thread nD τ).loc main_arg23) = m ((c.tc : Thread nD τ).loc main_arg23)
  ∧ s ((c.tc : Thread nD τ).loc main_arg24) = m ((c.tc : Thread nD τ).loc main_arg24)
  ∧ s ((c.tc : Thread nD τ).loc main_arg25) = m ((c.tc : Thread nD τ).loc main_arg25)
  ∧ s ((c.tc : Thread nD τ).loc main_arg26) = m ((c.tc : Thread nD τ).loc main_arg26)
  ∧ s ((c.tc : Thread nD τ).loc main_arg27) = m ((c.tc : Thread nD τ).loc main_arg27)
  ∧ s ((c.tc : Thread nD τ).loc main_arg28) = m ((c.tc : Thread nD τ).loc main_arg28)
  ∧ s ((c.tc : Thread nD τ).loc main_arg29) = m ((c.tc : Thread nD τ).loc main_arg29)
  ∧ s ((c.tc : Thread nD τ).loc main_arg30) = m ((c.tc : Thread nD τ).loc main_arg30)
  ∧ s ((c.tc : Thread nD τ).loc main_arg31) = m ((c.tc : Thread nD τ).loc main_arg31)
  ∧ s ((c.tc : Thread nD τ).loc main_arg32) = m ((c.tc : Thread nD τ).loc main_arg32)
  ∧ s ((c.tc : Thread nD τ).loc main_arg33) = m ((c.tc : Thread nD τ).loc main_arg33)
  ∧ s ((c.tc : Thread nD τ).loc main_arg34) = m ((c.tc : Thread nD τ).loc main_arg34)
  ∧ s ((c.tc : Thread nD τ).loc main_arg35) = m ((c.tc : Thread nD τ).loc main_arg35)
  ∧ s ((c.tc : Thread nD τ).loc main_arg36) = m ((c.tc : Thread nD τ).loc main_arg36)
  ∧ s ((c.tc : Thread nD τ).loc main_arg37) = m ((c.tc : Thread nD τ).loc main_arg37)
  ∧ s ((c.tc : Thread nD τ).loc main_arg38) = m ((c.tc : Thread nD τ).loc main_arg38)
  ∧ s ((c.tc : Thread nD τ).loc main_arg39) = m ((c.tc : Thread nD τ).loc main_arg39)

/-- An input's array ends as it was. -/
theorem input {r} (h : Pipeline.FramePost cfgs (dats m) 0 (V m) r) (c : Dev nD) (w : Fin cfg0.W) (e : (cfg0.win w).isOut = false) :
    r.2.mem ((c.tc : Thread nD τ).loc (Pipeline.arrRef spec0 w)) = m ((c.tc : Thread nD τ).loc (Pipeline.arrRef spec0 w)) :=
  ((h c).1 w).trans (((dats m 0 c).arrAt_in w e _).trans (A_eq m c w))

set_option maxHeartbeats 8000000 in
/-- The arguments end as they were, and no semaphore is counted. -/
theorem frame : θ_run defs (onTc (τ := τ) (main (F := F))) ⟨m, fun _ => 0, ρ⟩ fun r =>
    (∀ c : Dev nD, Kept m r.2.mem c) ∧ r.2.sem = fun _ => 0 :=
  (θ_run defs _ _).mono (fun r h => ⟨fun c =>
    ⟨input m h.1 c 0 rfl, input m h.1 c 1 rfl, input m h.1 c 2 rfl, input m h.1 c 3 rfl, input m h.1 c 4 rfl, input m h.1 c 5 rfl, input m h.1 c 6 rfl,
      input m h.1 c 7 rfl, input m h.1 c 8 rfl, input m h.1 c 9 rfl, input m h.1 c 10 rfl, input m h.1 c 11 rfl, input m h.1 c 12 rfl,
      input m h.1 c 13 rfl, input m h.1 c 14 rfl, input m h.1 c 15 rfl, input m h.1 c 16 rfl, input m h.1 c 17 rfl, input m h.1 c 18 rfl,
      input m h.1 c 19 rfl, input m h.1 c 20 rfl, input m h.1 c 21 rfl, input m h.1 c 22 rfl, input m h.1 c 23 rfl, input m h.1 c 24 rfl,
      input m h.1 c 25 rfl, input m h.1 c 26 rfl, input m h.1 c 27 rfl, input m h.1 c 28 rfl, input m h.1 c 29 rfl, input m h.1 c 30 rfl,
      input m h.1 c 31 rfl, input m h.1 c 32 rfl, input m h.1 c 33 rfl, input m h.1 c 34 rfl, input m h.1 c 35 rfl, input m h.1 c 36 rfl,
      input m h.1 c 37 rfl, input m h.1 c 38 rfl, input m h.1 c 39 rfl⟩, h.2⟩) (run_main m ρ)

end Cert.Adam.Small.Word

end
-- ==== Proof.Adam.Small.lean ====
/- The AdamW step of the ten small weights, all in one call: the frames of its programs, and that the call returns what the
   reference does. -/
module

public import proofs.«01_k».proof.Defs
public import proofs.«01_k».proof.Proof.Gen.Reference4Ideal.Run
public import proofs.«01_k».proof.Proof.Adam.Small.Results
public import proofs.«01_k».proof.Proof.Adam.Word.Frame

@[expose] public section

set_option maxRecDepth 16384

noncomputable section

namespace Cert.Adam.Small

open Cert.Kernel4Ideal Cert.Kernel4Ideal.Gen
open Idealize.ShloMosaic Idealize.ShloMosaic.TcCoe Idealize.SL.Sem

/-- The idealized program's frame, -/
theorem kernel_ideal_frame : Cert.quiescent_Kernel4Ideal (hKernel4Ideal := Cert.Kernel4Ideal.Gen.facts) := fun m ρ _ => frame m ρ

/-- the program's, -/
theorem kernel_frame : Cert.quiescent_Kernel4 (hKernel4 := Cert.Kernel4.Gen.facts) := fun m ρ _ => Word.frame m ρ

/-- and the reference's. -/
theorem reference_frame : Cert.quiescent_Reference4Ideal (hReference4Ideal := Cert.Reference4Ideal.Gen.facts) := fun m ρ _ =>
  (θ_run Cert.Reference4Ideal.defs _ _).mono
    (fun r h => ⟨fun c => (h c).2.2.2.2.2.2.2.2.2.2.2.2.2.2.2.2.2.2.2.2.2.2.2.2.2.2.2.2.2.2, Idealize.ShloMosaic.sem_eq_zero_of_no_sems (by decide) r.2⟩)
    (Cert.Reference4Ideal.Value.run (F := Ideal) m ρ)

set_option maxHeartbeats 1000000 in
/-- On all arguments the two programs end with equal results: of each small weight the update, then the first moments,
    then the second moments. -/
theorem equal_results : Cert.algebraic_Kernel4Ideal_Reference4Ideal (hKernel4Ideal := Cert.Kernel4Ideal.Gen.facts)
    (hReference4Ideal := Cert.Reference4Ideal.Gen.facts) := by
  intro m ρ m' ρ' _ agree
  refine ⟨_, _, _, _, _, _, _, _, _, _, _, _, _, _, _, _, _, _, _, _, _, _, _, _, _, _, _, _, _, _,
    (θ_run defs _ _).mono (fun _ h => h.1) (run (F := Ideal) m ρ), ?_⟩
  refine (θ_run Cert.Reference4Ideal.defs _ _).mono (fun r h c => ?_) (Cert.Reference4Ideal.Value.run (F := Ideal) m' ρ')
  obtain ⟨e0, e1, e2, e3, e4, e5, e6, e7, e8, e9, e10, e11, e12, e13, e14, e15, e16, e17, e18, e19, e20, e21, e22, e23, e24, e25, e26, e27, e28, e29, e30, e31,
    e32, e33, e34, e35, e36, e37, e38, e39⟩ := agree c
  obtain ⟨h0, h1, h2, h3, h4, h5, h6, h7, h8, h9, h10, h11, h12, h13, h14, h15, h16, h17, h18, h19, h20, h21, h22, h23, h24, h25, h26, h27, h28, h29, kept⟩ := h c
  refine ⟨h0.trans ?_, h1.trans ?_, h2.trans ?_, h3.trans ?_, h4.trans ?_, h5.trans ?_, h6.trans ?_, h7.trans ?_, h8.trans ?_, h9.trans ?_, h10.trans ?_,
    h11.trans ?_, h12.trans ?_, h13.trans ?_, h14.trans ?_, h15.trans ?_, h16.trans ?_, h17.trans ?_, h18.trans ?_, h19.trans ?_, h20.trans ?_,
    h21.trans ?_, h22.trans ?_, h23.trans ?_, h24.trans ?_, h25.trans ?_, h26.trans ?_, h27.trans ?_, h28.trans ?_, h29.trans ?_, kept⟩
  all_goals
    simp only [StableHlo.launchContents_devRef, e0, e1, e2, e3, e4, e5, e6, e7, e8, e9, e10, e11, e12, e13, e14, e15, e16, e17, e18, e19, e20, e21, e22, e23, e24, e25, e26, e27, e28, e29, e30, e31,
      e32, e33, e34, e35, e36, e37, e38, e39]
    rfl

end Cert.Adam.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel4.Launch
public import proofs.«01_k».proof.Proof.Gen.Kernel4.Skeleton
public import proofs.«01_k».proof.Proof.Gen.Kernel4.Points
public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Reference4Ideal.Run
public import proofs.«01_k».proof.Proof.K.Run
public import proofs.«01_k».proof.Proof.KI.Run
public import proofs.«01_k».proof.Proof.Val.Ref
public import proofs.«01_k».proof.Proof.Val.Pre
public import proofs.«01_k».proof.Proof.Val.Call
public import proofs.«01_k».proof.Proof.Fwd.Ref
public import proofs.«01_k».proof.Proof.Fwd.Call
public import proofs.«01_k».proof.Proof.Inp.Call
public import proofs.«01_k».proof.Proof.Adam.Large
public import proofs.«01_k».proof.Proof.Adam.Blocks
public import proofs.«01_k».proof.Proof.Adam.Small
public import Idealize.ShloMosaic.Adequacy
public import Idealize.ShloMosaic.Init

@[expose] public section

noncomputable section

namespace Cert.Proof

open Idealize.ShloMosaic Idealize.SL.Sem

/-- The two constants that the idealized program names are the original's words. -/
theorem preserves : Cert.preserves_Kernel_KernelIdeal :=
  ⟨IdealRules.named_const.statement _ "ln2" .f32 0x3F317218#32 _ rfl, IdealRules.named_const.statement _ "mask" .f32 0xF149F2CA#32 _ rfl⟩

/-- The reference runs to its end with its arguments as they were. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- On finite arguments the two programs end with equal results: the gradient of the queries, and of keys and values. -/
theorem equal_results : Cert.algebraic_KernelIdeal_ReferenceIdeal_pre_finite (hKernelIdeal := Cert.KernelIdeal.Gen.facts)
    (hReferenceIdeal := Cert.ReferenceIdeal.Gen.facts) (hPre_finite := Cert.Val.pre_facts) := by
  intro m ρ m' ρ' hpre hagree
  haveI := Cert.Val.pre_facts
  have ha := fun c => Cert.Val.args_of (Cert.Val.argL m c) (Cert.Val.argR m c) (Cert.Val.argV m c) (Cert.Val.argK m c) (Cert.Val.argG m c) (congrFun (hpre c).1) (congrFun (hpre c).2.1) (congrFun (hpre c).2.2.1)
    (congrFun (hpre c).2.2.2.1) (congrFun (hpre c).2.2.2.2)
  refine ⟨fun c => Cert.Val.Stage.dq (Cert.Val.argL m c) (Cert.Val.argR m c) (Cert.Val.argV m c) (Cert.Val.argK m c) (Cert.Val.argG m c),
    fun c => Cert.Val.Stage.dk (Cert.Val.argL m c) (Cert.Val.argR m c) (Cert.Val.argV m c) (Cert.Val.argK m c) (Cert.Val.argG m c), ?_, ?_⟩
  · refine (θ_run Cert.KernelIdeal.defs _ _).mono (fun r h c => ?_)
      (θ_run_and (Cert.KernelIdeal.Run.frame (F := Ideal) m ρ) (Cert.KernelIdeal.Run.run (F := Ideal) m ρ))
    exact ⟨((h.2.1 c).1 5).trans (Cert.Val.final_q m c (ha c)), ((h.2.1 c).1 6).trans (Cert.Val.final_k m c (ha c)), h.1.1 c⟩
  · refine (θ_run Cert.ReferenceIdeal.defs _ _).mono (fun r h c => ?_) (Cert.ReferenceIdeal.Value.run (F := Ideal) m' ρ')
    obtain ⟨e0, e1, e2, e3, e4⟩ := hagree c
    refine ⟨(h c).1.trans ((Cert.Val.ref_dq m' c).trans ?_), (h c).2.1.trans ((Cert.Val.ref_dk m' c).trans ?_), (h c).2.2⟩
    · rw [e0, e1, e2, e3, e4]
    · rw [e0, e1, e2, e3, e4]

/-! The forward call. -/

/-- The two constants that the idealized forward program names are the original's words. -/
theorem preserves2 : Cert.preserves_Kernel2_Kernel2Ideal :=
  ⟨IdealRules.named_const.statement _ "mask" .f32 0xF149F2CA#32 _ rfl, IdealRules.named_const.statement _ "log2e" .f32 0x3FB8AA3B#32 _ rfl⟩

/-- The forward reference runs to its end with its arguments as they were. -/
theorem reference2_frame : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- On finite arguments the two forward programs end with equal results: the attention's output, and its log-sums. -/
theorem equal_results2 : Cert.algebraic_Kernel2Ideal_Reference2Ideal_pre_finite2 (hKernel2Ideal := Cert.Kernel2Ideal.Gen.facts)
    (hReference2Ideal := Cert.Reference2Ideal.Gen.facts) (hPre_finite2 := Cert.Fwd.pre_facts) := by
  intro m ρ m' ρ' hpre hagree
  haveI := Cert.Fwd.pre_facts
  have ha := fun c => Cert.Fwd.args_of (Cert.Fwd.argL m c) (Cert.Fwd.argR m c) (Cert.Fwd.argV m c) (Cert.Fwd.argK m c)
    (congrFun (hpre c).1) (congrFun (hpre c).2.1) (congrFun (hpre c).2.2.1) (congrFun (hpre c).2.2.2)
  refine ⟨fun c => Cert.Val.Stage.inO (Cert.Val.Stage.o (Cert.Fwd.argL m c) (Cert.Fwd.argR m c) (Cert.Fwd.argV m c) (Cert.Fwd.argK m c)),
    fun c => Cert.Val.Stage.inL (Cert.Val.Stage.lse (Cert.Fwd.argL m c) (Cert.Fwd.argR m c) (Cert.Fwd.argV m c) (Cert.Fwd.argK m c)), ?_, ?_⟩
  · refine (θ_run Cert.Kernel2Ideal.defs _ _).mono (fun r h c => ?_) (Cert.Kernel2Ideal.Value.run_blocks (F := Ideal) m ρ)
    exact ⟨(h c).1.trans (Cert.Fwd.final_o m c (ha c)), (h c).2.1.trans (Cert.Fwd.final_l m c (ha c)), (h c).2.2⟩
  · refine (θ_run Cert.Reference2Ideal.defs _ _).mono (fun r h c => ?_) (Cert.Reference2Ideal.Value.run (F := Ideal) m' ρ')
    obtain ⟨e0, e1, e2, e3⟩ := hagree c
    refine ⟨(h c).1.trans ((Cert.Fwd.ref_o m' c).trans ?_), (h c).2.1.trans ((Cert.Fwd.ref_l m' c).trans ?_), (h c).2.2⟩
    · rw [e0, e1, e2, e3]
    · rw [e0, e1, e2, e3]

/-! The input gradient's call. -/

/-- The idealized program is the program's own text. -/
theorem preserves3 : Cert.preserves_Kernel3_Kernel3Ideal := trivial

/-- The kernel runs to its end with its arguments as they were. -/
theorem kernel3_frame : Cert.quiescent_Kernel3 (hKernel3 := Cert.Kernel3.Gen.facts) := fun m ρ _ => Cert.Kernel3.Gen.frame m ρ

/-- The reference runs to its end with its arguments as they were. -/
theorem reference3_frame : Cert.quiescent_Reference3Ideal (hReference3Ideal := Cert.Reference3Ideal.Gen.facts) := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- On all arguments the two programs end with equal results: the gradients of the residual, of the scale and of the shift. -/
theorem equal_results3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Inp.gradX (Cert.Inp.H m c) (Cert.Inp.argR m c) (Cert.Inp.argS m c),
    fun c => Cert.Inp.colSum (mulf (Cert.Inp.argX m c) (Cert.Inp.H m c)), fun c => Cert.Inp.colSum (Cert.Inp.H m c), ?_, ?_⟩
  · refine (θ_run Cert.Kernel3Ideal.defs _ _).mono (fun r h c => ?_) (Cert.Kernel3Ideal.Value.run_blocks (F := Ideal) m ρ)
    exact ⟨(h c).1.trans (Cert.Inp.final_x m c), (h c).2.1.trans (Cert.Inp.final_scale m c), (h c).2.2.1.trans (Cert.Inp.final_shift m c),
      (h c).2.2.2⟩
  · refine (θ_run Cert.Reference3Ideal.defs _ _).mono (fun r h c => ?_) (Cert.Reference3Ideal.Value.run (F := Ideal) m' ρ')
    obtain ⟨e0, e1, e2, e3, e4⟩ := hagree c
    refine ⟨(h c).1.trans ?_, (h c).2.1.trans ?_, (h c).2.2.1.trans ?_, (h c).2.2.2⟩
    · rw [e0, e1, e3, e4]
      rfl
    · rw [e0, e1, e2]
      rfl
    · rw [e0, e1]
      rfl

/-! The optimiser's calls: their idealized programs are the programs' own texts, and their references run to their ends with
    their arguments as they were. -/

/-- The reference of `ada_w`. -/
theorem reference5_frame : Cert.quiescent_Reference5Ideal (hReference5Ideal := Cert.Reference5Ideal.Gen.facts) := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- The reference of `e_w_in`. -/
theorem reference6_frame : Cert.quiescent_Reference6Ideal (hReference6Ideal := Cert.Reference6Ideal.Gen.facts) := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The reference of `gmlp_ws`. -/
theorem reference7_frame : Cert.quiescent_Reference7Ideal (hReference7Ideal := Cert.Reference7Ideal.Gen.facts) := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

/-- The reference of `pool_w`. -/
theorem reference8_frame : Cert.quiescent_Reference8Ideal (hReference8Ideal := Cert.Reference8Ideal.Gen.facts) := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

/-- The reference of `e_w_out`. -/
theorem reference9_frame : Cert.quiescent_Reference9Ideal (hReference9Ideal := Cert.Reference9Ideal.Gen.facts) := fun m ρ _ =>
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

/-- The reference of `o_w_in`. -/
theorem reference10_frame : Cert.quiescent_Reference10Ideal (hReference10Ideal := Cert.Reference10Ideal.Gen.facts) := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- The reference of `mla_w_uq`. -/
theorem reference11_frame : Cert.quiescent_Reference11Ideal (hReference11Ideal := Cert.Reference11Ideal.Gen.facts) := fun m ρ _ =>
  (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The reference of `mla_w_uk`. -/
theorem reference12_frame : Cert.quiescent_Reference12Ideal (hReference12Ideal := Cert.Reference12Ideal.Gen.facts) := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel4.Gen.facts, Cert.Kernel4Ideal.Gen.facts, Cert.Reference4Ideal.Gen.facts,
    Cert.Val.pre_facts, Cert.Fwd.pre_facts,
    fun m ρ _ => Cert.Kernel.Run.frame m ρ, fun m ρ _ => Cert.KernelIdeal.Run.frame m ρ, fun m ρ _ => Cert.KernelIdeal.Run.frame m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    reference2_frame, fun m ρ _ => reference2_frame m ρ trivial,
    kernel3_frame, fun m ρ _ => Cert.Kernel3Ideal.Gen.frame m ρ, reference3_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    Cert.Adam.Small.kernel_frame, Cert.Adam.Small.kernel_ideal_frame, Cert.Adam.Small.reference_frame,
    preserves, equal_results, preserves2, equal_results2, preserves3, equal_results3,
    trivial, Cert.Adam.equal_ada_w,
    trivial, Cert.Adam.equal_e_w_in,
    trivial, Cert.Adam.GmlpWs.equal_results,
    trivial, Cert.Adam.PoolW.equal_results,
    trivial, Cert.Adam.equal_e_w_out,
    trivial, Cert.Adam.equal_o_w_in,
    trivial, Cert.Adam.Uq.equal_results,
    trivial, Cert.Adam.Uk.equal_results,
    trivial, Cert.Adam.Small.equal_results⟩

end Cert.Proof

end
